-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v169_0)) (v1 : (c : Dev Cert.KernelIdeal.nD) → Buf (Elt Ideal) ((c.tc : Thread Cert.KernelIdeal.nD Cert.KernelIdeal.τ).loc Cert.KernelIdeal.main_v169_1)) (v2 : (c : Dev Cert.KernelIdeal.nD) → Buf (Elt Ideal) ((c.tc : Thread Cert.KernelIdeal.nD Cert.KernelIdeal.τ).loc Cert.KernelIdeal.main_v169_2)) (v3 : (c : Dev Cert.KernelIdeal.nD) → Buf (Elt Ideal) ((c.tc : Thread Cert.KernelIdeal.nD Cert.KernelIdeal.τ).loc Cert.KernelIdeal.main_v169_3)) (v4 : (c : Dev Cert.KernelIdeal.nD) → Buf (Elt Ideal) ((c.tc : Thread Cert.KernelIdeal.nD Cert.KernelIdeal.τ).loc Cert.KernelIdeal.main_v169_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169_0) = v0 c
          ∧ r.2.mem ((c.tc : Thread Cert.KernelIdeal.nD Cert.KernelIdeal.τ).loc Cert.KernelIdeal.main_v169_1) = v1 c
          ∧ r.2.mem ((c.tc : Thread Cert.KernelIdeal.nD Cert.KernelIdeal.τ).loc Cert.KernelIdeal.main_v169_2) = v2 c
          ∧ r.2.mem ((c.tc : Thread Cert.KernelIdeal.nD Cert.KernelIdeal.τ).loc Cert.KernelIdeal.main_v169_3) = v3 c
          ∧ r.2.mem ((c.tc : Thread Cert.KernelIdeal.nD Cert.KernelIdeal.τ).loc Cert.KernelIdeal.main_v169_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v561) = v0 c
          ∧ r.2.mem ((c.tc : Thread Cert.ReferenceIdeal.nD Cert.ReferenceIdeal.τ).loc Cert.ReferenceIdeal.main_v562) = v1 c
          ∧ r.2.mem ((c.tc : Thread Cert.ReferenceIdeal.nD Cert.ReferenceIdeal.τ).loc Cert.ReferenceIdeal.main_v563) = v2 c
          ∧ r.2.mem ((c.tc : Thread Cert.ReferenceIdeal.nD Cert.ReferenceIdeal.τ).loc Cert.ReferenceIdeal.main_v565) = v3 c
          ∧ r.2.mem ((c.tc : Thread Cert.ReferenceIdeal.nD Cert.ReferenceIdeal.τ).loc Cert.ReferenceIdeal.main_v566) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)) (v7 : (c : Dev Cert.Kernel2Ideal.nD) → Buf (Elt Ideal) ((c.tc : Thread Cert.Kernel2Ideal.nD Cert.Kernel2Ideal.τ).loc Cert.Kernel2Ideal.main_v5_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_v5_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v105) = v0 c
          ∧ r.2.mem ((c.tc : Thread Cert.Reference2Ideal.nD Cert.Reference2Ideal.τ).loc Cert.Reference2Ideal.main_v106) = v1 c
          ∧ r.2.mem ((c.tc : Thread Cert.Reference2Ideal.nD Cert.Reference2Ideal.τ).loc Cert.Reference2Ideal.main_v107) = v2 c
          ∧ r.2.mem ((c.tc : Thread Cert.Reference2Ideal.nD Cert.Reference2Ideal.τ).loc Cert.Reference2Ideal.main_v108) = v3 c
          ∧ r.2.mem ((c.tc : Thread Cert.Reference2Ideal.nD Cert.Reference2Ideal.τ).loc Cert.Reference2Ideal.main_v109) = v4 c
          ∧ r.2.mem ((c.tc : Thread Cert.Reference2Ideal.nD Cert.Reference2Ideal.τ).loc Cert.Reference2Ideal.main_v110) = v5 c
          ∧ r.2.mem ((c.tc : Thread Cert.Reference2Ideal.nD Cert.Reference2Ideal.τ).loc Cert.Reference2Ideal.main_v111) = v6 c
          ∧ r.2.mem ((c.tc : Thread Cert.Reference2Ideal.nD Cert.Reference2Ideal.τ).loc Cert.Reference2Ideal.main_v114) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x7168 : Shape := ⟨2, ![8192, 7168]⟩
abbrev S8192x1024 : Shape := ⟨2, ![8192, 1024]⟩
abbrev S31x1024 : Shape := ⟨2, ![31, 1024]⟩
abbrev S1x1024 : Shape := ⟨2, ![1, 1024]⟩
abbrev S1024x1024 : Shape := ⟨2, ![1024, 1024]⟩
abbrev S_ : Shape := ⟨0, ![]⟩

class Facts : Prop where
  bcast_S_S8192x7168 : S_.BroadcastsInDim S8192x7168 (![] : Fin 0 → Fin S8192x7168.rank)
  reducesTo_S8192x7168_S_d0_1 : S8192x7168.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S31x1024 : S_.BroadcastsInDim S31x1024 (![] : Fin 0 → Fin S31x1024.rank)
  reducesTo_S31x1024_S_d0_1 : S31x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1x1024 .f32) (main_v29 : IVec S_ 1) (main_v32 : IVec S1024x1024 1) (main_c_12 : IVec S_ 1) : IVec S_ 1 :=
  let main_v33 : IVec S_ 1 := (fun x v => Host.reduce IntOp.andi x v reducesTo_S1024x1024_S_d0_1 h_S_) main_v32 main_c_12
  let main_v34 : IVec S_ 1 := andi main_v29 main_v33
  let main_v35 : FVec F S1x1024 .f32 := Host.absf main_arg7
  let main_cst_13 : FVec F S_ .f32 := constant S_ .f32 0x7F800000#32
  let main_v36 : FVec F S1x1024 .f32 := broadcastInDim S1x1024 ![] bcast_S_S1x1024 main_cst_13
  let main_v37 : IVec S1x1024 1 := cmpf .olt main_v35 main_v36
  let main_c_14 : IVec S_ 1 := constantI S_ 1 1#1
  let main_v38 : IVec S_ 1 := (fun x v => Host.reduce IntOp.andi x v reducesTo_S1x1024_S_d0_1 h_S_) main_v37 main_c_14
  let main_v39 : IVec S_ 1 := andi main_v34 main_v38
  main_v39

def fn_part1 {F : FTy → Type} [FloatOps F] (main_arg4 : FVec F S1x1024 .f32) (main_arg5 : FVec F S1x1024 .f32) (main_arg6 : FVec F S1024x1024 .f32) (main_arg7 : FVec F S1x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1024x1024 .f32 := Host.absf main_arg6
  let main_cst_11 : FVec F S_ .f32 := constant S_ .f32 0x7F800000#32
  let main_v31 : FVec F S1024x1024 .f32 := broadcastInDim S1024x1024 ![] bcast_S_S1024x1024 main_cst_11
  let main_v32 : IVec S1024x1024 1 := cmpf .olt main_v30 main_v31
  let main_c_12 : IVec S_ 1 := constantI S_ 1 1#1
  fn_part2 (F := F) main_arg7 main_v29 main_v32 main_c_12

def fn {F : FTy → Type} [FloatOps F] (main_arg0 : FVec F S8192x7168 .f32) (main_arg1 : FVec F S8192x1024 .f32) (main_arg2 : FVec F S31x1024 .f32) (main_arg3 : FVec F S1x1024 .f32) (main_arg4 : FVec F S1x1024 .f32) (main_arg5 : FVec F S1x1024 .f32) (main_arg6 : FVec F S1024x1024 .f32) (main_arg7 : FVec F S1x1024 .f32) : IVec S_ 1 :=
  let main_v0 : FVec F S8192x7168 .f32 := Host.absf main_arg0
  let main_cst : FVec F S_ .f32 := constant S_ .f32 0x7F800000#32
  let main_v1 : FVec F S8192x7168 .f32 := broadcastInDim S8192x7168 ![] bcast_S_S8192x7168 main_cst
  let main_v2 : IVec S8192x7168 1 := cmpf .olt main_v0 main_v1
  let main_c : IVec S_ 1 := constantI S_ 1 1#1
  let main_v3 : IVec S_ 1 := (fun x v => Host.reduce IntOp.andi x v reducesTo_S8192x7168_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S31x1024 .f32 := Host.absf main_arg2
  let main_cst_3 : FVec F S_ .f32 := constant S_ .f32 0x7F800000#32
  let main_v11 : FVec F S31x1024 .f32 := broadcastInDim S31x1024 ![] bcast_S_S31x1024 main_cst_3
  let main_v12 : IVec S31x1024 1 := cmpf .olt main_v10 main_v11
  let main_c_4 : IVec S_ 1 := constantI S_ 1 1#1
  let main_v13 : IVec S_ 1 := (fun x v => Host.reduce IntOp.andi x v reducesTo_S31x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_v14 main_v15 main_cst_5
-- ==== Pre_finite2.lean ====
abbrev S8192x1024 : Shape := ⟨2, ![8192, 1024]⟩
abbrev S8192x256 : Shape := ⟨2, ![8192, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S256x1024 .f32) (main_arg8 : FVec F S1x1024 .f32) (main_arg9 : FVec F S1x1024 .f32) (main_v29 : IVec S_ 1) (main_v32 : IVec S1024x1024 1) (main_c_12 : IVec S_ 1) : IVec S_ 1 :=
  let main_v33 : IVec S_ 1 := (fun x v => Host.reduce IntOp.andi x v reducesTo_S1024x1024_S_d0_1 h_S_) main_v32 main_c_12
  let main_v34 : IVec S_ 1 := andi main_v29 main_v33
  let main_v35 : FVec F S256x1024 .f32 := Host.absf main_arg7
  let main_cst_13 : FVec F S_ .f32 := constant S_ .f32 0x7F800000#32
  let main_v36 : FVec F S256x1024 .f32 := broadcastInDim S256x1024 ![] bcast_S_S256x1024 main_cst_13
  let main_v37 : IVec S256x1024 1 := cmpf .olt main_v35 main_v36
  let main_c_14 : IVec S_ 1 := constantI S_ 1 1#1
  let main_v38 : IVec S_ 1 := (fun x v => Host.reduce IntOp.andi x v reducesTo_S256x1024_S_d0_1 h_S_) main_v37 main_c_14
  let main_v39 : IVec S_ 1 := andi main_v34 main_v38
  let main_v40 : FVec F S1x1024 .f32 := Host.absf main_arg8
  let main_cst_15 : FVec F S_ .f32 := constant S_ .f32 0x7F800000#32
  let main_v41 : FVec F S1x1024 .f32 := broadcastInDim S1x1024 ![] bcast_S_S1x1024 main_cst_15
  let main_v42 : IVec S1x1024 1 := cmpf .olt main_v40 main_v41
  let main_c_16 : IVec S_ 1 := constantI S_ 1 1#1
  let main_v43 : IVec S_ 1 := (fun x v => Host.reduce IntOp.andi x v reducesTo_S1x1024_S_d0_1 h_S_) main_v42 main_c_16
  let main_v44 : IVec S_ 1 := andi main_v39 main_v43
  let main_v45 : FVec F S1x1024 .f32 := Host.absf main_arg9
  let main_cst_17 : FVec F S_ .f32 := constant S_ .f32 0x7F800000#32
  let main_v46 : FVec F S1x1024 .f32 := broadcastInDim S1x1024 ![] bcast_S_S1x1024 main_cst_17
  let main_v47 : IVec S1x1024 1 := cmpf .olt main_v45 main_v46
  let main_c_18 : IVec S_ 1 := constantI S_ 1 1#1
  let main_v48 : IVec S_ 1 := (fun x v => Host.reduce IntOp.andi x v reducesTo_S1x1024_S_d0_1 h_S_) main_v47 main_c_18
  let main_v49 : IVec S_ 1 := andi main_v44 main_v48
  main_v49

def fn_part1 {F : FTy → Type} [FloatOps F] (main_arg4 : FVec F S8192x1024 .f32) (main_arg5 : FVec F S2048x1024 .f32) (main_arg6 : FVec F S1024x1024 .f32) (main_arg7 : FVec F S256x1024 .f32) (main_arg8 : FVec F S1x1024 .f32) (main_arg9 : FVec F S1x1024 .f32) (main_v14 : IVec S_ 1) (main_v15 : FVec F S8192x256 .f32) (main_cst_5 : FVec F S_ .f32) : IVec S_ 1 :=
  let main_v16 : FVec F S8192x256 .f32 := broadcastInDim S8192x256 ![] bcast_S_S8192x256 main_cst_5
  let main_v17 : IVec S8192x256 1 := cmpf .olt main_v15 main_v16
  let main_c_6 : IVec S_ 1 := constantI S_ 1 1#1
  let main_v18 : IVec S_ 1 := (fun x v => Host.reduce IntOp.andi x v reducesTo_S8192x256_S_d0_1 h_S_) main_v17 main_c_6
  let main_v19 : IVec S_ 1 := andi main_v14 main_v18
  let main_v20 : FVec F S8192x1024 .f32 := Host.absf main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  let main_v25 : FVec F S2048x1024 .f32 := Host.absf main_arg5
  let main_cst_9 : FVec F S_ .f32 := constant S_ .f32 0x7F800000#32
  let main_v26 : FVec F S2048x1024 .f32 := broadcastInDim S2048x1024 ![] bcast_S_S2048x1024 main_cst_9
  let main_v27 : IVec S2048x1024 1 := cmpf .olt main_v25 main_v26
  let main_c_10 : IVec S_ 1 := constantI S_ 1 1#1
  let main_v28 : IVec S_ 1 := (fun x v => Host.reduce IntOp.andi x v reducesTo_S2048x1024_S_d0_1 h_S_) main_v27 main_c_10
  let main_v29 : IVec S_ 1 := andi main_v24 main_v28
  let main_v30 : FVec F S1024x1024 .f32 := Host.absf main_arg6
  let main_cst_11 : FVec F S_ .f32 := constant S_ .f32 0x7F800000#32
  let main_v31 : FVec F S1024x1024 .f32 := broadcastInDim S1024x1024 ![] bcast_S_S1024x1024 main_cst_11
  let main_v32 : IVec S1024x1024 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S8192x1024 .f32) (main_arg1 : FVec F S8192x1024 .f32) (main_arg2 : FVec F S8192x1024 .f32) (main_arg3 : FVec F S8192x256 .f32) (main_arg4 : FVec F S8192x1024 .f32) (main_arg5 : FVec F S2048x1024 .f32) (main_arg6 : FVec F S1024x1024 .f32) (main_arg7 : FVec F S256x1024 .f32) (main_arg8 : FVec F S1x1024 .f32) (main_arg9 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S8192x256 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Pre_finite3.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S8192x1024 .f32) (main_cst_5 : FVec F S_ .f32) : IVec S_ 1 :=
  let main_v16 : FVec F S8192x1024 .f32 := broadcastInDim S8192x1024 ![] bcast_S_S8192x1024 main_cst_5
  let main_v17 : IVec S8192x1024 1 := cmpf .olt main_v15 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v14 main_v18
  main_v19

def fn {F : FTy → Type} [FloatOps F] (main_arg0 : FVec F S8192x1024 .f32) (main_arg1 : FVec F S1x1024 .f32) (main_arg2 : FVec F S8192x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S8192x1024 .f32 := Host.absf main_arg3
  let main_cst_5 : FVec F S_ .f32 := constant S_ .f32 0x7F800000#32
  fn_part1 (F := F) main_v14 main_v15 main_cst_5
-- ==== Kernel.lean ====
abbrev S8192x7168 : Shape := ⟨2, ![8192, 7168]⟩
abbrev S8192x1024 : Shape := ⟨2, ![8192, 1024]⟩
abbrev S31x1024 : Shape := ⟨2, ![31, 1024]⟩
abbrev S1x1024 : Shape := ⟨2, ![1, 1024]⟩
abbrev S1024x1024 : Shape := ⟨2, ![1024, 1024]⟩
abbrev S_ : Shape := ⟨0, ![]⟩
abbrev S30x1024 : Shape := ⟨2, ![30, 1024]⟩
abbrev S8222x1024 : Shape := ⟨2, ![8222, 1024]⟩
abbrev S32x1024 : Shape := ⟨2, ![32, 1024]⟩
abbrev S3x8192x1024 : Shape := ⟨3, ![3, 8192, 1024]⟩
abbrev S8x1024 : Shape := ⟨2, ![8, 1024]⟩
abbrev S256x1024 : Shape := ⟨2, ![256, 1024]⟩
abbrev S3x256x1024 : Shape := ⟨3, ![3, 256, 1024]⟩
abbrev S288x1024 : Shape := ⟨2, ![288, 1024]⟩
abbrev S32x8x1024 : Shape := ⟨3, ![32, 8, 1024]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩
abbrev S1x8x1024 : Shape := ⟨3, ![1, 8, 1024]⟩

abbrev nBuf : Space → Nat
  | .hbm => 187
  | .vmem => 30
  | .smem => 0
  | _ => 0

abbrev hbmTy0_0 (i : Nat) : BufTy := match i % 128 with
  | 0 => ⟨S8192x7168, .f32⟩
  | 1 => ⟨S8192x1024, .f32⟩
  | 2 => ⟨S31x1024, .f32⟩
  | 3 => ⟨S1x1024, .f32⟩
  | 4 => ⟨S1x1024, .f32⟩
  | 5 => ⟨S1x1024, .f32⟩
  | 6 => ⟨S1024x1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S_, .f32⟩
  | 20 => ⟨S30x1024, .f32⟩
  | 21 => ⟨S8222x1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S1x1024, .f32⟩
  | 58 => ⟨S8192x1024, .f32⟩
  | 59 => ⟨S8192x1024, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S1x1024, .f32⟩
  | 73 => ⟨S8192x1024, .f32⟩
  | 74 => ⟨S8192x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S1x1024, .f32⟩
  | 88 => ⟨S8192x1024, .f32⟩
  | 89 => ⟨S8192x1024, .f32⟩
  | 90 => ⟨S8192x1024, .f32⟩
  | 91 => ⟨S8192x1024, .f32⟩
  | 92 => ⟨S1x1024, .f32⟩
  | 93 => ⟨S8192x1024, .f32⟩
  | 94 => ⟨S8192x1024, .f32⟩
  | 95 => ⟨S8192x1024, .f32⟩
  | 96 => ⟨S8192x1024, .f32⟩
  | 97 => ⟨S1x1024, .f32⟩
  | 98 => ⟨S8192x1024, .f32⟩
  | 99 => ⟨S8192x1024, .f32⟩
  | 100 => ⟨S8192x1024, .f32⟩
  | 101 => ⟨S8192x1024, .f32⟩
  | 102 => ⟨S1x1024, .f32⟩
  | 103 => ⟨S8192x1024, .f32⟩
  | 104 => ⟨S8192x1024, .f32⟩
  | 105 => ⟨S8192x1024, .f32⟩
  | 106 => ⟨S8192x1024, .f32⟩
  | 107 => ⟨S1x1024, .f32⟩
  | 108 => ⟨S8192x1024, .f32⟩
  | 109 => ⟨S8192x1024, .f32⟩
  | 110 => ⟨S8192x1024, .f32⟩
  | 111 => ⟨S8192x1024, .f32⟩
  | 112 => ⟨S1x1024, .f32⟩
  | 113 => ⟨S8192x1024, .f32⟩
  | 114 => ⟨S8192x1024, .f32⟩
  | 115 => ⟨S8192x1024, .f32⟩
  | 116 => ⟨S8192x1024, .f32⟩
  | 117 => ⟨S1x1024, .f32⟩
  | 118 => ⟨S8192x1024, .f32⟩
  | 119 => ⟨S8192x1024, .f32⟩
  | 120 => ⟨S8192x1024, .f32⟩
  | 121 => ⟨S8192x1024, .f32⟩
  | 122 => ⟨S1x1024, .f32⟩
  | 123 => ⟨S8192x1024, .f32⟩
  | 124 => ⟨S8192x1024, .f32⟩
  | 125 => ⟨S8192x1024, .f32⟩
  | 126 => ⟨S8192x1024, .f32⟩
  | 127 => ⟨S1x1024, .f32⟩
  | _ => ⟨S8192x7168, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S1x1024, .f32⟩
  | 15 => ⟨S8192x1024, .f32⟩
  | 16 => ⟨S8192x1024, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S_, .i32⟩
  | 51 => ⟨S_, .f32⟩
  | 52 => ⟨S32x1024, .f32⟩
  | 53 => ⟨S1024x1024, .bf16⟩
  | 54 => ⟨S3x8192x1024, .bf16⟩
  | 55 => ⟨S8192x1024, .bf16⟩
  | 56 => ⟨S8192x1024, .bf16⟩
  | 57 => ⟨S8x1024, .f32⟩
  | 58 => ⟨S32x1024, .f32⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S32x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S3x256x1024, .bf16⟩
  | .local _ .vmem, ⟨20, _⟩ => ⟨S3x256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S8x1024, .f32⟩
  | .local _ .vmem, ⟨26, _⟩ => ⟨S32x1024, .f32⟩
  | .local _ .vmem, ⟨27, _⟩ => ⟨S288x1024, .f32⟩
  | .local _ .vmem, ⟨28, _⟩ => ⟨S288x1024, .f32⟩
  | .local _ .vmem, ⟨29, _⟩ => ⟨S32x8x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_c : Ref sig .tc := ⟨.hbm, 178, rfl⟩
abbrev main_call0_v0 : Ref sig .tc := ⟨.hbm, 179, rfl⟩
abbrev main_v167 : Ref sig .tc := ⟨.hbm, 180, rfl⟩
abbrev main_v168 : Ref sig .tc := ⟨.hbm, 181, rfl⟩
abbrev main_v169_0 : Ref sig .tc := ⟨.hbm, 182, rfl⟩
abbrev main_v169_1 : Ref sig .tc := ⟨.hbm, 183, rfl⟩
abbrev main_v169_2 : Ref sig .tc := ⟨.hbm, 184, rfl⟩
abbrev main_v169_3 : Ref sig .tc := ⟨.hbm, 185, rfl⟩
abbrev main_v169_4 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_336 : BitVec 32 := 31#32
  let v2837 : BitVec 1 := Scalar.cmpi .eq arg0 c31_i32_336
  let v2838 : BitVec 32 := Scalar.extui v2837
  let c0_i32_337 : BitVec 32 := 0#32
  let v2839 : BitVec 1 := Scalar.cmpi .ne v2838 c0_i32_337
  v2839

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x7168 : Shape := ⟨2, ![8192, 7168]⟩
abbrev S8192x1024 : Shape := ⟨2, ![8192, 1024]⟩
abbrev S31x1024 : Shape := ⟨2, ![31, 1024]⟩
abbrev S1x1024 : Shape := ⟨2, ![1, 1024]⟩
abbrev S1024x1024 : Shape := ⟨2, ![1024, 1024]⟩
abbrev S_ : Shape := ⟨0, ![]⟩
abbrev S30x1024 : Shape := ⟨2, ![30, 1024]⟩
abbrev S8222x1024 : Shape := ⟨2, ![8222, 1024]⟩
abbrev S8192x8x128 : Shape := ⟨3, ![8192, 8, 128]⟩
abbrev S8192x8 : Shape := ⟨2, ![8192, 8]⟩
abbrev S8192x8x1 : Shape := ⟨3, ![8192, 8, 1]⟩
abbrev S1024 : Shape := ⟨1, ![1024]⟩
abbrev S1x8192x1024 : Shape := ⟨3, ![1, 8192, 1024]⟩
abbrev S3x8192x1024 : Shape := ⟨3, ![3, 8192, 1024]⟩
abbrev S4x1024 : Shape := ⟨2, ![4, 1024]⟩
abbrev S8x1024 : Shape := ⟨2, ![8, 1024]⟩
abbrev S32x1024 : Shape := ⟨2, ![32, 1024]⟩

abbrev nBuf : Space → Nat
  | .hbm => 701
  | .vmem => 0
  | .smem => 0
  | _ => 0

abbrev hbmTy0_0 (i : Nat) : BufTy := match i % 128 with
  | 0 => ⟨S8192x7168, .f32⟩
  | 1 => ⟨S8192x1024, .f32⟩
  | 2 => ⟨S31x1024, .f32⟩
  | 3 => ⟨S1x1024, .f32⟩
  | 4 => ⟨S1x1024, .f32⟩
  | 5 => ⟨S1x1024, .f32⟩
  | 6 => ⟨S1024x1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S30x1024, .f32⟩
  | 25 => ⟨S8222x1024, .f32⟩
  | 26 => ⟨S_, .f32⟩
  | 27 => ⟨S30x1024, .f32⟩
  | 28 => ⟨S8192x1024, .f32⟩
  | 29 => ⟨S1x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S8192x1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S1x1024, .f32⟩
  | 87 => ⟨S8192x1024, .f32⟩
  | 88 => ⟨S8192x1024, .f32⟩
  | 89 => ⟨S8192x1024, .f32⟩
  | 90 => ⟨S8192x1024, .f32⟩
  | 91 => ⟨S1x1024, .f32⟩
  | 92 => ⟨S8192x1024, .f32⟩
  | 93 => ⟨S8192x1024, .f32⟩
  | 94 => ⟨S8192x1024, .f32⟩
  | 95 => ⟨S8192x1024, .f32⟩
  | 96 => ⟨S1x1024, .f32⟩
  | 97 => ⟨S8192x1024, .f32⟩
  | 98 => ⟨S8192x1024, .f32⟩
  | 99 => ⟨S8192x1024, .f32⟩
  | 100 => ⟨S8192x1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S1x1024, .f32⟩
  | 107 => ⟨S8192x1024, .f32⟩
  | 108 => ⟨S8192x1024, .f32⟩
  | 109 => ⟨S8192x1024, .f32⟩
  | 110 => ⟨S8192x1024, .f32⟩
  | 111 => ⟨S1x1024, .f32⟩
  | 112 => ⟨S8192x1024, .f32⟩
  | 113 => ⟨S8192x1024, .f32⟩
  | 114 => ⟨S8192x1024, .f32⟩
  | 115 => ⟨S8192x1024, .f32⟩
  | 116 => ⟨S1x1024, .f32⟩
  | 117 => ⟨S8192x1024, .f32⟩
  | 118 => ⟨S8192x1024, .f32⟩
  | 119 => ⟨S8192x1024, .f32⟩
  | 120 => ⟨S8192x1024, .f32⟩
  | 121 => ⟨S1x1024, .f32⟩
  | 122 => ⟨S8192x1024, .f32⟩
  | 123 => ⟨S8192x1024, .f32⟩
  | 124 => ⟨S8192x1024, .f32⟩
  | 125 => ⟨S8192x1024, .f32⟩
  | 126 => ⟨S1x1024, .f32⟩
  | 127 => ⟨S8192x1024, .f32⟩
  | _ => ⟨S8192x7168, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S8192x1024, .f32⟩
  | 5 => ⟨S8192x1024, .f32⟩
  | 6 => ⟨S8192x1024, .f32⟩
  | 7 => ⟨S8192x1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S1x1024, .f32⟩
  | 14 => ⟨S8192x1024, .f32⟩
  | 15 => ⟨S8192x1024, .f32⟩
  | 16 => ⟨S8192x1024, .f32⟩
  | 17 => ⟨S8192x1024, .f32⟩
  | 18 => ⟨S1x1024, .f32⟩
  | 19 => ⟨S8192x1024, .f32⟩
  | 20 => ⟨S8192x1024, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x8x128, .f32⟩
  | 60 => ⟨S_, .f32⟩
  | 61 => ⟨S8192x8, .f32⟩
  | 62 => ⟨S8192x8x1, .f32⟩
  | 63 => ⟨S_, .f32⟩
  | 64 => ⟨S8192x8x1, .f32⟩
  | 65 => ⟨S8192x8x1, .f32⟩
  | 66 => ⟨S8192x8x128, .f32⟩
  | 67 => ⟨S8192x8x128, .f32⟩
  | 68 => ⟨S8192x8x128, .f32⟩
  | 69 => ⟨S_, .f32⟩
  | 70 => ⟨S8192x8x128, .f32⟩
  | 71 => ⟨S8192x8x128, .f32⟩
  | 72 => ⟨S_, .f32⟩
  | 73 => ⟨S8192x8, .f32⟩
  | 74 => ⟨S8192x8x1, .f32⟩
  | 75 => ⟨S_, .f32⟩
  | 76 => ⟨S8192x8x1, .f32⟩
  | 77 => ⟨S8192x8x1, .f32⟩
  | 78 => ⟨S8192x8x128, .f32⟩
  | 79 => ⟨S8192x8x128, .f32⟩
  | 80 => ⟨S_, .f32⟩
  | 81 => ⟨S8192x8x1, .f32⟩
  | 82 => ⟨S8192x8x1, .f32⟩
  | 83 => ⟨S8192x8x1, .f32⟩
  | 84 => ⟨S8192x8x1, .f32⟩
  | 85 => ⟨S_, .f32⟩
  | 86 => ⟨S8192x8x1, .f32⟩
  | 87 => ⟨S8192x8x1, .f32⟩
  | 88 => ⟨S8192x8x128, .f32⟩
  | 89 => ⟨S8192x8x128, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S_, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x7168, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S8192x8x128, .f32⟩
  | 22 => ⟨S8192x8x128, .f32⟩
  | 23 => ⟨S_, .f32⟩
  | 24 => ⟨S8192x8, .f32⟩
  | 25 => ⟨S8192x8x1, .f32⟩
  | 26 => ⟨S8192x8x128, .f32⟩
  | 27 => ⟨S8192x8x128, .f32⟩
  | 28 => ⟨S8192x8x1, .f32⟩
  | 29 => ⟨S8192x8x128, .f32⟩
  | 30 => ⟨S_, .f32⟩
  | 31 => ⟨S8192x8, .f32⟩
  | 32 => ⟨S8192x8x1, .f32⟩
  | 33 => ⟨S_, .f32⟩
  | 34 => ⟨S8192x8x1, .f32⟩
  | 35 => ⟨S8192x8x1, .f32⟩
  | 36 => ⟨S_, .f32⟩
  | 37 => ⟨S8192x8, .f32⟩
  | 38 => ⟨S8192x8x128, .f32⟩
  | 39 => ⟨S8192x8x128, .f32⟩
  | 40 => ⟨S8192x8x128, .f32⟩
  | 41 => ⟨S_, .f32⟩
  | 42 => ⟨S8192x8, .f32⟩
  | 43 => ⟨S8192x8x1, .f32⟩
  | 44 => ⟨S8192x8x128, .f32⟩
  | 45 => ⟨S8192x8x1, .f32⟩
  | 46 => ⟨S_, .f32⟩
  | 47 => ⟨S8192x8x1, .f32⟩
  | 48 => ⟨S8192x8x1, .f32⟩
  | 49 => ⟨S_, .f32⟩
  | 50 => ⟨S8192x8, .f32⟩
  | 51 => ⟨S8192x8x128, .f32⟩
  | 52 => ⟨S8192x8x128, .f32⟩
  | 53 => ⟨S8192x1024, .f32⟩
  | 54 => ⟨S_, .f32⟩
  | 55 => ⟨S1024, .f32⟩
  | 56 => ⟨S1x1024, .f32⟩
  | 57 => ⟨S8192x1024, .f32⟩
  | 58 => ⟨S_, .f32⟩
  | 59 => ⟨S1024, .f32⟩
  | 60 => ⟨S1x1024, .f32⟩
  | 61 => ⟨S8192x1024, .f32⟩
  | 62 => ⟨S8192x1024, .f32⟩
  | 63 => ⟨S_, .f32⟩
  | 64 => ⟨S31x1024, .f32⟩
  | 65 => ⟨S_, .f32⟩
  | 66 => ⟨S8222x1024, .f32⟩
  | 67 => ⟨S8192x1024, .f32⟩
  | 68 => ⟨S_, .f32⟩
  | 69 => ⟨S1024, .f32⟩
  | 70 => ⟨S1x1024, .f32⟩
  | 71 => ⟨S8192x1024, .f32⟩
  | 72 => ⟨S8192x1024, .f32⟩
  | 73 => ⟨S_, .f32⟩
  | 74 => ⟨S31x1024, .f32⟩
  | 75 => ⟨S31x1024, .f32⟩
  | 76 => ⟨S_, .f32⟩
  | 77 => ⟨S8222x1024, .f32⟩
  | 78 => ⟨S8222x1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S8192x1024, .f32⟩
  | 85 => ⟨S_, .f32⟩
  | 86 => ⟨S31x1024, .f32⟩
  | 87 => ⟨S31x1024, .f32⟩
  | 88 => ⟨S_, .f32⟩
  | 89 => ⟨S8222x1024, .f32⟩
  | 90 => ⟨S8222x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S31x1024, .f32⟩
  | 99 => ⟨S31x1024, .f32⟩
  | 100 => ⟨S_, .f32⟩
  | 101 => ⟨S8222x1024, .f32⟩
  | 102 => ⟨S8222x1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S_, .f32⟩
  | 110 => ⟨S31x1024, .f32⟩
  | 111 => ⟨S31x1024, .f32⟩
  | 112 => ⟨S_, .f32⟩
  | 113 => ⟨S8222x1024, .f32⟩
  | 114 => ⟨S8222x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S_, .f32⟩
  | 122 => ⟨S31x1024, .f32⟩
  | 123 => ⟨S31x1024, .f32⟩
  | 124 => ⟨S_, .f32⟩
  | 125 => ⟨S8222x1024, .f32⟩
  | 126 => ⟨S8222x1024, .f32⟩
  | 127 => ⟨S8192x1024, .f32⟩
  | _ => ⟨S8192x7168, .f32⟩

abbrev hbmTy0_3 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S_, .f32⟩
  | 6 => ⟨S31x1024, .f32⟩
  | 7 => ⟨S31x1024, .f32⟩
  | 8 => ⟨S_, .f32⟩
  | 9 => ⟨S8222x1024, .f32⟩
  | 10 => ⟨S8222x1024, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S8192x1024, .f32⟩
  | 17 => ⟨S_, .f32⟩
  | 18 => ⟨S31x1024, .f32⟩
  | 19 => ⟨S31x1024, .f32⟩
  | 20 => ⟨S_, .f32⟩
  | 21 => ⟨S8222x1024, .f32⟩
  | 22 => ⟨S8222x1024, .f32⟩
  | 23 => ⟨S8192x1024, .f32⟩
  | 24 => ⟨S_, .f32⟩
  | 25 => ⟨S1024, .f32⟩
  | 26 => ⟨S1x1024, .f32⟩
  | 27 => ⟨S8192x1024, .f32⟩
  | 28 => ⟨S8192x1024, .f32⟩
  | 29 => ⟨S_, .f32⟩
  | 30 => ⟨S31x1024, .f32⟩
  | 31 => ⟨S31x1024, .f32⟩
  | 32 => ⟨S_, .f32⟩
  | 33 => ⟨S8222x1024, .f32⟩
  | 34 => ⟨S8222x1024, .f32⟩
  | 35 => ⟨S8192x1024, .f32⟩
  | 36 => ⟨S_, .f32⟩
  | 37 => ⟨S1024, .f32⟩
  | 38 => ⟨S1x1024, .f32⟩
  | 39 => ⟨S8192x1024, .f32⟩
  | 40 => ⟨S8192x1024, .f32⟩
  | 41 => ⟨S_, .f32⟩
  | 42 => ⟨S31x1024, .f32⟩
  | 43 => ⟨S31x1024, .f32⟩
  | 44 => ⟨S_, .f32⟩
  | 45 => ⟨S8222x1024, .f32⟩
  | 46 => ⟨S8222x1024, .f32⟩
  | 47 => ⟨S8192x1024, .f32⟩
  | 48 => ⟨S_, .f32⟩
  | 49 => ⟨S1024, .f32⟩
  | 50 => ⟨S1x1024, .f32⟩
  | 51 => ⟨S8192x1024, .f32⟩
  | 52 => ⟨S8192x1024, .f32⟩
  | 53 => ⟨S_, .f32⟩
  | 54 => ⟨S31x1024, .f32⟩
  | 55 => ⟨S31x1024, .f32⟩
  | 56 => ⟨S_, .f32⟩
  | 57 => ⟨S8222x1024, .f32⟩
  | 58 => ⟨S8222x1024, .f32⟩
  | 59 => ⟨S8192x1024, .f32⟩
  | 60 => ⟨S_, .f32⟩
  | 61 => ⟨S1024, .f32⟩
  | 62 => ⟨S1x1024, .f32⟩
  | 63 => ⟨S8192x1024, .f32⟩
  | 64 => ⟨S8192x1024, .f32⟩
  | 65 => ⟨S_, .f32⟩
  | 66 => ⟨S31x1024, .f32⟩
  | 67 => ⟨S31x1024, .f32⟩
  | 68 => ⟨S_, .f32⟩
  | 69 => ⟨S8222x1024, .f32⟩
  | 70 => ⟨S8222x1024, .f32⟩
  | 71 => ⟨S8192x1024, .f32⟩
  | 72 => ⟨S_, .f32⟩
  | 73 => ⟨S1024, .f32⟩
  | 74 => ⟨S1x1024, .f32⟩
  | 75 => ⟨S8192x1024, .f32⟩
  | 76 => ⟨S8192x1024, .f32⟩
  | 77 => ⟨S_, .f32⟩
  | 78 => ⟨S31x1024, .f32⟩
  | 79 => ⟨S31x1024, .f32⟩
  | 80 => ⟨S_, .f32⟩
  | 81 => ⟨S8222x1024, .f32⟩
  | 82 => ⟨S8222x1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S_, .f32⟩
  | 90 => ⟨S31x1024, .f32⟩
  | 91 => ⟨S31x1024, .f32⟩
  | 92 => ⟨S_, .f32⟩
  | 93 => ⟨S8222x1024, .f32⟩
  | 94 => ⟨S8222x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S31x1024, .f32⟩
  | 103 => ⟨S31x1024, .f32⟩
  | 104 => ⟨S_, .f32⟩
  | 105 => ⟨S8222x1024, .f32⟩
  | 106 => ⟨S8222x1024, .f32⟩
  | 107 => ⟨S8192x1024, .f32⟩
  | 108 => ⟨S_, .f32⟩
  | 109 => ⟨S1024, .f32⟩
  | 110 => ⟨S1x1024, .f32⟩
  | 111 => ⟨S8192x1024, .f32⟩
  | 112 => ⟨S8192x1024, .f32⟩
  | 113 => ⟨S_, .f32⟩
  | 114 => ⟨S31x1024, .f32⟩
  | 115 => ⟨S31x1024, .f32⟩
  | 116 => ⟨S_, .f32⟩
  | 117 => ⟨S8222x1024, .f32⟩
  | 118 => ⟨S8222x1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S_, .f32⟩
  | 126 => ⟨S31x1024, .f32⟩
  | 127 => ⟨S31x1024, .f32⟩
  | _ => ⟨S8192x7168, .f32⟩

abbrev hbmTy0_4 (i : Nat) : BufTy := match i % 128 with
  | 0 => ⟨S_, .f32⟩
  | 1 => ⟨S8222x1024, .f32⟩
  | 2 => ⟨S8222x1024, .f32⟩
  | 3 => ⟨S8192x1024, .f32⟩
  | 4 => ⟨S_, .f32⟩
  | 5 => ⟨S1024, .f32⟩
  | 6 => ⟨S1x1024, .f32⟩
  | 7 => ⟨S8192x1024, .f32⟩
  | 8 => ⟨S8192x1024, .f32⟩
  | 9 => ⟨S_, .f32⟩
  | 10 => ⟨S31x1024, .f32⟩
  | 11 => ⟨S31x1024, .f32⟩
  | 12 => ⟨S_, .f32⟩
  | 13 => ⟨S8222x1024, .f32⟩
  | 14 => ⟨S8222x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S_, .f32⟩
  | 22 => ⟨S31x1024, .f32⟩
  | 23 => ⟨S31x1024, .f32⟩
  | 24 => ⟨S_, .f32⟩
  | 25 => ⟨S8222x1024, .f32⟩
  | 26 => ⟨S8222x1024, .f32⟩
  | 27 => ⟨S8192x1024, .f32⟩
  | 28 => ⟨S_, .f32⟩
  | 29 => ⟨S1024, .f32⟩
  | 30 => ⟨S1x1024, .f32⟩
  | 31 => ⟨S8192x1024, .f32⟩
  | 32 => ⟨S8192x1024, .f32⟩
  | 33 => ⟨S_, .f32⟩
  | 34 => ⟨S31x1024, .f32⟩
  | 35 => ⟨S31x1024, .f32⟩
  | 36 => ⟨S_, .f32⟩
  | 37 => ⟨S8222x1024, .f32⟩
  | 38 => ⟨S8222x1024, .f32⟩
  | 39 => ⟨S8192x1024, .f32⟩
  | 40 => ⟨S_, .f32⟩
  | 41 => ⟨S1024, .f32⟩
  | 42 => ⟨S1x1024, .f32⟩
  | 43 => ⟨S8192x1024, .f32⟩
  | 44 => ⟨S8192x1024, .f32⟩
  | 45 => ⟨S_, .f32⟩
  | 46 => ⟨S31x1024, .f32⟩
  | 47 => ⟨S31x1024, .f32⟩
  | 48 => ⟨S_, .f32⟩
  | 49 => ⟨S8222x1024, .f32⟩
  | 50 => ⟨S8222x1024, .f32⟩
  | 51 => ⟨S8192x1024, .f32⟩
  | 52 => ⟨S_, .f32⟩
  | 53 => ⟨S1024, .f32⟩
  | 54 => ⟨S1x1024, .f32⟩
  | 55 => ⟨S8192x1024, .f32⟩
  | 56 => ⟨S8192x1024, .f32⟩
  | 57 => ⟨S_, .f32⟩
  | 58 => ⟨S31x1024, .f32⟩
  | 59 => ⟨S31x1024, .f32⟩
  | 60 => ⟨S_, .f32⟩
  | 61 => ⟨S8222x1024, .f32⟩
  | 62 => ⟨S8222x1024, .f32⟩
  | 63 => ⟨S8192x1024, .f32⟩
  | 64 => ⟨S_, .f32⟩
  | 65 => ⟨S1024, .f32⟩
  | 66 => ⟨S1x1024, .f32⟩
  | 67 => ⟨S8192x1024, .f32⟩
  | 68 => ⟨S8192x1024, .f32⟩
  | 69 => ⟨S_, .f32⟩
  | 70 => ⟨S31x1024, .f32⟩
  | 71 => ⟨S31x1024, .f32⟩
  | 72 => ⟨S_, .f32⟩
  | 73 => ⟨S8222x1024, .f32⟩
  | 74 => ⟨S8222x1024, .f32⟩
  | 75 => ⟨S8192x1024, .f32⟩
  | 76 => ⟨S_, .f32⟩
  | 77 => ⟨S1024, .f32⟩
  | 78 => ⟨S1x1024, .f32⟩
  | 79 => ⟨S8192x1024, .f32⟩
  | 80 => ⟨S8192x1024, .f32⟩
  | 81 => ⟨S_, .f32⟩
  | 82 => ⟨S31x1024, .f32⟩
  | 83 => ⟨S31x1024, .f32⟩
  | 84 => ⟨S_, .f32⟩
  | 85 => ⟨S8222x1024, .f32⟩
  | 86 => ⟨S8222x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S_, .f32⟩
  | 94 => ⟨S31x1024, .f32⟩
  | 95 => ⟨S31x1024, .f32⟩
  | 96 => ⟨S_, .f32⟩
  | 97 => ⟨S8222x1024, .f32⟩
  | 98 => ⟨S8222x1024, .f32⟩
  | 99 => ⟨S8192x1024, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S_, .f32⟩
  | 106 => ⟨S31x1024, .f32⟩
  | 107 => ⟨S31x1024, .f32⟩
  | 108 => ⟨S_, .f32⟩
  | 109 => ⟨S8222x1024, .f32⟩
  | 110 => ⟨S8222x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S31x1024, .f32⟩
  | 119 => ⟨S31x1024, .f32⟩
  | 120 => ⟨S_, .f32⟩
  | 121 => ⟨S8222x1024, .f32⟩
  | 122 => ⟨S8222x1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x7168, .f32⟩

abbrev hbmTy0_5 (i : Nat) : BufTy := match i % 128 with
  | 0 => ⟨S8192x1024, .f32⟩
  | 1 => ⟨S_, .f32⟩
  | 2 => ⟨S31x1024, .f32⟩
  | 3 => ⟨S31x1024, .f32⟩
  | 4 => ⟨S_, .f32⟩
  | 5 => ⟨S8222x1024, .f32⟩
  | 6 => ⟨S8222x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S8192x1024, .f32⟩
  | 13 => ⟨S_, .f32⟩
  | 14 => ⟨S31x1024, .f32⟩
  | 15 => ⟨S31x1024, .f32⟩
  | 16 => ⟨S_, .f32⟩
  | 17 => ⟨S8222x1024, .f32⟩
  | 18 => ⟨S8222x1024, .f32⟩
  | 19 => ⟨S8192x1024, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S_, .f32⟩
  | 26 => ⟨S31x1024, .f32⟩
  | 27 => ⟨S31x1024, .f32⟩
  | 28 => ⟨S_, .f32⟩
  | 29 => ⟨S8222x1024, .f32⟩
  | 30 => ⟨S8222x1024, .f32⟩
  | 31 => ⟨S8192x1024, .f32⟩
  | 32 => ⟨S_, .f32⟩
  | 33 => ⟨S1024, .f32⟩
  | 34 => ⟨S1x1024, .f32⟩
  | 35 => ⟨S8192x1024, .f32⟩
  | 36 => ⟨S8192x1024, .f32⟩
  | 37 => ⟨S_, .f32⟩
  | 38 => ⟨S31x1024, .f32⟩
  | 39 => ⟨S31x1024, .f32⟩
  | 40 => ⟨S_, .f32⟩
  | 41 => ⟨S8222x1024, .f32⟩
  | 42 => ⟨S8222x1024, .f32⟩
  | 43 => ⟨S30x1024, .f32⟩
  | 44 => ⟨S8192x1024, .f32⟩
  | 45 => ⟨S8192x1024, .f32⟩
  | 46 => ⟨S8192x1024, .f32⟩
  | 47 => ⟨S8192x1024, .f32⟩
  | 48 => ⟨S1x8192x1024, .f32⟩
  | 49 => ⟨S1x8192x1024, .f32⟩
  | 50 => ⟨S1x8192x1024, .f32⟩
  | 51 => ⟨S3x8192x1024, .f32⟩
  | 52 => ⟨S3x8192x1024, .bf16⟩
  | 53 => ⟨S8192x1024, .bf16⟩
  | 54 => ⟨S8192x1024, .bf16⟩
  | 55 => ⟨S_, .f32⟩
  | 56 => ⟨S4x1024, .f32⟩
  | 57 => ⟨S8x1024, .f32⟩
  | 58 => ⟨S_, .i32⟩
  | 59 => ⟨S_, .f32⟩
  | 60 => ⟨S32x1024, .f32⟩
  | _ => ⟨S8192x7168, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_cst_5 : Ref sig .tc := ⟨.hbm, 188, rfl⟩
abbrev main_v174 : Ref sig .tc := ⟨.hbm, 189, rfl⟩
abbrev main_v175 : Ref sig .tc := ⟨.hbm, 190, rfl⟩
abbrev main_cst_6 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_cst_7 : Ref sig .tc := ⟨.hbm, 197, rfl⟩
abbrev main_v181 : Ref sig .tc := ⟨.hbm, 198, rfl⟩
abbrev main_v182 : Ref sig .tc := ⟨.hbm, 199, rfl⟩
abbrev main_cst_8 : Ref sig .tc := ⟨.hbm, 200, rfl⟩
abbrev main_v183 : Ref sig .tc := ⟨.hbm, 201, rfl⟩
abbrev main_v184 : Ref sig .tc := ⟨.hbm, 202, rfl⟩
abbrev main_cst_9 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_cst_10 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_cst_11 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_cst_12 : Ref sig .tc := ⟨.hbm, 225, rfl⟩
abbrev main_v204 : Ref sig .tc := ⟨.hbm, 226, rfl⟩
abbrev main_v205 : Ref sig .tc := ⟨.hbm, 227, rfl⟩
abbrev main_cst_13 : Ref sig .tc := ⟨.hbm, 228, rfl⟩
abbrev main_v206 : Ref sig .tc := ⟨.hbm, 229, rfl⟩
abbrev main_v207 : Ref sig .tc := ⟨.hbm, 230, rfl⟩
abbrev main_cst_14 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_cst_15 : Ref sig .tc := ⟨.hbm, 242, rfl⟩
abbrev main_v218 : Ref sig .tc := ⟨.hbm, 243, rfl⟩
abbrev main_v219 : Ref sig .tc := ⟨.hbm, 244, rfl⟩
abbrev main_cst_16 : Ref sig .tc := ⟨.hbm, 245, rfl⟩
abbrev main_v220 : Ref sig .tc := ⟨.hbm, 246, rfl⟩
abbrev main_v221 : Ref sig .tc := ⟨.hbm, 247, rfl⟩
abbrev main_cst_17 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_cst_18 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_cst_19 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_cst_20 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_cst_21 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_cst_22 : Ref sig .tc := ⟨.hbm, 286, rfl⟩
abbrev main_v255 : Ref sig .tc := ⟨.hbm, 287, rfl⟩
abbrev main_v256 : Ref sig .tc := ⟨.hbm, 288, rfl⟩
abbrev main_cst_23 : Ref sig .tc := ⟨.hbm, 289, rfl⟩
abbrev main_v257 : Ref sig .tc := ⟨.hbm, 290, rfl⟩
abbrev main_v258 : Ref sig .tc := ⟨.hbm, 291, rfl⟩
abbrev main_cst_24 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_cst_25 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_cst_26 : Ref sig .tc := ⟨.hbm, 302, rfl⟩
abbrev main_v267 : Ref sig .tc := ⟨.hbm, 303, rfl⟩
abbrev main_v268 : Ref sig .tc := ⟨.hbm, 304, rfl⟩
abbrev main_cst_27 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_cst_28 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_cst_29 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_cst_30 : Ref sig .tc := ⟨.hbm, 319, rfl⟩
abbrev main_v280 : Ref sig .tc := ⟨.hbm, 320, rfl⟩
abbrev main_cst_31 : Ref sig .tc := ⟨.hbm, 321, rfl⟩
abbrev main_v281 : Ref sig .tc := ⟨.hbm, 322, rfl⟩
abbrev main_v282 : Ref sig .tc := ⟨.hbm, 323, rfl⟩
abbrev main_cst_32 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_cst_33 : Ref sig .tc := ⟨.hbm, 329, rfl⟩
abbrev main_v287 : Ref sig .tc := ⟨.hbm, 330, rfl⟩
abbrev main_v288 : Ref sig .tc := ⟨.hbm, 331, rfl⟩
abbrev main_cst_34 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_cst_35 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_cst_36 : Ref sig .tc := ⟨.hbm, 341, rfl⟩
abbrev main_v296 : Ref sig .tc := ⟨.hbm, 342, rfl⟩
abbrev main_v297 : Ref sig .tc := ⟨.hbm, 343, rfl⟩
abbrev main_cst_37 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_cst_38 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_cst_39 : Ref sig .tc := ⟨.hbm, 353, rfl⟩
abbrev main_v305 : Ref sig .tc := ⟨.hbm, 354, rfl⟩
abbrev main_v306 : Ref sig .tc := ⟨.hbm, 355, rfl⟩
abbrev main_cst_40 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_cst_41 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_cst_42 : Ref sig .tc := ⟨.hbm, 365, rfl⟩
abbrev main_v314 : Ref sig .tc := ⟨.hbm, 366, rfl⟩
abbrev main_v315 : Ref sig .tc := ⟨.hbm, 367, rfl⟩
abbrev main_cst_43 : Ref sig .tc := ⟨.hbm, 368, rfl⟩
abbrev main_v316 : Ref sig .tc := ⟨.hbm, 369, rfl⟩
abbrev main_v317 : Ref sig .tc := ⟨.hbm, 370, rfl⟩
abbrev main_v318 : Ref sig .tc := ⟨.hbm, 371, rfl⟩
abbrev main_cst_44 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_cst_45 : Ref sig .tc := ⟨.hbm, 377, rfl⟩
abbrev main_v323 : Ref sig .tc := ⟨.hbm, 378, rfl⟩
abbrev main_v324 : Ref sig .tc := ⟨.hbm, 379, rfl⟩
abbrev main_cst_46 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_cst_47 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_cst_48 : Ref sig .tc := ⟨.hbm, 389, rfl⟩
abbrev main_v332 : Ref sig .tc := ⟨.hbm, 390, rfl⟩
abbrev main_v333 : Ref sig .tc := ⟨.hbm, 391, rfl⟩
abbrev main_cst_49 : Ref sig .tc := ⟨.hbm, 392, rfl⟩
abbrev main_v334 : Ref sig .tc := ⟨.hbm, 393, rfl⟩
abbrev main_v335 : Ref sig .tc := ⟨.hbm, 394, rfl⟩
abbrev main_v336 : Ref sig .tc := ⟨.hbm, 395, rfl⟩
abbrev main_cst_50 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_cst_51 : Ref sig .tc := ⟨.hbm, 401, rfl⟩
abbrev main_v341 : Ref sig .tc := ⟨.hbm, 402, rfl⟩
abbrev main_v342 : Ref sig .tc := ⟨.hbm, 403, rfl⟩
abbrev main_cst_52 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_cst_53 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_cst_54 : Ref sig .tc := ⟨.hbm, 413, rfl⟩
abbrev main_v350 : Ref sig .tc := ⟨.hbm, 414, rfl⟩
abbrev main_v351 : Ref sig .tc := ⟨.hbm, 415, rfl⟩
abbrev main_cst_55 : Ref sig .tc := ⟨.hbm, 416, rfl⟩
abbrev main_v352 : Ref sig .tc := ⟨.hbm, 417, rfl⟩
abbrev main_v353 : Ref sig .tc := ⟨.hbm, 418, rfl⟩
abbrev main_v354 : Ref sig .tc := ⟨.hbm, 419, rfl⟩
abbrev main_cst_56 : Ref sig .tc := ⟨.hbm, 420, rfl⟩
abbrev main_v355 : Ref sig .tc := ⟨.hbm, 421, rfl⟩
abbrev main_v356 : Ref sig .tc := ⟨.hbm, 422, rfl⟩
abbrev main_v357 : Ref sig .tc := ⟨.hbm, 423, rfl⟩
abbrev main_v358 : Ref sig .tc := ⟨.hbm, 424, rfl⟩
abbrev main_cst_57 : Ref sig .tc := ⟨.hbm, 425, rfl⟩
abbrev main_v359 : Ref sig .tc := ⟨.hbm, 426, rfl⟩
abbrev main_v360 : Ref sig .tc := ⟨.hbm, 427, rfl⟩
abbrev main_cst_58 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_cst_59 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_v367 : Ref sig .tc := ⟨.hbm, 436, rfl⟩
abbrev main_cst_60 : Ref sig .tc := ⟨.hbm, 437, rfl⟩
abbrev main_v368 : Ref sig .tc := ⟨.hbm, 438, rfl⟩
abbrev main_v369 : Ref sig .tc := ⟨.hbm, 439, rfl⟩
abbrev main_cst_61 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_cst_62 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_cst_63 : Ref sig .tc := ⟨.hbm, 449, rfl⟩
abbrev main_v377 : Ref sig .tc := ⟨.hbm, 450, rfl⟩
abbrev main_v378 : Ref sig .tc := ⟨.hbm, 451, rfl⟩
abbrev main_cst_64 : Ref sig .tc := ⟨.hbm, 452, rfl⟩
abbrev main_v379 : Ref sig .tc := ⟨.hbm, 453, rfl⟩
abbrev main_v380 : Ref sig .tc := ⟨.hbm, 454, rfl⟩
abbrev main_v381 : Ref sig .tc := ⟨.hbm, 455, rfl⟩
abbrev main_cst_65 : Ref sig .tc := ⟨.hbm, 456, rfl⟩
abbrev main_v382 : Ref sig .tc := ⟨.hbm, 457, rfl⟩
abbrev main_v383 : Ref sig .tc := ⟨.hbm, 458, rfl⟩
abbrev main_v384 : Ref sig .tc := ⟨.hbm, 459, rfl⟩
abbrev main_v385 : Ref sig .tc := ⟨.hbm, 460, rfl⟩
abbrev main_cst_66 : Ref sig .tc := ⟨.hbm, 461, rfl⟩
abbrev main_v386 : Ref sig .tc := ⟨.hbm, 462, rfl⟩
abbrev main_v387 : Ref sig .tc := ⟨.hbm, 463, rfl⟩
abbrev main_cst_67 : Ref sig .tc := ⟨.hbm, 464, rfl⟩
abbrev main_v388 : Ref sig .tc := ⟨.hbm, 465, rfl⟩
abbrev main_v389 : Ref sig .tc := ⟨.hbm, 466, rfl⟩
abbrev main_v390 : Ref sig .tc := ⟨.hbm, 467, rfl⟩
abbrev main_cst_68 : Ref sig .tc := ⟨.hbm, 468, rfl⟩
abbrev main_v391 : Ref sig .tc := ⟨.hbm, 469, rfl⟩
abbrev main_v392 : Ref sig .tc := ⟨.hbm, 470, rfl⟩
abbrev main_v393 : Ref sig .tc := ⟨.hbm, 471, rfl⟩
abbrev main_v394 : Ref sig .tc := ⟨.hbm, 472, rfl⟩
abbrev main_cst_69 : Ref sig .tc := ⟨.hbm, 473, rfl⟩
abbrev main_v395 : Ref sig .tc := ⟨.hbm, 474, rfl⟩
abbrev main_v396 : Ref sig .tc := ⟨.hbm, 475, rfl⟩
abbrev main_cst_70 : Ref sig .tc := ⟨.hbm, 476, rfl⟩
abbrev main_v397 : Ref sig .tc := ⟨.hbm, 477, rfl⟩
abbrev main_v398 : Ref sig .tc := ⟨.hbm, 478, rfl⟩
abbrev main_v399 : Ref sig .tc := ⟨.hbm, 479, rfl⟩
abbrev main_cst_71 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_cst_72 : Ref sig .tc := ⟨.hbm, 485, rfl⟩
abbrev main_v404 : Ref sig .tc := ⟨.hbm, 486, rfl⟩
abbrev main_v405 : Ref sig .tc := ⟨.hbm, 487, rfl⟩
abbrev main_cst_73 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_cst_74 : Ref sig .tc := ⟨.hbm, 492, rfl⟩
abbrev main_v409 : Ref sig .tc := ⟨.hbm, 493, rfl⟩
abbrev main_v410 : Ref sig .tc := ⟨.hbm, 494, rfl⟩
abbrev main_v411 : Ref sig .tc := ⟨.hbm, 495, rfl⟩
abbrev main_v412 : Ref sig .tc := ⟨.hbm, 496, rfl⟩
abbrev main_cst_75 : Ref sig .tc := ⟨.hbm, 497, rfl⟩
abbrev main_v413 : Ref sig .tc := ⟨.hbm, 498, rfl⟩
abbrev main_v414 : Ref sig .tc := ⟨.hbm, 499, rfl⟩
abbrev main_cst_76 : Ref sig .tc := ⟨.hbm, 500, rfl⟩
abbrev main_v415 : Ref sig .tc := ⟨.hbm, 501, rfl⟩
abbrev main_v416 : Ref sig .tc := ⟨.hbm, 502, rfl⟩
abbrev main_v417 : Ref sig .tc := ⟨.hbm, 503, rfl⟩
abbrev main_cst_77 : Ref sig .tc := ⟨.hbm, 504, rfl⟩
abbrev main_v418 : Ref sig .tc := ⟨.hbm, 505, rfl⟩
abbrev main_v419 : Ref sig .tc := ⟨.hbm, 506, rfl⟩
abbrev main_v420 : Ref sig .tc := ⟨.hbm, 507, rfl⟩
abbrev main_v421 : Ref sig .tc := ⟨.hbm, 508, rfl⟩
abbrev main_cst_78 : Ref sig .tc := ⟨.hbm, 509, rfl⟩
abbrev main_v422 : Ref sig .tc := ⟨.hbm, 510, rfl⟩
abbrev main_v423 : Ref sig .tc := ⟨.hbm, 511, rfl⟩
abbrev main_cst_79 : Ref sig .tc := ⟨.hbm, 512, rfl⟩
abbrev main_v424 : Ref sig .tc := ⟨.hbm, 513, rfl⟩
abbrev main_v425 : Ref sig .tc := ⟨.hbm, 514, rfl⟩
abbrev main_v426 : Ref sig .tc := ⟨.hbm, 515, rfl⟩
abbrev main_cst_80 : Ref sig .tc := ⟨.hbm, 516, rfl⟩
abbrev main_v427 : Ref sig .tc := ⟨.hbm, 517, rfl⟩
abbrev main_v428 : Ref sig .tc := ⟨.hbm, 518, rfl⟩
abbrev main_v429 : Ref sig .tc := ⟨.hbm, 519, rfl⟩
abbrev main_v430 : Ref sig .tc := ⟨.hbm, 520, rfl⟩
abbrev main_cst_81 : Ref sig .tc := ⟨.hbm, 521, rfl⟩
abbrev main_v431 : Ref sig .tc := ⟨.hbm, 522, rfl⟩
abbrev main_v432 : Ref sig .tc := ⟨.hbm, 523, rfl⟩
abbrev main_cst_82 : Ref sig .tc := ⟨.hbm, 524, rfl⟩
abbrev main_v433 : Ref sig .tc := ⟨.hbm, 525, rfl⟩
abbrev main_v434 : Ref sig .tc := ⟨.hbm, 526, rfl⟩
abbrev main_v435 : Ref sig .tc := ⟨.hbm, 527, rfl⟩
abbrev main_cst_83 : Ref sig .tc := ⟨.hbm, 528, rfl⟩
abbrev main_v436 : Ref sig .tc := ⟨.hbm, 529, rfl⟩
abbrev main_v437 : Ref sig .tc := ⟨.hbm, 530, rfl⟩
abbrev main_v438 : Ref sig .tc := ⟨.hbm, 531, rfl⟩
abbrev main_v439 : Ref sig .tc := ⟨.hbm, 532, rfl⟩
abbrev main_cst_84 : Ref sig .tc := ⟨.hbm, 533, rfl⟩
abbrev main_v440 : Ref sig .tc := ⟨.hbm, 534, rfl⟩
abbrev main_v441 : Ref sig .tc := ⟨.hbm, 535, rfl⟩
abbrev main_cst_85 : Ref sig .tc := ⟨.hbm, 536, rfl⟩
abbrev main_v442 : Ref sig .tc := ⟨.hbm, 537, rfl⟩
abbrev main_v443 : Ref sig .tc := ⟨.hbm, 538, rfl⟩
abbrev main_v444 : Ref sig .tc := ⟨.hbm, 539, rfl⟩
abbrev main_cst_86 : Ref sig .tc := ⟨.hbm, 540, rfl⟩
abbrev main_v445 : Ref sig .tc := ⟨.hbm, 541, rfl⟩
abbrev main_v446 : Ref sig .tc := ⟨.hbm, 542, rfl⟩
abbrev main_v447 : Ref sig .tc := ⟨.hbm, 543, rfl⟩
abbrev main_v448 : Ref sig .tc := ⟨.hbm, 544, rfl⟩
abbrev main_cst_87 : Ref sig .tc := ⟨.hbm, 545, rfl⟩
abbrev main_v449 : Ref sig .tc := ⟨.hbm, 546, rfl⟩
abbrev main_v450 : Ref sig .tc := ⟨.hbm, 547, rfl⟩
abbrev main_cst_88 : Ref sig .tc := ⟨.hbm, 548, rfl⟩
abbrev main_v451 : Ref sig .tc := ⟨.hbm, 549, rfl⟩
abbrev main_v452 : Ref sig .tc := ⟨.hbm, 550, rfl⟩
abbrev main_v453 : Ref sig .tc := ⟨.hbm, 551, rfl⟩
abbrev main_cst_89 : Ref sig .tc := ⟨.hbm, 552, rfl⟩
abbrev main_v454 : Ref sig .tc := ⟨.hbm, 553, rfl⟩
abbrev main_v455 : Ref sig .tc := ⟨.hbm, 554, rfl⟩
abbrev main_v456 : Ref sig .tc := ⟨.hbm, 555, rfl⟩
abbrev main_v457 : Ref sig .tc := ⟨.hbm, 556, rfl⟩
abbrev main_cst_90 : Ref sig .tc := ⟨.hbm, 557, rfl⟩
abbrev main_v458 : Ref sig .tc := ⟨.hbm, 558, rfl⟩
abbrev main_v459 : Ref sig .tc := ⟨.hbm, 559, rfl⟩
abbrev main_cst_91 : Ref sig .tc := ⟨.hbm, 560, rfl⟩
abbrev main_v460 : Ref sig .tc := ⟨.hbm, 561, rfl⟩
abbrev main_v461 : Ref sig .tc := ⟨.hbm, 562, rfl⟩
abbrev main_v462 : Ref sig .tc := ⟨.hbm, 563, rfl⟩
abbrev main_cst_92 : Ref sig .tc := ⟨.hbm, 564, rfl⟩
abbrev main_v463 : Ref sig .tc := ⟨.hbm, 565, rfl⟩
abbrev main_v464 : Ref sig .tc := ⟨.hbm, 566, rfl⟩
abbrev main_v465 : Ref sig .tc := ⟨.hbm, 567, rfl⟩
abbrev main_v466 : Ref sig .tc := ⟨.hbm, 568, rfl⟩
abbrev main_cst_93 : Ref sig .tc := ⟨.hbm, 569, rfl⟩
abbrev main_v467 : Ref sig .tc := ⟨.hbm, 570, rfl⟩
abbrev main_v468 : Ref sig .tc := ⟨.hbm, 571, rfl⟩
abbrev main_cst_94 : Ref sig .tc := ⟨.hbm, 572, rfl⟩
abbrev main_v469 : Ref sig .tc := ⟨.hbm, 573, rfl⟩
abbrev main_v470 : Ref sig .tc := ⟨.hbm, 574, rfl⟩
abbrev main_v471 : Ref sig .tc := ⟨.hbm, 575, rfl⟩
abbrev main_cst_95 : Ref sig .tc := ⟨.hbm, 576, rfl⟩
abbrev main_v472 : Ref sig .tc := ⟨.hbm, 577, rfl⟩
abbrev main_v473 : Ref sig .tc := ⟨.hbm, 578, rfl⟩
abbrev main_v474 : Ref sig .tc := ⟨.hbm, 579, rfl⟩
abbrev main_v475 : Ref sig .tc := ⟨.hbm, 580, rfl⟩
abbrev main_cst_96 : Ref sig .tc := ⟨.hbm, 581, rfl⟩
abbrev main_v476 : Ref sig .tc := ⟨.hbm, 582, rfl⟩
abbrev main_v477 : Ref sig .tc := ⟨.hbm, 583, rfl⟩
abbrev main_cst_97 : Ref sig .tc := ⟨.hbm, 584, rfl⟩
abbrev main_v478 : Ref sig .tc := ⟨.hbm, 585, rfl⟩
abbrev main_v479 : Ref sig .tc := ⟨.hbm, 586, rfl⟩
abbrev main_v480 : Ref sig .tc := ⟨.hbm, 587, rfl⟩
abbrev main_cst_98 : Ref sig .tc := ⟨.hbm, 588, rfl⟩
abbrev main_v481 : Ref sig .tc := ⟨.hbm, 589, rfl⟩
abbrev main_v482 : Ref sig .tc := ⟨.hbm, 590, rfl⟩
abbrev main_v483 : Ref sig .tc := ⟨.hbm, 591, rfl⟩
abbrev main_v484 : Ref sig .tc := ⟨.hbm, 592, rfl⟩
abbrev main_cst_99 : Ref sig .tc := ⟨.hbm, 593, rfl⟩
abbrev main_v485 : Ref sig .tc := ⟨.hbm, 594, rfl⟩
abbrev main_v486 : Ref sig .tc := ⟨.hbm, 595, rfl⟩
abbrev main_cst_100 : Ref sig .tc := ⟨.hbm, 596, rfl⟩
abbrev main_v487 : Ref sig .tc := ⟨.hbm, 597, rfl⟩
abbrev main_v488 : Ref sig .tc := ⟨.hbm, 598, rfl⟩
abbrev main_v489 : Ref sig .tc := ⟨.hbm, 599, rfl⟩
abbrev main_cst_101 : Ref sig .tc := ⟨.hbm, 600, rfl⟩
abbrev main_v490 : Ref sig .tc := ⟨.hbm, 601, rfl⟩
abbrev main_v491 : Ref sig .tc := ⟨.hbm, 602, rfl⟩
abbrev main_v492 : Ref sig .tc := ⟨.hbm, 603, rfl⟩
abbrev main_v493 : Ref sig .tc := ⟨.hbm, 604, rfl⟩
abbrev main_cst_102 : Ref sig .tc := ⟨.hbm, 605, rfl⟩
abbrev main_v494 : Ref sig .tc := ⟨.hbm, 606, rfl⟩
abbrev main_v495 : Ref sig .tc := ⟨.hbm, 607, rfl⟩
abbrev main_cst_103 : Ref sig .tc := ⟨.hbm, 608, rfl⟩
abbrev main_v496 : Ref sig .tc := ⟨.hbm, 609, rfl⟩
abbrev main_v497 : Ref sig .tc := ⟨.hbm, 610, rfl⟩
abbrev main_v498 : Ref sig .tc := ⟨.hbm, 611, rfl⟩
abbrev main_cst_104 : Ref sig .tc := ⟨.hbm, 612, rfl⟩
abbrev main_v499 : Ref sig .tc := ⟨.hbm, 613, rfl⟩
abbrev main_v500 : Ref sig .tc := ⟨.hbm, 614, rfl⟩
abbrev main_v501 : Ref sig .tc := ⟨.hbm, 615, rfl⟩
abbrev main_v502 : Ref sig .tc := ⟨.hbm, 616, rfl⟩
abbrev main_cst_105 : Ref sig .tc := ⟨.hbm, 617, rfl⟩
abbrev main_v503 : Ref sig .tc := ⟨.hbm, 618, rfl⟩
abbrev main_v504 : Ref sig .tc := ⟨.hbm, 619, rfl⟩
abbrev main_cst_106 : Ref sig .tc := ⟨.hbm, 620, rfl⟩
abbrev main_v505 : Ref sig .tc := ⟨.hbm, 621, rfl⟩
abbrev main_v506 : Ref sig .tc := ⟨.hbm, 622, rfl⟩
abbrev main_v507 : Ref sig .tc := ⟨.hbm, 623, rfl⟩
abbrev main_cst_107 : Ref sig .tc := ⟨.hbm, 624, rfl⟩
abbrev main_v508 : Ref sig .tc := ⟨.hbm, 625, rfl⟩
abbrev main_v509 : Ref sig .tc := ⟨.hbm, 626, rfl⟩
abbrev main_v510 : Ref sig .tc := ⟨.hbm, 627, rfl⟩
abbrev main_v511 : Ref sig .tc := ⟨.hbm, 628, rfl⟩
abbrev main_cst_108 : Ref sig .tc := ⟨.hbm, 629, rfl⟩
abbrev main_v512 : Ref sig .tc := ⟨.hbm, 630, rfl⟩
abbrev main_v513 : Ref sig .tc := ⟨.hbm, 631, rfl⟩
abbrev main_cst_109 : Ref sig .tc := ⟨.hbm, 632, rfl⟩
abbrev main_v514 : Ref sig .tc := ⟨.hbm, 633, rfl⟩
abbrev main_v515 : Ref sig .tc := ⟨.hbm, 634, rfl⟩
abbrev main_v516 : Ref sig .tc := ⟨.hbm, 635, rfl⟩
abbrev main_cst_110 : Ref sig .tc := ⟨.hbm, 636, rfl⟩
abbrev main_v517 : Ref sig .tc := ⟨.hbm, 637, rfl⟩
abbrev main_v518 : Ref sig .tc := ⟨.hbm, 638, rfl⟩
abbrev main_v519 : Ref sig .tc := ⟨.hbm, 639, rfl⟩
abbrev main_v520 : Ref sig .tc := ⟨.hbm, 640, rfl⟩
abbrev main_cst_111 : Ref sig .tc := ⟨.hbm, 641, rfl⟩
abbrev main_v521 : Ref sig .tc := ⟨.hbm, 642, rfl⟩
abbrev main_v522 : Ref sig .tc := ⟨.hbm, 643, rfl⟩
abbrev main_cst_112 : Ref sig .tc := ⟨.hbm, 644, rfl⟩
abbrev main_v523 : Ref sig .tc := ⟨.hbm, 645, rfl⟩
abbrev main_v524 : Ref sig .tc := ⟨.hbm, 646, rfl⟩
abbrev main_v525 : Ref sig .tc := ⟨.hbm, 647, rfl⟩
abbrev main_cst_113 : Ref sig .tc := ⟨.hbm, 648, rfl⟩
abbrev main_v526 : Ref sig .tc := ⟨.hbm, 649, rfl⟩
abbrev main_v527 : Ref sig .tc := ⟨.hbm, 650, rfl⟩
abbrev main_v528 : Ref sig .tc := ⟨.hbm, 651, rfl⟩
abbrev main_v529 : Ref sig .tc := ⟨.hbm, 652, rfl⟩
abbrev main_cst_114 : Ref sig .tc := ⟨.hbm, 653, rfl⟩
abbrev main_v530 : Ref sig .tc := ⟨.hbm, 654, rfl⟩
abbrev main_v531 : Ref sig .tc := ⟨.hbm, 655, rfl⟩
abbrev main_cst_115 : Ref sig .tc := ⟨.hbm, 656, rfl⟩
abbrev main_v532 : Ref sig .tc := ⟨.hbm, 657, rfl⟩
abbrev main_v533 : Ref sig .tc := ⟨.hbm, 658, rfl⟩
abbrev main_v534 : Ref sig .tc := ⟨.hbm, 659, rfl⟩
abbrev main_cst_116 : Ref sig .tc := ⟨.hbm, 660, rfl⟩
abbrev main_v535 : Ref sig .tc := ⟨.hbm, 661, rfl⟩
abbrev main_v536 : Ref sig .tc := ⟨.hbm, 662, rfl⟩
abbrev main_v537 : Ref sig .tc := ⟨.hbm, 663, rfl⟩
abbrev main_v538 : Ref sig .tc := ⟨.hbm, 664, rfl⟩
abbrev main_cst_117 : Ref sig .tc := ⟨.hbm, 665, rfl⟩
abbrev main_v539 : Ref sig .tc := ⟨.hbm, 666, rfl⟩
abbrev main_v540 : Ref sig .tc := ⟨.hbm, 667, rfl⟩
abbrev main_cst_118 : Ref sig .tc := ⟨.hbm, 668, rfl⟩
abbrev main_v541 : Ref sig .tc := ⟨.hbm, 669, rfl⟩
abbrev main_v542 : Ref sig .tc := ⟨.hbm, 670, rfl⟩
abbrev main_v543 : Ref sig .tc := ⟨.hbm, 671, rfl⟩
abbrev main_cst_119 : Ref sig .tc := ⟨.hbm, 672, rfl⟩
abbrev main_v544 : Ref sig .tc := ⟨.hbm, 673, rfl⟩
abbrev main_v545 : Ref sig .tc := ⟨.hbm, 674, rfl⟩
abbrev main_v546 : Ref sig .tc := ⟨.hbm, 675, rfl⟩
abbrev main_v547 : Ref sig .tc := ⟨.hbm, 676, rfl⟩
abbrev main_cst_120 : Ref sig .tc := ⟨.hbm, 677, rfl⟩
abbrev main_v548 : Ref sig .tc := ⟨.hbm, 678, rfl⟩
abbrev main_v549 : Ref sig .tc := ⟨.hbm, 679, rfl⟩
abbrev main_cst_121 : Ref sig .tc := ⟨.hbm, 680, rfl⟩
abbrev main_v550 : Ref sig .tc := ⟨.hbm, 681, rfl⟩
abbrev main_v551 : Ref sig .tc := ⟨.hbm, 682, rfl⟩
abbrev main_v552 : Ref sig .tc := ⟨.hbm, 683, rfl⟩
abbrev main_v553 : Ref sig .tc := ⟨.hbm, 684, rfl⟩
abbrev main_v554 : Ref sig .tc := ⟨.hbm, 685, rfl⟩
abbrev main_v555 : Ref sig .tc := ⟨.hbm, 686, rfl⟩
abbrev main_v556 : Ref sig .tc := ⟨.hbm, 687, rfl⟩
abbrev main_v557 : Ref sig .tc := ⟨.hbm, 688, rfl⟩
abbrev main_v558 : Ref sig .tc := ⟨.hbm, 689, rfl⟩
abbrev main_v559 : Ref sig .tc := ⟨.hbm, 690, rfl⟩
abbrev main_v560 : Ref sig .tc := ⟨.hbm, 691, rfl⟩
abbrev main_v561 : Ref sig .tc := ⟨.hbm, 692, rfl⟩
abbrev main_v562 : Ref sig .tc := ⟨.hbm, 693, rfl⟩
abbrev main_v563 : Ref sig .tc := ⟨.hbm, 694, rfl⟩
abbrev main_cst_122 : Ref sig .tc := ⟨.hbm, 695, rfl⟩
abbrev main_v564 : Ref sig .tc := ⟨.hbm, 696, rfl⟩
abbrev main_v565 : Ref sig .tc := ⟨.hbm, 697, rfl⟩
abbrev main_c : Ref sig .tc := ⟨.hbm, 698, rfl⟩
abbrev main_call0_v0 : Ref sig .tc := ⟨.hbm, 699, rfl⟩
abbrev main_v566 : Ref sig .tc := ⟨.hbm, 700, rfl⟩

abbrev nD : Nat := 1
abbrev τ : Topo := Topo.v7x

variable {F : FTy → Type} [FloatOps F]
-- ==== Kernel2.lean ====
abbrev S8192x1024 : Shape := ⟨2, ![8192, 1024]⟩
abbrev S8192x256 : Shape := ⟨2, ![8192, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 23
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x256, .f32⟩
  | .hbm, ⟨4, _⟩ => ⟨S8192x1024, .f32⟩
  | .hbm, ⟨5, _⟩ => ⟨S2048x1024, .f32⟩
  | .hbm, ⟨6, _⟩ => ⟨S1024x1024, .f32⟩
  | .hbm, ⟨7, _⟩ => ⟨S256x1024, .f32⟩
  | .hbm, ⟨8, _⟩ => ⟨S1x1024, .f32⟩
  | .hbm, ⟨9, _⟩ => ⟨S1x1024, .f32⟩
  | .hbm, ⟨10, _⟩ => ⟨S8192x1024, .bf16⟩
  | .hbm, ⟨11, _⟩ => ⟨S8192x1024, .bf16⟩
  | .hbm, ⟨12, _⟩ => ⟨S2048x1024, .bf16⟩
  | .hbm, ⟨13, _⟩ => ⟨S1024x1024, .bf16⟩
  | .hbm, ⟨14, _⟩ => ⟨S256x1024, .bf16⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x256, .bf16⟩
  | .hbm, ⟨22, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x256, .bf16⟩
  | .local _ .vmem, ⟨28, _⟩ => ⟨S512x256, .bf16⟩
  | .local _ .vmem, ⟨29, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S8192x1024 : Shape := ⟨2, ![8192, 1024]⟩
abbrev S8192x256 : Shape := ⟨2, ![8192, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 153
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x256, .f32⟩
  | 4 => ⟨S8192x1024, .f32⟩
  | 5 => ⟨S2048x1024, .f32⟩
  | 6 => ⟨S1024x1024, .f32⟩
  | 7 => ⟨S256x1024, .f32⟩
  | 8 => ⟨S1x1024, .f32⟩
  | 9 => ⟨S1x1024, .f32⟩
  | 10 => ⟨S8192x2048, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192, .f32⟩
  | 74 => ⟨S_, .f32⟩
  | 75 => ⟨S8192, .f32⟩
  | 76 => ⟨S8192, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S8192, .f32⟩
  | 85 => ⟨S_, .f32⟩
  | 86 => ⟨S8192, .f32⟩
  | 87 => ⟨S8192, .f32⟩
  | 88 => ⟨S8192x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x2048, .f32⟩
  | 14 => ⟨S8192x1024, .f32⟩
  | 15 => ⟨S8192x1024, .f32⟩
  | 16 => ⟨S8192x1024, .bf16⟩
  | 17 => ⟨S8192x1024, .bf16⟩
  | 18 => ⟨S8192x1024, .bf16⟩
  | 19 => ⟨S8192x1024, .bf16⟩
  | 20 => ⟨S8192x256, .bf16⟩
  | 21 => ⟨S1x1024, .f32⟩
  | 22 => ⟨S_, .f32⟩
  | 23 => ⟨S5x1024, .f32⟩
  | 24 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_cst_15 : Ref sig .tc := ⟨.hbm, 81, rfl⟩
abbrev main_cst_16 : Ref sig .tc := ⟨.hbm, 82, rfl⟩
abbrev main_v55 : Ref sig .tc := ⟨.hbm, 83, rfl⟩
abbrev main_v56 : Ref sig .tc := ⟨.hbm, 84, rfl⟩
abbrev main_cst_17 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_18 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_v72 : Ref sig .tc := ⟨.hbm, 104, rfl⟩
abbrev main_v73 : Ref sig .tc := ⟨.hbm, 105, rfl⟩
abbrev main_cst_21 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_23 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_26 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S7x1024, .f32⟩
  | .hbm, ⟨49, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel4.lean ====
abbrev S8192x1024 : Shape := ⟨2, ![8192, 1024]⟩
abbrev S3x8192x1024 : Shape := ⟨3, ![3, 8192, 1024]⟩
abbrev S4x8192x1024 : Shape := ⟨3, ![4, 8192, 1024]⟩
abbrev S1024x7168 : Shape := ⟨2, ![1024, 7168]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S3x8192x1024, .f32⟩
  | .hbm, ⟨2, _⟩ => ⟨S4x8192x1024, .f32⟩
  | .hbm, ⟨3, _⟩ => ⟨S8192x1024, .bf16⟩
  | .hbm, ⟨4, _⟩ => ⟨S3x8192x1024, .bf16⟩
  | .hbm, ⟨5, _⟩ => ⟨S4x8192x1024, .bf16⟩
  | .hbm, ⟨6, _⟩ => ⟨S1024x7168, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c3_i32 : BitVec 32 := 3#32
  let v3 : BitVec 1 := Scalar.cmpi .slt arg0 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c3_i32_2 : BitVec 32 := 3#32
  let v6 : BitVec 1 := Scalar.cmpi .sge arg0 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg0 c2_i32
  let c3_i32 : BitVec 32 := 3#32
  let v1 : BitVec 1 := Scalar.cmpi .slt arg0 c3_i32
  let c3_i32_0 : BitVec 32 := 3#32
  let v2 : BitVec 32 := Scalar.select v1 arg1 c3_i32_0
  let c0_i32 : BitVec 32 := 0#32
  let c0_i32_1 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let v1 : BitVec 32 := Scalar.maxsi v0 c0_i32
  let c3_i32_0 : BitVec 32 := 3#32
  let v2 : BitVec 1 := Scalar.cmpi .slt arg0 c3_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S8192x1024 : Shape := ⟨2, ![8192, 1024]⟩
abbrev S3x8192x1024 : Shape := ⟨3, ![3, 8192, 1024]⟩
abbrev S4x8192x1024 : Shape := ⟨3, ![4, 8192, 1024]⟩
abbrev S1x8192x1024 : Shape := ⟨3, ![1, 8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3x8192x1024, .f32⟩
  | .hbm, ⟨2, _⟩ => ⟨S4x8192x1024, .f32⟩
  | .hbm, ⟨3, _⟩ => ⟨S1x8192x1024, .f32⟩
  | .hbm, ⟨4, _⟩ => ⟨S8192x1024, .f32⟩
  | .hbm, ⟨5, _⟩ => ⟨S1x8192x1024, .f32⟩
  | .hbm, ⟨6, _⟩ => ⟨S8192x1024, .f32⟩
  | .hbm, ⟨7, _⟩ => ⟨S1x8192x1024, .f32⟩
  | .hbm, ⟨8, _⟩ => ⟨S8192x1024, .f32⟩
  | .hbm, ⟨9, _⟩ => ⟨S1x8192x1024, .f32⟩
  | .hbm, ⟨10, _⟩ => ⟨S8192x1024, .f32⟩
  | .hbm, ⟨11, _⟩ => ⟨S1x8192x1024, .f32⟩
  | .hbm, ⟨12, _⟩ => ⟨S8192x1024, .f32⟩
  | .hbm, ⟨13, _⟩ => ⟨S1x8192x1024, .f32⟩
  | .hbm, ⟨14, _⟩ => ⟨S8192x1024, .f32⟩
  | .hbm, ⟨15, _⟩ => ⟨S1x8192x1024, .f32⟩
  | .hbm, ⟨16, _⟩ => ⟨S8192x1024, .f32⟩
  | .hbm, ⟨17, _⟩ => ⟨S8192x7168, .f32⟩
  | .hbm, ⟨18, _⟩ => ⟨S_, .f32⟩
  | .hbm, ⟨19, _⟩ => ⟨S1024x7168, .f32⟩
  | .hbm, ⟨20, _⟩ => ⟨S8192x7168, .f32⟩
  | .hbm, ⟨21, _⟩ => ⟨S7168x1024, .f32⟩
  | .hbm, ⟨22, _⟩ => ⟨S1024x7168, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.ConvOuts.lean ====
module

public import proofs.«01_k».proof.Proof.Gen.KernelIdeal.Frame.RunC
public import Idealize.ShloMosaic.Lib.Claim

@[expose] public section

set_option maxRecDepth 16384

/-!
The backward pass of the convolution block: what one grid point leaves in its output blocks and in its carried
scratch buffers, in the three cases of the grid (first point, middle point, last point), and point by point.
-/

noncomputable section

namespace Cert.ConvFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section CaseA

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S32x1024 .f32) (harg4 : arg4.IsWhole)
  (arg5 : Memref sig .tc .vmem S32x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S32x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S3x256x1024 .bf16) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S8x1024 .f32) (harg16 : arg16.IsWhole)
  (arg17 : Memref sig .tc .vmem S32x1024 .f32) (harg17 : arg17.IsWhole)
  (arg18 : Memref sig .tc .vmem S288x1024 .f32) (harg18 : arg18.IsWhole)
  (arg19 : Memref sig .tc .vmem S288x1024 .f32) (harg19 : arg19.IsWhole)
  (arg20 : Memref sig .tc .vmem S32x8x1024 .f32) (harg20 : arg20.IsWhole)
  (hc0 : cond0_0 i) (hc1 : ¬cond0_1 i)
  (x0 : Vec F S256x1024 .f32) (x1 : Vec F S256x1024 .f32) (x2 : Vec F S256x1024 .f32) (x3 : Vec F S32x1024 .f32) (x4 : Vec F S32x1024 .f32) (x5 : Vec F S256x1024 .f32)
  (x6 : Vec F S256x1024 .f32) (x7 : Vec F S32x1024 .f32) (x8 : Vec F S1x1024 .f32) (x9 : Vec F S1x1024 .f32) (x10 : Vec F S1024x1024 .bf16) (x11 : Vec F S1x1024 .f32)

theorem cover0_A_12  (y : S3x256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1 S1x256x1024.size (by sl_kernel_rfl) y

def out0_A_12  : Vec F S3x256x1024 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).1)

theorem cover0_A_13  (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1 S256x1024.size (by sl_kernel_rfl) y

def out0_A_13  : Vec F S256x1024 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.1)

theorem cover0_A_14  (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1 S256x1024.size (by sl_kernel_rfl) y

def out0_A_14  : Vec F S256x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.1)

theorem cover0_A_15  (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1 ![1, 1024] (by sl_kernel_rfl) y

def out0_A_15  : Vec F S8x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.1)

def out0_A_16  : Vec F S32x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.1)

theorem scover0_A_1  (y : S288x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.1 (by sl_whole_mem) y

def sout0_A_1  : Vec F S288x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.1)

theorem scover0_A_2  (y : S32x8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.2.1 (by sl_whole_mem) y

def sout0_A_2  : Vec F S32x8x1024 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11).2.2.2.2.2.2.1)

end CaseA

section CaseB

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S32x1024 .f32) (harg4 : arg4.IsWhole)
  (arg5 : Memref sig .tc .vmem S32x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S32x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S3x256x1024 .bf16) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S8x1024 .f32) (harg16 : arg16.IsWhole)
  (arg17 : Memref sig .tc .vmem S32x1024 .f32) (harg17 : arg17.IsWhole)
  (arg18 : Memref sig .tc .vmem S288x1024 .f32) (harg18 : arg18.IsWhole)
  (arg19 : Memref sig .tc .vmem S288x1024 .f32) (harg19 : arg19.IsWhole)
  (arg20 : Memref sig .tc .vmem S32x8x1024 .f32) (harg20 : arg20.IsWhole)
  (hc0 : ¬cond0_0 i) (hc1 : ¬cond0_1 i)
  (x0 : Vec F S256x1024 .f32) (x1 : Vec F S256x1024 .f32) (x2 : Vec F S256x1024 .f32) (x3 : Vec F S32x1024 .f32) (x4 : Vec F S32x1024 .f32) (x5 : Vec F S256x1024 .f32)
  (x6 : Vec F S256x1024 .f32) (x7 : Vec F S32x1024 .f32) (x8 : Vec F S1x1024 .f32) (x9 : Vec F S1x1024 .f32) (x10 : Vec F S1024x1024 .bf16) (x11 : Vec F S1x1024 .f32)
  (xo15 : Vec F S8x1024 .f32) (xs1 : Vec F S288x1024 .f32) (xs2 : Vec F S32x8x1024 .f32)

theorem cover0_B_12  (y : S3x256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).1 S1x256x1024.size (by sl_kernel_rfl) y

def out0_B_12  : Vec F S3x256x1024 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).1)

theorem cover0_B_13  (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.1 S256x1024.size (by sl_kernel_rfl) y

def out0_B_13  : Vec F S256x1024 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.1)

theorem cover0_B_14  (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.1 S256x1024.size (by sl_kernel_rfl) y

def out0_B_14  : Vec F S256x1024 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.1)

def out0_B_15  : Vec F S8x1024 .f32 :=
  arg16.view.read (Elt F) (arg16.view.writes (Elt F) (harg16.unread xo15) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.1)

def out0_B_16  : Vec F S32x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.1)

theorem scover0_B_1  (y : S288x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.2.1 ![32, 1024] (by sl_kernel_rfl) y

def sout0_B_1  : Vec F S288x1024 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.2.1)

def sout0_B_2  : Vec F S32x8x1024 .f32 :=
  arg20.view.read (Elt F) (arg20.view.writes (Elt F) (harg20.unread xs2) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.2.2.1)

end CaseB

section CaseC

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S32x1024 .f32) (harg4 : arg4.IsWhole)
  (arg5 : Memref sig .tc .vmem S32x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S32x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S3x256x1024 .bf16) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S8x1024 .f32) (harg16 : arg16.IsWhole)
  (arg17 : Memref sig .tc .vmem S32x1024 .f32) (harg17 : arg17.IsWhole)
  (arg18 : Memref sig .tc .vmem S288x1024 .f32) (harg18 : arg18.IsWhole)
  (arg19 : Memref sig .tc .vmem S288x1024 .f32) (harg19 : arg19.IsWhole)
  (arg20 : Memref sig .tc .vmem S32x8x1024 .f32) (harg20 : arg20.IsWhole)
  (hc0 : ¬cond0_0 i) (hc1 : cond0_1 i)
  (x0 : Vec F S256x1024 .f32) (x1 : Vec F S256x1024 .f32) (x2 : Vec F S256x1024 .f32) (x3 : Vec F S32x1024 .f32) (x4 : Vec F S32x1024 .f32) (x5 : Vec F S256x1024 .f32)
  (x6 : Vec F S256x1024 .f32) (x7 : Vec F S32x1024 .f32) (x8 : Vec F S1x1024 .f32) (x9 : Vec F S1x1024 .f32) (x10 : Vec F S1024x1024 .bf16) (x11 : Vec F S1x1024 .f32)
  (xo15 : Vec F S8x1024 .f32) (xs1 : Vec F S288x1024 .f32) (xs2 : Vec F S32x8x1024 .f32)

theorem cover0_C_12  (y : S3x256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).1 S1x256x1024.size (by sl_kernel_rfl) y

def out0_C_12  : Vec F S3x256x1024 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).1)

theorem cover0_C_13  (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.1 S256x1024.size (by sl_kernel_rfl) y

def out0_C_13  : Vec F S256x1024 .bf16 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.1)

theorem cover0_C_14  (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.1 S256x1024.size (by sl_kernel_rfl) y

def out0_C_14  : Vec F S256x1024 .bf16 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.1)

def out0_C_15  : Vec F S8x1024 .f32 :=
  arg16.view.read (Elt F) (arg16.view.writes (Elt F) (harg16.unread xo15) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.1)

theorem cover0_C_16  (y : S32x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.1 S32x1024.size (by sl_kernel_rfl) y

def out0_C_16  : Vec F S32x1024 .f32 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.1)

theorem scover0_C_1  (y : S288x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.2.1 ![32, 1024] (by sl_kernel_rfl) y

def sout0_C_1  : Vec F S288x1024 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.2.1)

def sout0_C_2  : Vec F S32x8x1024 .f32 :=
  arg20.view.read (Elt F) (arg20.view.writes (Elt F) (harg20.unread xs2) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2).2.2.2.2.2.2.1)

/-! ## What the outputs hold after each point -/

end CaseC

/-- What a grid point leaves: the five output blocks and the two carried scratch buffers. -/
abbrev Left (F : FTy → Type) : Type := Vec F S3x256x1024 .bf16 × Vec F S256x1024 .bf16 × Vec F S256x1024 .bf16 × Vec F S8x1024 .f32 × Vec F S32x1024 .f32 × Vec F S288x1024 .f32 × Vec F S32x8x1024 .f32

/-- The first grid point, which starts the accumulators. -/
def stepA (c : Dev nD) (t : Fin cfg0.N) (h0 : t.val % 32 = 0) (h1 : ¬t.val % 32 = 31) : Left F :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- A grid point in the middle, over what the point before left. -/
def stepB (c : Dev nD) (t : Fin cfg0.N) (h0 : ¬t.val % 32 = 0) (h1 : ¬t.val % 32 = 31) (p : Left F) : Left F :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2)

/-- The last grid point, which also writes the kernel gradient. -/
def stepC (c : Dev nD) (t : Fin cfg0.N) (h0 : ¬t.val % 32 = 0) (h1 : t.val % 32 = 31) (p : Left F) : Left F :=
  (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.1 p.2.2.2.2.2.1 p.2.2.2.2.2.2)

/-- What grid point `n` leaves, by recursion over the points. -/
def outsAt0 (c : Dev nD) : (n : ℕ) → n < cfg0.N → Left F
  | 0, hn => stepA m c ⟨0, hn⟩ (Nat.zero_mod _) (by dsimp only; omega)
  | n + 1, hn =>
    if h0 : (n + 1) % 32 = 0 then
      if h1 : (n + 1) % 32 = 31 then
        False.elim (by omega)
      else
        stepA m c ⟨n + 1, hn⟩ h0 h1
    else
      if h1 : (n + 1) % 32 = 31 then
        stepC m c ⟨n + 1, hn⟩ h0 h1 (outsAt0 c n (Nat.lt_of_succ_lt hn))
      else
        stepB m c ⟨n + 1, hn⟩ h0 h1 (outsAt0 c n (Nat.lt_of_succ_lt hn))

theorem outsAt0_A (c : Dev nD) (t : Fin cfg0.N) (h0 : t.val % 32 = 0) (h1 : ¬t.val % 32 = 31) :
    outsAt0 m c t.val t.isLt = stepA m c t h0 h1 := by
  obtain ⟨n, hn⟩ := t
  cases n with
  | zero => rfl
  | succ n => exact (dif_pos h0).trans (dif_neg h1)

theorem outsAt0_B (c : Dev nD) (t : Fin cfg0.N) (h0 : ¬t.val % 32 = 0) (h1 : ¬t.val % 32 = 31) :
    outsAt0 m c t.val t.isLt = stepB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 32 = 0) (h1 : t.val % 32 = 31) :
    outsAt0 m c t.val t.isLt = stepC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

end Cert.ConvFrame

end
-- ==== Proof.ConvFrame.lean ====
module

public import proofs.«01_k».proof.Proof.ConvOuts
public import Idealize.ShloMosaic.Lib.Claim

@[expose] public section

set_option maxRecDepth 16384

/-!
The backward pass of the convolution block: its run. The proof data of the pipeline state what each output block
and each carried scratch buffer holds after every grid point; the body keeps them; so the program terminates, leaves
its arguments unchanged and its semaphore counters at zero.
-/

noncomputable section

namespace Cert.ConvFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

def PhiS (c : Dev nD) : (n : ℕ) → n ≤ cfg0.N → sProp (MT nD τ sig Unit (Elt F) ℕ (UR sig nD τ) ℕ)
  | 0, _ => Pipeline.ΦA spec0 c
  | n + 1, hn => iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_15_B (c : Dev nD) (t : Fin cfg0.N) (h0 : ¬t.val % 32 = 0) (h1 : ¬t.val % 32 = 31) (d) :
    (dats m 0 c).before 15 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_15_C (c : Dev nD) (t : Fin cfg0.N) (h0 : ¬t.val % 32 = 0) (h1 : t.val % 32 = 31) (d) :
    (dats m 0 c).before 15 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 24000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold stepA out0_A_12 out0_A_13 out0_A_14 out0_A_15 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_A c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [HS0]; · iexact HS0
        isplitl [HS1]; · iexact HS1
        isplitl [HS2]; · iexact HS2
        iintro ⟨H0, H1, H2, H3, H4, H5, H6, H7, H8, H9, H10, H11, ⟨%e12, H12⟩, ⟨%e13, H13⟩, ⟨%e14, H14⟩, ⟨%e15, H15⟩, H16, ⟨%fT0, HS0⟩, ⟨%es1, HS1⟩, ⟨%es2, HS2⟩⟩
        isplitl [HS0 HS1 HS2 Hg]
        · isplitl [HS0 HS1 HS2]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
        iexists _; iexact H16
      · exfalso; have hN : t.val < 32 := lt_of_lt_of_eq t.isLt (show cfg0.N = 32 from N_0); omega
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_1 t).mpr h1)], after0_16]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_15_C m c t h0 h1]
        unfold stepC out0_C_12 out0_C_13 out0_C_14 out0_C_15 out0_C_16 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexact H15
        isplitl [H16]; · iexists _; iexact H16
        isplitl [HS0]; · iexact HS0
        isplitl [HS1]; · iexact HS1
        isplitl [HS2]; · iexact HS2
        iintro ⟨H0, H1, H2, H3, H4, H5, H6, H7, H8, H9, H10, H11, ⟨%e12, H12⟩, ⟨%e13, H13⟩, ⟨%e14, H14⟩, H15, ⟨%e16, H16⟩, ⟨%fT0, HS0⟩, ⟨%es1, HS1⟩, HS2⟩
        isplitl [HS0 HS1 HS2 Hg]
        · isplitl [HS0 HS1 HS2]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; rfl
        unfold owns; iexists _; isplitr
        swap; · iexact H16
        ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_15_B m c t h0 h1]
        unfold stepB out0_B_12 out0_B_13 out0_B_14 out0_B_15 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexact H15
        isplitl [H16]; · iexact H16
        isplitl [HS0]; · iexact HS0
        isplitl [HS1]; · iexact HS1
        isplitl [HS2]; · iexact HS2
        iintro ⟨H0, H1, H2, H3, H4, H5, H6, H7, H8, H9, H10, H11, ⟨%e12, H12⟩, ⟨%e13, H13⟩, ⟨%e14, H14⟩, H15, H16, ⟨%fT0, HS0⟩, ⟨%es1, HS1⟩, HS2⟩
        isplitl [HS0 HS1 HS2 Hg]
        · isplitl [HS0 HS1 HS2]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; rfl
        iexists _; iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ConvFrame

end
-- ==== Proof.ConvClaims.lean ====
module

public import proofs.«01_k».proof.Defs
public import proofs.«01_k».proof.Proof.Gen.Kernel
public import proofs.«01_k».proof.Proof.Gen.KernelIdeal
public import proofs.«01_k».proof.Proof.ConvFrame

@[expose] public section

/-!
The frames of the backward pass of the convolution block, at the machine's floats and over the extended reals, from
the one run of `ConvFrame`.
-/

noncomputable section

namespace Cert.ConvFrame

open Idealize.ShloMosaic Idealize.SL.Sem

theorem frame_ideal : Cert.quiescent_KernelIdeal (hKernelIdeal := Cert.KernelIdeal.Gen.facts) :=
  fun m ρ _ => frame_all (F := Ideal) m ρ

section Same

variable {F : FTy → Type} [FloatOps F]

set_option maxRecDepth 16384 in
set_option maxHeartbeats 4000000 in
/-- The two programs run the same body. -/
theorem body_eq : Cert.Kernel.cc0_conv_bwd (F := F) = Cert.KernelIdeal.cc0_conv_bwd (F := F) := rfl

set_option maxRecDepth 16384 in
set_option maxHeartbeats 4000000 in
/-- The two programs have the same body table. -/
theorem defs0_eq : Cert.Kernel.defs₀ (F := F) = Cert.KernelIdeal.defs₀ (F := F) := by
  unfold Cert.Kernel.defs₀ Cert.KernelIdeal.defs₀
  refine congrArg Defs.onTc ?_
  funext n x
  match n, x with
  | ⟨0, _⟩, (t, s) =>
    dsimp only
    rw [body_eq]
    rfl

set_option maxRecDepth 16384 in
set_option maxHeartbeats 4000000 in
theorem pcfgs_eq : Cert.Kernel.pcfgs (F := F) = Cert.KernelIdeal.pcfgs (F := F) := rfl

set_option maxRecDepth 16384 in
set_option maxHeartbeats 4000000 in
/-- The two programs have the same definitions. -/
theorem defs_eq : Cert.Kernel.defs (F := F) = Cert.KernelIdeal.defs (F := F) := by
  unfold Cert.Kernel.defs Cert.KernelIdeal.defs
  exact congrArg (fun d => Pipeline.defs (Cert.KernelIdeal.pcfgs (F := F)) d) defs0_eq

end Same

set_option maxRecDepth 16384 in
set_option maxHeartbeats 4000000 in
theorem frame_kernel : Cert.quiescent_Kernel (hKernel := Cert.Kernel.Gen.facts) := fun m ρ _ => by
  rw [defs_eq]
  exact frame_all (F := Bits) m ρ

end Cert.ConvFrame

end
-- ==== Proof.Common.lean ====
/-
  Facts of the extended reals and of the operations read at one index, shared by the value proofs of this certificate:
  the three matrix products as sums, and sums regrouped over tiles.
-/
module

public import Idealize.ShloMosaic.Lib.ValueIdx
public import Idealize.ShloMosaic.Lib.Pipeline.Value
public import Idealize.ShloMosaic.PureOps.Ideal

@[expose] public section

noncomputable section

namespace Cert.Common

open Idealize.ShloMosaic Idealize.ShloMosaic.ValueIdx
open scoped BigOperators

variable {M K N : Nat}

/-- A product contracting the left operand's rows with the right operand's rows, at one index. -/
theorem matmul_tn {φ₁ φ₂ : FTy} (D : DotDims ⟨2, ![K, M]⟩ ⟨2, ![K, N]⟩ ⟨2, ![M, N]⟩)
    (h1 : D.lhsContracting = [0]) (h2 : D.rhsContracting = [0]) (h3 : D.lhsNonContracting = [1])
    (h4 : D.rhsNonContracting = [1]) (h5 : D.lhsBatch = []) (h6 : D.rhsBatch = [])
    (a : FVec Ideal ⟨2, ![K, M]⟩ φ₁) (b : FVec Ideal ⟨2, ![K, N]⟩ φ₂) (acc : FVec Ideal ⟨2, ![M, N]⟩ .f32)
    (i : Fin M) (j : Fin N) :
    matmul D none a b acc (ix2 i j) = acc (ix2 i j) + ∑ k : Fin K, a (ix2 k i) * b (ix2 k j) := by
  obtain ⟨lc, rc, ln, rn, lb, rb, wf⟩ := D
  dsimp only at h1 h2 h3 h4 h5 h6
  subst h1 h2 h3 h4 h5 h6
  generalize hD : (DotDims.mk [0] [0] [1] [1] [] [] wf : DotDims ⟨2, ![K, M]⟩ ⟨2, ![K, N]⟩ ⟨2, ![M, N]⟩) = D
  have hr : D.contr.rank = 1 := by subst hD; rfl
  have hs : D.contr.size ⟨0, by omega⟩ = K := by subst hD; rfl
  show acc (ix2 i j) + ∑ k : D.contr.Idx, _ = _
  rw [← Equiv.sum_comp (contrEquiv1 D K hr hs).symm]
  congr 1
  refine Finset.sum_congr rfl fun k _ => ?_
  have hk := contrEquiv1_symm_val D K hr hs k
  congr 2
  · funext x
    apply Fin.ext
    match x with
    | ⟨0, _⟩ => exact (by subst hD; exact DotDims.lhsIdx_val_of_single _ rfl _ _ : _ = _).trans hk
    | ⟨1, _⟩ => subst hD; rfl
  · funext x
    apply Fin.ext
    match x with
    | ⟨0, _⟩ => exact (by subst hD; exact DotDims.rhsIdx_val_of_single _ rfl _ _ : _ = _).trans hk
    | ⟨1, _⟩ => subst hD; rfl

/-- A product contracting the left operand's columns with the right operand's rows, at one index. -/
theorem matmul_nn {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (a : FVec Ideal ⟨2, ![M, K]⟩ φ₁) (b : FVec Ideal ⟨2, ![K, N]⟩ φ₂) (acc : FVec Ideal ⟨2, ![M, N]⟩ .f32)
    (i : Fin M) (j : Fin N) :
    matmul D none a b acc (ix2 i j) = acc (ix2 i j) + ∑ k : Fin K, a (ix2 i k) * b (ix2 k j) := by
  obtain ⟨lc, rc, ln, rn, lb, rb, wf⟩ := D
  dsimp only at h1 h2 h3 h4 h5 h6
  subst h1 h2 h3 h4 h5 h6
  generalize hD : (DotDims.mk [1] [0] [0] [1] [] [] wf : DotDims ⟨2, ![M, K]⟩ ⟨2, ![K, N]⟩ ⟨2, ![M, N]⟩) = D
  have hr : D.contr.rank = 1 := by subst hD; rfl
  have hs : D.contr.size ⟨0, by omega⟩ = K := by subst hD; rfl
  show acc (ix2 i j) + ∑ k : D.contr.Idx, _ = _
  rw [← Equiv.sum_comp (contrEquiv1 D K hr hs).symm]
  congr 1
  refine Finset.sum_congr rfl fun k _ => ?_
  have hk := contrEquiv1_symm_val D K hr hs k
  congr 2
  · funext x
    apply Fin.ext
    match x with
    | ⟨0, _⟩ => subst hD; rfl
    | ⟨1, _⟩ => exact (by subst hD; exact DotDims.lhsIdx_val_of_single _ rfl _ _ : _ = _).trans hk
  · funext x
    apply Fin.ext
    match x with
    | ⟨0, _⟩ => exact (by subst hD; exact DotDims.rhsIdx_val_of_single _ rfl _ _ : _ = _).trans hk
    | ⟨1, _⟩ => subst hD; rfl

/-- A product contracting the left operand's columns with the right operand's columns, at one index. -/
theorem matmul_nt {φ₁ φ₂ : FTy} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (a : FVec Ideal ⟨2, ![M, K]⟩ φ₁) (b : FVec Ideal ⟨2, ![N, K]⟩ φ₂) (acc : FVec Ideal ⟨2, ![M, N]⟩ .f32)
    (i : Fin M) (j : Fin N) :
    matmul D none a b acc (ix2 i j) = acc (ix2 i j) + ∑ k : Fin K, a (ix2 i k) * b (ix2 j k) := by
  obtain ⟨lc, rc, ln, rn, lb, rb, wf⟩ := D
  dsimp only at h1 h2 h3 h4 h5 h6
  subst h1 h2 h3 h4 h5 h6
  generalize hD : (DotDims.mk [1] [1] [0] [0] [] [] wf : DotDims ⟨2, ![M, K]⟩ ⟨2, ![N, K]⟩ ⟨2, ![M, N]⟩) = D
  have hr : D.contr.rank = 1 := by subst hD; rfl
  have hs : D.contr.size ⟨0, by omega⟩ = K := by subst hD; rfl
  show acc (ix2 i j) + ∑ k : D.contr.Idx, _ = _
  rw [← Equiv.sum_comp (contrEquiv1 D K hr hs).symm]
  congr 1
  refine Finset.sum_congr rfl fun k _ => ?_
  have hk := contrEquiv1_symm_val D K hr hs k
  congr 2
  · funext x
    apply Fin.ext
    match x with
    | ⟨0, _⟩ => subst hD; rfl
    | ⟨1, _⟩ => exact (by subst hD; exact DotDims.lhsIdx_val_of_single _ rfl _ _ : _ = _).trans hk
  · funext x
    apply Fin.ext
    match x with
    | ⟨0, _⟩ => subst hD; rfl
    | ⟨1, _⟩ => exact (by subst hD; exact DotDims.rhsIdx_val_of_single _ rfl _ _ : _ = _).trans hk

/-- A sum over `n * t` rows is the sum over `n` tiles of the tile's `t` rows. -/
theorem sum_tiles {α : Type*} [AddCommMonoid α] (n t R : Nat) (hR : n * t = R) (f : Fin R → α) :
    ∑ r, f r = ∑ a : Fin n, ∑ b : Fin t, f ⟨a.val * t + b.val, by
      have := a.isLt; have := b.isLt; subst hR; nlinarith⟩ := by
  subst hR
  rw [← Equiv.sum_comp finProdFinEquiv, Fintype.sum_prod_type]
  refine Finset.sum_congr rfl fun a _ => Finset.sum_congr rfl fun b _ => ?_
  congr 1
  apply Fin.ext
  show b.val + t * a.val = a.val * t + b.val
  ring

/-- The zero word is the number zero. -/
theorem ofBits_zero : Ideal.ofBits .f32 0x00000000#32 = 0 := by
  simp [Ideal.ofBits, Ideal.ieee]

end Cert.Common

end
-- ==== Proof.Rows.lean ====
/-
  Rows of a matrix over the extended reals: sums along an axis, a column beside every column, and the arithmetic of finite
  numbers, which is the arithmetic of the reals.
-/
module

public import proofs.«01_k».proof.Proof.Common
public import Idealize.ShloMosaic.Lib.ValueLayout
public import Idealize.ShloMosaic.PureOps.Ideal.Laws

@[expose] public section

noncomputable section

namespace Cert.Rows

open Idealize.ShloMosaic Idealize.ShloMosaic.ValueIdx

/-! ## Sums along an axis -/

theorem rowsum {n d : ℕ} {φ : FTy} (v : FVec Ideal ⟨2, ![n, d]⟩ φ) (acc : BitVec φ.bits) (h : (⟨2, ![n, d]⟩ : Shape).Reduces [1] ⟨1, ![n]⟩)
    (hφ : FKind.Formats φ) (hacc : acc = FKind.add.neutral φ hφ) (r : Fin n) :
    multiReduction .add [1] ⟨1, ![n]⟩ v acc h hφ hacc (ix1 r) = ∑ k : Fin d, (v (ix2 r k) : EReal) := by
  refine (Ideal.multiReduction_add_single v acc h hφ hacc (ix1 r)).trans ?_
  refine Finset.sum_congr rfl fun k _ => congrArg v ?_
  exact (eq_ix2 _).trans rfl

theorem colsum {n d : ℕ} {φ : FTy} (v : FVec Ideal ⟨2, ![n, d]⟩ φ) (acc : BitVec φ.bits) (h : (⟨2, ![n, d]⟩ : Shape).Reduces [0] ⟨1, ![d]⟩)
    (hφ : FKind.Formats φ) (hacc : acc = FKind.add.neutral φ hφ) (j : Fin d) :
    multiReduction .add [0] ⟨1, ![d]⟩ v acc h hφ hacc (ix1 j) = ∑ r : Fin n, (v (ix2 r j) : EReal) := by
  refine (Ideal.multiReduction_add_single v acc h hφ hacc (ix1 j)).trans ?_
  refine Finset.sum_congr rfl fun k _ => congrArg v ?_
  exact (eq_ix2 _).trans rfl

theorem cast_col {n : ℕ} {α : Type} (v : (⟨1, ![n]⟩ : Shape).Idx → α) (h : (⟨1, ![n]⟩ : Shape).ShapeCasts ⟨2, ![n, 1]⟩) (r : Fin n) (z : Fin 1) :
    shapeCast ⟨2, ![n, 1]⟩ v h (ix2 r z) = v (ix1 r) := by
  refine shapeCast_apply v h _ _ ?_
  rw [Shape.rowMajor_val_one, Shape.rowMajor_val_two]
  show r.val = r.val * 1 + z.val
  omega

theorem bcast_col {n d : ℕ} {α : Type} (v : (⟨2, ![n, 1]⟩ : Shape).Idx → α) (h : (⟨2, ![n, 1]⟩ : Shape).Broadcasts ⟨2, ![n, d]⟩) (r : Fin n) (k : Fin d) :
    broadcastTo ⟨2, ![n, d]⟩ v h (ix2 r k) = v (ix2 r 0) := by
  refine broadcastTo_apply v h _ _ fun a => ?_
  match a with
  | ⟨0, _⟩ =>
    show r.val = if n = 1 then 0 else r.val
    split
    · have := r.isLt; omega
    · rfl
  | ⟨1, _⟩ => rfl

theorem bcast_apply {s : Shape} {α : Type} (x : α) (i : s.Idx) : broadcast s x i = x := rfl

/-! ## Finite numbers -/

theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul, mul_one_div]

theorem rsqrt_real (a : ℝ) (ha : 0 < a) : Ideal.rsqrt (a : EReal) = (((√a)⁻¹ : ℝ) : EReal) := by
  rw [Ideal.rsqrt_coe, if_neg (not_lt.mpr ha.le), if_neg ha.ne']

/-- The number added under the root. -/
def eps : ℝ := 8796093 * 2 ^ (-43 : ℤ)

theorem eps_pos : 0 < eps := by unfold eps; positivity

theorem ofBits_eps : Ideal.ofBits .f32 0x358637BD#32 = ((eps : ℝ) : EReal) := by
  unfold eps
  simp [Ideal.ofBits, Ideal.ieee, -EReal.coe_mul]
  try norm_num

theorem ofBits_1024 : Ideal.ofBits .f32 0x44800000#32 = ((1024 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  try norm_num

theorem ofBits_two : Ideal.ofBits .f32 0x40000000#32 = ((2 : ℝ) : EReal) := by
  simp [Ideal.ofBits, Ideal.ieee, -EReal.coe_mul]
  try norm_num

theorem ofBits_inv1024 : Ideal.ofBits .f32 0x3A800000#32 = ((1 / 1024 : ℝ) : EReal) := by
  simp [Ideal.ofBits, Ideal.ieee, -EReal.coe_mul]
  norm_num

/-! ## The root mean square of a row -/

/-- The mean square of a row, and the inverse of the root. -/
def msq (x : Fin 1024 → ℝ) : ℝ := (∑ k, x k * x k) / 1024 + eps
def rstd (x : Fin 1024 → ℝ) : ℝ := (√(msq x))⁻¹

theorem msq_pos (x : Fin 1024 → ℝ) : 0 < msq x := by
  have h : 0 ≤ ∑ k, x k * x k := Finset.sum_nonneg fun k _ => mul_self_nonneg _
  have := eps_pos
  unfold msq
  positivity

theorem rstd_sq (x : Fin 1024 → ℝ) : rstd x * rstd x = (msq x)⁻¹ := by
  unfold rstd
  rw [← mul_inv, Real.mul_self_sqrt (msq_pos x).le]

theorem rsqrt_msq (x : Fin 1024 → ℝ) :
    Ideal.rsqrt (Ideal.div ((∑ k, x k * x k : ℝ) : EReal) (Ideal.ofBits .f32 0x44800000#32) + Ideal.ofBits .f32 0x358637BD#32) = ((rstd x : ℝ) : EReal) := by
  rw [ofBits_1024, ofBits_eps, div_real _ _ (by norm_num), ← EReal.coe_add]
  exact rsqrt_real _ (msq_pos x)

/-- The gradient of `x · rstd x` in `x` at `d`, as the two ways to write it agree. -/
theorem rms_grad (x d : Fin 1024 → ℝ) (k : Fin 1024) :
    rstd x * (d k - x k * rstd x * ((∑ j, d j * (x j * rstd x)) / 1024))
      = d k * rstd x + x k * ((∑ j, x j * d j) * (-(1 / 2) * (rstd x / msq x)) / 1024) + (∑ j, x j * d j) * (-(1 / 2) * (rstd x / msq x)) / 1024 * x k := by
  have h : ∑ j, d j * (x j * rstd x) = (∑ j, x j * d j) * rstd x := by
    rw [Finset.sum_mul]; exact Finset.sum_congr rfl fun j _ => by ring
  have h2 := rstd_sq x
  rw [h, div_eq_mul_inv (rstd x) (msq x), ← h2]
  ring

end Cert.Rows

end
-- ==== Proof.TailMath.lean ====
/-
  The tail of the step, token by token over the reals: the out-projection, the gated embedding, the final norm, the loss, and
  the gradients of all of them.
-/
module

public import proofs.«01_k».proof.Proof.Rows

@[expose] public section

noncomputable section

namespace Cert.Tail

open Cert.Rows

/-- The weights. -/
structure Wt where
  wo : Fin 2048 → Fin 1024 → ℝ
  wg : Fin 1024 → Fin 1024 → ℝ
  wp : Fin 256 → Fin 1024 → ℝ
  pg : Fin 1024 → ℝ
  fg : Fin 1024 → ℝ

/-- The arguments of one token. -/
structure Tok where
  x : Fin 1024 → ℝ
  yc : Fin 1024 → ℝ
  yh : Fin 1024 → ℝ
  p : Fin 256 → ℝ
  t : Fin 1024 → ℝ

/-- The two halves of the rows of the out-projection. -/
def lo (k : Fin 1024) : Fin 2048 := ⟨k.val, by have := k.isLt; omega⟩
def hi (k : Fin 1024) : Fin 2048 := ⟨1024 + k.val, by have := k.isLt; omega⟩

/-- The logistic function. -/
def lgs (z : ℝ) : ℝ := 1 / (1 + Real.exp (-z))

variable (w : Wt) (a : Tok)

/-! ## The forward pass -/

def H (k : Fin 1024) : ℝ := a.x k + (∑ j, a.yc j * w.wo (lo j) k) + ∑ j, a.yh j * w.wo (hi j) k
def HN (k : Fin 1024) : ℝ := H w a k * rstd (H w a)
def N2 (k : Fin 1024) : ℝ := HN w a k * w.pg k
def PE (k : Fin 1024) : ℝ := ∑ j, a.p j * w.wp j k
def GT (k : Fin 1024) : ℝ := lgs (∑ j, N2 w a j * w.wg j k)
def H2 (k : Fin 1024) : ℝ := H w a k + GT w a k * PE w a k
def H2N (k : Fin 1024) : ℝ := H2 w a k * rstd (H2 w a)
def ER (k : Fin 1024) : ℝ := H2N w a k * w.fg k - a.t k
/-- The loss of the token. -/
def LS : ℝ := 1 / 2 * ((∑ k, ER w a k * ER w a k) / 1024)

/-! ## The backward pass -/

def DO (k : Fin 1024) : ℝ := ER w a k * (1 / 1024)
def D3 (k : Fin 1024) : ℝ := DO w a k * w.fg k
def DH2 (k : Fin 1024) : ℝ := rstd (H2 w a) * (D3 w a k - H2N w a k * ((∑ j, D3 w a j * H2N w a j) / 1024))
def DS (k : Fin 1024) : ℝ := DH2 w a k * PE w a k * GT w a k * (1 - GT w a k)
def DP (k : Fin 1024) : ℝ := DH2 w a k * GT w a k
def DN2 (k : Fin 1024) : ℝ := ∑ j, DS w a j * w.wg k j
def DNN (k : Fin 1024) : ℝ := DN2 w a k * w.pg k
def DH (k : Fin 1024) : ℝ := DH2 w a k + rstd (H w a) * (DNN w a k - HN w a k * ((∑ j, DNN w a j * HN w a j) / 1024))
def DYC (k : Fin 1024) : ℝ := ∑ j, DH w a j * w.wo (lo k) j
def DYH (k : Fin 1024) : ℝ := ∑ j, DH w a j * w.wo (hi k) j

/-- What the token adds to row `o` of the eight rows: the gradients of the two scales, and the loss. -/
def RW (o : ℕ) (k : Fin 1024) : ℝ :=
  if o = 1 then DN2 w a k * HN w a k else if o = 0 then DO w a k * H2N w a k else if o = 2 then LS w a else 0

/-- A sum over the rows of the out-projection, by halves. -/
theorem sum_halves {α : Type*} [AddCommMonoid α] (f : Fin 2048 → α) : ∑ k, f k = (∑ j, f (lo j)) + ∑ j, f (hi j) :=
  (Fin.sum_univ_add (a := 1024) (b := 1024) f)

end Cert.Tail

end
-- ==== Proof.ConvMath.lean ====
/-
  The mathematics of one row of the convolution block's backward pass: normalisation by groups of 128 channels, its
  gradient in the two forms in which it is written, the activation and the gate.
-/
module

public import proofs.«01_k».proof.Proof.Rows
public import proofs.«01_k».proof.Proof.TailMath

@[expose] public section

noncomputable section

namespace Cert.ConvMath

open Cert.Rows
open Cert.Tail (lgs)

/-! ## One group of channels -/

section Group

variable (f d : Fin 128 → ℝ)

def gmean : ℝ := (∑ j, f j) / 128
def gcen (j : Fin 128) : ℝ := f j - gmean f
def gvar : ℝ := (∑ j, gcen f j * gcen f j) / 128 + eps
def ginv : ℝ := (√(gvar f))⁻¹
def gnrm (j : Fin 128) : ℝ := gcen f j * ginv f
/-- The gradient of the normalisation, as the tile computes it. -/
def gdx (j : Fin 128) : ℝ := ginv f * (d j - gmean d - gnrm f j * gmean fun i => d i * gnrm f i)

theorem gvar_pos : 0 < gvar f := by
  have h : 0 ≤ ∑ j, gcen f j * gcen f j := Finset.sum_nonneg fun j _ => mul_self_nonneg _
  have := eps_pos
  unfold gvar
  positivity

theorem ginv_sq : ginv f * ginv f = (gvar f)⁻¹ := by
  unfold ginv
  rw [← mul_inv, Real.mul_self_sqrt (gvar_pos f).le]

theorem gcen_sum : ∑ j, gcen f j = 0 := by
  unfold gcen gmean
  rw [Finset.sum_sub_distrib, Finset.sum_const, Finset.card_univ, Fintype.card_fin, nsmul_eq_mul]
  push_cast
  ring

/-- The weight of the centred entries in the gradient, as differentiation writes it. -/
def gsl : ℝ := (∑ j, gcen f j * d j) * (-(1 / 2) * (ginv f / gvar f)) / 128

/-- The gradient as differentiation writes it is the one the tile computes. -/
theorem gdx_eq (j : Fin 128) :
    d j * ginv f + gsl f d * (2 * gcen f j) + ((∑ i, -(d i * ginv f)) + ∑ i, -(gsl f d * (2 * gcen f i))) / 128 = gdx f d j := by
  have e1 : ∑ i, -(d i * ginv f) = -(ginv f * ∑ i, d i) := by
    rw [Finset.sum_neg_distrib, ← Finset.sum_mul, mul_comm]
  have e2 : ∑ i, -(gsl f d * (2 * gcen f i)) = 0 := by
    rw [Finset.sum_neg_distrib, ← Finset.mul_sum, ← Finset.mul_sum, gcen_sum]
    ring
  have e3 : ∑ i, d i * gnrm f i = ginv f * ∑ i, gcen f i * d i := by
    rw [Finset.mul_sum]
    refine Finset.sum_congr rfl fun i _ => ?_
    unfold gnrm
    ring
  have e4 : ginv f / gvar f = ginv f * (ginv f * ginv f) := by
    rw [ginv_sq, div_eq_mul_inv]
  rw [e1, e2]
  unfold gdx gsl gmean
  rw [e3, e4]
  unfold gnrm
  ring

end Group

/-! ## One row of 1024 channels, in eight groups -/

def kg (k : Fin 1024) : Fin 8 := ⟨k.val / 128, by have := k.isLt; omega⟩
def kj (k : Fin 1024) : Fin 128 := ⟨k.val % 128, by omega⟩
def at_ (g : Fin 8) (j : Fin 128) : Fin 1024 := ⟨128 * g.val + j.val, by have := g.isLt; have := j.isLt; omega⟩

theorem at_kg_kj (k : Fin 1024) : at_ (kg k) (kj k) = k := Fin.ext (Nat.div_add_mod k.val 128)
theorem kg_at (g : Fin 8) (j : Fin 128) : kg (at_ g j) = g := Fin.ext (by show (128 * g.val + j.val) / 128 = g.val; have := j.isLt; omega)
theorem kj_at (g : Fin 8) (j : Fin 128) : kj (at_ g j) = j := Fin.ext (by show (128 * g.val + j.val) % 128 = j.val; have := j.isLt; omega)

/-- The entries of one group of a row. -/
def grp (f : Fin 1024 → ℝ) (g : Fin 8) (j : Fin 128) : ℝ := f (at_ g j)

/-- The weights: the scale and shift of the norm, the pointwise product and its shift. -/
structure Wts where
  ng : Fin 1024 → ℝ
  nb : Fin 1024 → ℝ
  wp : Fin 1024 → Fin 1024 → ℝ
  bp : Fin 1024 → ℝ

/-- One row of the activations: what the norm takes, the gate's operand, and the cotangent. -/
structure Acts where
  y : Fin 1024 → ℝ
  ct : Fin 1024 → ℝ
  dc : Fin 1024 → ℝ

section Row

variable (w : Wts) (a : Acts)

def RS (k : Fin 1024) : ℝ := ginv (grp a.y (kg k))
def YN (k : Fin 1024) : ℝ := gnrm (grp a.y (kg k)) (kj k)
def AP (k : Fin 1024) : ℝ := YN a k * w.ng k + w.nb k
def SA (k : Fin 1024) : ℝ := lgs (AP w a k)
def AA (k : Fin 1024) : ℝ := AP w a k * SA w a k
def Y2 (k : Fin 1024) : ℝ := (∑ j, AA w a j * w.wp j k) + w.bp k
def ST (k : Fin 1024) : ℝ := lgs (a.ct k)
def DY2 (k : Fin 1024) : ℝ := a.dc k * (a.ct k * ST a k)
def DAP (k : Fin 1024) : ℝ := (∑ j, DY2 a j * w.wp k j) * (SA w a k * (1 + AP w a k * (1 - SA w a k)))
def DYN (k : Fin 1024) : ℝ := DAP w a k * w.ng k
def DY1 (k : Fin 1024) : ℝ := gdx (grp a.y (kg k)) (grp (DYN w a) (kg k)) (kj k)
def DZ2 (k : Fin 1024) : ℝ := a.dc k * Y2 w a k * (ST a k * (1 + a.ct k * (1 - ST a k)))

/-- The four rows that are sums over all tokens, at one token. -/
def VR (o : ℕ) (k : Fin 1024) : ℝ :=
  if o = 0 then DY1 w a k else if o = 1 then DAP w a k * YN a k else if o = 2 then DAP w a k else if o = 3 then DY2 a k else 0

end Row

end Cert.ConvMath

end
-- ==== Proof.ConvSpec.lean ====
/-
  What the convolution block's backward pass computes, of finite arguments.
-/
module

public import proofs.«01_k».proof.Proof.ConvMath

@[expose] public section

noncomputable section

namespace Cert.ConvSpec

open Cert.ConvMath
open Cert.Tail (lgs)

/-- The arguments. The tap `m` of the kernel is `cw m`. -/
structure Par where
  z : Fin 8192 → Fin 7168 → ℝ
  dc : Fin 8192 → Fin 1024 → ℝ
  cw : ℕ → Fin 1024 → ℝ
  cb : Fin 1024 → ℝ
  w : Wts

def c0 (k : Fin 1024) : Fin 7168 := ⟨k.val, by have := k.isLt; omega⟩
def c1 (k : Fin 1024) : Fin 7168 := ⟨1024 + k.val, by have := k.isLt; omega⟩
def c2 (k : Fin 1024) : Fin 7168 := ⟨2048 + k.val, by have := k.isLt; omega⟩

variable (P : Par)

/-- The gate, and the convolution's operand. -/
def SG (t : Fin 8192) (k : Fin 1024) : ℝ := lgs (P.z t (c1 k))
def V (t : Fin 8192) (k : Fin 1024) : ℝ := P.z t (c0 k) * SG P t k
/-- The operand with 30 rows of zeros before it. -/
def VP (n : ℕ) (k : Fin 1024) : ℝ := if h : 30 ≤ n ∧ n < 8222 then V P ⟨n - 30, by omega⟩ k else 0
/-- The convolution. -/
def Y (t : Fin 8192) (k : Fin 1024) : ℝ := (∑ m ∈ Finset.range 31, VP P (t.val + m) k * P.cw m k) + P.cb k
/-- The row of activations. -/
def A (t : Fin 8192) : Acts := ⟨Y P t, fun k => P.z t (c2 k), P.dc t⟩
/-- The gradient of the convolution, with zeros after it. -/
def D1 (n : ℕ) (k : Fin 1024) : ℝ := if h : n < 8192 then DY1 P.w (A P ⟨n, h⟩) k else 0
/-- The gradient of the convolution's operand. -/
def DV (t : Fin 8192) (k : Fin 1024) : ℝ := ∑ j ∈ Finset.range 31, D1 P (t.val + j) k * P.cw (30 - j) k
/-- The three gradients of the three operands. -/
def DZ (o : ℕ) (t : Fin 8192) (k : Fin 1024) : ℝ :=
  if o = 1 then P.z t (c0 k) * DV P t k * (SG P t k * (1 - SG P t k)) else if o = 0 then DV P t k * SG P t k else DZ2 P.w (A P t) k
/-- The gradient of the kernel. -/
def GW (m : ℕ) (k : Fin 1024) : ℝ := if m < 31 then ∑ t : Fin 8192, VP P (t.val + m) k * DY1 P.w (A P t) k else 0
/-- The four rows of sums. -/
def GV (o : ℕ) (k : Fin 1024) : ℝ := ∑ t : Fin 8192, VR P.w (A P t) o k

theorem D1_at (t : Fin 8192) (k : Fin 1024) : D1 P t.val k = DY1 P.w (A P t) k := dif_pos t.isLt
theorem D1_ge (n : ℕ) (h : 8192 ≤ n) (k : Fin 1024) : D1 P n k = 0 := dif_neg (by omega)

theorem VP_lt (n : ℕ) (h : n < 30) (k : Fin 1024) : VP P n k = 0 := dif_neg (by omega)
theorem VP_at (t : Fin 8192) (k : Fin 1024) : VP P (30 + t.val) k = V P t k := by
  have ht := t.isLt
  unfold VP
  rw [dif_pos ⟨by omega, by omega⟩]
  congr 1
  exact Fin.ext (by show 30 + t.val - 30 = t.val; omega)

end Cert.ConvSpec

end
-- ==== Proof.Finite.lean ====
/-
  Arrays of finite numbers: what the precondition says of an array, and the operations on finite numbers.
-/
module

public import proofs.«01_k».proof.Proof.Rows
public import Idealize.ShloMosaic.Lib.ReduceAll
public import Idealize.ShloMosaic.Lib.Affine

@[expose] public section

noncomputable section

namespace Cert.Finite

open Idealize.ShloMosaic Idealize.ShloMosaic.ValueIdx Cert.Rows Cert.Common

theorem ofBits_inf : Ideal.ofBits .f32 0x7F800000#32 = (⊤ : EReal) := by
  simp [Ideal.ofBits, Ideal.ieee]

theorem real_of_abs_lt (x : EReal) (h : Ideal.cmp .olt (max x (-x)) (Ideal.ofBits .f32 0x7F800000#32) = 1#1) : ∃ a : ℝ, x = a := by
  rw [ofBits_inf] at h
  have h' : max x (-x) < ⊤ := by
    by_contra hc
    simp [Ideal.cmp, hc] at h
  refine ⟨x.toReal, (EReal.coe_toReal ?_ ?_).symm⟩
  · exact fun e => by subst e; simp at h'
  · exact fun e => by subst e; simp at h'

instance : Subsingleton (⟨0, ![]⟩ : Shape).Idx := ⟨fun i j => funext fun a => a.elim0⟩

/-- An array whose every magnitude lies under infinity is an array of reals. -/
theorem real_of_all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32))) (constantI ⟨0, ![]⟩ 1 1#1) h hu j = 1#1)
    (i : s.Idx) : ∃ a : ℝ, (x i : EReal) = a :=
  real_of_abs_lt _ (Host.reduce_andi_all _ _ _ _ j e i)

/-- The reals of an array. -/
def re {s : Shape} (x : s.Idx → EReal) : s.Idx → ℝ := fun i => (x i).toReal

theorem eq_re {s : Shape} (x : s.Idx → EReal) (h : ∀ i, ∃ a : ℝ, x i = a) (i : s.Idx) : x i = ((re x i : ℝ) : EReal) := by
  obtain ⟨a, e⟩ := h i
  unfold re
  rw [e, EReal.toReal_coe]

theorem ix2_ext {n d : ℕ} (i : (⟨2, ![n, d]⟩ : Shape).Idx) (r : Fin n) (k : Fin d) (h0 : (i 0).val = r.val) (h1 : (i 1).val = k.val) : i = ix2 r k := by
  funext a; apply Fin.ext
  match a with
  | ⟨0, _⟩ => exact h0
  | ⟨1, _⟩ => exact h1

/-! ## Operations on finite numbers -/

theorem addR {φ : FTy} (a b : ℝ) : FloatOps.addf (F := Ideal) (φ := φ) (a : EReal) (b : EReal) = ((a + b : ℝ) : EReal) := (EReal.coe_add a b).symm
theorem subR {φ : FTy} (a b : ℝ) : FloatOps.subf (F := Ideal) (φ := φ) (a : EReal) (b : EReal) = ((a - b : ℝ) : EReal) := (EReal.coe_sub a b).symm
theorem mulR {φ : FTy} (a b : ℝ) : FloatOps.mulf (F := Ideal) (φ := φ) (a : EReal) (b : EReal) = ((a * b : ℝ) : EReal) := (EReal.coe_mul a b).symm
theorem negR {φ : FTy} (a : ℝ) : FloatOps.negf (F := Ideal) (φ := φ) (a : EReal) = ((-a : ℝ) : EReal) := (EReal.coe_neg a).symm
theorem divR {φ : FTy} (a b : ℝ) (h : b ≠ 0) : FloatOps.hostDivf (F := Ideal) (φ := φ) (a : EReal) (b : EReal) = ((a / b : ℝ) : EReal) := div_real a b h
theorem rsqrtR {φ : FTy} (a : ℝ) (h : 0 < a) : FloatOps.hostUnary (F := Ideal) (φ := φ) .rsqrt (a : EReal) = (((√a)⁻¹ : ℝ) : EReal) := rsqrt_real a h
theorem sumR {n : ℕ} (f : Fin n → EReal) (g : Fin n → ℝ) (h : ∀ k, f k = ((g k : ℝ) : EReal)) : ∑ k, f k = ((∑ k, g k : ℝ) : EReal) := by
  rw [← coe_sum]; exact Finset.sum_congr rfl fun k _ => h k

end Cert.Finite

end
-- ==== Proof.RowStore.lean ====
/-
  A buffer of eight rows that a kernel fills with zeros at its first point and adds to, one row at a time.
-/
module

public import proofs.«01_k».proof.Proof.Finite
public import Idealize.ShloMosaic.Lib.WritesUnit
public import Idealize.ShloMosaic.Lib.Pipeline.ReadBack

@[expose] public section

noncomputable section

namespace Cert.RowStore

open Idealize.ShloMosaic Idealize.ShloMosaic.ValueIdx

abbrev Rows8 : Shape := ⟨2, ![8, 1024]⟩
abbrev Row : Shape := ⟨2, ![1, 1024]⟩

/-- Row `o` of the buffer, as a matrix of one row. -/
def rowOf {α : Type} (X : Rows8.Idx → α) (o : Fin 8) : Row.Idx → α := fun j => X (ix2 o (j 1))

variable {sig : RefSig} {κ : Kind} {sp : Space} {e : EltTy} {Val : EltTy → Type}

/-- What a load of row `o` reads. -/
theorem ld_row (X : Rows8.Idx → Val e) (o : ℕ) (ho : o < 8) (inb : ∀ a, (![o, 0] : Fin 2 → ℕ) a + (![1, 1024] : Fin 2 → ℕ) a ≤ Rows8.size a) :
    View.ld (e' := e) X (Rect.unit (s := Rows8) ![o, 0] ![1, 1024] inb) = rowOf X ⟨o, ho⟩ := by
  funext j
  show X _ = X _
  congr 1
  funext a
  apply Fin.ext
  have hj : (j 0).val < 1 := (j 0).isLt
  match a with
  | ⟨0, _⟩ => show o + 1 * (j 0).val = o; omega
  | ⟨1, _⟩ => show 0 + 1 * (j 1).val = (j 1).val; omega

variable (v : View sig κ sp Rows8 e) (f : v.ty.Contents Val)

/-- What the buffer reads after a store of row `o`. -/
theorem put_row (o : ℕ) (inb : ∀ a, (![o, 0] : Fin 2 → ℕ) a + (![1, 1024] : Fin 2 → ℕ) a ≤ Rows8.size a) (w : Row.Idx → Val e)
    (L : List (View.Piece Val Rows8 e)) (r : Fin 8) (k : Fin 1024) :
    v.read Val (v.writes Val f ((⟨Rect.unit (s := Rows8) ![o, 0] ![1, 1024] inb, w⟩ : View.Piece Val Rows8 e) :: L)) (ix2 r k)
      = if r.val = o then w (ix2 0 k) else v.read Val (v.writes Val f L) (ix2 r k) := by
  by_cases hr : r.val = o
  · rw [if_pos hr]
    exact View.read_writes_cons_rows_of_mem (d := ![8, 1024]) v f inb w L (ix2 r k) (ix2 0 k) rfl (by show r.val = o + 0; omega) rfl
  · rw [if_neg hr]
    exact View.read_writes_cons_rows_of_not_mem (d := ![8, 1024]) (o := o) (W := 1) v f inb w L (ix2 r k) rfl rfl (by show r.val < o ∨ o + 1 ≤ r.val; omega)

/-- What the buffer reads after a store of all of it. -/
theorem put_all (inb : ∀ a, (![0, 0] : Fin 2 → ℕ) a + (![8, 1024] : Fin 2 → ℕ) a ≤ Rows8.size a) (w : Rows8.Idx → Val e)
    (L : List (View.Piece Val Rows8 e)) (r : Fin 8) (k : Fin 1024) :
    v.read Val (v.writes Val f ((⟨Rect.unit (s := Rows8) ![0, 0] ![8, 1024] inb, w⟩ : View.Piece Val Rows8 e) :: L)) (ix2 r k) = w (ix2 r k) :=
  View.read_writes_cons_rows_of_mem (d := ![8, 1024]) v f inb w L (ix2 r k) (ix2 r k) rfl (by show r.val = 0 + r.val; omega) rfl

/-- What a load of row `o` reads of stores: past a store of another row, and of a store of all of it. -/
theorem cov_skip [∀ e, Nonempty (Val e)] (o o' : ℕ) (ho : o' < o ∨ o < o') (inb : ∀ a, (![o, 0] : Fin 2 → ℕ) a + (![1, 1024] : Fin 2 → ℕ) a ≤ Rows8.size a)
    (inb' : ∀ a, (![o', 0] : Fin 2 → ℕ) a + (![1, 1024] : Fin 2 → ℕ) a ≤ Rows8.size a) (w : Row.Idx → Val e) (L : List (View.Piece Val Rows8 e)) :
    v.readCov ((⟨Rect.unit (s := Rows8) ![o', 0] ![1, 1024] inb', w⟩ : View.Piece Val Rows8 e) :: L) (Rect.unit (s := Rows8) ![o, 0] ![1, 1024] inb).toLoadRect
      = v.readCov L (Rect.unit (s := Rows8) ![o, 0] ![1, 1024] inb).toLoadRect :=
  View.readCov_skip _ _ _ _ _ (decide_eq_true ⟨0, by
    show 1 = 0 ∨ 1 = 0 ∨ o' + 1 * (1 - 1) < o ∨ o + 1 * (1 - 1) < o'
    omega⟩)

theorem cov_all [∀ e, Nonempty (Val e)] (o : ℕ) (ho : o < 8) (inb : ∀ a, (![o, 0] : Fin 2 → ℕ) a + (![1, 1024] : Fin 2 → ℕ) a ≤ Rows8.size a)
    (inb' : ∀ a, (![0, 0] : Fin 2 → ℕ) a + (![8, 1024] : Fin 2 → ℕ) a ≤ Rows8.size a) (Z : Rows8.Idx → Val e) :
    v.readCov [(⟨Rect.unit (s := Rows8) ![0, 0] ![8, 1024] inb', Z⟩ : View.Piece Val Rows8 e)] (Rect.unit (s := Rows8) ![o, 0] ![1, 1024] inb).toLoadRect
      = rowOf Z ⟨o, ho⟩ :=
  (View.readCov_fill (off := ![0, 0]) v inb' Z [] _ (fun a => by fin_cases a <;> rfl)).trans (ld_row _ o ho _)

end Cert.RowStore

end
-- ==== Proof.TailTile.lean ====
/-
  The tail of the step, one tile of 512 tokens: what the kernel computes of finite arguments.
-/
module

public import proofs.«01_k».proof.Proof.TailMath
public import proofs.«01_k».proof.Proof.RowStore
public import proofs.«01_k».proof.Proof.Gen.Kernel2Ideal.Skeleton

@[expose] public section

noncomputable section

namespace Cert.Tail

open Cert.Kernel2Ideal Cert.Kernel2Ideal.Gen Idealize.ShloMosaic Idealize.ShloMosaic.TcCoe
open Idealize.ShloMosaic.ValueIdx Cert.Common Cert.Rows Cert.Finite Cert.RowStore

/-! ## Matrix products and means of finite numbers -/

theorem nn_real {n d q : ℕ} {φ₁ φ₂ : FTy} (D : DotDims ⟨2, ![n, q]⟩ ⟨2, ![q, d]⟩ ⟨2, ![n, d]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![n, q]⟩ φ₁) (y : FVec Ideal ⟨2, ![q, d]⟩ φ₂) (i : Fin n) (j : Fin d) (f g : Fin q → ℝ)
    (ex : ∀ k, (x (ix2 i k) : EReal) = (f k : ℝ)) (ey : ∀ k, (y (ix2 k j) : EReal) = (g k : ℝ)) :
    (matmul D none x y (constant ⟨2, ![n, d]⟩ .f32 0x00000000#32) (ix2 i j) : EReal) = (∑ k, f k * g k : ℝ) := by
  rw [matmul_nn D h1 h2 h3 h4 h5 h6]
  refine (congrArg (· + _) ofBits_zero).trans ((zero_add _).trans ?_)
  exact sumR _ _ fun k => by rw [ex, ey, EReal.coe_mul]

theorem nt_real {n d q : ℕ} {φ₁ φ₂ : FTy} (D : DotDims ⟨2, ![n, q]⟩ ⟨2, ![d, q]⟩ ⟨2, ![n, d]⟩)
    (h1 : D.lhsContracting = [1]) (h2 : D.rhsContracting = [1]) (h3 : D.lhsNonContracting = [0])
    (h4 : D.rhsNonContracting = [0]) (h5 : D.lhsBatch = []) (h6 : D.rhsBatch = [])
    (x : FVec Ideal ⟨2, ![n, q]⟩ φ₁) (y : FVec Ideal ⟨2, ![d, q]⟩ φ₂) (i : Fin n) (j : Fin d) (f g : Fin q → ℝ)
    (ex : ∀ k, (x (ix2 i k) : EReal) = (f k : ℝ)) (ey : ∀ k, (y (ix2 j k) : EReal) = (g k : ℝ)) :
    (matmul D none x y (constant ⟨2, ![n, d]⟩ .f32 0x00000000#32) (ix2 i j) : EReal) = (∑ k, f k * g k : ℝ) := by
  rw [matmul_nt D h1 h2 h3 h4 h5 h6]
  refine (congrArg (· + _) ofBits_zero).trans ((zero_add _).trans ?_)
  exact sumR _ _ fun k => by rw [ex, ey, EReal.coe_mul]

/-- The mean of every row, as a column. -/
theorem mean_real (x : FVec Ideal S512x1024 .f32) (h : S512x1024.Reduces [1] S512) (hs : S512.ShapeCasts S512x1) (hφ : FKind.Formats .f32)
    (hacc : (0x00000000#32 : BitVec 32) = FKind.add.neutral .f32 hφ) (r : Fin 512) (z : Fin 1) (f : Fin 1024 → ℝ) (ex : ∀ k, (x (ix2 r k) : EReal) = (f k : ℝ)) :
    (divf (shapeCast S512x1 (multiReduction .add [1] S512 x 0x00000000#32 h hφ hacc) hs) (broadcast S512x1 (Scalar.ofBits (F := Ideal) .f32 0x44800000#32)) (ix2 r z) : EReal)
      = ((∑ k, f k) / 1024 : ℝ) := by
  rw [divf_apply, cast_col]
  erw [rowsum]
  rw [sumR _ f ex, bcast_apply]
  show Ideal.div _ (Ideal.ofBits .f32 0x44800000#32) = _
  rw [ofBits_1024, div_real _ _ (by norm_num)]

/-- The inverse root mean square of every row, as a column. -/
theorem rstd_real (x : FVec Ideal S512x1024 .f32) (h : S512x1024.Reduces [1] S512) (hs : S512.ShapeCasts S512x1) (hφ : FKind.Formats .f32)
    (hacc : (0x00000000#32 : BitVec 32) = FKind.add.neutral .f32 hφ) (r : Fin 512) (z : Fin 1) (f : Fin 1024 → ℝ) (ex : ∀ k, (x (ix2 r k) : EReal) = (f k : ℝ)) :
    (rsqrt (addf (divf (shapeCast S512x1 (multiReduction .add [1] S512 (mulf x x) 0x00000000#32 h hφ hacc) hs)
        (broadcast S512x1 (Scalar.ofBits (F := Ideal) .f32 0x44800000#32))) (broadcast S512x1 (Scalar.ofBits (F := Ideal) .f32 0x358637BD#32))) (ix2 r z) : EReal)
      = (rstd f : ℝ) := by
  show Ideal.rsqrt ((divf (shapeCast S512x1 (multiReduction .add [1] S512 (mulf x x) 0x00000000#32 h hφ hacc) hs)
        (broadcast S512x1 (Scalar.ofBits (F := Ideal) .f32 0x44800000#32)) (ix2 r z) : EReal) + Ideal.ofBits .f32 0x358637BD#32) = _
  rw [mean_real (mulf x x) h hs hφ hacc r z (fun k => f k * f k) (fun k => by rw [mulf_apply, ex, EReal.coe_mul]), ofBits_eps, ← EReal.coe_add]
  exact rsqrt_real _ (msq_pos f)

/-- The logistic function of a finite number. -/
theorem logistic_real (z : ℝ) : (FloatOps.logistic (F := Ideal) (φ := .f32) (z : EReal) : EReal) = (lgs z : ℝ) := by
  show Ideal.logistic (z : EReal) = _
  rw [Ideal.logistic_coe, lgs, one_div]

/-! ## The forward pass -/

section Forward
variable (w : Wt) (A : Fin 512 → Tok) (v3 v5 : Vec Ideal S1024x1024 .bf16) (v7 : Vec Ideal S512x1024 .f32) (v8 v12 : Vec Ideal S512x1024 .bf16)
  (v16 : Vec Ideal S512x256 .f32) (v18 : Vec Ideal S256x1024 .bf16) (v31 : Vec Ideal S1x1024 .f32)
  (e3 : ∀ j k, (v3 (ix2 j k) : EReal) = (w.wo (lo j) k : ℝ)) (e5 : ∀ j k, (v5 (ix2 j k) : EReal) = (w.wo (hi j) k : ℝ))
  (e7 : ∀ r k, (v7 (ix2 r k) : EReal) = ((A r).x k : ℝ)) (e8 : ∀ r k, (v8 (ix2 r k) : EReal) = ((A r).yc k : ℝ))
  (e12 : ∀ r k, (v12 (ix2 r k) : EReal) = ((A r).yh k : ℝ)) (e16 : ∀ r k, (v16 (ix2 r k) : EReal) = ((A r).p k : ℝ))
  (e18 : ∀ j k, (v18 (ix2 j k) : EReal) = (w.wp j k : ℝ)) (e31 : ∀ k, (v31 (ix2 0 k) : EReal) = (w.pg k : ℝ))

include e3 e5 e7 e8 e12 in
theorem pay8_real (r : Fin 512) (k : Fin 1024) : (k0_pay8 (F := Ideal) v3 v5 v7 v8 v12 (ix2 r k) : EReal) = (H w (A r) k : ℝ) := by
  unfold k0_pay8 k0_pay6 k0_pay7
  simp only [shapeCast_self]
  rw [addf_apply, addf_apply, e7]
  erw [nn_real _ rfl rfl rfl rfl rfl rfl v8 v3 r k (A r).yc (fun j => w.wo (lo j) k) (e8 r) (fun j => e3 j k),
    nn_real _ rfl rfl rfl rfl rfl rfl v12 v5 r k (A r).yh (fun j => w.wo (hi j) k) (e12 r) (fun j => e5 j k)]
  rw [← EReal.coe_add, ← EReal.coe_add]
  rfl

include e16 e18 in
theorem pay10_real (r : Fin 512) (k : Fin 1024) : (k0_pay10 (F := Ideal) v16 v18 (ix2 r k) : EReal) = (PE w (A r) k : ℝ) := by
  unfold k0_pay10 k0_pay9
  simp only [shapeCast_self]
  exact nn_real _ rfl rfl rfl rfl rfl rfl _ v18 r k (A r).p (fun j => w.wp j k) (e16 r) (fun j => e18 j k)

include e3 e5 e7 e8 e12 in
theorem pay11_real (r : Fin 512) (z : Fin 1) : (k0_pay11 (F := Ideal) v3 v5 v7 v8 v12 (ix2 r z) : EReal) = (rstd (H w (A r)) : ℝ) := by
  unfold k0_pay11
  exact rstd_real _ _ _ _ _ r z _ (pay8_real w A v3 v5 v7 v8 v12 e3 e5 e7 e8 e12 r)

include e3 e5 e7 e8 e12 in
theorem pay12_real (r : Fin 512) (k : Fin 1024) : (k0_pay12 (F := Ideal) v3 v5 v7 v8 v12 (ix2 r k) : EReal) = (HN w (A r) k : ℝ) := by
  unfold k0_pay12
  rw [mulf_apply, bcast_col, pay11_real w A v3 v5 v7 v8 v12 e3 e5 e7 e8 e12, pay8_real w A v3 v5 v7 v8 v12 e3 e5 e7 e8 e12, ← EReal.coe_mul]
  rfl

include e3 e5 e7 e8 e12 e31 in
theorem pay13_real (r : Fin 512) (k : Fin 1024) : (k0_pay13 (F := Ideal) v3 v5 v7 v8 v12 v31 (ix2 r k) : EReal) = (N2 w (A r) k : ℝ) := by
  unfold k0_pay13
  rw [mulf_apply, broadcastTo_1b_ab_apply, pay12_real w A v3 v5 v7 v8 v12 e3 e5 e7 e8 e12, e31, ← EReal.coe_mul]
  rfl

end Forward

section Loss
variable (w : Wt) (A : Fin 512 → Tok) (v15 v20 v33 : FVec Ideal S512x1024 .f32) (v35 : Vec Ideal S1024x1024 .bf16) (v51 v56 : Vec Ideal S1x1024 .f32)
  (v54 : Vec Ideal S512x1024 .f32)
  (e15 : ∀ r k, (v15 (ix2 r k) : EReal) = (H w (A r) k : ℝ)) (e20 : ∀ r k, (v20 (ix2 r k) : EReal) = (PE w (A r) k : ℝ))
  (e33 : ∀ r k, (v33 (ix2 r k) : EReal) = (N2 w (A r) k : ℝ)) (e35 : ∀ j k, (v35 (ix2 j k) : EReal) = (w.wg j k : ℝ))
  (e51 : ∀ k, (v51 (ix2 0 k) : EReal) = (w.fg k : ℝ)) (e54 : ∀ r k, (v54 (ix2 r k) : EReal) = ((A r).t k : ℝ))

include e33 e35 in
theorem pay15_real (r : Fin 512) (k : Fin 1024) : (k0_pay15 (F := Ideal) v33 v35 (ix2 r k) : EReal) = (GT w (A r) k : ℝ) := by
  unfold k0_pay15 k0_pay14
  simp only [shapeCast_self]
  show FloatOps.logistic (F := Ideal) (φ := .f32) _ = _
  erw [nn_real (φ₁ := .bf16) _ rfl rfl rfl rfl rfl rfl _ v35 r k (N2 w (A r)) (fun j => w.wg j k) (e33 r) (fun j => e35 j k)]
  exact logistic_real _

include e15 e20 e33 e35 in
theorem pay16_real (r : Fin 512) (k : Fin 1024) : (k0_pay16 (F := Ideal) v15 v20 v33 v35 (ix2 r k) : EReal) = (H2 w (A r) k : ℝ) := by
  unfold k0_pay16
  rw [addf_apply, mulf_apply, pay15_real w A v33 v35 e33 e35, e15, e20, ← EReal.coe_mul, ← EReal.coe_add]
  rfl

include e15 e20 e33 e35 in
theorem pay17_real (r : Fin 512) (z : Fin 1) : (k0_pay17 (F := Ideal) v15 v20 v33 v35 (ix2 r z) : EReal) = (rstd (H2 w (A r)) : ℝ) := by
  unfold k0_pay17
  exact rstd_real _ _ _ _ _ r z _ (pay16_real w A v15 v20 v33 v35 e15 e20 e33 e35 r)

include e15 e20 e33 e35 in
theorem pay18_real (r : Fin 512) (k : Fin 1024) : (k0_pay18 (F := Ideal) v15 v20 v33 v35 (ix2 r k) : EReal) = (H2N w (A r) k : ℝ) := by
  unfold k0_pay18
  rw [mulf_apply, bcast_col, pay17_real w A v15 v20 v33 v35 e15 e20 e33 e35, pay16_real w A v15 v20 v33 v35 e15 e20 e33 e35, ← EReal.coe_mul]
  rfl

include e15 e20 e33 e35 e51 e54 in
theorem pay19_real (r : Fin 512) (k : Fin 1024) : (k0_pay19 (F := Ideal) v15 v20 v33 v35 v51 v54 (ix2 r k) : EReal) = (ER w (A r) k : ℝ) := by
  unfold k0_pay19
  rw [subf_apply, mulf_apply, broadcastTo_1b_ab_apply, pay18_real w A v15 v20 v33 v35 e15 e20 e33 e35, e51, e54, ← EReal.coe_mul, ← EReal.coe_sub]
  rfl

include e15 e20 e33 e35 e51 e54 in
theorem pay21_real (r : Fin 512) (k : Fin 1024) : (k0_pay21 (F := Ideal) v15 v20 v33 v35 v51 v54 (ix2 r k) : EReal) = (DO w (A r) k : ℝ) := by
  unfold k0_pay21
  rw [mulf_apply, pay19_real w A v15 v20 v33 v35 v51 v54 e15 e20 e33 e35 e51 e54, bcast_apply]
  refine (congrArg (fun z : EReal => ((ER w (A r) k : ℝ) : EReal) * z) ofBits_inv1024).trans ?_
  rw [← EReal.coe_mul]
  rfl

include e15 e20 e33 e35 e51 e54 in
theorem pay20_real (k : Fin 1024) : (k0_pay20 (F := Ideal) v15 v20 v33 v35 v51 v54 v56 (ix2 0 k) : EReal) = v56 (ix2 0 k) + ∑ r : Fin 512, ((LS w (A r) : ℝ) : EReal) := by
  unfold k0_pay20
  simp only [shapeCast_self]
  rw [addf_apply, bcast_apply]
  refine congrArg (fun z : EReal => v56 (ix2 0 k) + z) ?_
  have hm : ∀ i : S1x512x1.Idx, (shapeCast S1x512x1 (divf (shapeCast S512x1 (multiReduction .add [1] S512
        (mulf (k0_pay19 (F := Ideal) v15 v20 v33 v35 v51 v54) (k0_pay19 v15 v20 v33 v35 v51 v54)) 0x00000000#32 reduces_S512x1024_S512 (.inl rfl) rfl) shapeCasts_S512_S512x1)
        (broadcast S512x1 (Scalar.ofBits (F := Ideal) .f32 0x44800000#32))) shapeCasts_S512x1_S1x512x1 i : EReal)
      = (((∑ j, ER w (A (i 1)) j * ER w (A (i 1)) j) / 1024 : ℝ) : EReal) := fun i => by
    have h0 : (i 0).val < 1 := (i 0).isLt
    have h1 : (i 1).val < 512 := (i 1).isLt
    have h2 : (i 2).val < 1 := (i 2).isLt
    refine (shapeCast_apply _ shapeCasts_S512x1_S1x512x1 i (ix2 (⟨(i 1).val, h1⟩ : Fin 512) (0 : Fin 1)) ?_).trans ?_
    · rw [Shape.rowMajor_val_two, Shape.rowMajor_val_three]
      show (i 1).val * 1 + 0 = ((i 0).val * 512 + (i 1).val) * 1 + (i 2).val
      omega
    · exact mean_real _ _ _ _ _ _ _ (fun j => ER w (A (i 1)) j * ER w (A (i 1)) j) (fun j => by
        rw [mulf_apply, pay19_real w A v15 v20 v33 v35 v51 v54 e15 e20 e33 e35 e51 e54, ← EReal.coe_mul]; rfl)
  have hs : ∀ f : S1x512x1.Idx → EReal, ∑ i, f i = ∑ r : Fin 512, f (ix3 0 r 0) := fun f =>
    (Equiv.sum_comp (⟨fun r => ix3 0 r 0, fun i => i 1, fun _ => rfl, fun i => by
      have h0 : (i 0).val < 1 := (i 0).isLt
      have h2 : (i 2).val < 1 := (i 2).isLt
      funext a; apply Fin.ext
      match a with
      | ⟨0, _⟩ => show 0 = (i 0).val; omega
      | ⟨1, _⟩ => rfl
      | ⟨2, _⟩ => show 0 = (i 2).val; omega⟩ : Fin 512 ≃ S1x512x1.Idx) f).symm
  have ht := (Ideal.multiReduction_add_total (φ := .f32) _ 0x00000000#32 reduces_S1x512x1_S1 (fun b => by fin_cases b; rfl) (.inl rfl) rfl (ix1 (0 : Fin 1))).trans
    ((Finset.sum_congr rfl fun i _ => hm i).trans ((hs _).trans (sumR _ (fun r => (∑ j, ER w (A r) j * ER w (A r) j) / 1024) fun r => rfl)))
  refine Eq.trans (b := Ideal.ofBits .f32 0x3F000000#32 * ((∑ r, (∑ j, ER w (A r) j * ER w (A r) j) / 1024 : ℝ) : EReal)) (congrArg (fun z : EReal => Ideal.ofBits .f32 0x3F000000#32 * z) ?_) ?_
  · refine Eq.trans (shapeCast_apply _ shapeCasts_S1_S1x1x1 _ (ix1 (0 : Fin 1)) ?_) ht
    rw [Shape.rowMajor_val_one, Shape.rowMajor_val_three]
    rfl
  · rw [ofBits_half, ← EReal.coe_mul, Finset.mul_sum, coe_sum]
    rfl

end Loss

section Backward
variable (w : Wt) (A : Fin 512 → Tok) (v20 v30 v38 v50 v72 : FVec Ideal S512x1024 .f32) (v28 v48 : FVec Ideal S512x1 .f32)
  (v80 v109 v73 v102 : Vec Ideal S1x1024 .f32) (v99 : Vec Ideal S1024x1024 .bf16)
  (e20 : ∀ r k, (v20 (ix2 r k) : EReal) = (PE w (A r) k : ℝ)) (e30 : ∀ r k, (v30 (ix2 r k) : EReal) = (HN w (A r) k : ℝ))
  (e38 : ∀ r k, (v38 (ix2 r k) : EReal) = (GT w (A r) k : ℝ)) (e50 : ∀ r k, (v50 (ix2 r k) : EReal) = (H2N w (A r) k : ℝ))
  (e72 : ∀ r k, (v72 (ix2 r k) : EReal) = (DO w (A r) k : ℝ)) (e28 : ∀ r z, (v28 (ix2 r z) : EReal) = (rstd (H w (A r)) : ℝ))
  (e48 : ∀ r z, (v48 (ix2 r z) : EReal) = (rstd (H2 w (A r)) : ℝ)) (e80 : ∀ k, (v80 (ix2 0 k) : EReal) = (w.fg k : ℝ))
  (e109 : ∀ k, (v109 (ix2 0 k) : EReal) = (w.pg k : ℝ)) (e99 : ∀ j k, (v99 (ix2 j k) : EReal) = (w.wg j k : ℝ))

include e50 e72 in
theorem pay22_real (k : Fin 1024) : (k0_pay22 (F := Ideal) v50 v72 v73 (ix2 0 k) : EReal) = v73 (ix2 0 k) + ∑ r : Fin 512, ((DO w (A r) k * H2N w (A r) k : ℝ) : EReal) := by
  unfold k0_pay22
  dsimp only
  rw [addf_apply, shapeCast_self, shapeCast_a_1a_apply]
  refine congrArg (fun z : EReal => v73 (ix2 0 k) + z) ((colsum _ _ _ _ _ k).trans ?_)
  refine Finset.sum_congr rfl fun r _ => ?_
  rw [mulf_apply, e50, e72, ← EReal.coe_mul]

include e50 e72 e48 e80 in
theorem pay23_real (r : Fin 512) (k : Fin 1024) : (k0_pay23 (F := Ideal) v48 v50 v72 v80 (ix2 r k) : EReal) = (DH2 w (A r) k : ℝ) := by
  unfold k0_pay23
  dsimp only
  have h3 : ∀ j, (mulf v72 (broadcastTo S512x1024 v80 broadcasts_S1x1024_S512x1024) (ix2 r j) : EReal) = (D3 w (A r) j : ℝ) := fun j => by
    rw [mulf_apply, e72, broadcastTo_1b_ab_apply, e80, ← EReal.coe_mul]; rfl
  rw [mulf_apply, bcast_col, e48, subf_apply, h3, mulf_apply, e50, bcast_col]
  refine (congrArg (fun z : EReal => ((rstd (H2 w (A r)) : ℝ) : EReal) * (((D3 w (A r) k : ℝ) : EReal) - ((H2N w (A r) k : ℝ) : EReal) * z))
    (mean_real _ _ _ _ _ r 0 (fun j => D3 w (A r) j * H2N w (A r) j) (fun j => by rw [mulf_apply, h3, e50, ← EReal.coe_mul]))).trans ?_
  rw [← EReal.coe_mul, ← EReal.coe_sub, ← EReal.coe_mul]
  rfl

include e20 e38 e50 e72 e48 e80 in
theorem pay24_real (r : Fin 512) (k : Fin 1024) : (k0_pay24 (F := Ideal) v20 v38 v48 v50 v72 v80 (ix2 r k) : EReal) = (DS w (A r) k : ℝ) := by
  unfold k0_pay24
  rw [truncf_apply, mulf_apply, mulf_apply, mulf_apply, subf_apply, pay23_real w A v50 v72 v48 v80 e50 e72 e48 e80, e20, e38, bcast_apply]
  refine (congrArg (fun z : EReal => ((DH2 w (A r) k : ℝ) : EReal) * ((PE w (A r) k : ℝ) : EReal) * ((GT w (A r) k : ℝ) : EReal) * (z - ((GT w (A r) k : ℝ) : EReal))) ofBits_one).trans ?_
  rw [← EReal.coe_mul, ← EReal.coe_mul, ← EReal.coe_sub, ← EReal.coe_mul]
  rfl

include e20 e38 e50 e72 e48 e80 e99 in
theorem pay25_real (r : Fin 512) (k : Fin 1024) : (k0_pay25 (F := Ideal) v20 v38 v48 v50 v72 v80 v99 (ix2 r k) : EReal) = (DN2 w (A r) k : ℝ) := by
  unfold k0_pay25
  simp only [shapeCast_self]
  exact nt_real _ rfl rfl rfl rfl rfl rfl _ v99 r k (DS w (A r)) (fun j => w.wg k j)
    (fun j => pay24_real w A v20 v38 v50 v72 v48 v80 e20 e38 e50 e72 e48 e80 r j) (fun j => e99 k j)

include e20 e30 e38 e50 e72 e48 e80 e99 in
theorem pay26_real (k : Fin 1024) : (k0_pay26 (F := Ideal) v20 v30 v38 v48 v50 v72 v80 v99 v102 (ix2 0 k) : EReal)
    = v102 (ix2 0 k) + ∑ r : Fin 512, ((DN2 w (A r) k * HN w (A r) k : ℝ) : EReal) := by
  unfold k0_pay26
  dsimp only
  rw [addf_apply, shapeCast_self, shapeCast_a_1a_apply]
  refine congrArg (fun z : EReal => v102 (ix2 0 k) + z) ((colsum _ _ _ _ _ k).trans ?_)
  refine Finset.sum_congr rfl fun r _ => ?_
  rw [mulf_apply, pay25_real w A v20 v38 v50 v72 v48 v80 v99 e20 e38 e50 e72 e48 e80 e99, e30, ← EReal.coe_mul]

include e20 e38 e50 e72 e48 e80 e99 e109 in
theorem pay27_real (r : Fin 512) (k : Fin 1024) : (k0_pay27 (F := Ideal) v20 v38 v48 v50 v72 v80 v99 v109 (ix2 r k) : EReal) = (DNN w (A r) k : ℝ) := by
  unfold k0_pay27
  rw [mulf_apply, pay25_real w A v20 v38 v50 v72 v48 v80 v99 e20 e38 e50 e72 e48 e80 e99, broadcastTo_1b_ab_apply, e109, ← EReal.coe_mul]
  rfl

end Backward

section Out
variable (w : Wt) (A : Fin 512 → Tok) (v4 v6 : FVec Ideal S1024x1024 .bf16) (v28 : FVec Ideal S512x1 .f32) (v30 v38 v92 v111 : FVec Ideal S512x1024 .f32)
  (e4 : ∀ j k, (v4 (ix2 j k) : EReal) = (w.wo (lo j) k : ℝ)) (e6 : ∀ j k, (v6 (ix2 j k) : EReal) = (w.wo (hi j) k : ℝ))
  (e28 : ∀ r z, (v28 (ix2 r z) : EReal) = (rstd (H w (A r)) : ℝ)) (e30 : ∀ r k, (v30 (ix2 r k) : EReal) = (HN w (A r) k : ℝ))
  (e38 : ∀ r k, (v38 (ix2 r k) : EReal) = (GT w (A r) k : ℝ))
  (e92 : ∀ r k, (v92 (ix2 r k) : EReal) = (DH2 w (A r) k : ℝ)) (e111 : ∀ r k, (v111 (ix2 r k) : EReal) = (DNN w (A r) k : ℝ))

include e28 e30 e92 e111 in
theorem pay1_real (r : Fin 512) (k : Fin 1024) : (k0_pay1 (F := Ideal) v28 v30 v92 v111 (ix2 r k) : EReal) = (DH w (A r) k : ℝ) := by
  unfold k0_pay1
  dsimp only
  rw [truncf_apply, addf_apply, e92, mulf_apply, bcast_col, e28, subf_apply, e111, mulf_apply, e30, bcast_col]
  refine (congrArg (fun z : EReal => ((DH2 w (A r) k : ℝ) : EReal) + ((rstd (H w (A r)) : ℝ) : EReal) * (((DNN w (A r) k : ℝ) : EReal) - ((HN w (A r) k : ℝ) : EReal) * z))
    (mean_real _ _ _ _ _ r 0 (fun j => DNN w (A r) j * HN w (A r) j) (fun j => by rw [mulf_apply, e111, e30, ← EReal.coe_mul]))).trans ?_
  rw [← EReal.coe_mul, ← EReal.coe_sub, ← EReal.coe_mul, ← EReal.coe_add]
  rfl

include e28 e30 e92 e111 e4 in
theorem pay2_real (r : Fin 512) (k : Fin 1024) : (k0_pay2 (F := Ideal) v4 v28 v30 v92 v111 (ix2 r k) : EReal) = (DYC w (A r) k : ℝ) := by
  unfold k0_pay2
  exact nt_real _ rfl rfl rfl rfl rfl rfl _ v4 r k (DH w (A r)) (fun j => w.wo (lo k) j)
    (fun j => pay1_real w A v28 v30 v92 v111 e28 e30 e92 e111 r j) (fun j => e4 k j)

include e28 e30 e92 e111 e6 in
theorem pay3_real (r : Fin 512) (k : Fin 1024) : (k0_pay3 (F := Ideal) v6 v28 v30 v92 v111 (ix2 r k) : EReal) = (DYH w (A r) k : ℝ) := by
  unfold k0_pay3
  exact nt_real _ rfl rfl rfl rfl rfl rfl _ v6 r k (DH w (A r)) (fun j => w.wo (hi k) j)
    (fun j => pay1_real w A v28 v30 v92 v111 e28 e30 e92 e111 r j) (fun j => e6 k j)

include e38 e92 in
theorem pay4_real (r : Fin 512) (k : Fin 1024) : (k0_pay4 (F := Ideal) v38 v92 (ix2 r k) : EReal) = (DP w (A r) k : ℝ) := by
  unfold k0_pay4
  rw [truncf_apply, mulf_apply, e92, e38, ← EReal.coe_mul]
  rfl

end Out

end Cert.Tail

end
-- ==== Proof.ConvTile.lean ====
/-
  One tile of the convolution block's backward pass: what each stage of it holds, for finite entries.
-/
module

public import proofs.«01_k».proof.Proof.Gen.KernelIdeal.Skeleton
public import proofs.«01_k».proof.Proof.Gen.KernelIdeal
public import proofs.«01_k».proof.Proof.ConvMath
public import proofs.«01_k».proof.Proof.TailTile
public import proofs.«01_k».proof.Proof.Finite

@[expose] public section

noncomputable section

namespace Cert.ConvTile

open Cert.KernelIdeal Cert.KernelIdeal.Gen Cert.Rows Cert.Finite Cert.ConvMath
open Cert.Tail (lgs nn_real nt_real logistic_real)
open Idealize.ShloMosaic Idealize.ShloMosaic.ValueIdx

/-! ## One group of 128 channels -/

def meanG (x : FVec Ideal S256x128 .f32) : FVec Ideal S256x1 .f32 :=
  divf (shapeCast S256x1 (multiReduction .add [1] S256 x 0x00000000#32 reduces_S256x128_S256 (.inl rfl) rfl) shapeCasts_S256_S256x1)
    (broadcast S256x1 (Scalar.ofBits (F := Ideal) .f32 0x43000000#32))
def bcG (x : FVec Ideal S256x1 .f32) : FVec Ideal S256x128 .f32 := broadcastTo S256x128 x broadcasts_S256x1_S256x128
def cenG (x : FVec Ideal S256x128 .f32) : FVec Ideal S256x128 .f32 := subf x (bcG (meanG x))
def invG (x : FVec Ideal S256x128 .f32) : FVec Ideal S256x1 .f32 :=
  rsqrt (addf (meanG (mulf (cenG x) (cenG x))) (broadcast S256x1 (Scalar.ofBits (F := Ideal) .f32 0x358637BD#32)))
def nrmG (x : FVec Ideal S256x128 .f32) : FVec Ideal S256x128 .f32 := mulf (cenG x) (bcG (invG x))
def rsdG (x : FVec Ideal S256x128 .f32) : FVec Ideal S256x128 .f32 := bcG (shapeCast S256x1 (invG x) shapeCasts_S256x1_S256x1)
def dxG (d n s : FVec Ideal S256x128 .f32) : FVec Ideal S256x128 .f32 :=
  mulf s (subf (subf d (bcG (meanG d))) (mulf n (bcG (meanG (mulf d n)))))

theorem ofBits_128 : Ideal.ofBits .f32 0x43000000#32 = ((128 : ℝ) : EReal) := by
  simp [Ideal.ofBits, Ideal.ieee, -EReal.coe_mul]
  norm_num

section Group
variable (x d : FVec Ideal S256x128 .f32) (r : Fin 256) (f e : Fin 128 → ℝ)
  (ex : ∀ j, (x (ix2 r j) : EReal) = (f j : ℝ)) (ed : ∀ j, (d (ix2 r j) : EReal) = (e j : ℝ))

include ex in
theorem meanG_real (z : Fin 1) : (meanG x (ix2 r z) : EReal) = (gmean f : ℝ) := by
  unfold meanG
  rw [divf_apply, cast_col]
  erw [rowsum]
  rw [sumR _ f ex, bcast_apply]
  show Ideal.div _ (Ideal.ofBits .f32 0x43000000#32) = _
  rw [ofBits_128, div_real _ _ (by norm_num)]
  rfl

theorem bcG_apply (y : FVec Ideal S256x1 .f32) (j : Fin 128) : bcG y (ix2 r j) = y (ix2 r 0) := bcast_col y _ r j

include ex in
theorem cenG_real (j : Fin 128) : (cenG x (ix2 r j) : EReal) = (gcen f j : ℝ) := by
  unfold cenG
  rw [subf_apply, bcG_apply, ex, meanG_real x r f ex, ← EReal.coe_sub]
  rfl

include ex in
theorem invG_real (z : Fin 1) : (invG x (ix2 r z) : EReal) = (ginv f : ℝ) := by
  unfold invG
  show Ideal.rsqrt ((meanG (mulf (cenG x) (cenG x)) (ix2 r z) : EReal) + Ideal.ofBits .f32 0x358637BD#32) = _
  rw [meanG_real _ r (fun j => gcen f j * gcen f j) (fun j => by rw [mulf_apply, cenG_real x r f ex, ← EReal.coe_mul]), ofBits_eps, ← EReal.coe_add]
  exact rsqrt_real _ (gvar_pos f)

include ex in
theorem nrmG_real (j : Fin 128) : (nrmG x (ix2 r j) : EReal) = (gnrm f j : ℝ) := by
  unfold nrmG
  rw [mulf_apply, bcG_apply, cenG_real x r f ex, invG_real x r f ex, ← EReal.coe_mul]
  rfl

include ex in
theorem rsdG_real (j : Fin 128) : (rsdG x (ix2 r j) : EReal) = (ginv f : ℝ) := by
  unfold rsdG
  rw [bcG_apply, shapeCast_self, invG_real x r f ex]

include ed in
theorem dxG_real (n s : FVec Ideal S256x128 .f32) (en : ∀ j, (n (ix2 r j) : EReal) = (gnrm f j : ℝ)) (es : ∀ j, (s (ix2 r j) : EReal) = (ginv f : ℝ)) (j : Fin 128) :
    (dxG d n s (ix2 r j) : EReal) = (gdx f e j : ℝ) := by
  unfold dxG
  rw [mulf_apply, subf_apply, subf_apply, mulf_apply, bcG_apply, bcG_apply, es, en, ed, meanG_real d r e ed,
    meanG_real _ r (fun j => e j * gnrm f j) (fun j => by rw [mulf_apply, ed, en, ← EReal.coe_mul])]
  rw [← EReal.coe_sub, ← EReal.coe_mul, ← EReal.coe_sub, ← EReal.coe_mul]
  rfl

end Group

/-! ## Eight groups beside one another -/

def cat8 (u : Fin 8 → FVec Ideal S256x128 .f32) : FVec Ideal S256x1024 .f32 :=
  concatenate S256x1024 1 [⟨S256x128, u 0⟩, ⟨S256x128, u 1⟩, ⟨S256x128, u 2⟩, ⟨S256x128, u 3⟩, ⟨S256x128, u 4⟩, ⟨S256x128, u 5⟩, ⟨S256x128, u 6⟩, ⟨S256x128, u 7⟩]
    concatenates_S256x128_S256x128_S256x128_S256x128_S256x128_S256x128_S256x128_S256x128_S256x1024_d1

theorem cat8_at (u : Fin 8 → FVec Ideal S256x128 .f32) (r : Fin 256) (g : Fin 8) (j : Fin 128) : cat8 u (ix2 r (at_ g j)) = u g (ix2 r j) := by
  unfold cat8
  match g with
  | ⟨0, _⟩ =>
    exact concatenate_apply_piece (t := S256x1024) 1 _ _ _ 0 (by simp) S256x128 (u 0) rfl rfl 0 rfl (ix2 r j)
      (fun b hb => by match b with | ⟨0, _⟩ => rfl | ⟨1, _⟩ => exact absurd rfl hb) rfl
  | ⟨1, _⟩ =>
    exact concatenate_apply_piece (t := S256x1024) 1 _ _ _ 1 (by simp) S256x128 (u 1) rfl rfl 128 rfl (ix2 r j)
      (fun b hb => by match b with | ⟨0, _⟩ => rfl | ⟨1, _⟩ => exact absurd rfl hb) rfl
  | ⟨2, _⟩ =>
    exact concatenate_apply_piece (t := S256x1024) 1 _ _ _ 2 (by simp) S256x128 (u 2) rfl rfl 256 rfl (ix2 r j)
      (fun b hb => by match b with | ⟨0, _⟩ => rfl | ⟨1, _⟩ => exact absurd rfl hb) rfl
  | ⟨3, _⟩ =>
    exact concatenate_apply_piece (t := S256x1024) 1 _ _ _ 3 (by simp) S256x128 (u 3) rfl rfl 384 rfl (ix2 r j)
      (fun b hb => by match b with | ⟨0, _⟩ => rfl | ⟨1, _⟩ => exact absurd rfl hb) rfl
  | ⟨4, _⟩ =>
    exact concatenate_apply_piece (t := S256x1024) 1 _ _ _ 4 (by simp) S256x128 (u 4) rfl rfl 512 rfl (ix2 r j)
      (fun b hb => by match b with | ⟨0, _⟩ => rfl | ⟨1, _⟩ => exact absurd rfl hb) rfl
  | ⟨5, _⟩ =>
    exact concatenate_apply_piece (t := S256x1024) 1 _ _ _ 5 (by simp) S256x128 (u 5) rfl rfl 640 rfl (ix2 r j)
      (fun b hb => by match b with | ⟨0, _⟩ => rfl | ⟨1, _⟩ => exact absurd rfl hb) rfl
  | ⟨6, _⟩ =>
    exact concatenate_apply_piece (t := S256x1024) 1 _ _ _ 6 (by simp) S256x128 (u 6) rfl rfl 768 rfl (ix2 r j)
      (fun b hb => by match b with | ⟨0, _⟩ => rfl | ⟨1, _⟩ => exact absurd rfl hb) rfl
  | ⟨7, _⟩ =>
    exact concatenate_apply_piece (t := S256x1024) 1 _ _ _ 7 (by simp) S256x128 (u 7) rfl rfl 896 rfl (ix2 r j)
      (fun b hb => by match b with | ⟨0, _⟩ => rfl | ⟨1, _⟩ => exact absurd rfl hb) rfl

theorem cat8_apply (u : Fin 8 → FVec Ideal S256x128 .f32) (r : Fin 256) (k : Fin 1024) : cat8 u (ix2 r k) = u (kg k) (ix2 r (kj k)) := by
  have h := cat8_at u r (kg k) (kj k)
  rwa [at_kg_kj] at h

def sl (x : FVec Ideal S256x1024 .f32) : Fin 8 → FVec Ideal S256x128 .f32
  | ⟨0, _⟩ => extractStridedSlice S256x128 ![0, 0] x slices_S256x1024_o0_0_S256x128
  | ⟨1, _⟩ => extractStridedSlice S256x128 ![0, 128] x slices_S256x1024_o0_128_S256x128
  | ⟨2, _⟩ => extractStridedSlice S256x128 ![0, 256] x slices_S256x1024_o0_256_S256x128
  | ⟨3, _⟩ => extractStridedSlice S256x128 ![0, 384] x slices_S256x1024_o0_384_S256x128
  | ⟨4, _⟩ => extractStridedSlice S256x128 ![0, 512] x slices_S256x1024_o0_512_S256x128
  | ⟨5, _⟩ => extractStridedSlice S256x128 ![0, 640] x slices_S256x1024_o0_640_S256x128
  | ⟨6, _⟩ => extractStridedSlice S256x128 ![0, 768] x slices_S256x1024_o0_768_S256x128
  | ⟨7, _⟩ => extractStridedSlice S256x128 ![0, 896] x slices_S256x1024_o0_896_S256x128

theorem sl_apply (x : FVec Ideal S256x1024 .f32) (g : Fin 8) (r : Fin 256) (j : Fin 128) : sl x g (ix2 r j) = x (ix2 r (at_ g j)) := by
  match g with
  | ⟨0, _⟩ => exact extractStridedSlice_apply (s := S256x1024) (t := S256x128) ![0, 0] x slices_S256x1024_o0_0_S256x128 (ix2 r j) (ix2 r (at_ _ j)) fun a => by match a with | ⟨0, _⟩ => exact (Nat.zero_add r.val).symm | ⟨1, _⟩ => rfl
  | ⟨1, _⟩ => exact extractStridedSlice_apply (s := S256x1024) (t := S256x128) ![0, 128] x slices_S256x1024_o0_128_S256x128 (ix2 r j) (ix2 r (at_ _ j)) fun a => by match a with | ⟨0, _⟩ => exact (Nat.zero_add r.val).symm | ⟨1, _⟩ => rfl
  | ⟨2, _⟩ => exact extractStridedSlice_apply (s := S256x1024) (t := S256x128) ![0, 256] x slices_S256x1024_o0_256_S256x128 (ix2 r j) (ix2 r (at_ _ j)) fun a => by match a with | ⟨0, _⟩ => exact (Nat.zero_add r.val).symm | ⟨1, _⟩ => rfl
  | ⟨3, _⟩ => exact extractStridedSlice_apply (s := S256x1024) (t := S256x128) ![0, 384] x slices_S256x1024_o0_384_S256x128 (ix2 r j) (ix2 r (at_ _ j)) fun a => by match a with | ⟨0, _⟩ => exact (Nat.zero_add r.val).symm | ⟨1, _⟩ => rfl
  | ⟨4, _⟩ => exact extractStridedSlice_apply (s := S256x1024) (t := S256x128) ![0, 512] x slices_S256x1024_o0_512_S256x128 (ix2 r j) (ix2 r (at_ _ j)) fun a => by match a with | ⟨0, _⟩ => exact (Nat.zero_add r.val).symm | ⟨1, _⟩ => rfl
  | ⟨5, _⟩ => exact extractStridedSlice_apply (s := S256x1024) (t := S256x128) ![0, 640] x slices_S256x1024_o0_640_S256x128 (ix2 r j) (ix2 r (at_ _ j)) fun a => by match a with | ⟨0, _⟩ => exact (Nat.zero_add r.val).symm | ⟨1, _⟩ => rfl
  | ⟨6, _⟩ => exact extractStridedSlice_apply (s := S256x1024) (t := S256x128) ![0, 768] x slices_S256x1024_o0_768_S256x128 (ix2 r j) (ix2 r (at_ _ j)) fun a => by match a with | ⟨0, _⟩ => exact (Nat.zero_add r.val).symm | ⟨1, _⟩ => rfl
  | ⟨7, _⟩ => exact extractStridedSlice_apply (s := S256x1024) (t := S256x128) ![0, 896] x slices_S256x1024_o0_896_S256x128 (ix2 r j) (ix2 r (at_ _ j)) fun a => by match a with | ⟨0, _⟩ => exact (Nat.zero_add r.val).symm | ⟨1, _⟩ => rfl

/-! ## The stages of the tile -/

section Stages

variable (v5 v23 v195 : Vec Ideal S256x1024 .f32) (v179 v182 v191 : Vec Ideal S1x1024 .f32) (v188 : Vec Ideal S1024x1024 .bf16)

def Q : Fin 8 → FVec Ideal S256x128 .f32
  | ⟨0, _⟩ => k0_pay15 (k0_pay12 v23) (k0_pay13 v23)
  | ⟨1, _⟩ => k0_pay19 (k0_pay11 v23)
  | ⟨2, _⟩ => k0_pay23 (k0_pay11 v23)
  | ⟨3, _⟩ => k0_pay27 (k0_pay11 v23)
  | ⟨4, _⟩ => k0_pay31 (k0_pay11 v23)
  | ⟨5, _⟩ => k0_pay36 (k0_pay33 (k0_pay11 v23)) (k0_pay34 (k0_pay11 v23))
  | ⟨6, _⟩ => k0_pay40 (k0_pay11 v23)
  | ⟨7, _⟩ => k0_pay44 (k0_pay11 v23)
def S : Fin 8 → FVec Ideal S256x128 .f32
  | ⟨0, _⟩ => k0_pay16 (k0_pay13 v23)
  | ⟨1, _⟩ => k0_pay20 (k0_pay11 v23)
  | ⟨2, _⟩ => k0_pay24 (k0_pay11 v23)
  | ⟨3, _⟩ => k0_pay28 (k0_pay11 v23)
  | ⟨4, _⟩ => k0_pay32 (k0_pay11 v23)
  | ⟨5, _⟩ => k0_pay37 (k0_pay34 (k0_pay11 v23))
  | ⟨6, _⟩ => k0_pay41 (k0_pay11 v23)
  | ⟨7, _⟩ => k0_pay45 (k0_pay11 v23)

def TYN : FVec Ideal S256x1024 .f32 := k0_pay46 (F := Ideal) (Q v23 0) (Q v23 1) (Q v23 2) (Q v23 3) (Q v23 4) (Q v23 5) (Q v23 6) (Q v23 7)
def TRS : FVec Ideal S256x1024 .f32 := k0_pay47 (F := Ideal) (S v23 0) (S v23 1) (S v23 2) (S v23 3) (S v23 4) (S v23 5) (S v23 6) (S v23 7)
def TAP : FVec Ideal S256x1024 .f32 := k0_pay48 (F := Ideal) (Q v23 0) (Q v23 1) (Q v23 2) (Q v23 3) (Q v23 4) (Q v23 5) (Q v23 6) (Q v23 7) v179 v182
def TA : FVec Ideal S256x1024 .bf16 := k0_pay50 (F := Ideal) (Q v23 0) (Q v23 1) (Q v23 2) (Q v23 3) (Q v23 4) (Q v23 5) (Q v23 6) (Q v23 7) v179 v182
def TY2 : FVec Ideal S256x1024 .f32 := k0_pay51 (F := Ideal) (Q v23 0) (Q v23 1) (Q v23 2) (Q v23 3) (Q v23 4) (Q v23 5) (Q v23 6) (Q v23 7) v179 v182 v188 v191
def TDY2 : FVec Ideal S256x1024 .f32 := k0_pay53 (F := Ideal) v5 v195
def TDAP : FVec Ideal S256x1024 .f32 := k0_pay55 (F := Ideal) v5 (Q v23 0) (Q v23 1) (Q v23 2) (Q v23 3) (Q v23 4) (Q v23 5) (Q v23 6) (Q v23 7) v179 v182 v195 v188
def TDYN : FVec Ideal S256x1024 .f32 := k0_pay56 (F := Ideal) v5 (Q v23 0) (Q v23 1) (Q v23 2) (Q v23 3) (Q v23 4) (Q v23 5) (Q v23 6) (Q v23 7) v179 v182 v195 v188 v179
def DX (v177 v178 v211 : FVec Ideal S256x1024 .f32) (v212 v213 v214 : FVec Ideal S256x128 .f32) (v216 : FVec Ideal S256x1 .f32) : FVec Ideal S256x1024 .f32 :=
  k0_pay73 (F := Ideal) v177 v178 v211 (k0_pay61 v212 v213 v214 v216 (Scalar.ofBits (F := Ideal) .f32 0x43000000#32)) (k0_pay62 v177 v178 v211) (k0_pay63 v177 v178 v211) (k0_pay65 v177 v178 (k0_pay64 v211)) (k0_pay66 v177 v178 v211)
    (k0_pay68 v177) (k0_pay69 v178) (k0_pay70 v211) (k0_pay71 v177 v211) (k0_pay72 (F := Ideal))
def TDY1 : FVec Ideal S256x1024 .f32 :=
  DX (TYN v23) (TRS v23) (TDYN v5 v23 v195 v179 v182 v188) (k0_pay57 (F := Ideal) v5 (Q v23 0) (Q v23 1) (Q v23 2) (Q v23 3) (Q v23 4) (Q v23 5) (Q v23 6) (Q v23 7) v179 v182 v195 v188 v179) (k0_pay58 (F := Ideal) (Q v23 0) (Q v23 1) (Q v23 2) (Q v23 3) (Q v23 4) (Q v23 5) (Q v23 6) (Q v23 7)) (k0_pay59 (F := Ideal) (S v23 0) (S v23 1) (S v23 2) (S v23 3) (S v23 4) (S v23 5) (S v23 6) (S v23 7))
    (k0_pay60 (F := Ideal) v5 (Q v23 0) (Q v23 1) (Q v23 2) (Q v23 3) (Q v23 4) (Q v23 5) (Q v23 6) (Q v23 7) v179 v182 v195 v188 v179)
def TDZ2 : FVec Ideal S1x256x1024 .bf16 := k0_pay78 (F := Ideal) v5 (TY2 v23 v179 v182 v191 v188) (k0_pay52 v5) v195

theorem TYN_eq : TYN v23 = cat8 fun g => nrmG (sl (k0_pay11 v23) g) := rfl
theorem TRS_eq : TRS v23 = cat8 fun g => rsdG (sl (k0_pay11 v23) g) := rfl
theorem TDY1_eq : TDY1 v5 v23 v195 v179 v182 v188
    = cat8 fun g => dxG (sl (TDYN v5 v23 v195 v179 v182 v188) g) (sl (TYN v23) g) (sl (TRS v23) g) := rfl

end Stages

/-! ## Finite entries -/

section Reals

variable (w : Wts) (A : Fin 256 → Acts) (v5 v23 v195 : Vec Ideal S256x1024 .f32) (v179 v182 v191 : Vec Ideal S1x1024 .f32) (v188 : Vec Ideal S1024x1024 .bf16)
  (e5 : ∀ r k, (v5 (ix2 r k) : EReal) = ((A r).ct k : ℝ)) (e23 : ∀ r k, (v23 (ix2 r k) : EReal) = ((A r).y k : ℝ))
  (e195 : ∀ r k, (v195 (ix2 r k) : EReal) = ((A r).dc k : ℝ)) (e179 : ∀ k, (v179 (ix2 0 k) : EReal) = (w.ng k : ℝ))
  (e182 : ∀ k, (v182 (ix2 0 k) : EReal) = (w.nb k : ℝ)) (e191 : ∀ k, (v191 (ix2 0 k) : EReal) = (w.bp k : ℝ))
  (e188 : ∀ j k, (v188 (ix2 j k) : EReal) = (w.wp j k : ℝ))

include e23 in
theorem sl11_real (g : Fin 8) (r : Fin 256) (j : Fin 128) : (sl (k0_pay11 v23) g (ix2 r j) : EReal) = (grp (A r).y g j : ℝ) := by
  rw [sl_apply]
  unfold k0_pay11
  rw [shapeCast_self]
  exact e23 r _

include e23 in
theorem TYN_real (r : Fin 256) (k : Fin 1024) : (TYN v23 (ix2 r k) : EReal) = (YN (A r) k : ℝ) := by
  rw [TYN_eq, cat8_apply]
  exact nrmG_real _ r _ (sl11_real A v23 e23 (kg k) r) (kj k)

include e23 in
theorem TRS_real (r : Fin 256) (k : Fin 1024) : (TRS v23 (ix2 r k) : EReal) = (RS (A r) k : ℝ) := by
  rw [TRS_eq, cat8_apply]
  exact rsdG_real _ r _ (sl11_real A v23 e23 (kg k) r) (kj k)

theorem row_bc (v : Vec Ideal S1x1024 .f32) (r : Fin 256) (k : Fin 1024) : broadcastTo S256x1024 v broadcasts_S1x1024_S256x1024 (ix2 r k) = v (ix2 0 k) :=
  broadcastTo_1b_ab_apply v _ r k

include e23 e179 e182 in
theorem TAP_real (r : Fin 256) (k : Fin 1024) : (TAP v23 v179 v182 (ix2 r k) : EReal) = (AP w (A r) k : ℝ) := by
  have h : (TAP v23 v179 v182 (ix2 r k) : EReal) = TYN v23 (ix2 r k) * broadcastTo S256x1024 v179 broadcasts_S1x1024_S256x1024 (ix2 r k)
      + broadcastTo S256x1024 v182 broadcasts_S1x1024_S256x1024 (ix2 r k) := rfl
  rw [h, row_bc, row_bc, TYN_real A v23 e23, e179, e182, ← EReal.coe_mul, ← EReal.coe_add]
  rfl

include e23 e179 e182 in
theorem sa_real (r : Fin 256) (k : Fin 1024) : (FloatOps.logistic (F := Ideal) (φ := .f32) (TAP v23 v179 v182 (ix2 r k)) : EReal) = (SA w (A r) k : ℝ) := by
  rw [TAP_real w A v23 v179 v182 e23 e179 e182, logistic_real]
  rfl

include e23 e179 e182 in
theorem TA_real (r : Fin 256) (k : Fin 1024) : (TA v23 v179 v182 (ix2 r k) : EReal) = (AA w (A r) k : ℝ) := by
  have h : (TA v23 v179 v182 (ix2 r k) : EReal) = TAP v23 v179 v182 (ix2 r k) * FloatOps.logistic (F := Ideal) (φ := .f32) (TAP v23 v179 v182 (ix2 r k)) := rfl
  rw [h, sa_real w A v23 v179 v182 e23 e179 e182, TAP_real w A v23 v179 v182 e23 e179 e182, ← EReal.coe_mul]
  rfl

include e23 e179 e182 e188 e191 in
theorem TY2_real (r : Fin 256) (k : Fin 1024) : (TY2 v23 v179 v182 v191 v188 (ix2 r k) : EReal) = (Y2 w (A r) k : ℝ) := by
  have h : (TY2 v23 v179 v182 v191 v188 (ix2 r k) : EReal)
      = matmul dot_S256x1024_S1024x1024_S256x1024_1_0_0_1_n_n none (TA v23 v179 v182) (shapeCast S1024x1024 v188 shapeCasts_S1024x1024_S1024x1024) (constant S256x1024 .f32 0x00000000#32) (ix2 r k)
        + broadcastTo S256x1024 v191 broadcasts_S1x1024_S256x1024 (ix2 r k) := rfl
  rw [h, row_bc, e191]
  refine (congrArg (fun z : EReal => z + ((w.bp k : ℝ) : EReal)) (nn_real _ rfl rfl rfl rfl rfl rfl (TA v23 v179 v182) _ r k (AA w (A r)) (fun j => w.wp j k)
    (TA_real w A v23 v179 v182 e23 e179 e182 r) (fun j => by rw [shapeCast_self]; exact e188 j k))).trans ?_
  rw [← EReal.coe_add]
  rfl

include e5 e195 in
theorem TDY2_real (r : Fin 256) (k : Fin 1024) : (TDY2 v5 v195 (ix2 r k) : EReal) = (DY2 (A r) k : ℝ) := by
  have h : (TDY2 v5 v195 (ix2 r k) : EReal) = v195 (ix2 r k) * (v5 (ix2 r k) * FloatOps.logistic (F := Ideal) (φ := .f32) (v5 (ix2 r k))) := rfl
  rw [h, e195, e5, logistic_real, ← EReal.coe_mul, ← EReal.coe_mul]
  rfl

include e5 e195 in
theorem TDY2b_real (r : Fin 256) (k : Fin 1024) : (k0_pay54 (F := Ideal) v5 v195 (ix2 r k) : EReal) = (DY2 (A r) k : ℝ) :=
  TDY2_real A v5 v195 e5 e195 r k

include e5 e23 e195 e179 e182 e188 in
theorem TDAP_real (r : Fin 256) (k : Fin 1024) : (TDAP v5 v23 v195 v179 v182 v188 (ix2 r k) : EReal) = (DAP w (A r) k : ℝ) := by
  have h : (TDAP v5 v23 v195 v179 v182 v188 (ix2 r k) : EReal)
      = matmul dot_S256x1024_S1024x1024_S256x1024_1_1_0_0_n_n none (k0_pay54 (F := Ideal) v5 v195) (shapeCast S1024x1024 v188 shapeCasts_S1024x1024_S1024x1024) (constant S256x1024 .f32 0x00000000#32) (ix2 r k)
        * (FloatOps.logistic (F := Ideal) (φ := .f32) (TAP v23 v179 v182 (ix2 r k)) * (Ideal.ofBits .f32 0x3F800000#32 + TAP v23 v179 v182 (ix2 r k)
          * (Ideal.ofBits .f32 0x3F800000#32 - FloatOps.logistic (F := Ideal) (φ := .f32) (TAP v23 v179 v182 (ix2 r k))))) := rfl
  rw [h, sa_real w A v23 v179 v182 e23 e179 e182, TAP_real w A v23 v179 v182 e23 e179 e182, ofBits_one, ← EReal.coe_sub, ← EReal.coe_mul, ← EReal.coe_add, ← EReal.coe_mul]
  refine (congrArg (fun z : EReal => z * ((SA w (A r) k * (1 + AP w (A r) k * (1 - SA w (A r) k)) : ℝ) : EReal)) (nt_real _ rfl rfl rfl rfl rfl rfl (k0_pay54 (F := Ideal) v5 v195) _ r k (DY2 (A r)) (fun j => w.wp k j)
    (TDY2b_real A v5 v195 e5 e195 r) (fun j => by rw [shapeCast_self]; exact e188 k j))).trans ?_
  rw [← EReal.coe_mul]
  rfl

include e5 e23 e195 e179 e182 e188 in
theorem TDYN_real (r : Fin 256) (k : Fin 1024) : (TDYN v5 v23 v195 v179 v182 v188 (ix2 r k) : EReal) = (DYN w (A r) k : ℝ) := by
  have h : (TDYN v5 v23 v195 v179 v182 v188 (ix2 r k) : EReal) = TDAP v5 v23 v195 v179 v182 v188 (ix2 r k) * broadcastTo S256x1024 v179 broadcasts_S1x1024_S256x1024 (ix2 r k) := rfl
  rw [h, row_bc, e179, TDAP_real w A v5 v23 v195 v179 v182 v188 e5 e23 e195 e179 e182 e188, ← EReal.coe_mul]
  rfl

include e5 e23 e195 e179 e182 e188 in
theorem TDY1_real (r : Fin 256) (k : Fin 1024) : (TDY1 v5 v23 v195 v179 v182 v188 (ix2 r k) : EReal) = (DY1 w (A r) k : ℝ) := by
  rw [TDY1_eq, cat8_apply]
  refine dxG_real _ r (grp (A r).y (kg k)) (grp (DYN w (A r)) (kg k)) (fun j => ?_) _ _ (fun j => ?_) (fun j => ?_) (kj k)
  · rw [sl_apply, TDYN_real w A v5 v23 v195 v179 v182 v188 e5 e23 e195 e179 e182 e188]
    rfl
  · rw [sl_apply, TYN_real A v23 e23]
    unfold YN
    rw [kg_at, kj_at]
  · rw [sl_apply, TRS_real A v23 e23]
    unfold RS
    rw [kg_at]

include e5 e23 e195 e179 e182 e188 e191 in
theorem TDZ2_real (z : Fin 1) (r : Fin 256) (k : Fin 1024) : (TDZ2 v5 v23 v195 v179 v182 v191 v188 (ix3 z r k) : EReal) = (DZ2 w (A r) k : ℝ) := by
  unfold TDZ2 k0_pay78
  rw [shapeCast_apply _ _ _ (ix2 r k) (by rw [Shape.rowMajor_val_two, Shape.rowMajor_val_three]; show r.val * 1024 + k.val = (z.val * 256 + r.val) * 1024 + k.val; have := z.isLt; omega)]
  show (v195 (ix2 r k) : EReal) * TY2 v23 v179 v182 v191 v188 (ix2 r k) * (FloatOps.logistic (F := Ideal) (φ := .f32) (v5 (ix2 r k)) * (Ideal.ofBits .f32 0x3F800000#32 + v5 (ix2 r k)
    * (Ideal.ofBits .f32 0x3F800000#32 - FloatOps.logistic (F := Ideal) (φ := .f32) (v5 (ix2 r k))))) = _
  rw [TY2_real w A v23 v179 v182 v191 v188 e23 e179 e182 e191 e188, e195, e5, logistic_real, ofBits_one, ← EReal.coe_mul, ← EReal.coe_sub, ← EReal.coe_mul, ← EReal.coe_add, ← EReal.coe_mul, ← EReal.coe_mul]
  rfl

/-- The sum of a column of the tile, added to a row. -/
theorem addcol (x : FVec Ideal S256x1024 .f32) (v : Vec Ideal S1x1024 .f32) (f : Fin 256 → Fin 1024 → ℝ) (ex : ∀ r k, (x (ix2 r k) : EReal) = (f r k : ℝ)) (k : Fin 1024) :
    (addf (shapeCast S1x1024 v shapeCasts_S1x1024_S1x1024) (shapeCast S1x1024 (multiReduction .add [0] S1024 x 0x00000000#32 reduces_S256x1024_S1024 (.inl rfl) rfl) shapeCasts_S1024_S1x1024) (ix2 0 k) : EReal)
      = v (ix2 0 k) + ∑ r : Fin 256, ((f r k : ℝ) : EReal) := by
  rw [addf_apply, shapeCast_self, shapeCast_a_1a_apply]
  erw [colsum]
  exact congrArg _ (Finset.sum_congr rfl fun r _ => ex r k)

end Reals

end Cert.ConvTile

end
-- ==== Proof.ConvRef.lean ====
/-
  The convolution block's backward pass, the reference: the lines of the forward pass and their vector-Jacobian product, of
  finite arguments.
-/
module

public import proofs.«01_k».proof.Proof.ConvSpec
public import proofs.«01_k».proof.Proof.ConvTile
public import proofs.«01_k».proof.Proof.Gen.ReferenceIdeal.Run
public import Idealize.ShloMosaic.Lib.Pipeline.Value
public import Idealize.ShloMosaic.Lib.ValueIdx
public import Idealize.ShloMosaic.Lib.IdealHost
public import Idealize.ShloMosaic.Lib.KernelVsHost
public import Idealize.ShloMosaic.PureOps.Ideal.Laws

@[expose] public section

noncomputable section

namespace Cert.ConvRef

open Cert.ReferenceIdeal Cert.ReferenceIdeal.Gen Cert.ReferenceIdeal.Value Idealize.ShloMosaic Idealize.ShloMosaic.TcCoe Idealize.ShloMosaic.StableHlo
open Idealize.ShloMosaic.ValueIdx Cert.Common Cert.Rows Cert.Finite Cert.ConvMath Cert.ConvSpec
open Cert.Tail (lgs nn_real nt_real)

/-! ## The host's operations read at an index -/

theorem add_real {s : Shape} {φ : FTy} {x y : FVec Ideal s φ} {i : s.Idx} {a b : ℝ} (hx : (x i : EReal) = (a : ℝ)) (hy : (y i : EReal) = (b : ℝ)) :
    (addf x y i : EReal) = ((a + b : ℝ) : EReal) := by
  rw [addf_apply, hx, hy, ← EReal.coe_add]

theorem mul_real {s : Shape} {φ : FTy} {x y : FVec Ideal s φ} {i : s.Idx} {a b : ℝ} (hx : (x i : EReal) = (a : ℝ)) (hy : (y i : EReal) = (b : ℝ)) :
    (mulf x y i : EReal) = ((a * b : ℝ) : EReal) := by
  rw [mulf_apply, hx, hy, ← EReal.coe_mul]

theorem sub_real {s : Shape} {φ : FTy} {x y : FVec Ideal s φ} {i : s.Idx} {a b : ℝ} (hx : (x i : EReal) = (a : ℝ)) (hy : (y i : EReal) = (b : ℝ)) :
    (subf x y i : EReal) = ((a - b : ℝ) : EReal) := by
  rw [subf_apply, hx, hy, ← EReal.coe_sub]

theorem hdiv_real {s : Shape} {φ : FTy} {x y : FVec Ideal s φ} {i : s.Idx} {a b : ℝ} (hx : (x i : EReal) = (a : ℝ)) (hy : (y i : EReal) = (b : ℝ)) (hb : b ≠ 0) :
    (Host.divf x y i : EReal) = ((a / b : ℝ) : EReal) := by
  show Ideal.div (x i) (y i) = _
  rw [hx, hy, div_real _ _ hb]

theorem hneg_real {s : Shape} {φ : FTy} {x : FVec Ideal s φ} {i : s.Idx} {a : ℝ} (hx : (x i : EReal) = (a : ℝ)) :
    (Host.negf x i : EReal) = ((-a : ℝ) : EReal) := by
  show -(x i : EReal) = _
  rw [hx, ← EReal.coe_neg]

theorem cst_real {t : Shape} (h : S_.BroadcastsInDim t ![]) (b : BitVec 32) (a : ℝ) (hb : Ideal.ofBits .f32 b = ((a : ℝ) : EReal)) (i : t.Idx) :
    (broadcastInDim t ![] h (constant (F := Ideal) S_ .f32 b) i : EReal) = ((a : ℝ) : EReal) :=
  (broadcastInDim_scalar_apply h _ i).trans hb

theorem hlgs_real {t : Shape} (h : S_.BroadcastsInDim t ![]) (x : FVec Ideal t .f32) (i : t.Idx) (a : ℝ) (hx : (x i : EReal) = (a : ℝ)) :
    (Host.divf (broadcastInDim t ![] h (constant (F := Ideal) S_ .f32 0x3F800000#32)) (addf (broadcastInDim t ![] h (constant (F := Ideal) S_ .f32 0x3F800000#32)) (Host.exp (Host.negf x))) i : EReal)
      = ((lgs a : ℝ) : EReal) := by
  have he : (Host.exp (Host.negf x) i : EReal) = ((Real.exp (-a) : ℝ) : EReal) := by
    show Ideal.exp (-(x i : EReal)) = _
    rw [hx, ← EReal.coe_neg, Ideal.exp_coe]
  exact hdiv_real (cst_real h _ 1 ofBits_one i) (add_real (cst_real h _ 1 ofBits_one i) he) (by positivity)

theorem sl_at {n d n' d' : ℕ} {α : Type} (o0 o1 : ℕ) (off : Fin 2 → ℕ) (x : (⟨2, ![n, d]⟩ : Shape).Idx → α) (h : (⟨2, ![n, d]⟩ : Shape).Slices off ⟨2, ![n', d']⟩)
    (r : Fin n') (k : Fin d') (r' : Fin n) (k' : Fin d) (e0 : r'.val = off 0 + r.val) (e1 : k'.val = off 1 + k.val) :
    extractStridedSlice ⟨2, ![n', d']⟩ off x h (ix2 r k) = x (ix2 r' k') :=
  extractStridedSlice_apply (s := ⟨2, ![n, d]⟩) (t := ⟨2, ![n', d']⟩) off x h (ix2 r k) (ix2 r' k') fun a => by
    match a with
    | ⟨0, _⟩ => exact e0
    | ⟨1, _⟩ => exact e1

theorem red_rows (x : FVec Ideal S8192x1024 .f32) (f : Fin 8192 → ℝ) (k : Fin 1024) (hx : ∀ t, (x (ix2 t k) : EReal) = (f t : ℝ)) (z : Fin 1) :
    (shapeCast S1x1024 (Host.reduceAdd x (constant (F := Ideal) S_ .f32 0x00000000#32) reducesTo_S8192x1024_S1024_d0 h_S_) shapeCasts_S1024_S1x1024 (ix2 z k) : EReal) = ((∑ t, f t : ℝ) : EReal) := by
  rw [shapeCast_a_1a_apply]
  simp only [Host.reduceAdd, Ideal.hostReduceAdd_def]
  rw [Ideal.hostReduceAdd_single reducesTo_S8192x1024_S1024_d0 (by decide)]
  refine (congrArg (· + _) ofBits_zero).trans ((zero_add _).trans (sumR _ _ fun t => ?_))
  refine Eq.trans (congrArg x ?_) (hx t)
  exact funext fun a => Fin.ext (by match a with | ⟨0, _⟩ => rfl | ⟨1, _⟩ => rfl)

theorem red_lanes (x : FVec Ideal S8192x8x128 .f32) (f : Fin 128 → ℝ) (t : Fin 8192) (g : Fin 8) (hx : ∀ j, (x (ix3 t g j) : EReal) = (f j : ℝ)) :
    (Host.reduceAdd x (constant (F := Ideal) S_ .f32 0x00000000#32) reducesTo_S8192x8x128_S8192x8_d2 h_S_ (ix2 t g) : EReal) = ((∑ j, f j : ℝ) : EReal) := by
  simp only [Host.reduceAdd, Ideal.hostReduceAdd_def]
  rw [Ideal.hostReduceAdd_single reducesTo_S8192x8x128_S8192x8_d2 (by decide)]
  refine (congrArg (· + _) ofBits_zero).trans ((zero_add _).trans (sumR _ _ fun j => ?_))
  refine Eq.trans (congrArg x ?_) (hx j)
  exact funext fun a => Fin.ext (by match a with | ⟨0, _⟩ => rfl | ⟨1, _⟩ => rfl | ⟨2, _⟩ => rfl)

theorem red_unit (x : FVec Ideal S8192x8x1 .f32) (f : ℝ) (t : Fin 8192) (g : Fin 8) (hx : (x (ix3 t g 0) : EReal) = (f : ℝ)) :
    (Host.reduceAdd x (constant (F := Ideal) S_ .f32 0x00000000#32) reducesTo_S8192x8x1_S8192x8_d2 h_S_ (ix2 t g) : EReal) = ((f : ℝ) : EReal) := by
  simp only [Host.reduceAdd, Ideal.hostReduceAdd_def]
  rw [Ideal.hostReduceAdd_single reducesTo_S8192x8x1_S8192x8_d2 (by decide)]
  refine (congrArg (· + _) ofBits_zero).trans ((zero_add _).trans ?_)
  refine (Fintype.sum_subsingleton _ (0 : Fin 1)).trans (Eq.trans (congrArg x ?_) hx)
  exact funext fun a => Fin.ext (by match a with | ⟨0, _⟩ => rfl | ⟨1, _⟩ => rfl | ⟨2, _⟩ => rfl)

theorem bc_unit {α : Type} (x : S8192x8.Idx → α) (t : Fin 8192) (g : Fin 8) (z : Fin 1) :
    broadcastInDim S8192x8x1 ![0, 1] bcast_S8192x8_S8192x8x1_0_1 x (ix3 t g z) = x (ix2 t g) :=
  broadcastInDim_apply _ _ x _ (ix2 t g) fun a => by match a with | ⟨0, _⟩ => rfl | ⟨1, _⟩ => rfl

theorem bc_lanes {α : Type} (x : S8192x8x1.Idx → α) (t : Fin 8192) (g : Fin 8) (j : Fin 128) :
    broadcastInDim S8192x8x128 ![0, 1, 2] bcast_S8192x8x1_S8192x8x128_0_1_2 x (ix3 t g j) = x (ix3 t g 0) :=
  broadcastInDim_apply _ _ x _ (ix3 t g 0) fun a => by match a with | ⟨0, _⟩ => rfl | ⟨1, _⟩ => rfl | ⟨2, _⟩ => rfl

theorem bc_lanes2 {α : Type} (x : S8192x8.Idx → α) (t : Fin 8192) (g : Fin 8) (j : Fin 128) :
    broadcastInDim S8192x8x128 ![0, 1] bcast_S8192x8_S8192x8x128_0_1 x (ix3 t g j) = x (ix2 t g) :=
  broadcastInDim_apply _ _ x _ (ix2 t g) fun a => by match a with | ⟨0, _⟩ => rfl | ⟨1, _⟩ => rfl

theorem bc_row {α : Type} (x : S1x1024.Idx → α) (t : Fin 8192) (k : Fin 1024) :
    broadcastInDim S8192x1024 ![0, 1] bcast_S1x1024_S8192x1024_0_1 x (ix2 t k) = x (ix2 0 k) :=
  broadcastInDim_oneRow_apply bcast_S1x1024_S8192x1024_0_1 x t k

theorem cast3 {α : Type} (x : S8192x1024.Idx → α) (t : Fin 8192) (g : Fin 8) (j : Fin 128) :
    shapeCast S8192x8x128 x shapeCasts_S8192x1024_S8192x8x128 (ix3 t g j) = x (ix2 t (at_ g j)) :=
  shapeCast_apply x _ _ _ (by rw [Shape.rowMajor_val_two, Shape.rowMajor_val_three]; show t.val * 1024 + (128 * g.val + j.val) = (t.val * 8 + g.val) * 128 + j.val; omega)

theorem cast2 {α : Type} (x : S8192x8x128.Idx → α) (t : Fin 8192) (k : Fin 1024) :
    shapeCast S8192x1024 x shapeCasts_S8192x8x128_S8192x1024 (ix2 t k) = x (ix3 t (kg k) (kj k)) :=
  shapeCast_apply x _ _ _ (by rw [Shape.rowMajor_val_two, Shape.rowMajor_val_three]; show (t.val * 8 + k.val / 128) * 128 + k.val % 128 = t.val * 1024 + k.val; omega)

theorem cast_unit {α : Type} (x : S8192x8.Idx → α) (t : Fin 8192) (g : Fin 8) (z : Fin 1) :
    shapeCast S8192x8x1 x shapeCasts_S8192x8_S8192x8x1 (ix3 t g z) = x (ix2 t g) :=
  shapeCast_apply x _ _ _ (by rw [Shape.rowMajor_val_two, Shape.rowMajor_val_three]; show t.val * 8 + g.val = (t.val * 8 + g.val) * 1 + z.val; have := z.isLt; omega)

theorem dot_eq {s1 s2 t : Shape} (D : DotDims s1 s2 t) (x : FVec Ideal s1 .f32) (y : FVec Ideal s2 .f32) (i : t.Idx) :
    (Host.dotGeneral D none x y i : EReal) = matmul D none x y (constant t .f32 0x00000000#32) i := by
  simp only [Host.dotGeneral]
  rw [Ideal.dotGeneral_apply]
  show _ = Ideal.ofBits .f32 0x00000000#32 + _
  rw [ofBits_zero, zero_add]

/-- Arguments whose every entry is a real. -/
structure Reals (x0 : S8192x7168.Idx → EReal) (x1 : S8192x1024.Idx → EReal) (x2 : S31x1024.Idx → EReal) (x3 x4 x5 : S1x1024.Idx → EReal)
    (x6 : S1024x1024.Idx → EReal) (x7 : S1x1024.Idx → EReal) (P : Par) : Prop where
  h0 : ∀ t k, x0 (ix2 t k) = (P.z t k : ℝ)
  h1 : ∀ t k, x1 (ix2 t k) = (P.dc t k : ℝ)
  h2 : ∀ (m : Fin 31) k, x2 (ix2 m k) = (P.cw m.val k : ℝ)
  h3 : ∀ k, x3 (ix2 0 k) = (P.cb k : ℝ)
  h4 : ∀ k, x4 (ix2 0 k) = (P.w.ng k : ℝ)
  h5 : ∀ k, x5 (ix2 0 k) = (P.w.nb k : ℝ)
  h6 : ∀ j k, x6 (ix2 j k) = (P.w.wp j k : ℝ)
  h7 : ∀ k, x7 (ix2 0 k) = (P.w.bp k : ℝ)

section Ref
variable (W : Valuation τ sig (Elt Ideal)) (P : Par)
  (R : Reals (W (Proc.devRef .tc main_arg0)) (W (Proc.devRef .tc main_arg1)) (W (Proc.devRef .tc main_arg2)) (W (Proc.devRef .tc main_arg3))
    (W (Proc.devRef .tc main_arg4)) (W (Proc.devRef .tc main_arg5)) (W (Proc.devRef .tc main_arg6)) (W (Proc.devRef .tc main_arg7)) P)

include R

/-! ## The convolution -/

theorem r0 (t : Fin 8192) (k : Fin 1024) : (res_main_v0 (F := Ideal) W (ix2 t k) : EReal) = ((P.z t (c0 k) : ℝ) : EReal) := by
  unfold res_main_v0
  exact (sl_at 0 0 _ _ _ t k t (c0 k) (Nat.zero_add _).symm (Nat.zero_add _).symm).trans (R.h0 t _)

theorem r7 (t : Fin 8192) (k : Fin 1024) : (res_main_v7 (F := Ideal) W (ix2 t k) : EReal) = ((SG P t k : ℝ) : EReal) := by
  unfold res_main_v7
  exact hlgs_real _ _ _ _ ((sl_at 0 0 _ _ _ t k t (c1 k) (Nat.zero_add _).symm rfl).trans (R.h0 t _))

theorem r13 (n : Fin 8222) (k : Fin 1024) : (res_main_v13 (F := Ideal) W (ix2 n k) : EReal) = ((VP P n.val k : ℝ) : EReal) := by
  unfold res_main_v13
  have hn := n.isLt
  by_cases h : n.val < 30
  · rw [VP_lt P n.val h]
    refine (concatenate_apply_piece (t := S8222x1024) 0 _ _ _ 0 (by simp) S30x1024 (broadcastInDim S30x1024 ![] bcast_S_S30x1024 (constant (F := Ideal) S_ .f32 0x00000000#32)) rfl rfl 0 rfl (ix2 ⟨n.val, h⟩ k)
      (fun b hb => by match b with | ⟨0, _⟩ => exact absurd rfl hb | ⟨1, _⟩ => rfl) (Nat.zero_add _)).trans ?_
    exact cst_real bcast_S_S30x1024 _ 0 (ofBits_zero.trans EReal.coe_zero.symm) _
  · have e : VP P n.val k = V P ⟨n.val - 30, by omega⟩ k := dif_pos ⟨by omega, hn⟩
    rw [e]
    refine (concatenate_apply_piece (t := S8222x1024) 0 _ _ _ 1 (by simp) S8192x1024 (mulf (res_main_v0 W) (res_main_v7 W)) rfl rfl 30 rfl (ix2 ⟨n.val - 30, by omega⟩ k)
      (fun b hb => by match b with | ⟨0, _⟩ => exact absurd rfl hb | ⟨1, _⟩ => rfl) (by show 30 + (n.val - 30) = n.val; omega)).trans ?_
    exact mul_real (r0 W P R _ k) (r7 W P R _ k)

theorem slv (m : ℕ) (hm : m < 31) (off : Fin 2 → ℕ) (h : S8222x1024.Slices off S8192x1024) (e0 : off 0 = m) (e1 : off 1 = 0) (t : Fin 8192) (k : Fin 1024) :
    (extractStridedSlice S8192x1024 off (res_main_v13 (F := Ideal) W) h (ix2 t k) : EReal) = ((VP P (t.val + m) k : ℝ) : EReal) := by
  have ht := t.isLt
  refine (sl_at 0 0 off (res_main_v13 (F := Ideal) W) h t k ⟨t.val + m, by omega⟩ k (by rw [e0]; exact Nat.add_comm _ _) (by rw [e1]; exact (Nat.zero_add _).symm)).trans ?_
  exact r13 W P R _ k

theorem slw (m : ℕ) (hm : m < 31) (off : Fin 2 → ℕ) (h : S31x1024.Slices off S1x1024) (e0 : off 0 = m) (e1 : off 1 = 0) (k : Fin 1024) :
    (extractStridedSlice S1x1024 off (W (Proc.devRef .tc main_arg2) : S31x1024.Idx → EReal) h (ix2 0 k) : EReal) = ((P.cw m k : ℝ) : EReal) :=
  (sl_at 0 0 off _ h 0 k ⟨m, hm⟩ k e0.symm (by rw [e1]; exact (Nat.zero_add _).symm)).trans (R.h2 ⟨m, hm⟩ k)

theorem x0 (t : Fin 8192) (k : Fin 1024) : (res_main_v15 (F := Ideal) W (ix2 t k) : EReal) = ((VP P (t.val + 0) k : ℝ) : EReal) := by
  unfold res_main_v15
  exact slv W P R 0 (by decide) _ _ rfl rfl t k
theorem w0 (t : Fin 8192) (k : Fin 1024) : (broadcastInDim S8192x1024 ![0, 1] bcast_S1x1024_S8192x1024_0_1 (res_main_v16 (F := Ideal) W) (ix2 t k) : EReal) = ((P.cw 0 k : ℝ) : EReal) := by
  unfold res_main_v16
  exact (bc_row _ t k).trans (slw W P R 0 (by decide) _ _ rfl rfl k)
theorem x1 (t : Fin 8192) (k : Fin 1024) : (res_main_v21 (F := Ideal) W (ix2 t k) : EReal) = ((VP P (t.val + 1) k : ℝ) : EReal) := by
  unfold res_main_v21
  exact slv W P R 1 (by decide) _ _ rfl rfl t k
theorem w1 (t : Fin 8192) (k : Fin 1024) : (broadcastInDim S8192x1024 ![0, 1] bcast_S1x1024_S8192x1024_0_1 (res_main_v22 (F := Ideal) W) (ix2 t k) : EReal) = ((P.cw 1 k : ℝ) : EReal) := by
  unfold res_main_v22
  exact (bc_row _ t k).trans (slw W P R 1 (by decide) _ _ rfl rfl k)
theorem x2 (t : Fin 8192) (k : Fin 1024) : (res_main_v26 (F := Ideal) W (ix2 t k) : EReal) = ((VP P (t.val + 2) k : ℝ) : EReal) := by
  unfold res_main_v26
  exact slv W P R 2 (by decide) _ _ rfl rfl t k
theorem w2 (t : Fin 8192) (k : Fin 1024) : (broadcastInDim S8192x1024 ![0, 1] bcast_S1x1024_S8192x1024_0_1 (res_main_v27 (F := Ideal) W) (ix2 t k) : EReal) = ((P.cw 2 k : ℝ) : EReal) := by
  unfold res_main_v27
  exact (bc_row _ t k).trans (slw W P R 2 (by decide) _ _ rfl rfl k)
theorem x3 (t : Fin 8192) (k : Fin 1024) : (res_main_v31 (F := Ideal) W (ix2 t k) : EReal) = ((VP P (t.val + 3) k : ℝ) : EReal) := by
  unfold res_main_v31
  exact slv W P R 3 (by decide) _ _ rfl rfl t k
theorem w3 (t : Fin 8192) (k : Fin 1024) : (broadcastInDim S8192x1024 ![0, 1] bcast_S1x1024_S8192x1024_0_1 (res_main_v32 (F := Ideal) W) (ix2 t k) : EReal) = ((P.cw 3 k : ℝ) : EReal) := by
  unfold res_main_v32
  exact (bc_row _ t k).trans (slw W P R 3 (by decide) _ _ rfl rfl k)
theorem x4 (t : Fin 8192) (k : Fin 1024) : (res_main_v36 (F := Ideal) W (ix2 t k) : EReal) = ((VP P (t.val + 4) k : ℝ) : EReal) := by
  unfold res_main_v36
  exact slv W P R 4 (by decide) _ _ rfl rfl t k
theorem w4 (t : Fin 8192) (k : Fin 1024) : (broadcastInDim S8192x1024 ![0, 1] bcast_S1x1024_S8192x1024_0_1 (res_main_v37 (F := Ideal) W) (ix2 t k) : EReal) = ((P.cw 4 k : ℝ) : EReal) := by
  unfold res_main_v37
  exact (bc_row _ t k).trans (slw W P R 4 (by decide) _ _ rfl rfl k)
theorem x5 (t : Fin 8192) (k : Fin 1024) : (res_main_v41 (F := Ideal) W (ix2 t k) : EReal) = ((VP P (t.val + 5) k : ℝ) : EReal) := by
  unfold res_main_v41
  exact slv W P R 5 (by decide) _ _ rfl rfl t k
theorem w5 (t : Fin 8192) (k : Fin 1024) : (broadcastInDim S8192x1024 ![0, 1] bcast_S1x1024_S8192x1024_0_1 (res_main_v42 (F := Ideal) W) (ix2 t k) : EReal) = ((P.cw 5 k : ℝ) : EReal) := by
  unfold res_main_v42
  exact (bc_row _ t k).trans (slw W P R 5 (by decide) _ _ rfl rfl k)
theorem x6 (t : Fin 8192) (k : Fin 1024) : (res_main_v46 (F := Ideal) W (ix2 t k) : EReal) = ((VP P (t.val + 6) k : ℝ) : EReal) := by
  unfold res_main_v46
  exact slv W P R 6 (by decide) _ _ rfl rfl t k
theorem w6 (t : Fin 8192) (k : Fin 1024) : (broadcastInDim S8192x1024 ![0, 1] bcast_S1x1024_S8192x1024_0_1 (res_main_v47 (F := Ideal) W) (ix2 t k) : EReal) = ((P.cw 6 k : ℝ) : EReal) := by
  unfold res_main_v47
  exact (bc_row _ t k).trans (slw W P R 6 (by decide) _ _ rfl rfl k)
theorem x7 (t : Fin 8192) (k : Fin 1024) : (res_main_v51 (F := Ideal) W (ix2 t k) : EReal) = ((VP P (t.val + 7) k : ℝ) : EReal) := by
  unfold res_main_v51
  exact slv W P R 7 (by decide) _ _ rfl rfl t k
theorem w7 (t : Fin 8192) (k : Fin 1024) : (broadcastInDim S8192x1024 ![0, 1] bcast_S1x1024_S8192x1024_0_1 (res_main_v52 (F := Ideal) W) (ix2 t k) : EReal) = ((P.cw 7 k : ℝ) : EReal) := by
  unfold res_main_v52
  exact (bc_row _ t k).trans (slw W P R 7 (by decide) _ _ rfl rfl k)
theorem x8 (t : Fin 8192) (k : Fin 1024) : (res_main_v56 (F := Ideal) W (ix2 t k) : EReal) = ((VP P (t.val + 8) k : ℝ) : EReal) := by
  unfold res_main_v56
  exact slv W P R 8 (by decide) _ _ rfl rfl t k
theorem w8 (t : Fin 8192) (k : Fin 1024) : (broadcastInDim S8192x1024 ![0, 1] bcast_S1x1024_S8192x1024_0_1 (res_main_v57 (F := Ideal) W) (ix2 t k) : EReal) = ((P.cw 8 k : ℝ) : EReal) := by
  unfold res_main_v57
  exact (bc_row _ t k).trans (slw W P R 8 (by decide) _ _ rfl rfl k)
theorem x9 (t : Fin 8192) (k : Fin 1024) : (res_main_v61 (F := Ideal) W (ix2 t k) : EReal) = ((VP P (t.val + 9) k : ℝ) : EReal) := by
  unfold res_main_v61
  exact slv W P R 9 (by decide) _ _ rfl rfl t k
theorem w9 (t : Fin 8192) (k : Fin 1024) : (broadcastInDim S8192x1024 ![0, 1] bcast_S1x1024_S8192x1024_0_1 (res_main_v62 (F := Ideal) W) (ix2 t k) : EReal) = ((P.cw 9 k : ℝ) : EReal) := by
  unfold res_main_v62
  exact (bc_row _ t k).trans (slw W P R 9 (by decide) _ _ rfl rfl k)
theorem x10 (t : Fin 8192) (k : Fin 1024) : (res_main_v66 (F := Ideal) W (ix2 t k) : EReal) = ((VP P (t.val + 10) k : ℝ) : EReal) := by
  unfold res_main_v66
  exact slv W P R 10 (by decide) _ _ rfl rfl t k
theorem w10 (t : Fin 8192) (k : Fin 1024) : (broadcastInDim S8192x1024 ![0, 1] bcast_S1x1024_S8192x1024_0_1 (res_main_v67 (F := Ideal) W) (ix2 t k) : EReal) = ((P.cw 10 k : ℝ) : EReal) := by
  unfold res_main_v67
  exact (bc_row _ t k).trans (slw W P R 10 (by decide) _ _ rfl rfl k)
theorem x11 (t : Fin 8192) (k : Fin 1024) : (res_main_v71 (F := Ideal) W (ix2 t k) : EReal) = ((VP P (t.val + 11) k : ℝ) : EReal) := by
  unfold res_main_v71
  exact slv W P R 11 (by decide) _ _ rfl rfl t k
theorem w11 (t : Fin 8192) (k : Fin 1024) : (broadcastInDim S8192x1024 ![0, 1] bcast_S1x1024_S8192x1024_0_1 (res_main_v72 (F := Ideal) W) (ix2 t k) : EReal) = ((P.cw 11 k : ℝ) : EReal) := by
  unfold res_main_v72
  exact (bc_row _ t k).trans (slw W P R 11 (by decide) _ _ rfl rfl k)
theorem x12 (t : Fin 8192) (k : Fin 1024) : (res_main_v76 (F := Ideal) W (ix2 t k) : EReal) = ((VP P (t.val + 12) k : ℝ) : EReal) := by
  unfold res_main_v76
  exact slv W P R 12 (by decide) _ _ rfl rfl t k
theorem w12 (t : Fin 8192) (k : Fin 1024) : (broadcastInDim S8192x1024 ![0, 1] bcast_S1x1024_S8192x1024_0_1 (res_main_v77 (F := Ideal) W) (ix2 t k) : EReal) = ((P.cw 12 k : ℝ) : EReal) := by
  unfold res_main_v77
  exact (bc_row _ t k).trans (slw W P R 12 (by decide) _ _ rfl rfl k)
theorem x13 (t : Fin 8192) (k : Fin 1024) : (res_main_v81 (F := Ideal) W (ix2 t k) : EReal) = ((VP P (t.val + 13) k : ℝ) : EReal) := by
  unfold res_main_v81
  exact slv W P R 13 (by decide) _ _ rfl rfl t k
theorem w13 (t : Fin 8192) (k : Fin 1024) : (broadcastInDim S8192x1024 ![0, 1] bcast_S1x1024_S8192x1024_0_1 (res_main_v82 (F := Ideal) W) (ix2 t k) : EReal) = ((P.cw 13 k : ℝ) : EReal) := by
  unfold res_main_v82
  exact (bc_row _ t k).trans (slw W P R 13 (by decide) _ _ rfl rfl k)
theorem x14 (t : Fin 8192) (k : Fin 1024) : (res_main_v86 (F := Ideal) W (ix2 t k) : EReal) = ((VP P (t.val + 14) k : ℝ) : EReal) := by
  unfold res_main_v86
  exact slv W P R 14 (by decide) _ _ rfl rfl t k
theorem w14 (t : Fin 8192) (k : Fin 1024) : (broadcastInDim S8192x1024 ![0, 1] bcast_S1x1024_S8192x1024_0_1 (res_main_v87 (F := Ideal) W) (ix2 t k) : EReal) = ((P.cw 14 k : ℝ) : EReal) := by
  unfold res_main_v87
  exact (bc_row _ t k).trans (slw W P R 14 (by decide) _ _ rfl rfl k)
theorem x15 (t : Fin 8192) (k : Fin 1024) : (res_main_v91 (F := Ideal) W (ix2 t k) : EReal) = ((VP P (t.val + 15) k : ℝ) : EReal) := by
  unfold res_main_v91
  exact slv W P R 15 (by decide) _ _ rfl rfl t k
theorem w15 (t : Fin 8192) (k : Fin 1024) : (broadcastInDim S8192x1024 ![0, 1] bcast_S1x1024_S8192x1024_0_1 (res_main_v92 (F := Ideal) W) (ix2 t k) : EReal) = ((P.cw 15 k : ℝ) : EReal) := by
  unfold res_main_v92
  exact (bc_row _ t k).trans (slw W P R 15 (by decide) _ _ rfl rfl k)
theorem x16 (t : Fin 8192) (k : Fin 1024) : (res_main_v96 (F := Ideal) W (ix2 t k) : EReal) = ((VP P (t.val + 16) k : ℝ) : EReal) := by
  unfold res_main_v96
  exact slv W P R 16 (by decide) _ _ rfl rfl t k
theorem w16 (t : Fin 8192) (k : Fin 1024) : (broadcastInDim S8192x1024 ![0, 1] bcast_S1x1024_S8192x1024_0_1 (res_main_v97 (F := Ideal) W) (ix2 t k) : EReal) = ((P.cw 16 k : ℝ) : EReal) := by
  unfold res_main_v97
  exact (bc_row _ t k).trans (slw W P R 16 (by decide) _ _ rfl rfl k)
theorem x17 (t : Fin 8192) (k : Fin 1024) : (res_main_v101 (F := Ideal) W (ix2 t k) : EReal) = ((VP P (t.val + 17) k : ℝ) : EReal) := by
  unfold res_main_v101
  exact slv W P R 17 (by decide) _ _ rfl rfl t k
theorem w17 (t : Fin 8192) (k : Fin 1024) : (broadcastInDim S8192x1024 ![0, 1] bcast_S1x1024_S8192x1024_0_1 (res_main_v102 (F := Ideal) W) (ix2 t k) : EReal) = ((P.cw 17 k : ℝ) : EReal) := by
  unfold res_main_v102
  exact (bc_row _ t k).trans (slw W P R 17 (by decide) _ _ rfl rfl k)
theorem x18 (t : Fin 8192) (k : Fin 1024) : (res_main_v106 (F := Ideal) W (ix2 t k) : EReal) = ((VP P (t.val + 18) k : ℝ) : EReal) := by
  unfold res_main_v106
  exact slv W P R 18 (by decide) _ _ rfl rfl t k
theorem w18 (t : Fin 8192) (k : Fin 1024) : (broadcastInDim S8192x1024 ![0, 1] bcast_S1x1024_S8192x1024_0_1 (res_main_v107 (F := Ideal) W) (ix2 t k) : EReal) = ((P.cw 18 k : ℝ) : EReal) := by
  unfold res_main_v107
  exact (bc_row _ t k).trans (slw W P R 18 (by decide) _ _ rfl rfl k)
theorem x19 (t : Fin 8192) (k : Fin 1024) : (res_main_v111 (F := Ideal) W (ix2 t k) : EReal) = ((VP P (t.val + 19) k : ℝ) : EReal) := by
  unfold res_main_v111
  exact slv W P R 19 (by decide) _ _ rfl rfl t k
theorem w19 (t : Fin 8192) (k : Fin 1024) : (broadcastInDim S8192x1024 ![0, 1] bcast_S1x1024_S8192x1024_0_1 (res_main_v112 (F := Ideal) W) (ix2 t k) : EReal) = ((P.cw 19 k : ℝ) : EReal) := by
  unfold res_main_v112
  exact (bc_row _ t k).trans (slw W P R 19 (by decide) _ _ rfl rfl k)
theorem x20 (t : Fin 8192) (k : Fin 1024) : (res_main_v116 (F := Ideal) W (ix2 t k) : EReal) = ((VP P (t.val + 20) k : ℝ) : EReal) := by
  unfold res_main_v116
  exact slv W P R 20 (by decide) _ _ rfl rfl t k
theorem w20 (t : Fin 8192) (k : Fin 1024) : (broadcastInDim S8192x1024 ![0, 1] bcast_S1x1024_S8192x1024_0_1 (res_main_v117 (F := Ideal) W) (ix2 t k) : EReal) = ((P.cw 20 k : ℝ) : EReal) := by
  unfold res_main_v117
  exact (bc_row _ t k).trans (slw W P R 20 (by decide) _ _ rfl rfl k)
theorem x21 (t : Fin 8192) (k : Fin 1024) : (res_main_v121 (F := Ideal) W (ix2 t k) : EReal) = ((VP P (t.val + 21) k : ℝ) : EReal) := by
  unfold res_main_v121
  exact slv W P R 21 (by decide) _ _ rfl rfl t k
theorem w21 (t : Fin 8192) (k : Fin 1024) : (broadcastInDim S8192x1024 ![0, 1] bcast_S1x1024_S8192x1024_0_1 (res_main_v122 (F := Ideal) W) (ix2 t k) : EReal) = ((P.cw 21 k : ℝ) : EReal) := by
  unfold res_main_v122
  exact (bc_row _ t k).trans (slw W P R 21 (by decide) _ _ rfl rfl k)
theorem x22 (t : Fin 8192) (k : Fin 1024) : (res_main_v126 (F := Ideal) W (ix2 t k) : EReal) = ((VP P (t.val + 22) k : ℝ) : EReal) := by
  unfold res_main_v126
  exact slv W P R 22 (by decide) _ _ rfl rfl t k
theorem w22 (t : Fin 8192) (k : Fin 1024) : (broadcastInDim S8192x1024 ![0, 1] bcast_S1x1024_S8192x1024_0_1 (res_main_v127 (F := Ideal) W) (ix2 t k) : EReal) = ((P.cw 22 k : ℝ) : EReal) := by
  unfold res_main_v127
  exact (bc_row _ t k).trans (slw W P R 22 (by decide) _ _ rfl rfl k)
theorem x23 (t : Fin 8192) (k : Fin 1024) : (res_main_v131 (F := Ideal) W (ix2 t k) : EReal) = ((VP P (t.val + 23) k : ℝ) : EReal) := by
  unfold res_main_v131
  exact slv W P R 23 (by decide) _ _ rfl rfl t k
theorem w23 (t : Fin 8192) (k : Fin 1024) : (broadcastInDim S8192x1024 ![0, 1] bcast_S1x1024_S8192x1024_0_1 (res_main_v132 (F := Ideal) W) (ix2 t k) : EReal) = ((P.cw 23 k : ℝ) : EReal) := by
  unfold res_main_v132
  exact (bc_row _ t k).trans (slw W P R 23 (by decide) _ _ rfl rfl k)
theorem x24 (t : Fin 8192) (k : Fin 1024) : (res_main_v136 (F := Ideal) W (ix2 t k) : EReal) = ((VP P (t.val + 24) k : ℝ) : EReal) := by
  unfold res_main_v136
  exact slv W P R 24 (by decide) _ _ rfl rfl t k
theorem w24 (t : Fin 8192) (k : Fin 1024) : (broadcastInDim S8192x1024 ![0, 1] bcast_S1x1024_S8192x1024_0_1 (res_main_v137 (F := Ideal) W) (ix2 t k) : EReal) = ((P.cw 24 k : ℝ) : EReal) := by
  unfold res_main_v137
  exact (bc_row _ t k).trans (slw W P R 24 (by decide) _ _ rfl rfl k)
theorem x25 (t : Fin 8192) (k : Fin 1024) : (res_main_v141 (F := Ideal) W (ix2 t k) : EReal) = ((VP P (t.val + 25) k : ℝ) : EReal) := by
  unfold res_main_v141
  exact slv W P R 25 (by decide) _ _ rfl rfl t k
theorem w25 (t : Fin 8192) (k : Fin 1024) : (broadcastInDim S8192x1024 ![0, 1] bcast_S1x1024_S8192x1024_0_1 (res_main_v142 (F := Ideal) W) (ix2 t k) : EReal) = ((P.cw 25 k : ℝ) : EReal) := by
  unfold res_main_v142
  exact (bc_row _ t k).trans (slw W P R 25 (by decide) _ _ rfl rfl k)
theorem x26 (t : Fin 8192) (k : Fin 1024) : (res_main_v146 (F := Ideal) W (ix2 t k) : EReal) = ((VP P (t.val + 26) k : ℝ) : EReal) := by
  unfold res_main_v146
  exact slv W P R 26 (by decide) _ _ rfl rfl t k
theorem w26 (t : Fin 8192) (k : Fin 1024) : (broadcastInDim S8192x1024 ![0, 1] bcast_S1x1024_S8192x1024_0_1 (res_main_v147 (F := Ideal) W) (ix2 t k) : EReal) = ((P.cw 26 k : ℝ) : EReal) := by
  unfold res_main_v147
  exact (bc_row _ t k).trans (slw W P R 26 (by decide) _ _ rfl rfl k)
theorem x27 (t : Fin 8192) (k : Fin 1024) : (res_main_v151 (F := Ideal) W (ix2 t k) : EReal) = ((VP P (t.val + 27) k : ℝ) : EReal) := by
  unfold res_main_v151
  exact slv W P R 27 (by decide) _ _ rfl rfl t k
theorem w27 (t : Fin 8192) (k : Fin 1024) : (broadcastInDim S8192x1024 ![0, 1] bcast_S1x1024_S8192x1024_0_1 (res_main_v152 (F := Ideal) W) (ix2 t k) : EReal) = ((P.cw 27 k : ℝ) : EReal) := by
  unfold res_main_v152
  exact (bc_row _ t k).trans (slw W P R 27 (by decide) _ _ rfl rfl k)
theorem x28 (t : Fin 8192) (k : Fin 1024) : (res_main_v156 (F := Ideal) W (ix2 t k) : EReal) = ((VP P (t.val + 28) k : ℝ) : EReal) := by
  unfold res_main_v156
  exact slv W P R 28 (by decide) _ _ rfl rfl t k
theorem w28 (t : Fin 8192) (k : Fin 1024) : (broadcastInDim S8192x1024 ![0, 1] bcast_S1x1024_S8192x1024_0_1 (res_main_v157 (F := Ideal) W) (ix2 t k) : EReal) = ((P.cw 28 k : ℝ) : EReal) := by
  unfold res_main_v157
  exact (bc_row _ t k).trans (slw W P R 28 (by decide) _ _ rfl rfl k)
theorem x29 (t : Fin 8192) (k : Fin 1024) : (res_main_v161 (F := Ideal) W (ix2 t k) : EReal) = ((VP P (t.val + 29) k : ℝ) : EReal) := by
  unfold res_main_v161
  exact slv W P R 29 (by decide) _ _ rfl rfl t k
theorem w29 (t : Fin 8192) (k : Fin 1024) : (broadcastInDim S8192x1024 ![0, 1] bcast_S1x1024_S8192x1024_0_1 (res_main_v162 (F := Ideal) W) (ix2 t k) : EReal) = ((P.cw 29 k : ℝ) : EReal) := by
  unfold res_main_v162
  exact (bc_row _ t k).trans (slw W P R 29 (by decide) _ _ rfl rfl k)
theorem x30 (t : Fin 8192) (k : Fin 1024) : (res_main_v166 (F := Ideal) W (ix2 t k) : EReal) = ((VP P (t.val + 30) k : ℝ) : EReal) := by
  unfold res_main_v166
  exact slv W P R 30 (by decide) _ _ rfl rfl t k
theorem w30 (t : Fin 8192) (k : Fin 1024) : (broadcastInDim S8192x1024 ![0, 1] bcast_S1x1024_S8192x1024_0_1 (res_main_v167 (F := Ideal) W) (ix2 t k) : EReal) = ((P.cw 30 k : ℝ) : EReal) := by
  unfold res_main_v167
  exact (bc_row _ t k).trans (slw W P R 30 (by decide) _ _ rfl rfl k)

theorem r173 (t : Fin 8192) (g : Fin 8) (j : Fin 128) : (res_main_v173 (F := Ideal) W (ix3 t g j) : EReal) = ((grp (A P t).y g j : ℝ) : EReal) := by
  unfold res_main_v173
  refine (cast3 _ t g j).trans ?_
  show _ = ((Y P t (at_ g j) : ℝ) : EReal)
  generalize at_ g j = k
  unfold Y
  simp only [Finset.sum_range_succ, Finset.sum_range_zero]
  refine add_real ?_ ((bc_row _ t k).trans (R.h3 k))
  refine add_real ?_ (mul_real (x30 W P R t k) (w30 W P R t k))
  refine add_real ?_ (mul_real (x29 W P R t k) (w29 W P R t k))
  refine add_real ?_ (mul_real (x28 W P R t k) (w28 W P R t k))
  refine add_real ?_ (mul_real (x27 W P R t k) (w27 W P R t k))
  refine add_real ?_ (mul_real (x26 W P R t k) (w26 W P R t k))
  refine add_real ?_ (mul_real (x25 W P R t k) (w25 W P R t k))
  refine add_real ?_ (mul_real (x24 W P R t k) (w24 W P R t k))
  refine add_real ?_ (mul_real (x23 W P R t k) (w23 W P R t k))
  refine add_real ?_ (mul_real (x22 W P R t k) (w22 W P R t k))
  refine add_real ?_ (mul_real (x21 W P R t k) (w21 W P R t k))
  refine add_real ?_ (mul_real (x20 W P R t k) (w20 W P R t k))
  refine add_real ?_ (mul_real (x19 W P R t k) (w19 W P R t k))
  refine add_real ?_ (mul_real (x18 W P R t k) (w18 W P R t k))
  refine add_real ?_ (mul_real (x17 W P R t k) (w17 W P R t k))
  refine add_real ?_ (mul_real (x16 W P R t k) (w16 W P R t k))
  refine add_real ?_ (mul_real (x15 W P R t k) (w15 W P R t k))
  refine add_real ?_ (mul_real (x14 W P R t k) (w14 W P R t k))
  refine add_real ?_ (mul_real (x13 W P R t k) (w13 W P R t k))
  refine add_real ?_ (mul_real (x12 W P R t k) (w12 W P R t k))
  refine add_real ?_ (mul_real (x11 W P R t k) (w11 W P R t k))
  refine add_real ?_ (mul_real (x10 W P R t k) (w10 W P R t k))
  refine add_real ?_ (mul_real (x9 W P R t k) (w9 W P R t k))
  refine add_real ?_ (mul_real (x8 W P R t k) (w8 W P R t k))
  refine add_real ?_ (mul_real (x7 W P R t k) (w7 W P R t k))
  refine add_real ?_ (mul_real (x6 W P R t k) (w6 W P R t k))
  refine add_real ?_ (mul_real (x5 W P R t k) (w5 W P R t k))
  refine add_real ?_ (mul_real (x4 W P R t k) (w4 W P R t k))
  refine add_real ?_ (mul_real (x3 W P R t k) (w3 W P R t k))
  refine add_real ?_ (mul_real (x2 W P R t k) (w2 W P R t k))
  refine add_real ?_ (mul_real (x1 W P R t k) (w1 W P R t k))
  refine add_real ?_ (mul_real (x0 W P R t k) (w0 W P R t k))
  exact cst_real bcast_S_S8192x1024 _ 0 (ofBits_zero.trans EReal.coe_zero.symm) _

/-! ## The norm -/

theorem r177 (t : Fin 8192) (g : Fin 8) (z : Fin 1) : (res_main_v177 (F := Ideal) W (ix3 t g z) : EReal) = ((gmean (grp (A P t).y g) : ℝ) : EReal) := by
  unfold res_main_v177
  exact hdiv_real ((bc_unit _ t g z).trans (red_lanes _ _ t g (r173 W P R t g))) (cst_real _ _ 128 Cert.ConvTile.ofBits_128 _) (by norm_num)

theorem r179 (t : Fin 8192) (g : Fin 8) (j : Fin 128) : (res_main_v179 (F := Ideal) W (ix3 t g j) : EReal) = ((gcen (grp (A P t).y g) j : ℝ) : EReal) := by
  unfold res_main_v179
  exact sub_real (r173 W P R t g j) ((bc_lanes _ t g j).trans (r177 W P R t g 0))

theorem r188 (t : Fin 8192) (g : Fin 8) (j : Fin 128) : (res_main_v188 (F := Ideal) W (ix3 t g j) : EReal) = ((gcen (grp (A P t).y g) j : ℝ) : EReal) := by
  unfold res_main_v188
  exact sub_real (r173 W P R t g j) ((bc_lanes _ t g j).trans (r177 W P R t g 0))

theorem r190 (t : Fin 8192) (g : Fin 8) (z : Fin 1) : (res_main_v190 (F := Ideal) W (ix3 t g z) : EReal) = ((gvar (grp (A P t).y g) : ℝ) : EReal) := by
  unfold res_main_v190
  refine add_real (hdiv_real ((bc_unit _ t g z).trans (red_lanes _ (fun j => gcen (grp (A P t).y g) j * gcen (grp (A P t).y g) j) t g fun j => ?_)) (cst_real _ _ 128 Cert.ConvTile.ofBits_128 _) (by norm_num)) (cst_real _ _ eps ofBits_eps _)
  exact mul_real (r179 W P R t g j) (r179 W P R t g j)

theorem r191 (t : Fin 8192) (g : Fin 8) (z : Fin 1) : (res_main_v191 (F := Ideal) W (ix3 t g z) : EReal) = ((ginv (grp (A P t).y g) : ℝ) : EReal) := by
  unfold res_main_v191
  show Ideal.rsqrt (res_main_v190 (F := Ideal) W (ix3 t g z)) = _
  rw [r190 W P R]
  exact rsqrt_real _ (gvar_pos _)

theorem r197 (t : Fin 8192) (k : Fin 1024) : (res_main_v197 (F := Ideal) W (ix2 t k) : EReal) = ((YN (A P t) k : ℝ) : EReal) := by
  unfold res_main_v197
  exact (cast2 _ t k).trans (mul_real (r188 W P R t _ _) ((bc_lanes _ t _ _).trans (r191 W P R t _ 0)))

theorem r201 (t : Fin 8192) (k : Fin 1024) : (res_main_v201 (F := Ideal) W (ix2 t k) : EReal) = ((AP P.w (A P t) k : ℝ) : EReal) := by
  unfold res_main_v201
  exact add_real (mul_real (r197 W P R t k) ((bc_row _ t k).trans (R.h4 k))) ((bc_row _ t k).trans (R.h5 k))

theorem r207 (t : Fin 8192) (k : Fin 1024) : (res_main_v207 (F := Ideal) W (ix2 t k) : EReal) = ((SA P.w (A P t) k : ℝ) : EReal) := by
  unfold res_main_v207
  exact hlgs_real _ _ _ _ (r201 W P R t k)

theorem r211 (t : Fin 8192) (k : Fin 1024) : (res_main_v211 (F := Ideal) W (ix2 t k) : EReal) = ((AA P.w (A P t) k : ℝ) : EReal) := by
  unfold res_main_v211
  exact mul_real (r201 W P R t k) (r207 W P R t k)

theorem r214 (t : Fin 8192) (k : Fin 1024) : (res_main_v214 (F := Ideal) W (ix2 t k) : EReal) = ((Y2 P.w (A P t) k : ℝ) : EReal) := by
  unfold res_main_v214
  refine add_real ((dot_eq _ _ _ _).trans ?_) ((bc_row _ t k).trans (R.h7 k))
  exact nn_real _ rfl rfl rfl rfl rfl rfl _ _ t k (AA P.w (A P t)) (fun j => P.w.wp j k) (r211 W P R t) (fun j => R.h6 j k)

/-! ## The gate -/

theorem r215 (t : Fin 8192) (k : Fin 1024) : (res_main_v215 (F := Ideal) W (ix2 t k) : EReal) = (((A P t).ct k : ℝ) : EReal) := by
  unfold res_main_v215
  exact (sl_at 0 0 _ _ _ t k t (c2 k) (Nat.zero_add _).symm rfl).trans (R.h0 t _)

theorem r221 (t : Fin 8192) (k : Fin 1024) : (res_main_v221 (F := Ideal) W (ix2 t k) : EReal) = ((ST (A P t) k : ℝ) : EReal) := by
  unfold res_main_v221
  exact hlgs_real _ _ _ _ (r215 W P R t k)

theorem r227 (t : Fin 8192) (k : Fin 1024) : (res_main_v227 (F := Ideal) W (ix2 t k) : EReal) = ((Y2 P.w (A P t) k * P.dc t k : ℝ) : EReal) := by
  unfold res_main_v227
  exact mul_real (r214 W P R t k) (R.h1 t k)

theorem r228 (t : Fin 8192) (k : Fin 1024) : (res_main_v228 (F := Ideal) W (ix2 t k) : EReal) = ((DY2 (A P t) k : ℝ) : EReal) := by
  unfold res_main_v228 res_main_v225
  exact mul_real (R.h1 t k) (mul_real (r215 W P R t k) (r221 W P R t k))

theorem r235 (t : Fin 8192) (k : Fin 1024) : (res_main_v235 (F := Ideal) W (ix2 t k) : EReal) = ((∑ j, DY2 (A P t) j * P.w.wp k j : ℝ) : EReal) := by
  unfold res_main_v235
  exact (dot_eq _ _ _ _).trans (nt_real _ rfl rfl rfl rfl rfl rfl _ _ t k (DY2 (A P t)) (fun j => P.w.wp k j) (r228 W P R t) (fun j => R.h6 k j))

theorem r239 (t : Fin 8192) (k : Fin 1024) : (res_main_v239 (F := Ideal) W (ix2 t k) : EReal) = ((DAP P.w (A P t) k : ℝ) : EReal) := by
  unfold res_main_v239
  refine (add_real (mul_real (r235 W P R t k) (r207 W P R t k)) (mul_real (mul_real (r201 W P R t k) (r235 W P R t k))
    (mul_real (r207 W P R t k) (sub_real (cst_real _ _ 1 ofBits_one _) (r207 W P R t k))))).trans ?_
  unfold DAP
  congr 1
  ring

/-! ## The gradient of the norm -/

theorem r247 (t : Fin 8192) (g : Fin 8) (j : Fin 128) : (res_main_v247 (F := Ideal) W (ix3 t g j) : EReal) = ((grp (DYN P.w (A P t)) g j : ℝ) : EReal) := by
  unfold res_main_v247
  exact (cast3 _ t g j).trans (mul_real (r239 W P R t _) ((bc_row _ t _).trans (R.h4 _)))

theorem r252 (t : Fin 8192) (g : Fin 8) (j : Fin 128) : (res_main_v252 (F := Ideal) W (ix3 t g j) : EReal) = ((grp (DYN P.w (A P t)) g j * ginv (grp (A P t).y g) : ℝ) : EReal) := by
  unfold res_main_v252
  exact mul_real (r247 W P R t g j) ((bc_lanes _ t g j).trans (r191 W P R t g 0))

theorem r261 (t : Fin 8192) (g : Fin 8) (j : Fin 128) :
    (res_main_v261 (F := Ideal) W (ix3 t g j) : EReal) = ((gsl (grp (A P t).y g) (grp (DYN P.w (A P t)) g) * (2 * gcen (grp (A P t).y g) j) : ℝ) : EReal) := by
  unfold res_main_v261
  refine mul_real ((bc_lanes2 _ t g j).trans (red_unit _ _ t g (hdiv_real (mul_real ((cast_unit _ t g 0).trans (red_lanes _ (fun j => gcen (grp (A P t).y g) j * grp (DYN P.w (A P t)) g j) t g fun j => ?_))
    (mul_real (cst_real _ _ (-(1 / 2)) ofBits_neg_half _) (hdiv_real (r191 W P R t g 0) (r190 W P R t g 0) (gvar_pos _).ne'))) (cst_real _ _ 128 Cert.ConvTile.ofBits_128 _) (by norm_num))))
    (mul_real (cst_real _ _ 2 ofBits_two _) (r179 W P R t g j))
  exact mul_real (r188 W P R t g j) (r247 W P R t g j)

theorem r272 (t : Fin 8192) (k : Fin 1024) : (res_main_v272 (F := Ideal) W (ix2 t k) : EReal) = ((DY1 P.w (A P t) k : ℝ) : EReal) := by
  unfold res_main_v272
  refine (cast2 _ t k).trans ?_
  unfold DY1
  rw [← gdx_eq]
  refine add_real (add_real (r252 W P R t _ _) (r261 W P R t _ _)) ((bc_lanes2 _ t _ _).trans (red_unit _ _ t _ (hdiv_real (add_real
    ((cast_unit _ t _ 0).trans (red_lanes _ _ t _ fun j => hneg_real (r252 W P R t _ j))) ((cast_unit _ t _ 0).trans (red_lanes _ _ t _ fun j => hneg_real (r261 W P R t _ j))))
    (cst_real _ _ 128 Cert.ConvTile.ofBits_128 _) (by norm_num))))

/-! ## The gradient of the convolution's operand -/

theorem padv (m : ℕ) (hm : m < 31) (lo hi : Fin 2 → ℕ) (x : FVec Ideal S8192x1024 .f32) (h : S8192x1024.Pads lo hi ![0, 0] S8222x1024) (e0 : lo 0 = m) (e1 : lo 1 = 0)
    (k : Fin 1024) (b : ℝ) (hx : ∀ t, (x (ix2 t k) : EReal) = (b : ℝ)) (t : Fin 8192) (n : Fin 8222) (hn : n.val = 30 + t.val) :
    (pad S8222x1024 lo hi ![0, 0] (mulf (res_main_v272 (F := Ideal) W) x) (constant (F := Ideal) S_ .f32 0x00000000#32) h h_S_ (ix2 n k) : EReal)
      = ((D1 P (t.val + (30 - m)) k * b : ℝ) : EReal) := by
  have ht := t.isLt
  by_cases hb : t.val + (30 - m) < 8192
  · have e : D1 P (t.val + (30 - m)) k = DY1 P.w (A P ⟨t.val + (30 - m), hb⟩) k := dif_pos hb
    rw [e]
    refine (pad_apply_of_inside lo hi ![0, 0] _ _ h h_S_ _ (ix2 ⟨t.val + (30 - m), hb⟩ k) fun a => ?_).trans (mul_real (r272 W P R _ k) (hx _))
    match a with
    | ⟨0, _⟩ => show n.val = lo 0 + (t.val + (30 - m)) * (0 + 1); omega
    | ⟨1, _⟩ => show k.val = lo 1 + k.val * (0 + 1); omega
  · rw [D1_ge P _ (by omega), zero_mul, EReal.coe_zero]
    refine Eq.trans (pad_apply_of_not_inside (s := S8192x1024) (t := S8222x1024) lo hi ![0, 0] _ _ h h_S_ _ (0 : Fin 2) ?_) ?_
    rotate_left
    · exact ofBits_zero
    show ¬(lo 0 ≤ n.val ∧ (n.val - lo 0) % (0 + 1) = 0 ∧ (n.val - lo 0) / (0 + 1) < 8192)
    rw [e0, zero_add, Nat.div_one]
    omega

theorem r553 (t : Fin 8192) (k : Fin 1024) : (res_main_v553 (F := Ideal) W (ix2 t k) : EReal) = ((DV P t k : ℝ) : EReal) := by
  unfold res_main_v553
  have hn : (30 + t.val) < 8222 := by have := t.isLt; omega
  refine (sl_at 0 0 _ _ _ t k ⟨30 + t.val, hn⟩ k rfl (Nat.zero_add _).symm).trans ?_
  unfold res_main_v551 res_main_v434 DV
  simp only [Finset.sum_range_succ, Finset.sum_range_zero, zero_add]
  refine add_real ?_ (padv W P R 0 (by decide) _ _ _ _ rfl rfl k (P.cw 0 k) (fun t => w0 W P R t k) t _ rfl)
  refine add_real ?_ (padv W P R 1 (by decide) _ _ _ _ rfl rfl k (P.cw 1 k) (fun t => w1 W P R t k) t _ rfl)
  refine add_real ?_ (padv W P R 2 (by decide) _ _ _ _ rfl rfl k (P.cw 2 k) (fun t => w2 W P R t k) t _ rfl)
  refine add_real ?_ (padv W P R 3 (by decide) _ _ _ _ rfl rfl k (P.cw 3 k) (fun t => w3 W P R t k) t _ rfl)
  refine add_real ?_ (padv W P R 4 (by decide) _ _ _ _ rfl rfl k (P.cw 4 k) (fun t => w4 W P R t k) t _ rfl)
  refine add_real ?_ (padv W P R 5 (by decide) _ _ _ _ rfl rfl k (P.cw 5 k) (fun t => w5 W P R t k) t _ rfl)
  refine add_real ?_ (padv W P R 6 (by decide) _ _ _ _ rfl rfl k (P.cw 6 k) (fun t => w6 W P R t k) t _ rfl)
  refine add_real ?_ (padv W P R 7 (by decide) _ _ _ _ rfl rfl k (P.cw 7 k) (fun t => w7 W P R t k) t _ rfl)
  refine add_real ?_ (padv W P R 8 (by decide) _ _ _ _ rfl rfl k (P.cw 8 k) (fun t => w8 W P R t k) t _ rfl)
  refine add_real ?_ (padv W P R 9 (by decide) _ _ _ _ rfl rfl k (P.cw 9 k) (fun t => w9 W P R t k) t _ rfl)
  refine add_real ?_ (padv W P R 10 (by decide) _ _ _ _ rfl rfl k (P.cw 10 k) (fun t => w10 W P R t k) t _ rfl)
  refine add_real ?_ (padv W P R 11 (by decide) _ _ _ _ rfl rfl k (P.cw 11 k) (fun t => w11 W P R t k) t _ rfl)
  refine add_real ?_ (padv W P R 12 (by decide) _ _ _ _ rfl rfl k (P.cw 12 k) (fun t => w12 W P R t k) t _ rfl)
  refine add_real ?_ (padv W P R 13 (by decide) _ _ _ _ rfl rfl k (P.cw 13 k) (fun t => w13 W P R t k) t _ rfl)
  refine add_real ?_ (padv W P R 14 (by decide) _ _ _ _ rfl rfl k (P.cw 14 k) (fun t => w14 W P R t k) t _ rfl)
  refine add_real ?_ (padv W P R 15 (by decide) _ _ _ _ rfl rfl k (P.cw 15 k) (fun t => w15 W P R t k) t _ rfl)
  refine add_real ?_ (padv W P R 16 (by decide) _ _ _ _ rfl rfl k (P.cw 16 k) (fun t => w16 W P R t k) t _ rfl)
  refine add_real ?_ (padv W P R 17 (by decide) _ _ _ _ rfl rfl k (P.cw 17 k) (fun t => w17 W P R t k) t _ rfl)
  refine add_real ?_ (padv W P R 18 (by decide) _ _ _ _ rfl rfl k (P.cw 18 k) (fun t => w18 W P R t k) t _ rfl)
  refine add_real ?_ (padv W P R 19 (by decide) _ _ _ _ rfl rfl k (P.cw 19 k) (fun t => w19 W P R t k) t _ rfl)
  refine add_real ?_ (padv W P R 20 (by decide) _ _ _ _ rfl rfl k (P.cw 20 k) (fun t => w20 W P R t k) t _ rfl)
  refine add_real ?_ (padv W P R 21 (by decide) _ _ _ _ rfl rfl k (P.cw 21 k) (fun t => w21 W P R t k) t _ rfl)
  refine add_real ?_ (padv W P R 22 (by decide) _ _ _ _ rfl rfl k (P.cw 22 k) (fun t => w22 W P R t k) t _ rfl)
  refine add_real ?_ (padv W P R 23 (by decide) _ _ _ _ rfl rfl k (P.cw 23 k) (fun t => w23 W P R t k) t _ rfl)
  refine add_real ?_ (padv W P R 24 (by decide) _ _ _ _ rfl rfl k (P.cw 24 k) (fun t => w24 W P R t k) t _ rfl)
  refine add_real ?_ (padv W P R 25 (by decide) _ _ _ _ rfl rfl k (P.cw 25 k) (fun t => w25 W P R t k) t _ rfl)
  refine add_real ?_ (padv W P R 26 (by decide) _ _ _ _ rfl rfl k (P.cw 26 k) (fun t => w26 W P R t k) t _ rfl)
  refine add_real ?_ (padv W P R 27 (by decide) _ _ _ _ rfl rfl k (P.cw 27 k) (fun t => w27 W P R t k) t _ rfl)
  refine add_real ?_ (padv W P R 28 (by decide) _ _ _ _ rfl rfl k (P.cw 28 k) (fun t => w28 W P R t k) t _ rfl)
  refine add_real ?_ (padv W P R 29 (by decide) _ _ _ _ rfl rfl k (P.cw 29 k) (fun t => w29 W P R t k) t _ rfl)
  exact padv W P R 30 (by decide) _ _ _ _ rfl rfl k (P.cw 30 k) (fun t => w30 W P R t k) t _ rfl

/-! ## The gradient of the kernel -/

theorem padw (m : ℕ) (lo hi : Fin 2 → ℕ) (x : FVec Ideal S8192x1024 .f32) (h : S1x1024.Pads lo hi ![0, 0] S31x1024) (e0 : lo 0 = m) (e1 : lo 1 = 0)
    (k : Fin 1024) (hx : ∀ t, (x (ix2 t k) : EReal) = (VP P (t.val + m) k : ℝ)) (hm : m < 31) (q : Fin 31) :
    (pad S31x1024 lo hi ![0, 0] (shapeCast S1x1024 (Host.reduceAdd (mulf x (res_main_v272 (F := Ideal) W)) (constant (F := Ideal) S_ .f32 0x00000000#32) reducesTo_S8192x1024_S1024_d0 h_S_) shapeCasts_S1024_S1x1024)
      (constant (F := Ideal) S_ .f32 0x00000000#32) h h_S_ (ix2 q k) : EReal) = ((if q.val = m then GW P m k else 0 : ℝ) : EReal) := by
  by_cases hb : q.val = m
  · rw [if_pos hb, GW, if_pos hm]
    refine (pad_apply_of_inside lo hi ![0, 0] _ _ h h_S_ _ (ix2 0 k) fun a => ?_).trans (red_rows _ _ k (fun t => mul_real (hx t) (r272 W P R t k)) 0)
    match a with
    | ⟨0, _⟩ => show q.val = lo 0 + 0 * (0 + 1); omega
    | ⟨1, _⟩ => show k.val = lo 1 + k.val * (0 + 1); omega
  · rw [if_neg hb, EReal.coe_zero]
    refine Eq.trans (pad_apply_of_not_inside (s := S1x1024) (t := S31x1024) lo hi ![0, 0] _ _ h h_S_ _ (0 : Fin 2) ?_) ?_
    rotate_left
    · exact ofBits_zero
    show ¬(lo 0 ≤ q.val ∧ (q.val - lo 0) % (0 + 1) = 0 ∧ (q.val - lo 0) / (0 + 1) < 1)
    rw [e0, zero_add, Nat.div_one]
    omega

/-- The gradient of the kernel, before its last row of zeros. -/
def G31 (W : Valuation τ sig (Elt Ideal)) : S31x1024.Idx → EReal :=
  addf (F := Ideal) (addf (res_main_v531 W) (pad S31x1024 ![1, 0] ![29, 0] ![0, 0] (shapeCast _ (Host.reduceAdd (mulf (res_main_v21 W) (res_main_v272 W)) (constant S_ .f32 0x00000000#32) reducesTo_S8192x1024_S1024_d0 h_S_) shapeCasts_S1024_S1x1024) (constant S_ .f32 0x00000000#32) pads_S1x1024_S31x1024_1290_000 h_S_)) (pad S31x1024 ![0, 0] ![30, 0] ![0, 0] (shapeCast _ (Host.reduceAdd (mulf (res_main_v15 W) (res_main_v272 W)) (constant S_ .f32 0x00000000#32) reducesTo_S8192x1024_S1024_d0 h_S_) shapeCasts_S1024_S1x1024) (constant S_ .f32 0x00000000#32) pads_S1x1024_S31x1024_0300_000 h_S_)

theorem g31_sum (q : Fin 31) (k : Fin 1024) : (G31 W (ix2 q k) : EReal) = ((∑ j ∈ Finset.range 31, if q.val = 30 - j then GW P (30 - j) k else 0 : ℝ) : EReal) := by
  unfold G31 res_main_v531 res_main_v405
  simp only [Finset.sum_range_succ, Finset.sum_range_zero, zero_add]
  refine add_real ?_ (padw W P R 0 _ _ _ _ rfl rfl k (fun t => x0 W P R t k) (by decide) q)
  refine add_real ?_ (padw W P R 1 _ _ _ _ rfl rfl k (fun t => x1 W P R t k) (by decide) q)
  refine add_real ?_ (padw W P R 2 _ _ _ _ rfl rfl k (fun t => x2 W P R t k) (by decide) q)
  refine add_real ?_ (padw W P R 3 _ _ _ _ rfl rfl k (fun t => x3 W P R t k) (by decide) q)
  refine add_real ?_ (padw W P R 4 _ _ _ _ rfl rfl k (fun t => x4 W P R t k) (by decide) q)
  refine add_real ?_ (padw W P R 5 _ _ _ _ rfl rfl k (fun t => x5 W P R t k) (by decide) q)
  refine add_real ?_ (padw W P R 6 _ _ _ _ rfl rfl k (fun t => x6 W P R t k) (by decide) q)
  refine add_real ?_ (padw W P R 7 _ _ _ _ rfl rfl k (fun t => x7 W P R t k) (by decide) q)
  refine add_real ?_ (padw W P R 8 _ _ _ _ rfl rfl k (fun t => x8 W P R t k) (by decide) q)
  refine add_real ?_ (padw W P R 9 _ _ _ _ rfl rfl k (fun t => x9 W P R t k) (by decide) q)
  refine add_real ?_ (padw W P R 10 _ _ _ _ rfl rfl k (fun t => x10 W P R t k) (by decide) q)
  refine add_real ?_ (padw W P R 11 _ _ _ _ rfl rfl k (fun t => x11 W P R t k) (by decide) q)
  refine add_real ?_ (padw W P R 12 _ _ _ _ rfl rfl k (fun t => x12 W P R t k) (by decide) q)
  refine add_real ?_ (padw W P R 13 _ _ _ _ rfl rfl k (fun t => x13 W P R t k) (by decide) q)
  refine add_real ?_ (padw W P R 14 _ _ _ _ rfl rfl k (fun t => x14 W P R t k) (by decide) q)
  refine add_real ?_ (padw W P R 15 _ _ _ _ rfl rfl k (fun t => x15 W P R t k) (by decide) q)
  refine add_real ?_ (padw W P R 16 _ _ _ _ rfl rfl k (fun t => x16 W P R t k) (by decide) q)
  refine add_real ?_ (padw W P R 17 _ _ _ _ rfl rfl k (fun t => x17 W P R t k) (by decide) q)
  refine add_real ?_ (padw W P R 18 _ _ _ _ rfl rfl k (fun t => x18 W P R t k) (by decide) q)
  refine add_real ?_ (padw W P R 19 _ _ _ _ rfl rfl k (fun t => x19 W P R t k) (by decide) q)
  refine add_real ?_ (padw W P R 20 _ _ _ _ rfl rfl k (fun t => x20 W P R t k) (by decide) q)
  refine add_real ?_ (padw W P R 21 _ _ _ _ rfl rfl k (fun t => x21 W P R t k) (by decide) q)
  refine add_real ?_ (padw W P R 22 _ _ _ _ rfl rfl k (fun t => x22 W P R t k) (by decide) q)
  refine add_real ?_ (padw W P R 23 _ _ _ _ rfl rfl k (fun t => x23 W P R t k) (by decide) q)
  refine add_real ?_ (padw W P R 24 _ _ _ _ rfl rfl k (fun t => x24 W P R t k) (by decide) q)
  refine add_real ?_ (padw W P R 25 _ _ _ _ rfl rfl k (fun t => x25 W P R t k) (by decide) q)
  refine add_real ?_ (padw W P R 26 _ _ _ _ rfl rfl k (fun t => x26 W P R t k) (by decide) q)
  refine add_real ?_ (padw W P R 27 _ _ _ _ rfl rfl k (fun t => x27 W P R t k) (by decide) q)
  refine add_real ?_ (padw W P R 28 _ _ _ _ rfl rfl k (fun t => x28 W P R t k) (by decide) q)
  refine add_real ?_ (padw W P R 29 _ _ _ _ rfl rfl k (fun t => x29 W P R t k) (by decide) q)
  exact padw W P R 30 _ _ _ _ rfl rfl k (fun t => x30 W P R t k) (by decide) q

theorem g31 (q : Fin 31) (k : Fin 1024) : (G31 W (ix2 q k) : EReal) = ((GW P q.val k : ℝ) : EReal) := by
  rw [g31_sum W P R q k]
  congr 1
  have hq := q.isLt
  rw [Finset.sum_eq_single (30 - q.val)]
  · rw [if_pos (by omega)]
    congr 1
    omega
  · intro j hj hne
    have := Finset.mem_range.mp hj
    rw [if_neg (by omega)]
  · intro h
    exact absurd (Finset.mem_range.mpr (by omega)) h

/-! ## The results -/

omit R in
theorem z_real (i : S3x8192x1024.Idx) (x0 x1 x2 : FVec Ideal S8192x1024 .f32) (f : ℕ → ℝ)
    (h0 : (x0 (ix2 (i 1) (i 2)) : EReal) = (f 0 : ℝ)) (h1 : (x1 (ix2 (i 1) (i 2)) : EReal) = (f 1 : ℝ)) (h2 : (x2 (ix2 (i 1) (i 2)) : EReal) = (f 2 : ℝ)) :
    (concatenate S3x8192x1024 0 [⟨S1x8192x1024, ((broadcastInDim S1x8192x1024 ![1, 2] bcast_S8192x1024_S1x8192x1024_1_2 x0) : (⟨S1x8192x1024, .f32⟩ : BufTy).Contents (Elt Ideal))⟩,
      ⟨S1x8192x1024, ((broadcastInDim S1x8192x1024 ![1, 2] bcast_S8192x1024_S1x8192x1024_1_2 x1) : (⟨S1x8192x1024, .f32⟩ : BufTy).Contents (Elt Ideal))⟩,
      ⟨S1x8192x1024, ((broadcastInDim S1x8192x1024 ![1, 2] bcast_S8192x1024_S1x8192x1024_1_2 x2) : (⟨S1x8192x1024, .f32⟩ : BufTy).Contents (Elt Ideal))⟩]
      concatenates_S1x8192x1024_S1x8192x1024_S1x8192x1024_S3x8192x1024_d0 i : EReal) = ((f (i 0).val : ℝ) : EReal) := by
  obtain ⟨z, t, k, hj⟩ : ∃ (z : Fin 3) (t : Fin 8192) (k : Fin 1024), i = ix3 z t k := ⟨i 0, i 1, i 2, eq_ix3 i⟩
  subst hj
  have hb : ∀ x : FVec Ideal S8192x1024 .f32, broadcastInDim S1x8192x1024 ![1, 2] bcast_S8192x1024_S1x8192x1024_1_2 x (ix3 0 t k) = x (ix2 t k) := fun x =>
    broadcastInDim_apply _ _ x _ (ix2 t k) fun a => by match a with | ⟨0, _⟩ => rfl | ⟨1, _⟩ => rfl
  match z with
  | ⟨0, _⟩ =>
    refine (concatenate_apply_piece (t := S3x8192x1024) 0 _ _ _ 0 (by simp) S1x8192x1024 (broadcastInDim S1x8192x1024 ![1, 2] bcast_S8192x1024_S1x8192x1024_1_2 x0) rfl rfl 0 rfl (ix3 0 t k)
      (fun b hb => by match b with | ⟨0, _⟩ => exact absurd rfl hb | ⟨1, _⟩ => rfl | ⟨2, _⟩ => rfl) rfl).trans ?_
    exact (hb x0).trans h0
  | ⟨1, _⟩ =>
    refine (concatenate_apply_piece (t := S3x8192x1024) 0 _ _ _ 1 (by simp) S1x8192x1024 (broadcastInDim S1x8192x1024 ![1, 2] bcast_S8192x1024_S1x8192x1024_1_2 x1) rfl rfl 1 rfl (ix3 0 t k)
      (fun b hb => by match b with | ⟨0, _⟩ => exact absurd rfl hb | ⟨1, _⟩ => rfl | ⟨2, _⟩ => rfl) rfl).trans ?_
    exact (hb x1).trans h1
  | ⟨2, _⟩ =>
    refine (concatenate_apply_piece (t := S3x8192x1024) 0 _ _ _ 2 (by simp) S1x8192x1024 (broadcastInDim S1x8192x1024 ![1, 2] bcast_S8192x1024_S1x8192x1024_1_2 x2) rfl rfl 2 rfl (ix3 0 t k)
      (fun b hb => by match b with | ⟨0, _⟩ => exact absurd rfl hb | ⟨1, _⟩ => rfl | ⟨2, _⟩ => rfl) rfl).trans ?_
    exact (hb x2).trans h2

omit R in
theorem v_real (i : S8x1024.Idx) (x0 x1 x2 x3 : FVec Ideal S1x1024 .f32) (x4 : FVec Ideal S4x1024 .f32) (f : ℕ → ℝ)
    (h0 : (x0 (ix2 0 (i 1)) : EReal) = (f 0 : ℝ)) (h1 : (x1 (ix2 0 (i 1)) : EReal) = (f 1 : ℝ)) (h2 : (x2 (ix2 0 (i 1)) : EReal) = (f 2 : ℝ)) (h3 : (x3 (ix2 0 (i 1)) : EReal) = (f 3 : ℝ))
    (h4 : ∀ q : Fin 4, (x4 (ix2 q (i 1)) : EReal) = 0) :
    (concatenate S8x1024 0 [⟨S1x1024, (x0 : (⟨S1x1024, .f32⟩ : BufTy).Contents (Elt Ideal))⟩, ⟨S1x1024, (x1 : (⟨S1x1024, .f32⟩ : BufTy).Contents (Elt Ideal))⟩,
      ⟨S1x1024, (x2 : (⟨S1x1024, .f32⟩ : BufTy).Contents (Elt Ideal))⟩, ⟨S1x1024, (x3 : (⟨S1x1024, .f32⟩ : BufTy).Contents (Elt Ideal))⟩, ⟨S4x1024, (x4 : (⟨S4x1024, .f32⟩ : BufTy).Contents (Elt Ideal))⟩]
      concatenates_S1x1024_S1x1024_S1x1024_S1x1024_S4x1024_S8x1024_d0 i : EReal) = ((if (i 0).val < 4 then f (i 0).val else 0 : ℝ) : EReal) := by
  obtain ⟨z, k, hj⟩ : ∃ (z : Fin 8) (k : Fin 1024), i = ix2 z k := ⟨i 0, i 1, eq_ix2 i⟩
  subst hj
  have hz := z.isLt
  by_cases h : z.val < 4
  · rw [if_pos (show ((ix2 z k : S8x1024.Idx) 0).val < 4 from h)]
    match z, h with
    | ⟨0, _⟩, _ => exact (concatenate_apply_piece (t := S8x1024) 0 _ _ _ 0 (by simp) S1x1024 x0 rfl rfl 0 rfl (ix2 0 k) (fun b hb => by match b with | ⟨0, _⟩ => exact absurd rfl hb | ⟨1, _⟩ => rfl) rfl).trans h0
    | ⟨1, _⟩, _ => exact (concatenate_apply_piece (t := S8x1024) 0 _ _ _ 1 (by simp) S1x1024 x1 rfl rfl 1 rfl (ix2 0 k) (fun b hb => by match b with | ⟨0, _⟩ => exact absurd rfl hb | ⟨1, _⟩ => rfl) rfl).trans h1
    | ⟨2, _⟩, _ => exact (concatenate_apply_piece (t := S8x1024) 0 _ _ _ 2 (by simp) S1x1024 x2 rfl rfl 2 rfl (ix2 0 k) (fun b hb => by match b with | ⟨0, _⟩ => exact absurd rfl hb | ⟨1, _⟩ => rfl) rfl).trans h2
    | ⟨3, _⟩, _ => exact (concatenate_apply_piece (t := S8x1024) 0 _ _ _ 3 (by simp) S1x1024 x3 rfl rfl 3 rfl (ix2 0 k) (fun b hb => by match b with | ⟨0, _⟩ => exact absurd rfl hb | ⟨1, _⟩ => rfl) rfl).trans h3
  · rw [if_neg (show ¬((ix2 z k : S8x1024.Idx) 0).val < 4 from h)]
    exact (concatenate_apply_piece (t := S8x1024) 0 _ _ _ 4 (by simp) S4x1024 x4 rfl rfl 4 rfl (ix2 (⟨z.val - 4, by omega⟩ : Fin 4) k) (fun b hb => by match b with | ⟨0, _⟩ => exact absurd rfl hb | ⟨1, _⟩ => rfl) (by show 4 + (z.val - 4) = z.val; omega)).trans ((h4 _).trans EReal.coe_zero.symm)

theorem g_real (i : S32x1024.Idx) : (pad S32x1024 ![0, 0] ![1, 0] ![0, 0] (G31 W : FVec Ideal S31x1024 .f32) (sitofp (F := Ideal) .f32 (constantI S_ 32 0#32)) pads_S31x1024_S32x1024_010_000 h_S_ i : EReal) = ((GW P (i 0).val (i 1) : ℝ) : EReal) := by
  obtain ⟨z, k, hj⟩ : ∃ (z : Fin 32) (k : Fin 1024), i = ix2 z k := ⟨i 0, i 1, eq_ix2 i⟩
  subst hj
  by_cases h : z.val < 31
  · refine (pad_apply_of_inside ![0, 0] ![1, 0] ![0, 0] _ _ pads_S31x1024_S32x1024_010_000 h_S_ (ix2 z k) (ix2 ⟨z.val, h⟩ k) fun a => ?_).trans (g31 W P R ⟨z.val, h⟩ k)
    match a with
    | ⟨0, _⟩ => show z.val = 0 + z.val * (0 + 1); omega
    | ⟨1, _⟩ => show k.val = 0 + k.val * (0 + 1); omega
  · have e : GW P z.val k = 0 := if_neg h
    show _ = ((GW P z.val k : ℝ) : EReal)
    rw [e]
    refine Eq.trans (pad_apply_of_not_inside (s := S31x1024) (t := S32x1024) ![0, 0] ![1, 0] ![0, 0] _ _ pads_S31x1024_S32x1024_010_000 h_S_ (ix2 z k) (0 : Fin 2) ?_) ?_
    · show ¬(0 ≤ z.val ∧ (z.val - 0) % (0 + 1) = 0 ∧ (z.val - 0) / (0 + 1) < 31)
      omega
    · show ((((0#32 : BitVec 32).toInt : ℝ)) : EReal) = _
      simp

end Ref

end Cert.ConvRef

end
-- ==== Proof.ConvHost.lean ====
/-
  The convolution block's backward pass: what the kernel's host program hands to the kernel.
-/
module

public import proofs.«01_k».proof.Proof.ConvRef
public import proofs.«01_k».proof.Proof.ConvFrame
public import Idealize.ShloMosaic.Lib.Claim

@[expose] public section

noncomputable section

namespace Cert.ConvHost

open Cert.KernelIdeal Cert.KernelIdeal.Gen Idealize.ShloMosaic Idealize.ShloMosaic.TcCoe Idealize.ShloMosaic.StableHlo
open Idealize.ShloMosaic.ValueIdx Cert.Common Cert.Rows Cert.Finite Cert.ConvMath Cert.ConvSpec Cert.ConvRef
open Cert.Tail (lgs)

/-- The operand of the convolution, after 30 rows of zeros. -/
def vpad (x0 : FVec Ideal S8192x7168 .f32) : FVec Ideal S8222x1024 .f32 :=
  concatenate S8222x1024 0 [⟨S30x1024, broadcastInDim S30x1024 ![] bcast_S_S30x1024 (constant (F := Ideal) S_ .f32 0x00000000#32)⟩,
    ⟨S8192x1024, mulf (extractStridedSlice S8192x1024 ![0, 0] x0 slices_S8192x7168_S8192x1024_0_0)
      (Host.divf (broadcastInDim S8192x1024 ![] bcast_S_S8192x1024 (constant (F := Ideal) S_ .f32 0x3F800000#32))
        (addf (broadcastInDim S8192x1024 ![] bcast_S_S8192x1024 (constant (F := Ideal) S_ .f32 0x3F800000#32))
          (Host.exp (Host.negf (extractStridedSlice S8192x1024 ![0, 1024] x0 slices_S8192x7168_S8192x1024_0_1024)))))⟩] concatenates_S30x1024_S8192x1024_S8222x1024_d0

/-- The term of one tap. -/
def tap (v : FVec Ideal S8222x1024 .f32) (x2 : FVec Ideal S31x1024 .f32) (o1 o2 : Fin 2 → ℕ) (h1 : S8222x1024.Slices o1 S8192x1024) (h2 : S31x1024.Slices o2 S1x1024) : FVec Ideal S8192x1024 .f32 :=
  mulf (extractStridedSlice S8192x1024 o1 v h1) (broadcastInDim S8192x1024 ![0, 1] bcast_S1x1024_S8192x1024_0_1 (extractStridedSlice S1x1024 o2 x2 h2))

/-- The 31 taps of the convolution. -/
def taps (v : FVec Ideal S8222x1024 .f32) (x2 : FVec Ideal S31x1024 .f32) : FVec Ideal S8192x1024 .f32 :=
  (addf (addf (addf (addf (addf (addf (addf (addf (addf (addf (addf (addf (addf (addf (addf (addf (addf (addf (addf (addf (addf (addf (addf (addf (addf (addf (addf (addf (addf (addf (tap v x2 ![0, 0] ![0, 0] slices_S8222x1024_S8192x1024_0_0 slices_S31x1024_S1x1024_0_0) (tap v x2 ![1, 0] ![1, 0] slices_S8222x1024_S8192x1024_1_0 slices_S31x1024_S1x1024_1_0)) (tap v x2 ![2, 0] ![2, 0] slices_S8222x1024_S8192x1024_2_0 slices_S31x1024_S1x1024_2_0)) (tap v x2 ![3, 0] ![3, 0] slices_S8222x1024_S8192x1024_3_0 slices_S31x1024_S1x1024_3_0)) (tap v x2 ![4, 0] ![4, 0] slices_S8222x1024_S8192x1024_4_0 slices_S31x1024_S1x1024_4_0)) (tap v x2 ![5, 0] ![5, 0] slices_S8222x1024_S8192x1024_5_0 slices_S31x1024_S1x1024_5_0)) (tap v x2 ![6, 0] ![6, 0] slices_S8222x1024_S8192x1024_6_0 slices_S31x1024_S1x1024_6_0)) (tap v x2 ![7, 0] ![7, 0] slices_S8222x1024_S8192x1024_7_0 slices_S31x1024_S1x1024_7_0)) (tap v x2 ![8, 0] ![8, 0] slices_S8222x1024_S8192x1024_8_0 slices_S31x1024_S1x1024_8_0)) (tap v x2 ![9, 0] ![9, 0] slices_S8222x1024_S8192x1024_9_0 slices_S31x1024_S1x1024_9_0)) (tap v x2 ![10, 0] ![10, 0] slices_S8222x1024_S8192x1024_10_0 slices_S31x1024_S1x1024_10_0)) (tap v x2 ![11, 0] ![11, 0] slices_S8222x1024_S8192x1024_11_0 slices_S31x1024_S1x1024_11_0)) (tap v x2 ![12, 0] ![12, 0] slices_S8222x1024_S8192x1024_12_0 slices_S31x1024_S1x1024_12_0)) (tap v x2 ![13, 0] ![13, 0] slices_S8222x1024_S8192x1024_13_0 slices_S31x1024_S1x1024_13_0)) (tap v x2 ![14, 0] ![14, 0] slices_S8222x1024_S8192x1024_14_0 slices_S31x1024_S1x1024_14_0)) (tap v x2 ![15, 0] ![15, 0] slices_S8222x1024_S8192x1024_15_0 slices_S31x1024_S1x1024_15_0)) (tap v x2 ![16, 0] ![16, 0] slices_S8222x1024_S8192x1024_16_0 slices_S31x1024_S1x1024_16_0)) (tap v x2 ![17, 0] ![17, 0] slices_S8222x1024_S8192x1024_17_0 slices_S31x1024_S1x1024_17_0)) (tap v x2 ![18, 0] ![18, 0] slices_S8222x1024_S8192x1024_18_0 slices_S31x1024_S1x1024_18_0)) (tap v x2 ![19, 0] ![19, 0] slices_S8222x1024_S8192x1024_19_0 slices_S31x1024_S1x1024_19_0)) (tap v x2 ![20, 0] ![20, 0] slices_S8222x1024_S8192x1024_20_0 slices_S31x1024_S1x1024_20_0)) (tap v x2 ![21, 0] ![21, 0] slices_S8222x1024_S8192x1024_21_0 slices_S31x1024_S1x1024_21_0)) (tap v x2 ![22, 0] ![22, 0] slices_S8222x1024_S8192x1024_22_0 slices_S31x1024_S1x1024_22_0)) (tap v x2 ![23, 0] ![23, 0] slices_S8222x1024_S8192x1024_23_0 slices_S31x1024_S1x1024_23_0)) (tap v x2 ![24, 0] ![24, 0] slices_S8222x1024_S8192x1024_24_0 slices_S31x1024_S1x1024_24_0)) (tap v x2 ![25, 0] ![25, 0] slices_S8222x1024_S8192x1024_25_0 slices_S31x1024_S1x1024_25_0)) (tap v x2 ![26, 0] ![26, 0] slices_S8222x1024_S8192x1024_26_0 slices_S31x1024_S1x1024_26_0)) (tap v x2 ![27, 0] ![27, 0] slices_S8222x1024_S8192x1024_27_0 slices_S31x1024_S1x1024_27_0)) (tap v x2 ![28, 0] ![28, 0] slices_S8222x1024_S8192x1024_28_0 slices_S31x1024_S1x1024_28_0)) (tap v x2 ![29, 0] ![29, 0] slices_S8222x1024_S8192x1024_29_0 slices_S31x1024_S1x1024_29_0)) (tap v x2 ![30, 0] ![30, 0] slices_S8222x1024_S8192x1024_30_0 slices_S31x1024_S1x1024_30_0))

/-- The convolution. -/
def y1 (x0 : FVec Ideal S8192x7168 .f32) (x2 : FVec Ideal S31x1024 .f32) (x3 : FVec Ideal S1x1024 .f32) : FVec Ideal S8192x1024 .f32 :=
  addf (taps (vpad x0) x2) (broadcastInDim S8192x1024 ![0, 1] bcast_S1x1024_S8192x1024_0_1 x3)

/-! ## The host program, window by window -/

section Host
variable (W : Valuation τ sig (Elt Ideal))

set_option maxRecDepth 8192 in
set_option maxHeartbeats 2000000 in
theorem p0_v10 : (after (main_part0_ops0 (F := Ideal)) W (Proc.devRef .tc main_v10) : S8222x1024.Idx → EReal) = vpad (W (Proc.devRef .tc main_arg0)) := by
  simp only [main_part0_ops0]
  after_results_simp
  all_goals rfl
set_option maxRecDepth 8192 in
set_option maxHeartbeats 2000000 in
theorem p0_v54 : (after (main_part0_ops0 (F := Ideal)) W (Proc.devRef .tc main_v54) : S8192x1024.Idx → EReal) = (addf (addf (addf (addf (addf (addf (addf (addf (tap (vpad (W (Proc.devRef .tc main_arg0))) (W (Proc.devRef .tc main_arg2)) ![0, 0] ![0, 0] slices_S8222x1024_S8192x1024_0_0 slices_S31x1024_S1x1024_0_0) (tap (vpad (W (Proc.devRef .tc main_arg0))) (W (Proc.devRef .tc main_arg2)) ![1, 0] ![1, 0] slices_S8222x1024_S8192x1024_1_0 slices_S31x1024_S1x1024_1_0)) (tap (vpad (W (Proc.devRef .tc main_arg0))) (W (Proc.devRef .tc main_arg2)) ![2, 0] ![2, 0] slices_S8222x1024_S8192x1024_2_0 slices_S31x1024_S1x1024_2_0)) (tap (vpad (W (Proc.devRef .tc main_arg0))) (W (Proc.devRef .tc main_arg2)) ![3, 0] ![3, 0] slices_S8222x1024_S8192x1024_3_0 slices_S31x1024_S1x1024_3_0)) (tap (vpad (W (Proc.devRef .tc main_arg0))) (W (Proc.devRef .tc main_arg2)) ![4, 0] ![4, 0] slices_S8222x1024_S8192x1024_4_0 slices_S31x1024_S1x1024_4_0)) (tap (vpad (W (Proc.devRef .tc main_arg0))) (W (Proc.devRef .tc main_arg2)) ![5, 0] ![5, 0] slices_S8222x1024_S8192x1024_5_0 slices_S31x1024_S1x1024_5_0)) (tap (vpad (W (Proc.devRef .tc main_arg0))) (W (Proc.devRef .tc main_arg2)) ![6, 0] ![6, 0] slices_S8222x1024_S8192x1024_6_0 slices_S31x1024_S1x1024_6_0)) (tap (vpad (W (Proc.devRef .tc main_arg0))) (W (Proc.devRef .tc main_arg2)) ![7, 0] ![7, 0] slices_S8222x1024_S8192x1024_7_0 slices_S31x1024_S1x1024_7_0)) (tap (vpad (W (Proc.devRef .tc main_arg0))) (W (Proc.devRef .tc main_arg2)) ![8, 0] ![8, 0] slices_S8222x1024_S8192x1024_8_0 slices_S31x1024_S1x1024_8_0)) := by
  simp only [main_part0_ops0]
  after_results_simp
  all_goals rfl
set_option maxRecDepth 8192 in
set_option maxHeartbeats 2000000 in
theorem p0_v55 : (after (main_part0_ops0 (F := Ideal)) W (Proc.devRef .tc main_v55) : S8192x1024.Idx → EReal) = extractStridedSlice S8192x1024 ![9, 0] (vpad (W (Proc.devRef .tc main_arg0))) slices_S8222x1024_S8192x1024_9_0 := by
  simp only [main_part0_ops0]
  after_results_simp
  all_goals rfl
set_option maxRecDepth 8192 in
set_option maxHeartbeats 2000000 in
theorem p0_v56 : (after (main_part0_ops0 (F := Ideal)) W (Proc.devRef .tc main_v56) : S1x1024.Idx → EReal) = extractStridedSlice S1x1024 ![9, 0] (W (Proc.devRef .tc main_arg2)) slices_S31x1024_S1x1024_9_0 := by
  simp only [main_part0_ops0]
  after_results_simp
  all_goals rfl
set_option maxRecDepth 8192 in
set_option maxHeartbeats 2000000 in
theorem p0_a2 : (after (main_part0_ops0 (F := Ideal)) W (Proc.devRef .tc main_arg2) : S31x1024.Idx → EReal) = (W (Proc.devRef .tc main_arg2)) := by
  simp only [main_part0_ops0]
  after_results_simp
  all_goals rfl
set_option maxRecDepth 8192 in
set_option maxHeartbeats 2000000 in
theorem p0_a3 : (after (main_part0_ops0 (F := Ideal)) W (Proc.devRef .tc main_arg3) : S1x1024.Idx → EReal) = (W (Proc.devRef .tc main_arg3)) := by
  simp only [main_part0_ops0]
  after_results_simp
  all_goals rfl
set_option maxRecDepth 8192 in
set_option maxHeartbeats 2000000 in
theorem p1_v10 : (after (main_part1_ops0 (F := Ideal)) W (Proc.devRef .tc main_v10) : S8222x1024.Idx → EReal) = (W (Proc.devRef .tc main_v10)) := by
  simp only [main_part1_ops0]
  after_results_simp
  all_goals rfl
set_option maxRecDepth 8192 in
set_option maxHeartbeats 2000000 in
theorem p1_v114 : (after (main_part1_ops0 (F := Ideal)) W (Proc.devRef .tc main_v114) : S8192x1024.Idx → EReal) = (addf (addf (addf (addf (addf (addf (addf (addf (addf (addf (addf (addf (W (Proc.devRef .tc main_v54)) (mulf (W (Proc.devRef .tc main_v55)) (broadcastInDim S8192x1024 ![0, 1] bcast_S1x1024_S8192x1024_0_1 (W (Proc.devRef .tc main_v56))))) (tap (W (Proc.devRef .tc main_v10)) (W (Proc.devRef .tc main_arg2)) ![10, 0] ![10, 0] slices_S8222x1024_S8192x1024_10_0 slices_S31x1024_S1x1024_10_0)) (tap (W (Proc.devRef .tc main_v10)) (W (Proc.devRef .tc main_arg2)) ![11, 0] ![11, 0] slices_S8222x1024_S8192x1024_11_0 slices_S31x1024_S1x1024_11_0)) (tap (W (Proc.devRef .tc main_v10)) (W (Proc.devRef .tc main_arg2)) ![12, 0] ![12, 0] slices_S8222x1024_S8192x1024_12_0 slices_S31x1024_S1x1024_12_0)) (tap (W (Proc.devRef .tc main_v10)) (W (Proc.devRef .tc main_arg2)) ![13, 0] ![13, 0] slices_S8222x1024_S8192x1024_13_0 slices_S31x1024_S1x1024_13_0)) (tap (W (Proc.devRef .tc main_v10)) (W (Proc.devRef .tc main_arg2)) ![14, 0] ![14, 0] slices_S8222x1024_S8192x1024_14_0 slices_S31x1024_S1x1024_14_0)) (tap (W (Proc.devRef .tc main_v10)) (W (Proc.devRef .tc main_arg2)) ![15, 0] ![15, 0] slices_S8222x1024_S8192x1024_15_0 slices_S31x1024_S1x1024_15_0)) (tap (W (Proc.devRef .tc main_v10)) (W (Proc.devRef .tc main_arg2)) ![16, 0] ![16, 0] slices_S8222x1024_S8192x1024_16_0 slices_S31x1024_S1x1024_16_0)) (tap (W (Proc.devRef .tc main_v10)) (W (Proc.devRef .tc main_arg2)) ![17, 0] ![17, 0] slices_S8222x1024_S8192x1024_17_0 slices_S31x1024_S1x1024_17_0)) (tap (W (Proc.devRef .tc main_v10)) (W (Proc.devRef .tc main_arg2)) ![18, 0] ![18, 0] slices_S8222x1024_S8192x1024_18_0 slices_S31x1024_S1x1024_18_0)) (tap (W (Proc.devRef .tc main_v10)) (W (Proc.devRef .tc main_arg2)) ![19, 0] ![19, 0] slices_S8222x1024_S8192x1024_19_0 slices_S31x1024_S1x1024_19_0)) (tap (W (Proc.devRef .tc main_v10)) (W (Proc.devRef .tc main_arg2)) ![20, 0] ![20, 0] slices_S8222x1024_S8192x1024_20_0 slices_S31x1024_S1x1024_20_0)) := by
  simp only [main_part1_ops0]
  after_results_simp
  all_goals rfl
set_option maxRecDepth 8192 in
set_option maxHeartbeats 2000000 in
theorem p1_v115 : (after (main_part1_ops0 (F := Ideal)) W (Proc.devRef .tc main_v115) : S8192x1024.Idx → EReal) = extractStridedSlice S8192x1024 ![21, 0] (W (Proc.devRef .tc main_v10)) slices_S8222x1024_S8192x1024_21_0 := by
  simp only [main_part1_ops0]
  after_results_simp
  all_goals rfl
set_option maxRecDepth 8192 in
set_option maxHeartbeats 2000000 in
theorem p1_v116 : (after (main_part1_ops0 (F := Ideal)) W (Proc.devRef .tc main_v116) : S1x1024.Idx → EReal) = extractStridedSlice S1x1024 ![21, 0] (W (Proc.devRef .tc main_arg2)) slices_S31x1024_S1x1024_21_0 := by
  simp only [main_part1_ops0]
  after_results_simp
  all_goals rfl
set_option maxRecDepth 8192 in
set_option maxHeartbeats 2000000 in
theorem p1_a2 : (after (main_part1_ops0 (F := Ideal)) W (Proc.devRef .tc main_arg2) : S31x1024.Idx → EReal) = (W (Proc.devRef .tc main_arg2)) := by
  simp only [main_part1_ops0]
  after_results_simp
  all_goals rfl
set_option maxRecDepth 8192 in
set_option maxHeartbeats 2000000 in
theorem p1_a3 : (after (main_part1_ops0 (F := Ideal)) W (Proc.devRef .tc main_arg3) : S1x1024.Idx → EReal) = (W (Proc.devRef .tc main_arg3)) := by
  simp only [main_part1_ops0]
  after_results_simp
  all_goals rfl
set_option maxRecDepth 8192 in
set_option maxHeartbeats 2000000 in
theorem p2_v166 : (after (main_part2_ops0 (F := Ideal)) W (Proc.devRef .tc main_v166) : S8192x1024.Idx → EReal) = addf (addf (addf (addf (addf (addf (addf (addf (addf (addf (addf (W (Proc.devRef .tc main_v114)) (mulf (W (Proc.devRef .tc main_v115)) (broadcastInDim S8192x1024 ![0, 1] bcast_S1x1024_S8192x1024_0_1 (W (Proc.devRef .tc main_v116))))) (tap (W (Proc.devRef .tc main_v10)) (W (Proc.devRef .tc main_arg2)) ![22, 0] ![22, 0] slices_S8222x1024_S8192x1024_22_0 slices_S31x1024_S1x1024_22_0)) (tap (W (Proc.devRef .tc main_v10)) (W (Proc.devRef .tc main_arg2)) ![23, 0] ![23, 0] slices_S8222x1024_S8192x1024_23_0 slices_S31x1024_S1x1024_23_0)) (tap (W (Proc.devRef .tc main_v10)) (W (Proc.devRef .tc main_arg2)) ![24, 0] ![24, 0] slices_S8222x1024_S8192x1024_24_0 slices_S31x1024_S1x1024_24_0)) (tap (W (Proc.devRef .tc main_v10)) (W (Proc.devRef .tc main_arg2)) ![25, 0] ![25, 0] slices_S8222x1024_S8192x1024_25_0 slices_S31x1024_S1x1024_25_0)) (tap (W (Proc.devRef .tc main_v10)) (W (Proc.devRef .tc main_arg2)) ![26, 0] ![26, 0] slices_S8222x1024_S8192x1024_26_0 slices_S31x1024_S1x1024_26_0)) (tap (W (Proc.devRef .tc main_v10)) (W (Proc.devRef .tc main_arg2)) ![27, 0] ![27, 0] slices_S8222x1024_S8192x1024_27_0 slices_S31x1024_S1x1024_27_0)) (tap (W (Proc.devRef .tc main_v10)) (W (Proc.devRef .tc main_arg2)) ![28, 0] ![28, 0] slices_S8222x1024_S8192x1024_28_0 slices_S31x1024_S1x1024_28_0)) (tap (W (Proc.devRef .tc main_v10)) (W (Proc.devRef .tc main_arg2)) ![29, 0] ![29, 0] slices_S8222x1024_S8192x1024_29_0 slices_S31x1024_S1x1024_29_0)) (tap (W (Proc.devRef .tc main_v10)) (W (Proc.devRef .tc main_arg2)) ![30, 0] ![30, 0] slices_S8222x1024_S8192x1024_30_0 slices_S31x1024_S1x1024_30_0)) (broadcastInDim S8192x1024 ![0, 1] bcast_S1x1024_S8192x1024_0_1 (W (Proc.devRef .tc main_arg3))) := by
  simp only [main_part2_ops0]
  after_results_simp
  all_goals rfl
set_option maxRecDepth 8192 in
set_option maxHeartbeats 2000000 in
theorem p3_v166 : (after (main_part2_ops1 (F := Ideal)) W (Proc.devRef .tc main_v166) : S8192x1024.Idx → EReal) = W (Proc.devRef .tc main_v166) := by
  simp only [main_part2_ops1]
  after_results_simp
  all_goals rfl
set_option maxRecDepth 8192 in
set_option maxHeartbeats 2000000 in
theorem p4_v166 : (after (main_part2_ops2 (F := Ideal)) W (Proc.devRef .tc main_v166) : S8192x1024.Idx → EReal) = W (Proc.devRef .tc main_v166) := by
  simp only [main_part2_ops2]
  after_results_simp
  all_goals rfl

set_option maxRecDepth 8192 in
theorem ops_eq : (List.flatten [hostOps0, hostOps0_1, hostOps0_2] : List (HloOp τ sig (Elt Ideal)))
    = main_part0_ops0 ++ (main_part1_ops0 ++ (main_part2_ops0 ++ (main_part2_ops1 ++ main_part2_ops2))) := rfl

end Host

variable (m : (ℓ : Loc nD τ sig) → Buf (Elt Ideal) ℓ)

abbrev X0 (c : Dev nD) : S8192x7168.Idx → EReal := m ((c : Thread nD τ).loc main_arg0)
abbrev X1 (c : Dev nD) : S8192x1024.Idx → EReal := m ((c : Thread nD τ).loc main_arg1)
abbrev X2 (c : Dev nD) : S31x1024.Idx → EReal := m ((c : Thread nD τ).loc main_arg2)
abbrev X3 (c : Dev nD) : S1x1024.Idx → EReal := m ((c : Thread nD τ).loc main_arg3)
abbrev X4 (c : Dev nD) : S1x1024.Idx → EReal := m ((c : Thread nD τ).loc main_arg4)
abbrev X5 (c : Dev nD) : S1x1024.Idx → EReal := m ((c : Thread nD τ).loc main_arg5)
abbrev X6 (c : Dev nD) : S1024x1024.Idx → EReal := m ((c : Thread nD τ).loc main_arg6)
abbrev X7 (c : Dev nD) : S1x1024.Idx → EReal := m ((c : Thread nD τ).loc main_arg7)

theorem V_v166 (c : Dev nD) : (V m c main_v166 : S8192x1024.Idx → EReal) = y1 (X0 m c) (X2 m c) (X3 m c) := by
  show (after (List.flatten [hostOps0 (F := Ideal), hostOps0_1, hostOps0_2]) (fun b => m (c, b)) (Proc.devRef .tc main_v166) : S8192x1024.Idx → EReal) = _
  rw [ops_eq, after_append, after_append, after_append, after_append, p4_v166, p3_v166, p2_v166]
  rw [p1_v10, p1_v114, p1_v115, p1_v116, p1_a2, p1_a3, p0_v10, p0_v54, p0_v55, p0_v56, p0_a2, p0_a3]
  rfl
theorem V_v167 (c : Dev nD) : (V m c main_v167 : S32x1024.Idx → EReal)
    = pad S32x1024 ![0, 0] ![1, 0] ![0, 0] (X2 m c) (sitofp (F := Ideal) .f32 (constantI S_ 32 0#32)) pads_S31x1024_S32x1024_010_000 h_S_ := by
  entry_read
  rfl
theorem V_v168 (c : Dev nD) : (V m c main_v168 : S1024x1024.Idx → EReal) = X6 m c := by
  entry_read
  rfl

/-! ## Their values -/

section Real
variable (P : Par) (c : Dev nD) (R : Reals (X0 m c) (X1 m c) (X2 m c) (X3 m c) (X4 m c) (X5 m c) (X6 m c) (X7 m c) P)

include R in
theorem vpad_real (n : Fin 8222) (k : Fin 1024) : (vpad (X0 m c) (ix2 n k) : EReal) = ((VP P n.val k : ℝ) : EReal) := by
  unfold vpad
  have hn := n.isLt
  by_cases h : n.val < 30
  · rw [VP_lt P n.val h]
    refine (concatenate_apply_piece (t := S8222x1024) 0 _ _ _ 0 (by simp) S30x1024 (broadcastInDim S30x1024 ![] bcast_S_S30x1024 (constant (F := Ideal) S_ .f32 0x00000000#32)) rfl rfl 0 rfl (ix2 ⟨n.val, h⟩ k)
      (fun b hb => by match b with | ⟨0, _⟩ => exact absurd rfl hb | ⟨1, _⟩ => rfl) (Nat.zero_add _)).trans ?_
    exact cst_real bcast_S_S30x1024 _ 0 (ofBits_zero.trans EReal.coe_zero.symm) _
  · have e : VP P n.val k = ConvSpec.V P ⟨n.val - 30, by omega⟩ k := dif_pos ⟨by omega, hn⟩
    rw [e]
    refine (concatenate_apply_piece (t := S8222x1024) 0 _ _ _ 1 (by simp) S8192x1024 _ rfl rfl 30 rfl (ix2 ⟨n.val - 30, by omega⟩ k)
      (fun b hb => by match b with | ⟨0, _⟩ => exact absurd rfl hb | ⟨1, _⟩ => rfl) (by show 30 + (n.val - 30) = n.val; omega)).trans ?_
    refine mul_real ((sl_at 0 0 _ _ _ _ k _ (c0 k) (Nat.zero_add _).symm (Nat.zero_add _).symm).trans (R.h0 _ _)) (hlgs_real _ _ _ _ ((sl_at 0 0 _ _ _ _ k _ (c1 k) (Nat.zero_add _).symm rfl).trans (R.h0 _ _)))

include R in
theorem tap_real (j : ℕ) (hj : j < 31) (o1 o2 : Fin 2 → ℕ) (h1 : S8222x1024.Slices o1 S8192x1024) (h2 : S31x1024.Slices o2 S1x1024) (e0 : o1 0 = j) (e1 : o1 1 = 0) (f0 : o2 0 = j) (f1 : o2 1 = 0)
    (t : Fin 8192) (k : Fin 1024) : (tap (vpad (X0 m c)) (X2 m c) o1 o2 h1 h2 (ix2 t k) : EReal) = ((VP P (t.val + j) k * P.cw j k : ℝ) : EReal) := by
  have ht := t.isLt
  unfold tap
  refine mul_real ?_ ?_
  · exact (sl_at 0 0 o1 _ h1 t k ⟨t.val + j, by omega⟩ k (by rw [e0]; exact Nat.add_comm _ _) (by rw [e1]; exact (Nat.zero_add _).symm)).trans (vpad_real m P c R _ k)
  · refine (broadcastInDim_oneRow_apply bcast_S1x1024_S8192x1024_0_1 _ t k).trans ?_
    exact (sl_at 0 0 o2 _ h2 0 k ⟨j, hj⟩ k f0.symm (by rw [f1]; exact (Nat.zero_add _).symm)).trans (R.h2 ⟨j, hj⟩ k)

include R in
theorem y1_real (t : Fin 8192) (k : Fin 1024) : (y1 (X0 m c) (X2 m c) (X3 m c) (ix2 t k) : EReal) = ((Y P t k : ℝ) : EReal) := by
  unfold y1 taps Y
  simp only [Finset.sum_range_succ, Finset.sum_range_zero, zero_add]
  refine add_real ?_ ((broadcastInDim_oneRow_apply bcast_S1x1024_S8192x1024_0_1 _ t k).trans (R.h3 k))
  refine add_real ?_ (tap_real m P c R 30 (by decide) _ _ _ _ rfl rfl rfl rfl t k)
  refine add_real ?_ (tap_real m P c R 29 (by decide) _ _ _ _ rfl rfl rfl rfl t k)
  refine add_real ?_ (tap_real m P c R 28 (by decide) _ _ _ _ rfl rfl rfl rfl t k)
  refine add_real ?_ (tap_real m P c R 27 (by decide) _ _ _ _ rfl rfl rfl rfl t k)
  refine add_real ?_ (tap_real m P c R 26 (by decide) _ _ _ _ rfl rfl rfl rfl t k)
  refine add_real ?_ (tap_real m P c R 25 (by decide) _ _ _ _ rfl rfl rfl rfl t k)
  refine add_real ?_ (tap_real m P c R 24 (by decide) _ _ _ _ rfl rfl rfl rfl t k)
  refine add_real ?_ (tap_real m P c R 23 (by decide) _ _ _ _ rfl rfl rfl rfl t k)
  refine add_real ?_ (tap_real m P c R 22 (by decide) _ _ _ _ rfl rfl rfl rfl t k)
  refine add_real ?_ (tap_real m P c R 21 (by decide) _ _ _ _ rfl rfl rfl rfl t k)
  refine add_real ?_ (tap_real m P c R 20 (by decide) _ _ _ _ rfl rfl rfl rfl t k)
  refine add_real ?_ (tap_real m P c R 19 (by decide) _ _ _ _ rfl rfl rfl rfl t k)
  refine add_real ?_ (tap_real m P c R 18 (by decide) _ _ _ _ rfl rfl rfl rfl t k)
  refine add_real ?_ (tap_real m P c R 17 (by decide) _ _ _ _ rfl rfl rfl rfl t k)
  refine add_real ?_ (tap_real m P c R 16 (by decide) _ _ _ _ rfl rfl rfl rfl t k)
  refine add_real ?_ (tap_real m P c R 15 (by decide) _ _ _ _ rfl rfl rfl rfl t k)
  refine add_real ?_ (tap_real m P c R 14 (by decide) _ _ _ _ rfl rfl rfl rfl t k)
  refine add_real ?_ (tap_real m P c R 13 (by decide) _ _ _ _ rfl rfl rfl rfl t k)
  refine add_real ?_ (tap_real m P c R 12 (by decide) _ _ _ _ rfl rfl rfl rfl t k)
  refine add_real ?_ (tap_real m P c R 11 (by decide) _ _ _ _ rfl rfl rfl rfl t k)
  refine add_real ?_ (tap_real m P c R 10 (by decide) _ _ _ _ rfl rfl rfl rfl t k)
  refine add_real ?_ (tap_real m P c R 9 (by decide) _ _ _ _ rfl rfl rfl rfl t k)
  refine add_real ?_ (tap_real m P c R 8 (by decide) _ _ _ _ rfl rfl rfl rfl t k)
  refine add_real ?_ (tap_real m P c R 7 (by decide) _ _ _ _ rfl rfl rfl rfl t k)
  refine add_real ?_ (tap_real m P c R 6 (by decide) _ _ _ _ rfl rfl rfl rfl t k)
  refine add_real ?_ (tap_real m P c R 5 (by decide) _ _ _ _ rfl rfl rfl rfl t k)
  refine add_real ?_ (tap_real m P c R 4 (by decide) _ _ _ _ rfl rfl rfl rfl t k)
  refine add_real ?_ (tap_real m P c R 3 (by decide) _ _ _ _ rfl rfl rfl rfl t k)
  refine add_real ?_ (tap_real m P c R 2 (by decide) _ _ _ _ rfl rfl rfl rfl t k)
  refine add_real ?_ (tap_real m P c R 1 (by decide) _ _ _ _ rfl rfl rfl rfl t k)
  exact tap_real m P c R 0 (by decide) _ _ _ _ rfl rfl rfl rfl t k

include R in
theorem cw_real (j : Fin 32) (hj : j.val < 31) (k : Fin 1024) : ((V m c main_v167 : S32x1024.Idx → EReal) (ix2 j k) : EReal) = ((P.cw j.val k : ℝ) : EReal) := by
  rw [V_v167]
  refine (pad_apply_of_inside ![0, 0] ![1, 0] ![0, 0] _ _ pads_S31x1024_S32x1024_010_000 h_S_ (ix2 j k) (ix2 ⟨j.val, hj⟩ k) fun a => ?_).trans (R.h2 ⟨j.val, hj⟩ k)
  match a with
  | ⟨0, _⟩ => show j.val = 0 + j.val * (0 + 1); omega
  | ⟨1, _⟩ => show k.val = 0 + k.val * (0 + 1); omega

theorem cw_pad (k : Fin 1024) : ((V m c main_v167 : S32x1024.Idx → EReal) (ix2 31 k) : EReal) = ((0 : ℝ) : EReal) := by
  rw [V_v167]
  refine Eq.trans (pad_apply_of_not_inside (s := S31x1024) (t := S32x1024) ![0, 0] ![1, 0] ![0, 0] _ _ pads_S31x1024_S32x1024_010_000 h_S_ (ix2 31 k) (0 : Fin 2) ?_) ?_
  · show ¬(0 ≤ 31 ∧ (31 - 0) % (0 + 1) = 0 ∧ (31 - 0) / (0 + 1) < 31)
    omega
  · show ((((0#32 : BitVec 32).toInt : ℝ)) : EReal) = _
    simp

end Real

end Cert.ConvHost

end
-- ==== Proof.ConvTaps.lean ====
module

public import proofs.«01_k».proof.Proof.ConvTile
public import Idealize.ShloMosaic.Lib.KernelVsHost

@[expose] public section

/-!
The 31 taps of the convolution's gradients on one tile: the sum over the taps that gives the cotangent of the convolution's input, and
the sums over the rows of the tile that give the gradient of the taps, as values of the generated payloads.
-/

noncomputable section

namespace Cert.ConvTaps

open Cert.KernelIdeal Cert.KernelIdeal.Gen Cert.Rows Cert.Finite Cert.ConvTile
open Idealize.ShloMosaic Idealize.ShloMosaic.ValueIdx

/-! ### One tap -/

theorem sl32 (o : Nat) (h : o < 32) : S32x1024.Slices ![o, 0] S1x1024 :=
  ⟨rfl, fun a => by
    match a with
    | ⟨0, _⟩ => show o + 1 ≤ 32; omega
    | ⟨1, _⟩ => show 0 + 1024 ≤ 1024; omega⟩

theorem sl256 (o : Nat) (h : o < 249) : S256x1024.Slices ![o, 0] S8x1024 :=
  ⟨rfl, fun a => by
    match a with
    | ⟨0, _⟩ => show o + 8 ≤ 256; omega
    | ⟨1, _⟩ => show 0 + 1024 ≤ 1024; omega⟩

/-- The rows `m … m + 255` of the 288 rows. -/
def rot (m : Nat) (e : FVec Ideal S288x1024 .f32) : FVec Ideal S256x1024 .f32 :=
  extractStridedSlice S256x1024 ![0, 0] (dynamicRotate 0 (BitVec.ofNat 32 (288 - m)) none e rotates_S288x1024_d0)
    slices_S288x1024_o0_0_S256x1024

theorem rot_apply (m : Nat) (hm : 0 < m) (hm' : m ≤ 32) (e : FVec Ideal S288x1024 .f32) (r : Fin 256) (k : Fin 1024) :
    rot m e (ix2 r k) = e (ix2 ⟨r.val + m, by omega⟩ k) := by
  unfold rot
  rw [extractStridedSlice_apply (s := S288x1024) (t := S256x1024) ![0, 0] _ slices_S288x1024_o0_0_S256x1024 (ix2 r k) (ix2 ⟨r.val, by omega⟩ k)
    (fun a => by
      match a with
      | ⟨0, _⟩ => show r.val = 0 + r.val; omega
      | ⟨1, _⟩ => show k.val = 0 + k.val; omega)]
  refine dynamicRotate_apply 0 (BitVec.ofNat 32 (288 - m)) e rotates_S288x1024_d0 (ix2 ⟨r.val, by omega⟩ k) (ix2 ⟨r.val + m, by omega⟩ k) fun b => ?_
  have hn : (BitVec.ofNat 32 (288 - m)).toNat = 288 - m := by
    rw [BitVec.toNat_ofNat]; exact Nat.mod_eq_of_lt (by omega)
  match b with
  | ⟨0, _⟩ =>
    refine Eq.trans ?_ (if_pos rfl).symm
    rw [hn]
    show r.val + m = (r.val + 288 - (288 - m) % 288) % 288
    rw [Nat.mod_eq_of_lt (a := 288 - m) (by omega), show r.val + 288 - (288 - m) = r.val + m by omega, Nat.mod_eq_of_lt (by omega)]
  | ⟨1, _⟩ => exact Eq.trans rfl (if_neg (fun h => Nat.one_ne_zero (congrArg Fin.val h))).symm

/-! ### The cotangent of the convolution's input -/

/-- Row `o` of the taps, laid over the tile. -/
def cwr (o : Nat) (h : o < 32) (c : FVec Ideal S32x1024 .f32) : FVec Ideal S256x1024 .f32 :=
  broadcastTo S256x1024 (extractStridedSlice S1x1024 ![o, 0] c (sl32 o h)) broadcasts_S1x1024_S256x1024

theorem cwr_apply (o : Nat) (h : o < 32) (c : FVec Ideal S32x1024 .f32) (r : Fin 256) (k : Fin 1024) :
    cwr o h c (ix2 r k) = c (ix2 ⟨o, h⟩ k) := by
  unfold cwr
  rw [broadcastTo_1b_ab_apply]
  exact extractStridedSlice_apply (s := S32x1024) (t := S1x1024) ![o, 0] c (sl32 o h) (ix2 0 k) (ix2 ⟨o, h⟩ k)
    (fun a => by
      match a with
      | ⟨0, _⟩ => show o = o + 0; omega
      | ⟨1, _⟩ => show k.val = 0 + k.val; omega)

/-- The first `n + 1` taps of the sum. -/
def DVN (c : FVec Ideal S32x1024 .f32) (e : FVec Ideal S288x1024 .f32) : Nat → FVec Ideal S256x1024 .f32
  | 0 => mulf (extractStridedSlice S256x1024 ![0, 0] e slices_S288x1024_o0_0_S256x1024) (cwr 30 (by omega) c)
  | n + 1 => addf (DVN c e n) (mulf (rot (n + 1) e) (cwr (30 - (n + 1)) (by omega) c))

def DV (c : FVec Ideal S32x1024 .f32) (e : FVec Ideal S288x1024 .f32) : FVec Ideal S256x1024 .f32 := DVN c e 30

/-- The generated chain up to the last four taps. -/
def CH (c : FVec Ideal S32x1024 .f32) (e : FVec Ideal S288x1024 .f32) : FVec Ideal S256x1024 .f32 :=
  k0_pay193 (F := Ideal) (k0_pay190 (k0_pay184 c) e (k0_pay189 (k0_pay184 c) e (k0_pay187 (k0_pay184 c) e (k0_pay185 c e) (k0_pay186 c e)) (k0_pay188 e)))
    (k0_pay191 e) (k0_pay192 (k0_pay184 c))

set_option maxRecDepth 8192 in
/-- The generated chain is the sum of the 31 taps. -/
theorem chain_eq (c : FVec Ideal S32x1024 .f32) (e : FVec Ideal S288x1024 .f32) :
    k0_pay1 (F := Ideal) (k0_pay184 c) e (CH c e) (k0_pay194 e) = DV (shapeCast S32x1024 c shapeCasts_S32x1024_S32x1024) e := rfl

section Real
variable (c : FVec Ideal S32x1024 .f32) (e : FVec Ideal S288x1024 .f32) (cr er : ℕ → Fin 1024 → ℝ)
  (ec : ∀ (o : Fin 32) k, (c (ix2 o k) : EReal) = (cr o.val k : ℝ))
  (ee : ∀ (r : Fin 288) k, (e (ix2 r k) : EReal) = (er r.val k : ℝ))

include ec ee in
theorem DVN_real (n : Nat) (hn : n ≤ 30) (r : Fin 256) (k : Fin 1024) :
    (DVN c e n (ix2 r k) : EReal) = ((∑ m ∈ Finset.range (n + 1), er (r.val + m) k * cr (30 - m) k : ℝ) : EReal) := by
  induction n with
  | zero =>
    unfold DVN
    rw [mulf_apply, cwr_apply, extractStridedSlice_apply (s := S288x1024) (t := S256x1024) ![0, 0] _ slices_S288x1024_o0_0_S256x1024 (ix2 r k) (ix2 ⟨r.val, by omega⟩ k)
      (fun a => by
        match a with
        | ⟨0, _⟩ => show r.val = 0 + r.val; omega
        | ⟨1, _⟩ => show k.val = 0 + k.val; omega)]
    rw [ee, ec]
    exact (mulR _ _).trans (by rw [Finset.sum_range_one]; rfl)
  | succ n ih =>
    unfold DVN
    rw [addf_apply, mulf_apply, cwr_apply, rot_apply (n + 1) (by omega) (by omega), ih (by omega), ee, ec]
    rw [Finset.sum_range_succ _ (n + 1)]
    exact (congrArg _ (mulR _ _)).trans (addR _ _)
end Real

/-! ### The gradient of the taps -/

/-- The sum of the first `n + 1` blocks of eight rows. -/
def PS (p : FVec Ideal S256x1024 .f32) : (n : Nat) → n < 32 → FVec Ideal S8x1024 .f32
  | 0, _ => extractStridedSlice S8x1024 ![0, 0] p (sl256 0 (by omega))
  | n + 1, h => addf (PS p n (by omega)) (extractStridedSlice S8x1024 ![8 * (n + 1), 0] p (sl256 (8 * (n + 1)) (by omega)))

theorem s8_apply (o : Nat) (h : o < 249) (p : FVec Ideal S256x1024 .f32) (q : Fin 8) (k : Fin 1024) :
    extractStridedSlice S8x1024 ![o, 0] p (sl256 o h) (ix2 q k) = p (ix2 ⟨o + q.val, by omega⟩ k) :=
  extractStridedSlice_apply (s := S256x1024) (t := S8x1024) ![o, 0] p (sl256 o h) (ix2 q k) (ix2 ⟨o + q.val, by omega⟩ k)
    (fun a => by
      match a with
      | ⟨0, _⟩ => rfl
      | ⟨1, _⟩ => show k.val = 0 + k.val; omega)

theorem PS_real (p : FVec Ideal S256x1024 .f32) (f : ℕ → Fin 1024 → ℝ) (ep : ∀ (r : Fin 256) k, (p (ix2 r k) : EReal) = (f r.val k : ℝ))
    (n : Nat) (hn : n < 32) (q : Fin 8) (k : Fin 1024) :
    (PS p n hn (ix2 q k) : EReal) = ((∑ b ∈ Finset.range (n + 1), f (8 * b + q.val) k : ℝ) : EReal) := by
  induction n with
  | zero => unfold PS; rw [s8_apply 0 (by omega), ep, Finset.sum_range_one]
  | succ n ih =>
    unfold PS
    rw [addf_apply, s8_apply (8 * (n + 1)) (by omega), ih, ep, Finset.sum_range_succ _ (n + 1)]
    exact addR _ _

/-- Slot `m` of the accumulator after the tile. -/
def gp (m : Nat) (d : FVec Ideal S256x1024 .f32) (e : FVec Ideal S288x1024 .f32) (v : Vec Ideal S1x8x1024 .f32) : FVec Ideal S1x8x1024 .f32 :=
  shapeCast S1x8x1024 (addf (shapeCast S8x1024 v shapeCasts_S1x8x1024_S8x1024) (PS (mulf d (rot (m + 2) e)) 31 (by omega))) shapeCasts_S8x1024_S1x8x1024

theorem cast8 (v : Vec Ideal S1x8x1024 .f32) (q : Fin 8) (k : Fin 1024) :
    shapeCast S8x1024 v shapeCasts_S1x8x1024_S8x1024 (ix2 q k) = v (ix3 0 q k) :=
  shapeCast_apply v shapeCasts_S1x8x1024_S8x1024 (ix2 q k) (ix3 0 q k) (by
    rw [Shape.rowMajor_val_two, Shape.rowMajor_val_three]; show (0 * 8 + q.val) * 1024 + k.val = q.val * 1024 + k.val; omega)

theorem cast18 (v : FVec Ideal S8x1024 .f32) (z : Fin 1) (q : Fin 8) (k : Fin 1024) :
    shapeCast S1x8x1024 v shapeCasts_S8x1024_S1x8x1024 (ix3 z q k) = v (ix2 q k) :=
  shapeCast_apply v shapeCasts_S8x1024_S1x8x1024 (ix3 z q k) (ix2 q k) (by
    rw [Shape.rowMajor_val_two, Shape.rowMajor_val_three]; show q.val * 1024 + k.val = (z.val * 8 + q.val) * 1024 + k.val; omega)

theorem gp_real (m : Nat) (hm : m ≤ 30) (d : FVec Ideal S256x1024 .f32) (e : FVec Ideal S288x1024 .f32) (v : Vec Ideal S1x8x1024 .f32)
    (dr er : ℕ → Fin 1024 → ℝ)
    (ed : ∀ (r : Fin 256) k, (d (ix2 r k) : EReal) = (dr r.val k : ℝ))
    (ee : ∀ (r : Fin 288) k, (e (ix2 r k) : EReal) = (er r.val k : ℝ))
    (x : ℝ) (z : Fin 1) (q : Fin 8) (k : Fin 1024) (ev : (v (ix3 0 q k) : EReal) = (x : ℝ)) :
    (gp m d e v (ix3 z q k) : EReal) = ((x + ∑ b ∈ Finset.range 32, dr (8 * b + q.val) k * er (8 * b + q.val + m + 2) k : ℝ) : EReal) := by
  unfold gp
  rw [cast18, addf_apply, cast8, ev,
    PS_real (mulf d (rot (m + 2) e)) (fun r k => dr r k * er (r + m + 2) k) (fun r k => by
      rw [mulf_apply, rot_apply (m + 2) (by omega) (by omega), ed, ee]; exact mulR _ _)]
  exact addR _ _

section Taps
variable (d : FVec Ideal S256x1024 .f32) (e : FVec Ideal S288x1024 .f32) (v : Vec Ideal S1x8x1024 .f32)

theorem tap0 : k0_pay83 (F := Ideal) (k0_pay81 d e) (k0_pay82 d e) v = gp 0 d e v := rfl
theorem tap1 : k0_pay87 (F := Ideal) (k0_pay86 (k0_pay84 d e) (k0_pay85 d e) v) = gp 1 d e v := rfl
theorem tap2 : k0_pay90 (F := Ideal) (k0_pay88 d e) (k0_pay89 d e) v = gp 2 d e v := rfl
theorem tap3 : k0_pay93 (F := Ideal) (k0_pay91 d e) (k0_pay92 d e) v = gp 3 d e v := rfl
theorem tap4 : k0_pay97 (F := Ideal) (k0_pay96 (k0_pay94 d e) (k0_pay95 d e) v) = gp 4 d e v := rfl
theorem tap5 : k0_pay100 (F := Ideal) (k0_pay98 d e) (k0_pay99 d e) v = gp 5 d e v := rfl
theorem tap6 : k0_pay103 (F := Ideal) (k0_pay101 d e) (k0_pay102 d e) v = gp 6 d e v := rfl
theorem tap7 : k0_pay107 (F := Ideal) (k0_pay106 (k0_pay104 d e) (k0_pay105 d e) v) = gp 7 d e v := rfl
theorem tap8 : k0_pay110 (F := Ideal) (k0_pay108 d e) (k0_pay109 d e) v = gp 8 d e v := rfl
theorem tap9 : k0_pay113 (F := Ideal) (k0_pay111 d e) (k0_pay112 d e) v = gp 9 d e v := rfl
theorem tap10 : k0_pay117 (F := Ideal) (k0_pay116 (k0_pay114 d e) (k0_pay115 d e) v) = gp 10 d e v := rfl
theorem tap11 : k0_pay120 (F := Ideal) (k0_pay118 d e) (k0_pay119 d e) v = gp 11 d e v := rfl
theorem tap12 : k0_pay123 (F := Ideal) (k0_pay121 d e) (k0_pay122 d e) v = gp 12 d e v := rfl
theorem tap13 : k0_pay127 (F := Ideal) (k0_pay126 (k0_pay124 d e) (k0_pay125 d e) v) = gp 13 d e v := rfl
theorem tap14 : k0_pay130 (F := Ideal) (k0_pay128 d e) (k0_pay129 d e) v = gp 14 d e v := rfl
theorem tap15 : k0_pay133 (F := Ideal) (k0_pay131 d e) (k0_pay132 d e) v = gp 15 d e v := rfl
theorem tap16 : k0_pay137 (F := Ideal) (k0_pay136 (k0_pay134 d e) (k0_pay135 d e) v) = gp 16 d e v := rfl
theorem tap17 : k0_pay140 (F := Ideal) (k0_pay138 d e) (k0_pay139 d e) v = gp 17 d e v := rfl
theorem tap18 : k0_pay143 (F := Ideal) (k0_pay141 d e) (k0_pay142 d e) v = gp 18 d e v := rfl
theorem tap19 : k0_pay147 (F := Ideal) (k0_pay146 (k0_pay144 d e) (k0_pay145 d e) v) = gp 19 d e v := rfl
theorem tap20 : k0_pay150 (F := Ideal) (k0_pay148 d e) (k0_pay149 d e) v = gp 20 d e v := rfl
theorem tap21 : k0_pay153 (F := Ideal) (k0_pay151 d e) (k0_pay152 d e) v = gp 21 d e v := rfl
theorem tap22 : k0_pay157 (F := Ideal) (k0_pay156 (k0_pay154 d e) (k0_pay155 d e) v) = gp 22 d e v := rfl
theorem tap23 : k0_pay160 (F := Ideal) (k0_pay158 d e) (k0_pay159 d e) v = gp 23 d e v := rfl
theorem tap24 : k0_pay163 (F := Ideal) (k0_pay161 d e) (k0_pay162 d e) v = gp 24 d e v := rfl
theorem tap25 : k0_pay167 (F := Ideal) (k0_pay166 (k0_pay164 d e) (k0_pay165 d e) v) = gp 25 d e v := rfl
theorem tap26 : k0_pay170 (F := Ideal) (k0_pay168 d e) (k0_pay169 d e) v = gp 26 d e v := rfl
theorem tap27 : k0_pay173 (F := Ideal) (k0_pay171 d e) (k0_pay172 d e) v = gp 27 d e v := rfl
theorem tap28 : k0_pay177 (F := Ideal) (k0_pay176 (k0_pay174 d e) (k0_pay175 d e) v) = gp 28 d e v := rfl
theorem tap29 : k0_pay180 (F := Ideal) (k0_pay178 d e) (k0_pay179 d e) v = gp 29 d e v := rfl
theorem tap30 : k0_pay183 (F := Ideal) (k0_pay181 d e) (k0_pay182 d e) v = gp 30 d e v := rfl

end Taps

end Cert.ConvTaps

end
-- ==== Proof.ConvStores.lean ====
/-
  What the stores of one grid point leave in the buffers of the convolution's backward pass, and what its loads read.
-/
module

public import proofs.«01_k».proof.Proof.ConvTaps
public import proofs.«01_k».proof.Proof.RowStore

@[expose] public section

noncomputable section

namespace Cert.ConvStores

open Cert.KernelIdeal Cert.KernelIdeal.Gen Cert.Rows Cert.Finite Cert.ConvTile Cert.ConvTaps Cert.RowStore
open Idealize.ShloMosaic Idealize.ShloMosaic.ValueIdx

theorem ite_close {α : Type} {p : Prop} [Decidable p] {a b z : α} (h1 : p → a = z) (h2 : ¬p → b = z) : (if p then a else b) = z := by
  by_cases h : p
  · rw [if_pos h]; exact h1 h
  · rw [if_neg h]; exact h2 h

/-! ### The two buffers of 288 rows -/

/-- 32 rows, and 256 rows below them. -/
def stack (h : FVec Ideal S32x1024 .f32) (t : FVec Ideal S256x1024 .f32) : FVec Ideal S288x1024 .f32 := fun j =>
  if hr : (j 0).val < 32 then h (ix2 ⟨(j 0).val, hr⟩ (j 1)) else t (ix2 ⟨(j 0).val - 32, by have := (j 0).isLt; have : (j 0).val < 288 := this; omega⟩ (j 1))

/-- 256 rows, and 32 rows below them. -/
def stack2 (t : FVec Ideal S256x1024 .f32) (h : FVec Ideal S32x1024 .f32) : FVec Ideal S288x1024 .f32 := fun j =>
  if hr : (j 0).val < 256 then t (ix2 ⟨(j 0).val, hr⟩ (j 1)) else h (ix2 ⟨(j 0).val - 256, by have := (j 0).isLt; have : (j 0).val < 288 := this; omega⟩ (j 1))

/-- The first 32 rows. -/
def topOf (X : FVec Ideal S288x1024 .f32) : FVec Ideal S32x1024 .f32 := fun j =>
  X (ix2 ⟨(j 0).val, by have := (j 0).isLt; have : (j 0).val < 32 := this; omega⟩ (j 1))

section V288
variable {sig' : RefSig} {κ : Kind} {sp : Space} (v : View sig' κ sp S288x1024 .f32) (f : v.ty.Contents (Elt Ideal))

theorem read_stack (inb1 : ∀ a, (![32, 0] : Fin 2 → ℕ) a + (![256, 1024] : Fin 2 → ℕ) a ≤ S288x1024.size a)
    (inb2 : ∀ a, (![0, 0] : Fin 2 → ℕ) a + (![32, 1024] : Fin 2 → ℕ) a ≤ S288x1024.size a)
    (t : FVec Ideal S256x1024 .f32) (h : FVec Ideal S32x1024 .f32) (L : List (View.Piece (Elt Ideal) S288x1024 .f32)) :
    v.read (Elt Ideal) (v.writes (Elt Ideal) f ((⟨Rect.unit (s := S288x1024) ![32, 0] ![256, 1024] inb1, t⟩ : View.Piece (Elt Ideal) S288x1024 .f32)
      :: (⟨Rect.unit (s := S288x1024) ![0, 0] ![32, 1024] inb2, h⟩ : View.Piece (Elt Ideal) S288x1024 .f32) :: L)) = stack h t := by
  funext j
  obtain ⟨r, k, hj⟩ : ∃ (r : Fin 288) (k : Fin 1024), j = ix2 r k := ⟨j 0, j 1, eq_ix2 j⟩
  subst hj
  unfold stack
  by_cases hr : r.val < 32
  · rw [dif_pos (show ((ix2 r k : S288x1024.Idx) 0).val < 32 from hr)]
    refine (View.read_writes_cons_rows_of_not_mem (d := ![288, 1024]) (o := 32) (W := 256) v f inb1 t _ (ix2 r k) rfl rfl (by show r.val < 32 ∨ 32 + 256 ≤ r.val; omega)).trans ?_
    exact View.read_writes_cons_rows_of_mem (d := ![288, 1024]) v f inb2 h L (ix2 r k) (ix2 ⟨r.val, hr⟩ k) rfl (by show r.val = 0 + r.val; omega) rfl
  · rw [dif_neg (show ¬((ix2 r k : S288x1024.Idx) 0).val < 32 from hr)]
    exact View.read_writes_cons_rows_of_mem (d := ![288, 1024]) v f inb1 t _ (ix2 r k) (ix2 ⟨r.val - 32, by omega⟩ k) rfl (by show r.val = 32 + (r.val - 32); omega) rfl

theorem read_stack2 (inb1 : ∀ a, (![0, 0] : Fin 2 → ℕ) a + (![256, 1024] : Fin 2 → ℕ) a ≤ S288x1024.size a)
    (inb2 : ∀ a, (![256, 0] : Fin 2 → ℕ) a + (![32, 1024] : Fin 2 → ℕ) a ≤ S288x1024.size a)
    (t : FVec Ideal S256x1024 .f32) (h : FVec Ideal S32x1024 .f32) (L : List (View.Piece (Elt Ideal) S288x1024 .f32)) :
    v.read (Elt Ideal) (v.writes (Elt Ideal) f ((⟨Rect.unit (s := S288x1024) ![0, 0] ![256, 1024] inb1, t⟩ : View.Piece (Elt Ideal) S288x1024 .f32)
      :: (⟨Rect.unit (s := S288x1024) ![256, 0] ![32, 1024] inb2, h⟩ : View.Piece (Elt Ideal) S288x1024 .f32) :: L)) = stack2 t h := by
  funext j
  obtain ⟨r, k, hj⟩ : ∃ (r : Fin 288) (k : Fin 1024), j = ix2 r k := ⟨j 0, j 1, eq_ix2 j⟩
  subst hj
  unfold stack2
  by_cases hr : r.val < 256
  · rw [dif_pos (show ((ix2 r k : S288x1024.Idx) 0).val < 256 from hr)]
    exact View.read_writes_cons_rows_of_mem (d := ![288, 1024]) v f inb1 t _ (ix2 r k) (ix2 ⟨r.val, hr⟩ k) rfl (by show r.val = 0 + r.val; omega) rfl
  · rw [dif_neg (show ¬((ix2 r k : S288x1024.Idx) 0).val < 256 from hr)]
    refine (View.read_writes_cons_rows_of_not_mem (d := ![288, 1024]) (o := 0) (W := 256) v f inb1 t _ (ix2 r k) rfl rfl (by show r.val < 0 ∨ 0 + 256 ≤ r.val; omega)).trans ?_
    exact View.read_writes_cons_rows_of_mem (d := ![288, 1024]) v f inb2 h L (ix2 r k) (ix2 ⟨r.val - 256, by omega⟩ k) rfl (by show r.val = 256 + (r.val - 256); omega) rfl

/-- A load of all the rows. -/
theorem cov_whole (L : List (View.Piece (Elt Ideal) S288x1024 .f32)) (inb : ∀ a, (![0, 0] : Fin 2 → ℕ) a + (![288, 1024] : Fin 2 → ℕ) a ≤ S288x1024.size a) :
    v.readCov L (Rect.unit (s := S288x1024) ![0, 0] ![288, 1024] inb).toLoadRect = v.read (Elt Ideal) (v.writes (Elt Ideal) v.junk L) :=
  View.ld_unit_zero (S := S288x1024) (by funext a; fin_cases a <;> rfl) inb _

theorem ld_top (X : FVec Ideal S288x1024 .f32) (inb : ∀ a, (![0, 0] : Fin 2 → ℕ) a + (![32, 1024] : Fin 2 → ℕ) a ≤ S288x1024.size a) :
    View.ld (Val := Elt Ideal) (e' := .f32) X (Rect.unit (s := S288x1024) ![0, 0] ![32, 1024] inb) = topOf X := by
  funext j
  show X _ = X _
  congr 1
  funext a
  apply Fin.ext
  match a with
  | ⟨0, _⟩ => show 0 + 1 * (j 0).val = (j 0).val; omega
  | ⟨1, _⟩ => show 0 + 1 * (j 1).val = (j 1).val; omega
end V288

/-! ### The slots of the accumulator of the taps -/

/-- Slot `o`. -/
def slotOf {α : Type} (X : S32x8x1024.Idx → α) (o : Fin 32) : S1x8x1024.Idx → α := fun j => X (ix3 o (j 1) (j 2))

theorem ld_slot {Val : EltTy → Type} {e : EltTy} (X : S32x8x1024.Idx → Val e) (o : ℕ) (ho : o < 32) (inb : ∀ a, (![o, 0, 0] : Fin 3 → ℕ) a + (![1, 8, 1024] : Fin 3 → ℕ) a ≤ S32x8x1024.size a) :
    View.ld (e' := e) X (Rect.unit (s := S32x8x1024) ![o, 0, 0] ![1, 8, 1024] inb) = slotOf X ⟨o, ho⟩ := by
  funext j
  show X _ = X _
  congr 1
  funext a
  apply Fin.ext
  have hj : (j 0).val < 1 := (j 0).isLt
  match a with
  | ⟨0, _⟩ => show o + 1 * (j 0).val = o; omega
  | ⟨1, _⟩ => show 0 + 1 * (j 1).val = (j 1).val; omega
  | ⟨2, _⟩ => show 0 + 1 * (j 2).val = (j 2).val; omega

section V32
variable {sig' : RefSig} {κ : Kind} {sp : Space} (v : View sig' κ sp S32x8x1024 .f32) (f : v.ty.Contents (Elt Ideal))

theorem put_slot (o : ℕ) (inb : ∀ a, (![o, 0, 0] : Fin 3 → ℕ) a + (![1, 8, 1024] : Fin 3 → ℕ) a ≤ S32x8x1024.size a) (w : Vec Ideal S1x8x1024 .f32)
    (L : List (View.Piece (Elt Ideal) S32x8x1024 .f32)) (m : Fin 32) (q : Fin 8) (k : Fin 1024) :
    v.read (Elt Ideal) (v.writes (Elt Ideal) f ((⟨Rect.unit (s := S32x8x1024) ![o, 0, 0] ![1, 8, 1024] inb, w⟩ : View.Piece (Elt Ideal) S32x8x1024 .f32) :: L)) (ix3 m q k)
      = if m.val = o then w (ix3 0 q k) else v.read (Elt Ideal) (v.writes (Elt Ideal) f L) (ix3 m q k) := by
  by_cases hr : m.val = o
  · rw [if_pos hr]
    exact View.read_writes_cons_unit_of_mem v f inb w L (ix3 m q k) (ix3 0 q k) rfl (fun a => by
      match a with
      | ⟨0, _⟩ => show m.val = o + 0; omega
      | ⟨1, _⟩ => show q.val = 0 + q.val; omega
      | ⟨2, _⟩ => show k.val = 0 + k.val; omega)
  · rw [if_neg hr]
    exact View.read_writes_cons_unit_of_not_mem v f inb w L (ix3 m q k) rfl 0 (by show m.val < o ∨ o + 1 ≤ m.val; omega)

theorem skip_slot (o o' : ℕ) (ho : o' < o) (inb : ∀ a, (![o, 0, 0] : Fin 3 → ℕ) a + (![1, 8, 1024] : Fin 3 → ℕ) a ≤ S32x8x1024.size a)
    (inb' : ∀ a, (![o', 0, 0] : Fin 3 → ℕ) a + (![1, 8, 1024] : Fin 3 → ℕ) a ≤ S32x8x1024.size a) (w : Vec Ideal S1x8x1024 .f32) (L : List (View.Piece (Elt Ideal) S32x8x1024 .f32)) :
    v.readCov ((⟨Rect.unit (s := S32x8x1024) ![o', 0, 0] ![1, 8, 1024] inb', w⟩ : View.Piece (Elt Ideal) S32x8x1024 .f32) :: L) (Rect.unit (s := S32x8x1024) ![o, 0, 0] ![1, 8, 1024] inb).toLoadRect
      = v.readCov L (Rect.unit (s := S32x8x1024) ![o, 0, 0] ![1, 8, 1024] inb).toLoadRect :=
  View.readCov_skip _ _ _ _ _ (decide_eq_true ⟨0, by
    show 1 = 0 ∨ 1 = 0 ∨ o' + 1 * (1 - 1) < o ∨ o + 1 * (1 - 1) < o'
    omega⟩)

theorem zero3 (a : Fin 3) : (![0, 0, 0] : Fin 3 → ℕ) a = 0 := by fin_cases a <;> rfl

theorem fill_slot {Val : EltTy → Type} {e : EltTy} (v : View sig' κ sp S32x8x1024 e) [∀ e, Nonempty (Val e)] (o : ℕ) (ho : o < 32)
    (inb : ∀ a, (![o, 0, 0] : Fin 3 → ℕ) a + (![1, 8, 1024] : Fin 3 → ℕ) a ≤ S32x8x1024.size a)
    (inb' : ∀ a, (![0, 0, 0] : Fin 3 → ℕ) a + S32x8x1024.size a ≤ S32x8x1024.size a) (Z : S32x8x1024.Idx → Val e) :
    v.readCov [(⟨Rect.unit (s := S32x8x1024) ![0, 0, 0] S32x8x1024.size inb', Z⟩ : View.Piece Val S32x8x1024 e)] (Rect.unit (s := S32x8x1024) ![o, 0, 0] ![1, 8, 1024] inb).toLoadRect
      = slotOf Z ⟨o, ho⟩ :=
  (View.readCov_fill (off := ![0, 0, 0]) v inb' Z [] _ zero3).trans (ld_slot Z o ho inb)

theorem put_slots (inb : ∀ a, (![0, 0, 0] : Fin 3 → ℕ) a + (![32, 8, 1024] : Fin 3 → ℕ) a ≤ S32x8x1024.size a) (Z : FVec Ideal S32x8x1024 .f32)
    (L : List (View.Piece (Elt Ideal) S32x8x1024 .f32)) (m : Fin 32) (q : Fin 8) (k : Fin 1024) :
    v.read (Elt Ideal) (v.writes (Elt Ideal) f ((⟨Rect.unit (s := S32x8x1024) ![0, 0, 0] ![32, 8, 1024] inb, Z⟩ : View.Piece (Elt Ideal) S32x8x1024 .f32) :: L)) (ix3 m q k) = Z (ix3 m q k) :=
  View.read_writes_cons_unit_of_mem v f inb Z L (ix3 m q k) (ix3 m q k) rfl (fun a => by
      match a with
      | ⟨0, _⟩ => show m.val = 0 + m.val; omega
      | ⟨1, _⟩ => show q.val = 0 + q.val; omega
      | ⟨2, _⟩ => show k.val = 0 + k.val; omega)
end V32

/-- The accumulator of the taps after the tile. -/
def GP (d : FVec Ideal S256x1024 .f32) (e : FVec Ideal S288x1024 .f32) (X : FVec Ideal S32x8x1024 .f32) : FVec Ideal S32x8x1024 .f32 := fun j =>
  if (j 0).val < 31 then gp (j 0).val d e (slotOf X (j 0)) (ix3 0 (j 1) (j 2)) else X j

section GPs
variable (d : FVec Ideal S256x1024 .f32) (e : FVec Ideal S288x1024 .f32) (X : FVec Ideal S32x8x1024 .f32) (m : Fin 32) (q : Fin 8) (k : Fin 1024)

theorem GP_lt (h : m.val < 31) : GP d e X (ix3 m q k) = gp m.val d e (slotOf X m) (ix3 0 q k) := if_pos h
theorem GP_ge (h : ¬m.val < 31) : GP d e X (ix3 m q k) = X (ix3 m q k) := if_neg h
end GPs

/-! ### The rows of the eight sums -/

/-- A row of the sums after the tile. -/
def ACC (x : FVec Ideal S256x1024 .f32) (v : Vec Ideal S1x1024 .f32) : FVec Ideal S1x1024 .f32 :=
  addf (shapeCast S1x1024 v shapeCasts_S1x1024_S1x1024)
    (shapeCast S1x1024 (multiReduction .add [0] S1024 x 0x00000000#32 reduces_S256x1024_S1024 (.inl rfl) rfl) shapeCasts_S1024_S1x1024)

/-- The eight sums after the tile: four rows are in use. -/
def VV (d1 yn dap dy2 : FVec Ideal S256x1024 .f32) (X : FVec Ideal S8x1024 .f32) (r : Fin 8) (k : Fin 1024) : EReal :=
  if r.val = 3 then ACC dy2 (rowOf X 3) (ix2 0 k)
  else if r.val = 2 then ACC dap (rowOf X 2) (ix2 0 k)
  else if r.val = 1 then ACC (mulf dap yn) (rowOf X 1) (ix2 0 k)
  else if r.val = 0 then ACC d1 (rowOf X 0) (ix2 0 k)
  else X (ix2 r k)

/-! ### The three slices of the first output -/

section V3
variable {sig' : RefSig} {κ : Kind} {sp : Space} (v : View sig' κ sp S3x256x1024 .bf16) (f : v.ty.Contents (Elt Ideal))

theorem put_slice (o : ℕ) (inb : ∀ a, (![o, 0, 0] : Fin 3 → ℕ) a + (![1, 256, 1024] : Fin 3 → ℕ) a ≤ S3x256x1024.size a) (w : FVec Ideal S1x256x1024 .bf16)
    (L : List (View.Piece (Elt Ideal) S3x256x1024 .bf16)) (m : Fin 3) (q : Fin 256) (k : Fin 1024) :
    v.read (Elt Ideal) (v.writes (Elt Ideal) f ((⟨Rect.unit (s := S3x256x1024) ![o, 0, 0] ![1, 256, 1024] inb, w⟩ : View.Piece (Elt Ideal) S3x256x1024 .bf16) :: L)) (ix3 m q k)
      = if m.val = o then w (ix3 0 q k) else v.read (Elt Ideal) (v.writes (Elt Ideal) f L) (ix3 m q k) := by
  by_cases hr : m.val = o
  · rw [if_pos hr]
    exact View.read_writes_cons_unit_of_mem v f inb w L (ix3 m q k) (ix3 0 q k) rfl (fun a => by
      match a with
      | ⟨0, _⟩ => show m.val = o + 0; omega
      | ⟨1, _⟩ => show q.val = 0 + q.val; omega
      | ⟨2, _⟩ => show k.val = 0 + k.val; omega)
  · rw [if_neg hr]
    exact View.read_writes_cons_unit_of_not_mem v f inb w L (ix3 m q k) rfl 0 (by show m.val < o ∨ o + 1 ≤ m.val; omega)
end V3

def TZ0 (x1 : FVec Ideal S256x1024 .f32) (x7 : FVec Ideal S32x1024 .f32) (E : FVec Ideal S288x1024 .f32) : FVec Ideal S1x256x1024 .bf16 :=
  k0_pay2 (F := Ideal) (k0_pay8 x1) (k0_pay184 x7) E (CH x7 E) (k0_pay194 E)
def TZ1 (x0 x1 : FVec Ideal S256x1024 .f32) (x7 : FVec Ideal S32x1024 .f32) (E : FVec Ideal S288x1024 .f32) : FVec Ideal S1x256x1024 .bf16 :=
  k0_pay3 (F := Ideal) x0 (k0_pay8 x1) (k0_pay184 x7) E (CH x7 E) (k0_pay194 E)

end Cert.ConvStores

end
-- ==== Proof.ConvGrid.lean ====
/-
  The convolution block's backward pass: the tiles the kernel reads at one grid point, and what one grid point adds.
-/
module

public import proofs.«01_k».proof.Proof.ConvHost
public import proofs.«01_k».proof.Proof.ConvStores

@[expose] public section

noncomputable section

namespace Cert.ConvGrid

open Cert.KernelIdeal Cert.KernelIdeal.Gen Idealize.ShloMosaic Idealize.ShloMosaic.TcCoe
open Idealize.ShloMosaic.ValueIdx Cert.Common Cert.Rows Cert.Finite Cert.RowStore Cert.ConvTile Cert.ConvStores Cert.ConvSpec Cert.ConvHost
open Cert.ConvRef (Reals)
open Cert.Tail (lgs logistic_real)

variable (m : (ℓ : Loc nD τ sig) → Buf (Elt Ideal) ℓ)

/-! ## The tiles of the arguments -/

theorem idx0 : ∀ t : Fin cfg0.N, win0_0.index t = ![31 - t.val, 0] := (by decide +kernel : ∀ t : Fin grid0.N, win0_0.index t = ![31 - t.val, 0])
theorem idx1 : ∀ t : Fin cfg0.N, win0_1.index t = ![31 - t.val, 1] := (by decide +kernel : ∀ t : Fin grid0.N, win0_1.index t = ![31 - t.val, 1])
theorem idx2 : ∀ t : Fin cfg0.N, win0_2.index t = ![31 - t.val, 2] := (by decide +kernel : ∀ t : Fin grid0.N, win0_2.index t = ![31 - t.val, 2])
theorem idx3 : ∀ t : Fin cfg0.N, win0_3.index t = ![8 * (31 - t.val) - 1, 0] := (by decide +kernel : ∀ t : Fin grid0.N, win0_3.index t = ![8 * (31 - t.val) - 1, 0])
theorem idx4 : ∀ t : Fin cfg0.N, win0_4.index t = ![8 * (31 - t.val) - 1, 1] := (by decide +kernel : ∀ t : Fin grid0.N, win0_4.index t = ![8 * (31 - t.val) - 1, 1])
theorem idx5 : ∀ t : Fin cfg0.N, win0_5.index t = ![31 - t.val, 0] := (by decide +kernel : ∀ t : Fin grid0.N, win0_5.index t = ![31 - t.val, 0])
theorem idx6 : ∀ t : Fin cfg0.N, win0_6.index t = ![31 - t.val, 0] := (by decide +kernel : ∀ t : Fin grid0.N, win0_6.index t = ![31 - t.val, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 31 - t.val, 0] := (by decide +kernel : ∀ t : Fin grid0.N, win0_12.index t = ![0, 31 - t.val, 0])
theorem idx13 : ∀ t : Fin cfg0.N, win0_13.index t = ![31 - t.val, 0] := (by decide +kernel : ∀ t : Fin grid0.N, win0_13.index t = ![31 - t.val, 0])
theorem idx14 : ∀ t : Fin cfg0.N, win0_14.index t = ![31 - t.val, 0] := (by decide +kernel : ∀ t : Fin grid0.N, win0_14.index t = ![31 - t.val, 0])
theorem idx15 : ∀ t : Fin cfg0.N, win0_15.index t = ![0, 0] := (by decide +kernel : ∀ t : Fin grid0.N, win0_15.index t = ![0, 0])
theorem idx16 : ∀ t : Fin cfg0.N, win0_16.index t = ![0, 0] := (by decide +kernel : ∀ t : Fin grid0.N, win0_16.index t = ![0, 0])

theorem lt32 (t : Fin cfg0.N) : t.val < 32 := lt_of_lt_of_eq t.isLt N_0

/-- The row of the whole array that row `r` of the tile at point `t` is: the points go from the last tile to the first. -/
def row (t : Fin cfg0.N) (r : Fin 256) : Fin 8192 := ⟨(31 - t.val) * 256 + r.val, by
  have := r.isLt
  omega⟩

/-- The row of the whole array that row `e` of the 32 rows before the tile is; the first tile has none before it. -/
def hrow (t : Fin cfg0.N) (e : Fin 32) : Fin 8192 := ⟨(8 * (31 - t.val) - 1) * 32 + e.val, by
  have := e.isLt
  omega⟩

theorem iblk0 (c : Dev nD) (t : Fin cfg0.N) (r : Fin 256) (k : Fin 1024) : (iblk m c 0 t : S256x1024.Idx → EReal) (ix2 r k) = X0 m c (ix2 (row t r) (c0 k)) := by
  refine Eq.trans ?_ (congrFun (V_main_arg0 m c) _)
  show (V m c main_arg0 : S8192x7168.Idx → EReal) _ = _
  congr 1
  funext a; apply Fin.ext
  have e := idx0 t
  match a with
  | ⟨0, _⟩ => show win0_0.index t 0 * 256 + 1 * r.val = (31 - t.val) * 256 + r.val; rw [e]; simp
  | ⟨1, _⟩ => show win0_0.index t 1 * 1024 + 1 * k.val = k.val; rw [e]; simp

theorem iblk1 (c : Dev nD) (t : Fin cfg0.N) (r : Fin 256) (k : Fin 1024) : (iblk m c 1 t : S256x1024.Idx → EReal) (ix2 r k) = X0 m c (ix2 (row t r) (c1 k)) := by
  refine Eq.trans ?_ (congrFun (V_main_arg0 m c) _)
  show (V m c main_arg0 : S8192x7168.Idx → EReal) _ = _
  congr 1
  funext a; apply Fin.ext
  have e := idx1 t
  match a with
  | ⟨0, _⟩ => show win0_1.index t 0 * 256 + 1 * r.val = (31 - t.val) * 256 + r.val; rw [e]; simp
  | ⟨1, _⟩ => show win0_1.index t 1 * 1024 + 1 * k.val = 1024 + k.val; rw [e]; simp

theorem iblk2 (c : Dev nD) (t : Fin cfg0.N) (r : Fin 256) (k : Fin 1024) : (iblk m c 2 t : S256x1024.Idx → EReal) (ix2 r k) = X0 m c (ix2 (row t r) (c2 k)) := by
  refine Eq.trans ?_ (congrFun (V_main_arg0 m c) _)
  show (V m c main_arg0 : S8192x7168.Idx → EReal) _ = _
  congr 1
  funext a; apply Fin.ext
  have e := idx2 t
  match a with
  | ⟨0, _⟩ => show win0_2.index t 0 * 256 + 1 * r.val = (31 - t.val) * 256 + r.val; rw [e]; simp
  | ⟨1, _⟩ => show win0_2.index t 1 * 1024 + 1 * k.val = 2048 + k.val; rw [e]; simp

theorem iblk3 (c : Dev nD) (t : Fin cfg0.N) (r : Fin 32) (k : Fin 1024) : (iblk m c 3 t : S32x1024.Idx → EReal) (ix2 r k) = X0 m c (ix2 (hrow t r) (c0 k)) := by
  refine Eq.trans ?_ (congrFun (V_main_arg0 m c) _)
  show (V m c main_arg0 : S8192x7168.Idx → EReal) _ = _
  congr 1
  funext a; apply Fin.ext
  have e := idx3 t
  match a with
  | ⟨0, _⟩ => show win0_3.index t 0 * 32 + 1 * r.val = (8 * (31 - t.val) - 1) * 32 + r.val; rw [e]; simp
  | ⟨1, _⟩ => show win0_3.index t 1 * 1024 + 1 * k.val = k.val; rw [e]; simp

theorem iblk4 (c : Dev nD) (t : Fin cfg0.N) (r : Fin 32) (k : Fin 1024) : (iblk m c 4 t : S32x1024.Idx → EReal) (ix2 r k) = X0 m c (ix2 (hrow t r) (c1 k)) := by
  refine Eq.trans ?_ (congrFun (V_main_arg0 m c) _)
  show (V m c main_arg0 : S8192x7168.Idx → EReal) _ = _
  congr 1
  funext a; apply Fin.ext
  have e := idx4 t
  match a with
  | ⟨0, _⟩ => show win0_4.index t 0 * 32 + 1 * r.val = (8 * (31 - t.val) - 1) * 32 + r.val; rw [e]; simp
  | ⟨1, _⟩ => show win0_4.index t 1 * 1024 + 1 * k.val = 1024 + k.val; rw [e]; simp

theorem iblk5 (c : Dev nD) (t : Fin cfg0.N) (r : Fin 256) (k : Fin 1024) : (iblk m c 5 t : S256x1024.Idx → EReal) (ix2 r k) = y1 (X0 m c) (X2 m c) (X3 m c) (ix2 (row t r) k) := by
  rw [← V_v166 m c]
  show (V m c main_v166 : S8192x1024.Idx → EReal) _ = _
  congr 1
  funext a; apply Fin.ext
  have e := idx5 t
  match a with
  | ⟨0, _⟩ => show win0_5.index t 0 * 256 + 1 * r.val = (31 - t.val) * 256 + r.val; rw [e]; simp
  | ⟨1, _⟩ => show win0_5.index t 1 * 1024 + 1 * k.val = k.val; rw [e]; simp

theorem iblk6 (c : Dev nD) (t : Fin cfg0.N) (r : Fin 256) (k : Fin 1024) : (iblk m c 6 t : S256x1024.Idx → EReal) (ix2 r k) = X1 m c (ix2 (row t r) k) := by
  refine Eq.trans ?_ (congrFun (V_main_arg1 m c) _)
  show (V m c main_arg1 : S8192x1024.Idx → EReal) _ = _
  congr 1
  funext a; apply Fin.ext
  have e := idx6 t
  match a with
  | ⟨0, _⟩ => show win0_6.index t 0 * 256 + 1 * r.val = (31 - t.val) * 256 + r.val; rw [e]; simp
  | ⟨1, _⟩ => show win0_6.index t 1 * 1024 + 1 * k.val = k.val; rw [e]; simp

theorem iblk7 (c : Dev nD) (t : Fin cfg0.N) (r : Fin 32) (k : Fin 1024) : (iblk m c 7 t : S32x1024.Idx → EReal) (ix2 r k) = (V m c main_v167 : S32x1024.Idx → EReal) (ix2 r k) := by
  skip
  show (V m c main_v167 : S32x1024.Idx → EReal) _ = _
  congr 1
  funext a; apply Fin.ext
  have e := idx7 t
  match a with
  | ⟨0, _⟩ => show win0_7.index t 0 * 32 + 1 * r.val = r.val; rw [e]; simp
  | ⟨1, _⟩ => show win0_7.index t 1 * 1024 + 1 * k.val = k.val; rw [e]; simp

theorem iblk8 (c : Dev nD) (t : Fin cfg0.N) (r : Fin 1) (k : Fin 1024) : (iblk m c 8 t : S1x1024.Idx → EReal) (ix2 r k) = X4 m c (ix2 r k) := by
  refine Eq.trans ?_ (congrFun (V_main_arg4 m c) _)
  show (V m c main_arg4 : S1x1024.Idx → EReal) _ = _
  congr 1
  funext a; apply Fin.ext
  have e := idx8 t
  match a with
  | ⟨0, _⟩ => show win0_8.index t 0 * 1 + 1 * r.val = r.val; rw [e]; simp
  | ⟨1, _⟩ => show win0_8.index t 1 * 1024 + 1 * k.val = k.val; rw [e]; simp

theorem iblk9 (c : Dev nD) (t : Fin cfg0.N) (r : Fin 1) (k : Fin 1024) : (iblk m c 9 t : S1x1024.Idx → EReal) (ix2 r k) = X5 m c (ix2 r k) := by
  refine Eq.trans ?_ (congrFun (V_main_arg5 m c) _)
  show (V m c main_arg5 : S1x1024.Idx → EReal) _ = _
  congr 1
  funext a; apply Fin.ext
  have e := idx9 t
  match a with
  | ⟨0, _⟩ => show win0_9.index t 0 * 1 + 1 * r.val = r.val; rw [e]; simp
  | ⟨1, _⟩ => show win0_9.index t 1 * 1024 + 1 * k.val = k.val; rw [e]; simp

theorem iblk10 (c : Dev nD) (t : Fin cfg0.N) (r : Fin 1024) (k : Fin 1024) : (iblk m c 10 t : S1024x1024.Idx → EReal) (ix2 r k) = X6 m c (ix2 r k) := by
  rw [← V_v168 m c]
  show (V m c main_v168 : S1024x1024.Idx → EReal) _ = _
  congr 1
  funext a; apply Fin.ext
  have e := idx10 t
  match a with
  | ⟨0, _⟩ => show win0_10.index t 0 * 1024 + 1 * r.val = r.val; rw [e]; simp
  | ⟨1, _⟩ => show win0_10.index t 1 * 1024 + 1 * k.val = k.val; rw [e]; simp

theorem iblk11 (c : Dev nD) (t : Fin cfg0.N) (r : Fin 1) (k : Fin 1024) : (iblk m c 11 t : S1x1024.Idx → EReal) (ix2 r k) = X7 m c (ix2 r k) := by
  refine Eq.trans ?_ (congrFun (V_main_arg7 m c) _)
  show (V m c main_arg7 : S1x1024.Idx → EReal) _ = _
  congr 1
  funext a; apply Fin.ext
  have e := idx11 t
  match a with
  | ⟨0, _⟩ => show win0_11.index t 0 * 1 + 1 * r.val = r.val; rw [e]; simp
  | ⟨1, _⟩ => show win0_11.index t 1 * 1024 + 1 * k.val = k.val; rw [e]; simp

/-! ## Their entries are reals -/

section Real
variable (P : Par) (c : Dev nD) (R : Reals (X0 m c) (X1 m c) (X2 m c) (X3 m c) (X4 m c) (X5 m c) (X6 m c) (X7 m c) P) (t : Fin cfg0.N)

/-- The activations of a row of the tile. -/
def AT (r : Fin 256) : ConvMath.Acts := A P (row t r)

include R in
theorem e0 (r : Fin 256) (k : Fin 1024) : ((iblk m c 0 t : S256x1024.Idx → EReal) (ix2 r k) : EReal) = ((P.z (row t r) (c0 k) : ℝ) : EReal) := (iblk0 m c t r k).trans (R.h0 _ _)
include R in
theorem e1 (r : Fin 256) (k : Fin 1024) : ((iblk m c 1 t : S256x1024.Idx → EReal) (ix2 r k) : EReal) = ((P.z (row t r) (c1 k) : ℝ) : EReal) := (iblk1 m c t r k).trans (R.h0 _ _)
include R in
theorem e2 (r : Fin 256) (k : Fin 1024) : ((iblk m c 2 t : S256x1024.Idx → EReal) (ix2 r k) : EReal) = (((AT P t r).ct k : ℝ) : EReal) := (iblk2 m c t r k).trans (R.h0 _ _)
include R in
theorem e3 (r : Fin 32) (k : Fin 1024) : ((iblk m c 3 t : S32x1024.Idx → EReal) (ix2 r k) : EReal) = ((P.z (hrow t r) (c0 k) : ℝ) : EReal) := (iblk3 m c t r k).trans (R.h0 _ _)
include R in
theorem e4 (r : Fin 32) (k : Fin 1024) : ((iblk m c 4 t : S32x1024.Idx → EReal) (ix2 r k) : EReal) = ((P.z (hrow t r) (c1 k) : ℝ) : EReal) := (iblk4 m c t r k).trans (R.h0 _ _)
include R in
theorem e5 (r : Fin 256) (k : Fin 1024) : ((iblk m c 5 t : S256x1024.Idx → EReal) (ix2 r k) : EReal) = (((AT P t r).y k : ℝ) : EReal) := (iblk5 m c t r k).trans (y1_real m P c R _ _)
include R in
theorem e6 (r : Fin 256) (k : Fin 1024) : ((iblk m c 6 t : S256x1024.Idx → EReal) (ix2 r k) : EReal) = (((AT P t r).dc k : ℝ) : EReal) := (iblk6 m c t r k).trans (R.h1 _ _)
include R in
theorem e7 (j : Fin 32) (k : Fin 1024) : ((iblk m c 7 t : S32x1024.Idx → EReal) (ix2 j k) : EReal) = (((if j.val < 31 then P.cw j.val k else 0 : ℝ) : ℝ) : EReal) := by
  refine (iblk7 m c t j k).trans ?_
  by_cases h : j.val < 31
  · rw [if_pos h]; exact cw_real m P c R j h k
  · rw [if_neg h]
    obtain rfl : j = 31 := Fin.ext (by have := j.isLt; show j.val = 31; omega)
    exact cw_pad m c k
include R in
theorem e8 (k : Fin 1024) : ((iblk m c 8 t : S1x1024.Idx → EReal) (ix2 0 k) : EReal) = ((P.w.ng k : ℝ) : EReal) := (iblk8 m c t 0 k).trans (R.h4 _)
include R in
theorem e9 (k : Fin 1024) : ((iblk m c 9 t : S1x1024.Idx → EReal) (ix2 0 k) : EReal) = ((P.w.nb k : ℝ) : EReal) := (iblk9 m c t 0 k).trans (R.h5 _)
include R in
theorem e10 (j k : Fin 1024) : ((iblk m c 10 t : S1024x1024.Idx → EReal) (ix2 j k) : EReal) = ((P.w.wp j k : ℝ) : EReal) := (iblk10 m c t j k).trans (R.h6 _ _)
include R in
theorem e11 (k : Fin 1024) : ((iblk m c 11 t : S1x1024.Idx → EReal) (ix2 0 k) : EReal) = ((P.w.bp k : ℝ) : EReal) := (iblk11 m c t 0 k).trans (R.h7 _)

/-! ## The tile's intermediate values -/

/-- The gradient of the convolution at the tile. -/
abbrev TD1 : FVec Ideal S256x1024 .f32 := TDY1 (iblk m c 2 t) (iblk m c 5 t) (iblk m c 6 t) (iblk m c 8 t) (iblk m c 9 t) (iblk m c 10 t)
/-- The operand of the convolution at the tile, and at the 32 rows before it. -/
abbrev EXT : FVec Ideal S288x1024 .f32 := stack (k0_pay9 (F := Ideal) (grid0.coords t) (iblk m c 3 t) (iblk m c 4 t)) (k0_pay10 (F := Ideal) (iblk m c 0 t) (iblk m c 1 t))

include R in
theorem td1_real (r : Fin 256) (k : Fin 1024) : (TD1 m c t (ix2 r k) : EReal) = ((D1 P ((31 - t.val) * 256 + r.val) k : ℝ) : EReal) := by
  refine (TDY1_real P.w (AT P t) _ _ _ _ _ _ (e2 m P c R t) (e5 m P c R t) (e6 m P c R t) (e8 m P c R t) (e9 m P c R t) (e10 m P c R t) r k).trans ?_
  rw [show D1 P ((31 - t.val) * 256 + r.val) k = ConvMath.DY1 P.w (A P (row t r)) k from D1_at P (row t r) k]
  rfl

/-- The gradient of the convolution at the tile and at the 32 rows after it. -/
theorem stack2_real (D : FVec Ideal S256x1024 .f32) (T : FVec Ideal S32x1024 .f32) (n : ℕ) (hD : ∀ (r : Fin 256) k, (D (ix2 r k) : EReal) = ((D1 P (n + r.val) k : ℝ) : EReal))
    (hT : ∀ (e : Fin 32) k, (T (ix2 e k) : EReal) = ((D1 P (n + 256 + e.val) k : ℝ) : EReal)) (e : Fin 288) (k : Fin 1024) :
    (stack2 D T (ix2 e k) : EReal) = ((D1 P (n + e.val) k : ℝ) : EReal) := by
  unfold stack2
  by_cases h : e.val < 256
  · refine (dif_pos h).trans ?_
    exact hD ⟨e.val, h⟩ k
  · refine (dif_neg h).trans ?_
    refine (hT ⟨e.val - 256, by have := e.isLt; omega⟩ k).trans ?_
    rw [show n + 256 + (e.val - 256) = n + e.val by omega]

/-- The operand after 32 rows of zeros. -/
def VPX (n : ℕ) (k : Fin 1024) : ℝ := if h : 32 ≤ n ∧ n < 8224 then ConvSpec.V P ⟨n - 32, by omega⟩ k else 0

theorem VPX_add (n : ℕ) (k : Fin 1024) : VPX P (n + 2) k = VP P n k := by
  unfold VPX VP
  by_cases h : 30 ≤ n ∧ n < 8222
  · rw [dif_pos h, dif_pos (by omega)]
    congr 1
  · rw [dif_neg h, dif_neg (by omega)]

theorem first_flag : ∀ t : Fin cfg0.N, (Scalar.extui (Scalar.cmpi .slt (BitVec.ofNat 32 ((grid0.coords t) 0).val) 31#32) : BitVec 32) = if t.val < 31 then 1#32 else 0#32 :=
  (by decide +kernel : ∀ t : Fin grid0.N, (Scalar.extui (Scalar.cmpi .slt (BitVec.ofNat 32 ((grid0.coords t) 0).val) 31#32) : BitVec 32) = if t.val < 31 then 1#32 else 0#32)

theorem first_real : (Scalar.sitofp (F := Ideal) .f32 (Scalar.extui (Scalar.cmpi .slt (BitVec.ofNat 32 ((grid0.coords t) 0).val) 31#32) : BitVec 32) : EReal) = (((if t.val < 31 then 1 else 0 : ℝ) : ℝ) : EReal) := by
  rw [first_flag]
  by_cases h : t.val < 31
  · rw [if_pos h, if_pos h]
    show ((((1#32 : BitVec 32).toInt : ℝ)) : EReal) = _
    norm_num
  · rw [if_neg h, if_neg h]
    show ((((0#32 : BitVec 32).toInt : ℝ)) : EReal) = _
    simp

theorem pay9_eq (i : grid0.Coords) (x y : FVec Ideal S32x1024 .f32) (e : Fin 32) (k : Fin 1024) : (k0_pay9 (F := Ideal) i x y (ix2 e k) : EReal)
    = x (ix2 e k) * FloatOps.logistic (F := Ideal) (φ := .f32) (y (ix2 e k)) * (Scalar.sitofp (F := Ideal) .f32 (Scalar.extui (Scalar.cmpi .slt (BitVec.ofNat 32 (i 0).val) 31#32) : BitVec 32) : EReal) := by
  unfold k0_pay9
  dsimp only
  rw [shapeCast_self]
  rfl

theorem pay10_eq (x y : FVec Ideal S256x1024 .f32) (r : Fin 256) (k : Fin 1024) : (k0_pay10 (F := Ideal) x y (ix2 r k) : EReal) = x (ix2 r k) * FloatOps.logistic (F := Ideal) (φ := .f32) (y (ix2 r k)) := by
  unfold k0_pay10 k0_pay8
  dsimp only
  rw [shapeCast_self]
  rfl

include R in
theorem hist_real (e : Fin 32) (k : Fin 1024) : (k0_pay9 (F := Ideal) (grid0.coords t) (iblk m c 3 t) (iblk m c 4 t) (ix2 e k) : EReal) = ((VPX P ((31 - t.val) * 256 + e.val) k : ℝ) : EReal) := by
  rw [pay9_eq]
  rw [e3 m P c R t, e4 m P c R t, first_real t, logistic_real, ← EReal.coe_mul, ← EReal.coe_mul]
  congr 1
  have ht := lt32 t
  have he := e.isLt
  by_cases h : t.val < 31
  · rw [if_pos h, mul_one]
    unfold VPX
    rw [dif_pos ⟨by omega, by omega⟩]
    have hr : hrow t e = ⟨(31 - t.val) * 256 + e.val - 32, by omega⟩ := Fin.ext (by show (8 * (31 - t.val) - 1) * 32 + e.val = (31 - t.val) * 256 + e.val - 32; omega)
    rw [hr]
    rfl
  · rw [if_neg h, mul_zero]
    unfold VPX
    rw [dif_neg (by omega)]

include R in
theorem ext_real (e : Fin 288) (k : Fin 1024) : (EXT m c t (ix2 e k) : EReal) = ((VPX P ((31 - t.val) * 256 + e.val) k : ℝ) : EReal) := by
  unfold EXT stack
  by_cases h : e.val < 32
  · refine (dif_pos h).trans ?_
    exact hist_real m P c R t ⟨e.val, h⟩ k
  · refine (dif_neg h).trans ?_
    have he := e.isLt
    have ht := lt32 t
    rw [pay10_eq]
    rw [e0 m P c R t, e1 m P c R t, logistic_real, ← EReal.coe_mul]
    congr 1
    unfold VPX
    rw [dif_pos ⟨by omega, by omega⟩]
    have hr : row t ⟨e.val - 32, by omega⟩ = ⟨(31 - t.val) * 256 + e.val - 32, by omega⟩ := Fin.ext (by show (31 - t.val) * 256 + (e.val - 32) = (31 - t.val) * 256 + e.val - 32; omega)
    rw [hr]
    rfl

/-! ## What one grid point adds -/

/-- A row of the sums at one token. -/
def VRN (o n : ℕ) (k : Fin 1024) : ℝ := if h : n < 8192 then ConvMath.VR P.w (A P ⟨n, h⟩) o k else 0
/-- What point `p` adds to a row of the sums. -/
def VT (o : ℕ) (k : Fin 1024) (p : ℕ) : ℝ := ∑ r : Fin 256, VRN P o ((31 - p) * 256 + r.val) k
/-- What point `p` adds to a slot of the taps. -/
def GT (j q : ℕ) (k : Fin 1024) (p : ℕ) : ℝ :=
  ∑ b ∈ Finset.range 32, D1 P ((31 - p) * 256 + (8 * b + q)) k * VP P ((31 - p) * 256 + (8 * b + q) + j) k

theorem VRN_at (o : ℕ) (r : Fin 256) (k : Fin 1024) : VRN P o ((31 - t.val) * 256 + r.val) k = ConvMath.VR P.w (AT P t r) o k := dif_pos (row t r).isLt

include R in
theorem gp_step (X : FVec Ideal S32x8x1024 .f32) (hX : ∀ (j : Fin 32) (q : Fin 8) k, (X (ix3 j q k) : EReal) = (((if j.val < 31 then ∑ p ∈ Finset.range t.val, GT P j.val q.val k p else 0 : ℝ) : ℝ) : EReal))
    (j : Fin 32) (q : Fin 8) (k : Fin 1024) :
    (GP (TD1 m c t) (EXT m c t) X (ix3 j q k) : EReal) = (((if j.val < 31 then ∑ p ∈ Finset.range (t.val + 1), GT P j.val q.val k p else 0 : ℝ) : ℝ) : EReal) := by
  have hx := hX j q k
  by_cases h : j.val < 31
  · rw [if_pos h] at hx ⊢
    rw [GP_lt _ _ _ _ _ _ h]
    refine (ConvTaps.gp_real j.val (by omega) (TD1 m c t) (EXT m c t) (slotOf X j) (fun n k => D1 P ((31 - t.val) * 256 + n) k) (fun n k => VPX P ((31 - t.val) * 256 + n) k)
      (td1_real m P c R t) (ext_real m P c R t) (∑ p ∈ Finset.range t.val, GT P j.val q.val k p) 0 q k hx).trans ?_
    rw [Finset.sum_range_succ (fun p => GT P j.val q.val k p) t.val]
    congr 2
    show _ = GT P j.val q.val k t.val
    unfold GT
    refine Finset.sum_congr rfl fun b _ => ?_
    congr 1
    rw [← VPX_add]
    congr 1
    omega
  · rw [if_neg h] at hx ⊢
    rw [GP_ge _ _ _ _ _ _ h]
    exact hx

theorem acc_step (x : FVec Ideal S256x1024 .f32) (X : FVec Ideal S8x1024 .f32) (o : Fin 8) (ho : o.val < 4) (s : ℝ) (k : Fin 1024)
    (hx : ∀ (r : Fin 256) k, (x (ix2 r k) : EReal) = ((ConvMath.VR P.w (AT P t r) o.val k : ℝ) : EReal)) (hX : (X (ix2 o k) : EReal) = ((s : ℝ) : EReal)) :
    (ACC x (rowOf X o) (ix2 0 k) : EReal) = ((s + VT P o.val k t.val : ℝ) : EReal) := by
  unfold ACC
  refine (addcol x (rowOf X o) (fun r k => ConvMath.VR P.w (AT P t r) o.val k) hx k).trans ?_
  rw [coe_sum]
  refine (congrArg (· + _) (show (rowOf X o (ix2 0 k) : EReal) = _ from hX)).trans ?_
  rw [← EReal.coe_add]
  congr 2
  exact Finset.sum_congr rfl fun r _ => (VRN_at P t o.val r k).symm

include R in
theorem vv_step (X : FVec Ideal S8x1024 .f32) (hX : ∀ (o : Fin 8) k, (X (ix2 o k) : EReal) = (((if o.val < 4 then ∑ p ∈ Finset.range t.val, VT P o.val k p else 0 : ℝ) : ℝ) : EReal))
    (o : Fin 8) (k : Fin 1024) :
    (VV (TD1 m c t) (TYN (iblk m c 5 t)) (TDAP (iblk m c 2 t) (iblk m c 5 t) (iblk m c 6 t) (iblk m c 8 t) (iblk m c 9 t) (iblk m c 10 t)) (TDY2 (iblk m c 2 t) (iblk m c 6 t)) X o k : EReal)
      = (((if o.val < 4 then ∑ p ∈ Finset.range (t.val + 1), VT P o.val k p else 0 : ℝ) : ℝ) : EReal) := by
  have hx := hX o k
  have d2 := TDY2_real (AT P t) (iblk m c 2 t) (iblk m c 6 t) (e2 m P c R t) (e6 m P c R t)
  have da := TDAP_real P.w (AT P t) (iblk m c 2 t) (iblk m c 5 t) (iblk m c 6 t) (iblk m c 8 t) (iblk m c 9 t) (iblk m c 10 t) (e2 m P c R t) (e5 m P c R t) (e6 m P c R t) (e8 m P c R t) (e9 m P c R t) (e10 m P c R t)
  have d1 := TDY1_real P.w (AT P t) (iblk m c 2 t) (iblk m c 5 t) (iblk m c 6 t) (iblk m c 8 t) (iblk m c 9 t) (iblk m c 10 t) (e2 m P c R t) (e5 m P c R t) (e6 m P c R t) (e8 m P c R t) (e9 m P c R t) (e10 m P c R t)
  have yn := TYN_real (AT P t) (iblk m c 5 t) (e5 m P c R t)
  unfold VV
  by_cases h3 : o.val = 3
  · obtain rfl : o = 3 := Fin.ext h3
    rw [if_pos h3]
    rw [if_pos (show ((3 : Fin 8).val < 4) by decide)] at hx ⊢
    rw [Finset.sum_range_succ]
    exact acc_step P t _ X 3 (by decide) _ k d2 hx
  rw [if_neg h3]
  by_cases h2 : o.val = 2
  · obtain rfl : o = 2 := Fin.ext h2
    rw [if_pos h2]
    rw [if_pos (show ((2 : Fin 8).val < 4) by decide)] at hx ⊢
    rw [Finset.sum_range_succ]
    exact acc_step P t _ X 2 (by decide) _ k da hx
  rw [if_neg h2]
  by_cases h1 : o.val = 1
  · obtain rfl : o = 1 := Fin.ext h1
    rw [if_pos h1]
    rw [if_pos (show ((1 : Fin 8).val < 4) by decide)] at hx ⊢
    rw [Finset.sum_range_succ]
    refine acc_step P t _ X 1 (by decide) _ k (fun r k => ?_) hx
    rw [mulf_apply, da, yn]
    exact mulR _ _
  rw [if_neg h1]
  by_cases h0 : o.val = 0
  · obtain rfl : o = 0 := Fin.ext h0
    rw [if_pos h0]
    rw [if_pos (show ((0 : Fin 8).val < 4) by decide)] at hx ⊢
    rw [Finset.sum_range_succ]
    exact acc_step P t _ X 0 (by decide) _ k d1 hx
  rw [if_neg h0]
  rw [if_neg (show ¬(o.val < 4) by omega)] at hx ⊢
  exact hx

/-! ## The three gradients of the operands -/

variable (E : FVec Ideal S288x1024 .f32) (hE : ∀ (e : Fin 288) k, (E (ix2 e k) : EReal) = ((D1 P ((31 - t.val) * 256 + e.val) k : ℝ) : EReal))

include R hE in
theorem dv_real (r : Fin 256) (k : Fin 1024) :
    (k0_pay1 (F := Ideal) (k0_pay184 (iblk m c 7 t)) E (ConvTaps.CH (iblk m c 7 t) E) (k0_pay194 E) (ix2 r k) : EReal) = ((ConvSpec.DV P (row t r) k : ℝ) : EReal) := by
  rw [ConvTaps.chain_eq]
  unfold ConvTaps.DV
  refine (ConvTaps.DVN_real _ E (fun j k => if j < 31 then P.cw j k else 0) (fun n k => D1 P ((31 - t.val) * 256 + n) k)
    (fun j k => by rw [shapeCast_self]; exact e7 m P c R t j k) hE 30 le_rfl r k).trans ?_
  congr 1

theorem cast3 (v : FVec Ideal S256x1024 .bf16) (r : Fin 256) (k : Fin 1024) : shapeCast S1x256x1024 v shapeCasts_S256x1024_S1x256x1024 (ix3 0 r k) = v (ix2 r k) :=
  shapeCast_apply v shapeCasts_S256x1024_S1x256x1024 (ix3 0 r k) (ix2 r k) (by
    rw [Shape.rowMajor_val_two, Shape.rowMajor_val_three]; show r.val * 1024 + k.val = (0 * 256 + r.val) * 1024 + k.val; omega)

include R hE in
theorem tz0_real (r : Fin 256) (k : Fin 1024) : (TZ0 (iblk m c 1 t) (iblk m c 7 t) E (ix3 0 r k) : EReal) = ((ConvSpec.DV P (row t r) k * SG P (row t r) k : ℝ) : EReal) := by
  unfold TZ0 k0_pay2
  rw [cast3]
  show (k0_pay1 (F := Ideal) (k0_pay184 (iblk m c 7 t)) E (ConvTaps.CH (iblk m c 7 t) E) (k0_pay194 E) (ix2 r k) : EReal) * (FloatOps.logistic (F := Ideal) (φ := .f32) ((iblk m c 1 t : S256x1024.Idx → EReal) (ix2 r k)) : EReal) = _
  rw [dv_real m P c R t E hE, e1 m P c R t, logistic_real, ← EReal.coe_mul]
  rfl

include R hE in
theorem tz1_real (r : Fin 256) (k : Fin 1024) : (TZ1 (iblk m c 0 t) (iblk m c 1 t) (iblk m c 7 t) E (ix3 0 r k) : EReal)
    = ((P.z (row t r) (c0 k) * ConvSpec.DV P (row t r) k * (SG P (row t r) k * (1 - SG P (row t r) k)) : ℝ) : EReal) := by
  unfold TZ1 k0_pay3
  rw [cast3]
  show (k0_pay1 (F := Ideal) (k0_pay184 (iblk m c 7 t)) E (ConvTaps.CH (iblk m c 7 t) E) (k0_pay194 E) (ix2 r k) : EReal) * (iblk m c 0 t : S256x1024.Idx → EReal) (ix2 r k)
    * (FloatOps.logistic (F := Ideal) (φ := .f32) ((iblk m c 1 t : S256x1024.Idx → EReal) (ix2 r k)) : EReal)
    * (Ideal.ofBits .f32 0x3F800000#32 - (FloatOps.logistic (F := Ideal) (φ := .f32) ((iblk m c 1 t : S256x1024.Idx → EReal) (ix2 r k)) : EReal)) = _
  rw [dv_real m P c R t E hE, e1 m P c R t, e0 m P c R t, logistic_real, ofBits_one, ← EReal.coe_mul, ← EReal.coe_mul, ← EReal.coe_sub, ← EReal.coe_mul]
  congr 1
  unfold SG
  ring

include R hE in
theorem dz_step (z : Fin 3) (r : Fin 256) (k : Fin 1024) :
    ((if z.val = 1 then TZ1 (iblk m c 0 t) (iblk m c 1 t) (iblk m c 7 t) E (ix3 0 r k) else if z.val = 0 then TZ0 (iblk m c 1 t) (iblk m c 7 t) E (ix3 0 r k)
      else TDZ2 (iblk m c 2 t) (iblk m c 5 t) (iblk m c 6 t) (iblk m c 8 t) (iblk m c 9 t) (iblk m c 11 t) (iblk m c 10 t) (ix3 0 r k) : EReal) : EReal) = ((DZ P z.val (row t r) k : ℝ) : EReal) := by
  unfold DZ
  by_cases h1 : z.val = 1
  · rw [if_pos h1, if_pos h1]; exact tz1_real m P c R t E hE r k
  rw [if_neg h1, if_neg h1]
  by_cases h0 : z.val = 0
  · rw [if_pos h0, if_pos h0]; exact tz0_real m P c R t E hE r k
  rw [if_neg h0, if_neg h0]
  exact TDZ2_real P.w (AT P t) _ _ _ _ _ _ _ (e2 m P c R t) (e5 m P c R t) (e6 m P c R t) (e8 m P c R t) (e9 m P c R t) (e11 m P c R t) (e10 m P c R t) 0 r k

end Real

end Cert.ConvGrid

end
-- ==== Proof.ConvPiecesA.lean ====
/-
  What one grid point of the convolution's backward pass leaves: the first point.
-/
module

public import proofs.«01_k».proof.Proof.ConvOuts
public import proofs.«01_k».proof.Proof.ConvStores

@[expose] public section

set_option maxRecDepth 16384
set_option maxHeartbeats 4000000

noncomputable section

namespace Cert.ConvPiecesA

open Cert.KernelIdeal Cert.KernelIdeal.Gen Cert.ConvFrame Cert.ConvTile Cert.ConvTaps Cert.ConvStores Cert.RowStore
open Idealize.ShloMosaic Idealize.ShloMosaic.ValueIdx Idealize.ShloMosaic.TcCoe Idealize.ShloMosaic.Tactic

theorem hz2 : (![0, 0] : Fin 2 → Nat) = fun _ => 0 := by funext a; fin_cases a <;> rfl

section CaseA

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S32x1024 .f32) (harg4 : arg4.IsWhole)
  (arg5 : Memref sig .tc .vmem S32x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S32x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S3x256x1024 .bf16) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S8x1024 .f32) (harg16 : arg16.IsWhole)
  (arg17 : Memref sig .tc .vmem S32x1024 .f32) (harg17 : arg17.IsWhole)
  (arg18 : Memref sig .tc .vmem S288x1024 .f32) (harg18 : arg18.IsWhole)
  (arg19 : Memref sig .tc .vmem S288x1024 .f32) (harg19 : arg19.IsWhole)
  (arg20 : Memref sig .tc .vmem S32x8x1024 .f32) (harg20 : arg20.IsWhole)
  (hc0 : cond0_0 i) (hc1 : ¬cond0_1 i)
  (x0 : Vec Ideal S256x1024 .f32) (x1 : Vec Ideal S256x1024 .f32) (x2 : Vec Ideal S256x1024 .f32) (x3 : Vec Ideal S32x1024 .f32) (x4 : Vec Ideal S32x1024 .f32) (x5 : Vec Ideal S256x1024 .f32)
  (x6 : Vec Ideal S256x1024 .f32) (x7 : Vec Ideal S32x1024 .f32) (x8 : Vec Ideal S1x1024 .f32) (x9 : Vec Ideal S1x1024 .f32) (x10 : Vec Ideal S1024x1024 .bf16) (x11 : Vec Ideal S1x1024 .f32)

theorem w48 : kernelRun0_A.sl.r_48 (F := Ideal) c arg3 harg3 arg6 harg6 arg7 harg7 arg9 harg9 arg10 harg10 arg11 harg11 x2 x5 x6 x8 x9 x10 = (TDY1 x2 x5 x6 x8 x9 x10) := by
  unfold kernelRun0_A.sl.r_48
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w30 : kernelRun0_A.sl.r_30 (F := Ideal) c arg3 harg3 arg7 harg7 x2 x6 = TDY2 x2 x6 := by
  unfold kernelRun0_A.sl.r_30
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w32 : kernelRun0_A.sl.r_32 (F := Ideal) c arg3 harg3 arg6 harg6 arg7 harg7 arg9 harg9 arg10 harg10 arg11 harg11 x2 x5 x6 x8 x9 x10 = TDAP x2 x5 x6 x8 x9 x10 := by
  unfold kernelRun0_A.sl.r_32
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w24 : kernelRun0_A.sl.r_24 (F := Ideal) c arg6 harg6 x5 = TYN x5 := by
  unfold kernelRun0_A.sl.r_24
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w403 : kernelRun0_A.sl.v403 (F := Ideal) c i arg1 harg1 arg2 harg2 arg4 harg4 arg5 harg5 arg18 x0 x1 x3 x4 = (stack (k0_pay9 (F := Ideal) i x3 x4) (k0_pay10 (F := Ideal) x0 x1)) := by
  unfold kernelRun0_A.sl.v403 kernelRun0_A.sl.HS0_2
  refine (cov_whole _ _ _).trans ((read_stack _ _ _ _ _ _ _).trans ?_)
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]

theorem w396 : kernelRun0_A.sl.v396 (F := Ideal) c arg19 = (topOf (k0_pay5 (F := Ideal))) := by
  unfold kernelRun0_A.sl.v396 kernelRun0_A.sl.HS1_1
  exact (View.readCov_fill (off := ![0, 0]) _ _ _ [] _ (fun a => by fin_cases a <;> rfl)).trans (ld_top _ _)

theorem w2638 : kernelRun0_A.sl.v2638 (F := Ideal) c arg3 harg3 arg6 harg6 arg7 harg7 arg9 harg9 arg10 harg10 arg11 harg11 arg19 x2 x5 x6 x8 x9 x10 = (stack2 (TDY1 x2 x5 x6 x8 x9 x10) (topOf (k0_pay5 (F := Ideal)))) := by
  unfold kernelRun0_A.sl.v2638 kernelRun0_A.sl.HS1_3
  refine (cov_whole _ _ _).trans ((read_stack2 _ _ _ _ _ _ _).trans ?_)
  rw [w48]
  refine congrArg₂ stack2 (shapeCast_self _ _) ((shapeCast_self _ _).trans ?_)
  exact w396 _ _

theorem out13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = TA x5 x8 x9 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  try sl_unfold_words
  rw [View.canon_unit_zero hz2]
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem out14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = k0_pay54 (F := Ideal) x2 x6 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11)]
  unfold kernelRun0_A
  dsimp only
  try sl_unfold_words
  rw [View.canon_unit_zero hz2]
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]

theorem sout1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = (stack2 (TDY1 x2 x5 x6 x8 x9 x10) (topOf (k0_pay5 (F := Ideal)))) := by
  unfold sout0_A_1
  unfold kernelRun0_A
  dsimp only
  try unfold kernelRun0_A.sl.HS1_3
  refine (read_stack2 _ _ _ _ _ _ _).trans ?_
  rw [w48]
  refine congrArg₂ stack2 (shapeCast_self _ _) ((shapeCast_self _ _).trans ?_)
  exact w396 _ _

theorem w49 : kernelRun0_A.sl.r_49 (F := Ideal) c arg3 harg3 arg6 harg6 arg7 harg7 arg9 harg9 arg10 harg10 arg11 harg11 arg16 x2 x5 x6 x8 x9 x10 = ACC (kernelRun0_A.sl.r_48 (F := Ideal) c arg3 harg3 arg6 harg6 arg7 harg7 arg9 harg9 arg10 harg10 arg11 harg11 x2 x5 x6 x8 x9 x10) (kernelRun0_A.sl.v357 c arg16) := rfl

theorem row0 (o : ℕ) (hn : 0 ≤ o) (ho : o < 8) (inb : ∀ a, (![o, 0] : Fin 2 → ℕ) a + (![1, 1024] : Fin 2 → ℕ) a ≤ S8x1024.size a) :
    arg16.view.readCov (kernelRun0_A.sl.H15_1 (F := Ideal) ) (Rect.unit (s := S8x1024) ![o, 0] ![1, 1024] inb).toLoadRect = rowOf (k0_pay7 (F := Ideal)) ⟨o, ho⟩ := by
  unfold kernelRun0_A.sl.H15_1
  exact cov_all _ o ho _ _ _

theorem row1 (o : ℕ) (hn : 1 ≤ o) (ho : o < 8) (inb : ∀ a, (![o, 0] : Fin 2 → ℕ) a + (![1, 1024] : Fin 2 → ℕ) a ≤ S8x1024.size a) :
    arg16.view.readCov (kernelRun0_A.sl.H15_2 (F := Ideal) c arg3 harg3 arg6 harg6 arg7 harg7 arg9 harg9 arg10 harg10 arg11 harg11 arg16 x2 x5 x6 x8 x9 x10) (Rect.unit (s := S8x1024) ![o, 0] ![1, 1024] inb).toLoadRect = rowOf (k0_pay7 (F := Ideal)) ⟨o, ho⟩ := by
  unfold kernelRun0_A.sl.H15_2
  exact (cov_skip _ o 0 (by omega) _ _ _ _).trans (row0 arg16 o (by omega) ho _)

theorem row2 (o : ℕ) (hn : 2 ≤ o) (ho : o < 8) (inb : ∀ a, (![o, 0] : Fin 2 → ℕ) a + (![1, 1024] : Fin 2 → ℕ) a ≤ S8x1024.size a) :
    arg16.view.readCov (kernelRun0_A.sl.H15_3 (F := Ideal) c arg3 harg3 arg6 harg6 arg7 harg7 arg9 harg9 arg10 harg10 arg11 harg11 arg16 x2 x5 x6 x8 x9 x10) (Rect.unit (s := S8x1024) ![o, 0] ![1, 1024] inb).toLoadRect = rowOf (k0_pay7 (F := Ideal)) ⟨o, ho⟩ := by
  unfold kernelRun0_A.sl.H15_3
  exact (cov_skip _ o 1 (by omega) _ _ _ _).trans (row1 c arg3 harg3 arg6 harg6 arg7 harg7 arg9 harg9 arg10 harg10 arg11 harg11 arg16 x2 x5 x6 x8 x9 x10 o (by omega) ho _)

theorem row3 (o : ℕ) (hn : 3 ≤ o) (ho : o < 8) (inb : ∀ a, (![o, 0] : Fin 2 → ℕ) a + (![1, 1024] : Fin 2 → ℕ) a ≤ S8x1024.size a) :
    arg16.view.readCov (kernelRun0_A.sl.H15_4 (F := Ideal) c arg3 harg3 arg6 harg6 arg7 harg7 arg9 harg9 arg10 harg10 arg11 harg11 arg16 x2 x5 x6 x8 x9 x10) (Rect.unit (s := S8x1024) ![o, 0] ![1, 1024] inb).toLoadRect = rowOf (k0_pay7 (F := Ideal)) ⟨o, ho⟩ := by
  unfold kernelRun0_A.sl.H15_4
  exact (cov_skip _ o 2 (by omega) _ _ _ _).trans (row2 c arg3 harg3 arg6 harg6 arg7 harg7 arg9 harg9 arg10 harg10 arg11 harg11 arg16 x2 x5 x6 x8 x9 x10 o (by omega) ho _)

theorem out15 (r : Fin 8) (k : Fin 1024) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 (ix2 r k)
    = VV (TDY1 x2 x5 x6 x8 x9 x10) (TYN x5) (TDAP x2 x5 x6 x8 x9 x10) (TDY2 x2 x6) (k0_pay7 (F := Ideal)) r k := by
  unfold out0_A_15 VV
  unfold kernelRun0_A
  dsimp only
  try unfold kernelRun0_A.sl.H15_4
  try unfold kernelRun0_A.sl.H15_3
  try unfold kernelRun0_A.sl.H15_2
  try unfold kernelRun0_A.sl.H15_1
  refine (put_row _ _ 3 _ _ _ r k).trans ?_
  refine if_congr Iff.rfl ?_ ?_
  · rw [w30]
    refine congrFun (congrArg (ACC (TDY2 x2 x6)) ?_) (ix2 0 k)
    unfold kernelRun0_A.sl.v376
    exact row3 c arg3 harg3 arg6 harg6 arg7 harg7 arg9 harg9 arg10 harg10 arg11 harg11 arg16 x2 x5 x6 x8 x9 x10 3 (by decide) (by decide) _
  refine (put_row _ _ 2 _ _ _ r k).trans ?_
  refine if_congr Iff.rfl ?_ ?_
  · rw [w32]
    refine congrFun (congrArg (ACC (TDAP x2 x5 x6 x8 x9 x10)) ?_) (ix2 0 k)
    unfold kernelRun0_A.sl.v370
    exact row2 c arg3 harg3 arg6 harg6 arg7 harg7 arg9 harg9 arg10 harg10 arg11 harg11 arg16 x2 x5 x6 x8 x9 x10 2 (by decide) (by decide) _
  refine (put_row _ _ 1 _ _ _ r k).trans ?_
  refine if_congr Iff.rfl ?_ ?_
  · rw [w32, w24]
    refine congrFun (congrArg (ACC (mulf (TDAP x2 x5 x6 x8 x9 x10) (TYN x5))) ?_) (ix2 0 k)
    unfold kernelRun0_A.sl.v363
    exact row1 c arg3 harg3 arg6 harg6 arg7 harg7 arg9 harg9 arg10 harg10 arg11 harg11 arg16 x2 x5 x6 x8 x9 x10 1 (by decide) (by decide) _
  refine (put_row _ _ 0 _ _ _ r k).trans ?_
  refine if_congr Iff.rfl ?_ ?_
  · rw [w49, w48]
    refine congrFun (congrArg (ACC (TDY1 x2 x5 x6 x8 x9 x10)) ?_) (ix2 0 k)
    unfold kernelRun0_A.sl.v357
    exact row0 arg16 0 (by decide) (by decide) _
  exact put_all _ _ _ _ _ r k

theorem out12 (z : Fin 3) (r : Fin 256) (k : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 (ix3 z r k)
    = if z.val = 1 then TZ1 x0 x1 x7 (stack2 (TDY1 x2 x5 x6 x8 x9 x10) (topOf (k0_pay5 (F := Ideal)))) (ix3 0 r k) else if z.val = 0 then TZ0 x1 x7 (stack2 (TDY1 x2 x5 x6 x8 x9 x10) (topOf (k0_pay5 (F := Ideal)))) (ix3 0 r k) else TDZ2 x2 x5 x6 x8 x9 x11 x10 (ix3 0 r k) := by
  unfold out0_A_12
  unfold kernelRun0_A
  dsimp only
  refine (put_slice _ _ 1 _ _ _ z r k).trans ?_
  by_cases h1 : z.val = 1
  · rw [if_pos h1, if_pos h1]
    refine congrFun (?_ : _ = TZ1 x0 x1 x7 (stack2 (TDY1 x2 x5 x6 x8 x9 x10) (topOf (k0_pay5 (F := Ideal))))) (ix3 0 r k)
    try unfold kernelRun0_A.sl.r_131
    try unfold kernelRun0_A.sl.r_132
    try unfold kernelRun0_A.sl.r_128
    try unfold kernelRun0_A.sl.r_129
    try unfold kernelRun0_A.sl.r_130
    try unfold kernelRun0_A.sl.r_127
    try unfold kernelRun0_A.sl.r_126
    try unfold kernelRun0_A.sl.r_125
    try unfold kernelRun0_A.sl.r_124
    try unfold kernelRun0_A.sl.r_123
    try unfold kernelRun0_A.sl.r_122
    try unfold kernelRun0_A.sl.r_2
    try unfold kernelRun0_A.sl.r_1
    try unfold kernelRun0_A.sl.r
    rw [w2638]
    simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
    rfl
  rw [if_neg h1, if_neg h1]
  refine (put_slice _ _ 0 _ _ _ z r k).trans ?_
  by_cases h0 : z.val = 0
  · rw [if_pos h0, if_pos h0]
    refine congrFun (?_ : _ = TZ0 x1 x7 (stack2 (TDY1 x2 x5 x6 x8 x9 x10) (topOf (k0_pay5 (F := Ideal))))) (ix3 0 r k)
    try unfold kernelRun0_A.sl.r_131
    try unfold kernelRun0_A.sl.r_132
    try unfold kernelRun0_A.sl.r_128
    try unfold kernelRun0_A.sl.r_129
    try unfold kernelRun0_A.sl.r_130
    try unfold kernelRun0_A.sl.r_127
    try unfold kernelRun0_A.sl.r_126
    try unfold kernelRun0_A.sl.r_125
    try unfold kernelRun0_A.sl.r_124
    try unfold kernelRun0_A.sl.r_123
    try unfold kernelRun0_A.sl.r_122
    try unfold kernelRun0_A.sl.r_2
    try unfold kernelRun0_A.sl.r_1
    try unfold kernelRun0_A.sl.r
    rw [w2638]
    simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
    rfl
  rw [if_neg h0, if_neg h0]
  refine (put_slice _ _ 2 _ _ _ z r k).trans ?_
  refine ite_close (fun _ => ?_) (fun h2 => absurd z.isLt (by omega))
  refine congrFun (?_ : _ = TDZ2 x2 x5 x6 x8 x9 x11 x10) (ix3 0 r k)
  sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem fill0 (o : ℕ) (hn : 0 ≤ o) (ho : o < 32) (inb : ∀ a, (![o, 0, 0] : Fin 3 → ℕ) a + (![1, 8, 1024] : Fin 3 → ℕ) a ≤ S32x8x1024.size a) :
    arg20.view.readCov (kernelRun0_A.sl.HS2_1 (F := Ideal) ) (Rect.unit (s := S32x8x1024) ![o, 0, 0] ![1, 8, 1024] inb).toLoadRect = slotOf (k0_pay6 (F := Ideal)) ⟨o, ho⟩ := by
  unfold kernelRun0_A.sl.HS2_1
  exact fill_slot _ o ho _ _ _

theorem fill1 (o : ℕ) (hn : 1 ≤ o) (ho : o < 32) (inb : ∀ a, (![o, 0, 0] : Fin 3 → ℕ) a + (![1, 8, 1024] : Fin 3 → ℕ) a ≤ S32x8x1024.size a) :
    arg20.view.readCov (kernelRun0_A.sl.HS2_2 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_2
  exact (skip_slot _ o 0 (by omega) _ _ _ _).trans (fill0 arg20 o (by omega) ho _)

theorem fill2 (o : ℕ) (hn : 2 ≤ o) (ho : o < 32) (inb : ∀ a, (![o, 0, 0] : Fin 3 → ℕ) a + (![1, 8, 1024] : Fin 3 → ℕ) a ≤ S32x8x1024.size a) :
    arg20.view.readCov (kernelRun0_A.sl.HS2_3 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_3
  exact (skip_slot _ o 1 (by omega) _ _ _ _).trans (fill1 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill3 (o : ℕ) (hn : 3 ≤ o) (ho : o < 32) (inb : ∀ a, (![o, 0, 0] : Fin 3 → ℕ) a + (![1, 8, 1024] : Fin 3 → ℕ) a ≤ S32x8x1024.size a) :
    arg20.view.readCov (kernelRun0_A.sl.HS2_4 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_4
  exact (skip_slot _ o 2 (by omega) _ _ _ _).trans (fill2 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill4 (o : ℕ) (hn : 4 ≤ o) (ho : o < 32) (inb : ∀ a, (![o, 0, 0] : Fin 3 → ℕ) a + (![1, 8, 1024] : Fin 3 → ℕ) a ≤ S32x8x1024.size a) :
    arg20.view.readCov (kernelRun0_A.sl.HS2_5 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_5
  exact (skip_slot _ o 3 (by omega) _ _ _ _).trans (fill3 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill5 (o : ℕ) (hn : 5 ≤ o) (ho : o < 32) (inb : ∀ a, (![o, 0, 0] : Fin 3 → ℕ) a + (![1, 8, 1024] : Fin 3 → ℕ) a ≤ S32x8x1024.size a) :
    arg20.view.readCov (kernelRun0_A.sl.HS2_6 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_6
  exact (skip_slot _ o 4 (by omega) _ _ _ _).trans (fill4 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill6 (o : ℕ) (hn : 6 ≤ o) (ho : o < 32) (inb : ∀ a, (![o, 0, 0] : Fin 3 → ℕ) a + (![1, 8, 1024] : Fin 3 → ℕ) a ≤ S32x8x1024.size a) :
    arg20.view.readCov (kernelRun0_A.sl.HS2_7 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_7
  exact (skip_slot _ o 5 (by omega) _ _ _ _).trans (fill5 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill7 (o : ℕ) (hn : 7 ≤ o) (ho : o < 32) (inb : ∀ a, (![o, 0, 0] : Fin 3 → ℕ) a + (![1, 8, 1024] : Fin 3 → ℕ) a ≤ S32x8x1024.size a) :
    arg20.view.readCov (kernelRun0_A.sl.HS2_8 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_8
  exact (skip_slot _ o 6 (by omega) _ _ _ _).trans (fill6 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill8 (o : ℕ) (hn : 8 ≤ o) (ho : o < 32) (inb : ∀ a, (![o, 0, 0] : Fin 3 → ℕ) a + (![1, 8, 1024] : Fin 3 → ℕ) a ≤ S32x8x1024.size a) :
    arg20.view.readCov (kernelRun0_A.sl.HS2_9 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_9
  exact (skip_slot _ o 7 (by omega) _ _ _ _).trans (fill7 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill9 (o : ℕ) (hn : 9 ≤ o) (ho : o < 32) (inb : ∀ a, (![o, 0, 0] : Fin 3 → ℕ) a + (![1, 8, 1024] : Fin 3 → ℕ) a ≤ S32x8x1024.size a) :
    arg20.view.readCov (kernelRun0_A.sl.HS2_10 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_10
  exact (skip_slot _ o 8 (by omega) _ _ _ _).trans (fill8 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill10 (o : ℕ) (hn : 10 ≤ o) (ho : o < 32) (inb : ∀ a, (![o, 0, 0] : Fin 3 → ℕ) a + (![1, 8, 1024] : Fin 3 → ℕ) a ≤ S32x8x1024.size a) :
    arg20.view.readCov (kernelRun0_A.sl.HS2_11 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_11
  exact (skip_slot _ o 9 (by omega) _ _ _ _).trans (fill9 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill11 (o : ℕ) (hn : 11 ≤ o) (ho : o < 32) (inb : ∀ a, (![o, 0, 0] : Fin 3 → ℕ) a + (![1, 8, 1024] : Fin 3 → ℕ) a ≤ S32x8x1024.size a) :
    arg20.view.readCov (kernelRun0_A.sl.HS2_12 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_12
  exact (skip_slot _ o 10 (by omega) _ _ _ _).trans (fill10 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill12 (o : ℕ) (hn : 12 ≤ o) (ho : o < 32) (inb : ∀ a, (![o, 0, 0] : Fin 3 → ℕ) a + (![1, 8, 1024] : Fin 3 → ℕ) a ≤ S32x8x1024.size a) :
    arg20.view.readCov (kernelRun0_A.sl.HS2_13 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_13
  exact (skip_slot _ o 11 (by omega) _ _ _ _).trans (fill11 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill13 (o : ℕ) (hn : 13 ≤ o) (ho : o < 32) (inb : ∀ a, (![o, 0, 0] : Fin 3 → ℕ) a + (![1, 8, 1024] : Fin 3 → ℕ) a ≤ S32x8x1024.size a) :
    arg20.view.readCov (kernelRun0_A.sl.HS2_14 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_14
  exact (skip_slot _ o 12 (by omega) _ _ _ _).trans (fill12 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill14 (o : ℕ) (hn : 14 ≤ o) (ho : o < 32) (inb : ∀ a, (![o, 0, 0] : Fin 3 → ℕ) a + (![1, 8, 1024] : Fin 3 → ℕ) a ≤ S32x8x1024.size a) :
    arg20.view.readCov (kernelRun0_A.sl.HS2_15 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_15
  exact (skip_slot _ o 13 (by omega) _ _ _ _).trans (fill13 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill15 (o : ℕ) (hn : 15 ≤ o) (ho : o < 32) (inb : ∀ a, (![o, 0, 0] : Fin 3 → ℕ) a + (![1, 8, 1024] : Fin 3 → ℕ) a ≤ S32x8x1024.size a) :
    arg20.view.readCov (kernelRun0_A.sl.HS2_16 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_16
  exact (skip_slot _ o 14 (by omega) _ _ _ _).trans (fill14 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill16 (o : ℕ) (hn : 16 ≤ o) (ho : o < 32) (inb : ∀ a, (![o, 0, 0] : Fin 3 → ℕ) a + (![1, 8, 1024] : Fin 3 → ℕ) a ≤ S32x8x1024.size a) :
    arg20.view.readCov (kernelRun0_A.sl.HS2_17 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_17
  exact (skip_slot _ o 15 (by omega) _ _ _ _).trans (fill15 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill17 (o : ℕ) (hn : 17 ≤ o) (ho : o < 32) (inb : ∀ a, (![o, 0, 0] : Fin 3 → ℕ) a + (![1, 8, 1024] : Fin 3 → ℕ) a ≤ S32x8x1024.size a) :
    arg20.view.readCov (kernelRun0_A.sl.HS2_18 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_18
  exact (skip_slot _ o 16 (by omega) _ _ _ _).trans (fill16 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill18 (o : ℕ) (hn : 18 ≤ o) (ho : o < 32) (inb : ∀ a, (![o, 0, 0] : Fin 3 → ℕ) a + (![1, 8, 1024] : Fin 3 → ℕ) a ≤ S32x8x1024.size a) :
    arg20.view.readCov (kernelRun0_A.sl.HS2_19 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_19
  exact (skip_slot _ o 17 (by omega) _ _ _ _).trans (fill17 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill19 (o : ℕ) (hn : 19 ≤ o) (ho : o < 32) (inb : ∀ a, (![o, 0, 0] : Fin 3 → ℕ) a + (![1, 8, 1024] : Fin 3 → ℕ) a ≤ S32x8x1024.size a) :
    arg20.view.readCov (kernelRun0_A.sl.HS2_20 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_20
  exact (skip_slot _ o 18 (by omega) _ _ _ _).trans (fill18 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill20 (o : ℕ) (hn : 20 ≤ o) (ho : o < 32) (inb : ∀ a, (![o, 0, 0] : Fin 3 → ℕ) a + (![1, 8, 1024] : Fin 3 → ℕ) a ≤ S32x8x1024.size a) :
    arg20.view.readCov (kernelRun0_A.sl.HS2_21 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_21
  exact (skip_slot _ o 19 (by omega) _ _ _ _).trans (fill19 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill21 (o : ℕ) (hn : 21 ≤ o) (ho : o < 32) (inb : ∀ a, (![o, 0, 0] : Fin 3 → ℕ) a + (![1, 8, 1024] : Fin 3 → ℕ) a ≤ S32x8x1024.size a) :
    arg20.view.readCov (kernelRun0_A.sl.HS2_22 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_22
  exact (skip_slot _ o 20 (by omega) _ _ _ _).trans (fill20 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill22 (o : ℕ) (hn : 22 ≤ o) (ho : o < 32) (inb : ∀ a, (![o, 0, 0] : Fin 3 → ℕ) a + (![1, 8, 1024] : Fin 3 → ℕ) a ≤ S32x8x1024.size a) :
    arg20.view.readCov (kernelRun0_A.sl.HS2_23 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_23
  exact (skip_slot _ o 21 (by omega) _ _ _ _).trans (fill21 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill23 (o : ℕ) (hn : 23 ≤ o) (ho : o < 32) (inb : ∀ a, (![o, 0, 0] : Fin 3 → ℕ) a + (![1, 8, 1024] : Fin 3 → ℕ) a ≤ S32x8x1024.size a) :
    arg20.view.readCov (kernelRun0_A.sl.HS2_24 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_24
  exact (skip_slot _ o 22 (by omega) _ _ _ _).trans (fill22 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill24 (o : ℕ) (hn : 24 ≤ o) (ho : o < 32) (inb : ∀ a, (![o, 0, 0] : Fin 3 → ℕ) a + (![1, 8, 1024] : Fin 3 → ℕ) a ≤ S32x8x1024.size a) :
    arg20.view.readCov (kernelRun0_A.sl.HS2_25 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_25
  exact (skip_slot _ o 23 (by omega) _ _ _ _).trans (fill23 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill25 (o : ℕ) (hn : 25 ≤ o) (ho : o < 32) (inb : ∀ a, (![o, 0, 0] : Fin 3 → ℕ) a + (![1, 8, 1024] : Fin 3 → ℕ) a ≤ S32x8x1024.size a) :
    arg20.view.readCov (kernelRun0_A.sl.HS2_26 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_26
  exact (skip_slot _ o 24 (by omega) _ _ _ _).trans (fill24 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill26 (o : ℕ) (hn : 26 ≤ o) (ho : o < 32) (inb : ∀ a, (![o, 0, 0] : Fin 3 → ℕ) a + (![1, 8, 1024] : Fin 3 → ℕ) a ≤ S32x8x1024.size a) :
    arg20.view.readCov (kernelRun0_A.sl.HS2_27 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_27
  exact (skip_slot _ o 25 (by omega) _ _ _ _).trans (fill25 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill27 (o : ℕ) (hn : 27 ≤ o) (ho : o < 32) (inb : ∀ a, (![o, 0, 0] : Fin 3 → ℕ) a + (![1, 8, 1024] : Fin 3 → ℕ) a ≤ S32x8x1024.size a) :
    arg20.view.readCov (kernelRun0_A.sl.HS2_28 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_28
  exact (skip_slot _ o 26 (by omega) _ _ _ _).trans (fill26 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill28 (o : ℕ) (hn : 28 ≤ o) (ho : o < 32) (inb : ∀ a, (![o, 0, 0] : Fin 3 → ℕ) a + (![1, 8, 1024] : Fin 3 → ℕ) a ≤ S32x8x1024.size a) :
    arg20.view.readCov (kernelRun0_A.sl.HS2_29 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_29
  exact (skip_slot _ o 27 (by omega) _ _ _ _).trans (fill27 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill29 (o : ℕ) (hn : 29 ≤ o) (ho : o < 32) (inb : ∀ a, (![o, 0, 0] : Fin 3 → ℕ) a + (![1, 8, 1024] : Fin 3 → ℕ) a ≤ S32x8x1024.size a) :
    arg20.view.readCov (kernelRun0_A.sl.HS2_30 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_30
  exact (skip_slot _ o 28 (by omega) _ _ _ _).trans (fill28 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem fill30 (o : ℕ) (hn : 30 ≤ o) (ho : o < 32) (inb : ∀ a, (![o, 0, 0] : Fin 3 → ℕ) a + (![1, 8, 1024] : Fin 3 → ℕ) a ≤ S32x8x1024.size a) :
    arg20.view.readCov (kernelRun0_A.sl.HS2_31 (F := Ideal) c i arg1 harg1 arg2 harg2 arg3 harg3 arg4 harg4 arg5 harg5 arg6 harg6 arg7 harg7 arg9 harg9 arg10 harg10 arg11 harg11 arg18 arg20 x0 x1 x2 x3 x4 x5 x6 x8 x9 x10) (Rect.unit (s := S32x8x1024) ![o, 0, 0] ![1, 8, 1024] inb).toLoadRect = slotOf (k0_pay6 (F := Ideal)) ⟨o, ho⟩ := by
  unfold kernelRun0_A.sl.HS2_31
  exact (skip_slot _ o 29 (by omega) _ _ _ _).trans (fill29 c i arg1 harg1 arg2 harg2 arg3 harg3 arg4 harg4 arg5 harg5 arg6 harg6 arg7 harg7 arg9 harg9 arg10 harg10 arg11 harg11 arg18 arg20 x0 x1 x2 x3 x4 x5 x6 x8 x9 x10 o (by omega) ho _)

theorem sout2 (m : Fin 32) (q : Fin 8) (k : Fin 1024) : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 (ix3 m q k) = GP (TDY1 x2 x5 x6 x8 x9 x10) (stack (k0_pay9 (F := Ideal) i x3 x4) (k0_pay10 (F := Ideal) x0 x1)) (k0_pay6 (F := Ideal)) (ix3 m q k) := by
  unfold sout0_A_2
  unfold kernelRun0_A
  dsimp only
  try unfold kernelRun0_A.sl.HS2_31
  try unfold kernelRun0_A.sl.HS2_30
  try unfold kernelRun0_A.sl.HS2_29
  try unfold kernelRun0_A.sl.HS2_28
  try unfold kernelRun0_A.sl.HS2_27
  try unfold kernelRun0_A.sl.HS2_26
  try unfold kernelRun0_A.sl.HS2_25
  try unfold kernelRun0_A.sl.HS2_24
  try unfold kernelRun0_A.sl.HS2_23
  try unfold kernelRun0_A.sl.HS2_22
  try unfold kernelRun0_A.sl.HS2_21
  try unfold kernelRun0_A.sl.HS2_20
  try unfold kernelRun0_A.sl.HS2_19
  try unfold kernelRun0_A.sl.HS2_18
  try unfold kernelRun0_A.sl.HS2_17
  try unfold kernelRun0_A.sl.HS2_16
  try unfold kernelRun0_A.sl.HS2_15
  try unfold kernelRun0_A.sl.HS2_14
  try unfold kernelRun0_A.sl.HS2_13
  try unfold kernelRun0_A.sl.HS2_12
  try unfold kernelRun0_A.sl.HS2_11
  try unfold kernelRun0_A.sl.HS2_10
  try unfold kernelRun0_A.sl.HS2_9
  try unfold kernelRun0_A.sl.HS2_8
  try unfold kernelRun0_A.sl.HS2_7
  try unfold kernelRun0_A.sl.HS2_6
  try unfold kernelRun0_A.sl.HS2_5
  try unfold kernelRun0_A.sl.HS2_4
  try unfold kernelRun0_A.sl.HS2_3
  try unfold kernelRun0_A.sl.HS2_2
  try unfold kernelRun0_A.sl.HS2_1
  refine (put_slot _ _ 30 _ _ _ m q k).trans ?_
  refine ite_close (fun h => ?_) (fun h30 => ?_)
  · obtain rfl : m = ⟨30, by decide⟩ := Fin.ext h
    rw [GP_lt _ _ _ _ _ _ (by decide)]
    unfold kernelRun0_A.sl.r_120
    unfold kernelRun0_A.sl.r_121
    rw [w48, w403]
    unfold kernelRun0_A.sl.v2630
    refine congrFun ((tap30 _ _ _).trans (congrArg (gp 30 (TDY1 x2 x5 x6 x8 x9 x10) (stack (k0_pay9 (F := Ideal) i x3 x4) (k0_pay10 (F := Ideal) x0 x1))) ?_)) (ix3 0 q k)
    exact fill30 c i arg1 harg1 arg2 harg2 arg3 harg3 arg4 harg4 arg5 harg5 arg6 harg6 arg7 harg7 arg9 harg9 arg10 harg10 arg11 harg11 arg18 arg20 x0 x1 x2 x3 x4 x5 x6 x8 x9 x10 30 (by decide) (by decide) _
  refine (put_slot _ _ 29 _ _ _ m q k).trans ?_
  refine ite_close (fun h => ?_) (fun h29 => ?_)
  · obtain rfl : m = ⟨29, by decide⟩ := Fin.ext h
    rw [GP_lt _ _ _ _ _ _ (by decide)]
    unfold kernelRun0_A.sl.r_118
    unfold kernelRun0_A.sl.r_119
    rw [w48, w403]
    unfold kernelRun0_A.sl.v2558
    refine congrFun ((tap29 _ _ _).trans (congrArg (gp 29 (TDY1 x2 x5 x6 x8 x9 x10) (stack (k0_pay9 (F := Ideal) i x3 x4) (k0_pay10 (F := Ideal) x0 x1))) ?_)) (ix3 0 q k)
    exact fill29 c i arg1 harg1 arg2 harg2 arg3 harg3 arg4 harg4 arg5 harg5 arg6 harg6 arg7 harg7 arg9 harg9 arg10 harg10 arg11 harg11 arg18 arg20 x0 x1 x2 x3 x4 x5 x6 x8 x9 x10 29 (by decide) (by decide) _
  refine (put_slot _ _ 28 _ _ _ m q k).trans ?_
  refine ite_close (fun h => ?_) (fun h28 => ?_)
  · obtain rfl : m = ⟨28, by decide⟩ := Fin.ext h
    rw [GP_lt _ _ _ _ _ _ (by decide)]
    unfold kernelRun0_A.sl.r_117
    unfold kernelRun0_A.sl.r_115
    unfold kernelRun0_A.sl.r_116
    rw [w48, w403]
    unfold kernelRun0_A.sl.v2486
    refine congrFun ((tap28 _ _ _).trans (congrArg (gp 28 (TDY1 x2 x5 x6 x8 x9 x10) (stack (k0_pay9 (F := Ideal) i x3 x4) (k0_pay10 (F := Ideal) x0 x1))) ?_)) (ix3 0 q k)
    exact fill28 c i arg1 harg1 arg2 harg2 arg3 harg3 arg4 harg4 arg5 harg5 arg6 harg6 arg7 harg7 arg9 harg9 arg10 harg10 arg11 harg11 arg18 arg20 x0 x1 x2 x3 x4 x5 x6 x8 x9 x10 28 (by decide) (by decide) _
  refine (put_slot _ _ 27 _ _ _ m q k).trans ?_
  refine ite_close (fun h => ?_) (fun h27 => ?_)
  · obtain rfl : m = ⟨27, by decide⟩ := Fin.ext h
    rw [GP_lt _ _ _ _ _ _ (by decide)]
    unfold kernelRun0_A.sl.r_113
    unfold kernelRun0_A.sl.r_114
    rw [w48, w403]
    unfold kernelRun0_A.sl.v2414
    refine congrFun ((tap27 _ _ _).trans (congrArg (gp 27 (TDY1 x2 x5 x6 x8 x9 x10) (stack (k0_pay9 (F := Ideal) i x3 x4) (k0_pay10 (F := Ideal) x0 x1))) ?_)) (ix3 0 q k)
    exact fill27 c i arg1 harg1 arg2 harg2 arg3 harg3 arg4 harg4 arg5 harg5 arg6 harg6 arg7 harg7 arg9 harg9 arg10 harg10 arg11 harg11 arg18 arg20 x0 x1 x2 x3 x4 x5 x6 x8 x9 x10 27 (by decide) (by decide) _
  refine (put_slot _ _ 26 _ _ _ m q k).trans ?_
  refine ite_close (fun h => ?_) (fun h26 => ?_)
  · obtain rfl : m = ⟨26, by decide⟩ := Fin.ext h
    rw [GP_lt _ _ _ _ _ _ (by decide)]
    unfold kernelRun0_A.sl.r_111
    unfold kernelRun0_A.sl.r_112
    rw [w48, w403]
    unfold kernelRun0_A.sl.v2342
    refine congrFun ((tap26 _ _ _).trans (congrArg (gp 26 (TDY1 x2 x5 x6 x8 x9 x10) (stack (k0_pay9 (F := Ideal) i x3 x4) (k0_pay10 (F := Ideal) x0 x1))) ?_)) (ix3 0 q k)
    exact fill26 c i arg1 harg1 arg2 harg2 arg3 harg3 arg4 harg4 arg5 harg5 arg6 harg6 arg7 harg7 arg9 harg9 arg10 harg10 arg11 harg11 arg18 arg20 x0 x1 x2 x3 x4 x5 x6 x8 x9 x10 26 (by decide) (by decide) _
  refine (put_slot _ _ 25 _ _ _ m q k).trans ?_
  refine ite_close (fun h => ?_) (fun h25 => ?_)
  · obtain rfl : m = ⟨25, by decide⟩ := Fin.ext h
    rw [GP_lt _ _ _ _ _ _ (by decide)]
    unfold kernelRun0_A.sl.r_110
    unfold kernelRun0_A.sl.r_108
    unfold kernelRun0_A.sl.r_109
    rw [w48, w403]
    unfold kernelRun0_A.sl.v2270
    refine congrFun ((tap25 _ _ _).trans (congrArg (gp 25 (TDY1 x2 x5 x6 x8 x9 x10) (stack (k0_pay9 (F := Ideal) i x3 x4) (k0_pay10 (F := Ideal) x0 x1))) ?_)) (ix3 0 q k)
    exact fill25 c i arg1 harg1 arg2 harg2 arg3 harg3 arg4 harg4 arg5 harg5 arg6 harg6 arg7 harg7 arg9 harg9 arg10 harg10 arg11 harg11 arg18 arg20 x0 x1 x2 x3 x4 x5 x6 x8 x9 x10 25 (by decide) (by decide) _
  refine (put_slot _ _ 24 _ _ _ m q k).trans ?_
  refine ite_close (fun h => ?_) (fun h24 => ?_)
  · obtain rfl : m = ⟨24, by decide⟩ := Fin.ext h
    rw [GP_lt _ _ _ _ _ _ (by decide)]
    unfold kernelRun0_A.sl.r_106
    unfold kernelRun0_A.sl.r_107
    rw [w48, w403]
    unfold kernelRun0_A.sl.v2198
    refine congrFun ((tap24 _ _ _).trans (congrArg (gp 24 (TDY1 x2 x5 x6 x8 x9 x10) (stack (k0_pay9 (F := Ideal) i x3 x4) (k0_pay10 (F := Ideal) x0 x1))) ?_)) (ix3 0 q k)
    exact fill24 c i arg1 harg1 arg2 harg2 arg3 harg3 arg4 harg4 arg5 harg5 arg6 harg6 arg7 harg7 arg9 harg9 arg10 harg10 arg11 harg11 arg18 arg20 x0 x1 x2 x3 x4 x5 x6 x8 x9 x10 24 (by decide) (by decide) _
  refine (put_slot _ _ 23 _ _ _ m q k).trans ?_
  refine ite_close (fun h => ?_) (fun h23 => ?_)
  · obtain rfl : m = ⟨23, by decide⟩ := Fin.ext h
    rw [GP_lt _ _ _ _ _ _ (by decide)]
    unfold kernelRun0_A.sl.r_104
    unfold kernelRun0_A.sl.r_105
    rw [w48, w403]
    unfold kernelRun0_A.sl.v2126
    refine congrFun ((tap23 _ _ _).trans (congrArg (gp 23 (TDY1 x2 x5 x6 x8 x9 x10) (stack (k0_pay9 (F := Ideal) i x3 x4) (k0_pay10 (F := Ideal) x0 x1))) ?_)) (ix3 0 q k)
    exact fill23 c i arg1 harg1 arg2 harg2 arg3 harg3 arg4 harg4 arg5 harg5 arg6 harg6 arg7 harg7 arg9 harg9 arg10 harg10 arg11 harg11 arg18 arg20 x0 x1 x2 x3 x4 x5 x6 x8 x9 x10 23 (by decide) (by decide) _
  refine (put_slot _ _ 22 _ _ _ m q k).trans ?_
  refine ite_close (fun h => ?_) (fun h22 => ?_)
  · obtain rfl : m = ⟨22, by decide⟩ := Fin.ext h
    rw [GP_lt _ _ _ _ _ _ (by decide)]
    unfold kernelRun0_A.sl.r_103
    unfold kernelRun0_A.sl.r_101
    unfold kernelRun0_A.sl.r_102
    rw [w48, w403]
    unfold kernelRun0_A.sl.v2054
    refine congrFun ((tap22 _ _ _).trans (congrArg (gp 22 (TDY1 x2 x5 x6 x8 x9 x10) (stack (k0_pay9 (F := Ideal) i x3 x4) (k0_pay10 (F := Ideal) x0 x1))) ?_)) (ix3 0 q k)
    exact fill22 c i arg1 harg1 arg2 harg2 arg3 harg3 arg4 harg4 arg5 harg5 arg6 harg6 arg7 harg7 arg9 harg9 arg10 harg10 arg11 harg11 arg18 arg20 x0 x1 x2 x3 x4 x5 x6 x8 x9 x10 22 (by decide) (by decide) _
  refine (put_slot _ _ 21 _ _ _ m q k).trans ?_
  refine ite_close (fun h => ?_) (fun h21 => ?_)
  · obtain rfl : m = ⟨21, by decide⟩ := Fin.ext h
    rw [GP_lt _ _ _ _ _ _ (by decide)]
    unfold kernelRun0_A.sl.r_99
    unfold kernelRun0_A.sl.r_100
    rw [w48, w403]
    unfold kernelRun0_A.sl.v1982
    refine congrFun ((tap21 _ _ _).trans (congrArg (gp 21 (TDY1 x2 x5 x6 x8 x9 x10) (stack (k0_pay9 (F := Ideal) i x3 x4) (k0_pay10 (F := Ideal) x0 x1))) ?_)) (ix3 0 q k)
    exact fill21 c i arg1 harg1 arg2 harg2 arg3 harg3 arg4 harg4 arg5 harg5 arg6 harg6 arg7 harg7 arg9 harg9 arg10 harg10 arg11 harg11 arg18 arg20 x0 x1 x2 x3 x4 x5 x6 x8 x9 x10 21 (by decide) (by decide) _
  refine (put_slot _ _ 20 _ _ _ m q k).trans ?_
  refine ite_close (fun h => ?_) (fun h20 => ?_)
  · obtain rfl : m = ⟨20, by decide⟩ := Fin.ext h
    rw [GP_lt _ _ _ _ _ _ (by decide)]
    unfold kernelRun0_A.sl.r_97
    unfold kernelRun0_A.sl.r_98
    rw [w48, w403]
    unfold kernelRun0_A.sl.v1910
    refine congrFun ((tap20 _ _ _).trans (congrArg (gp 20 (TDY1 x2 x5 x6 x8 x9 x10) (stack (k0_pay9 (F := Ideal) i x3 x4) (k0_pay10 (F := Ideal) x0 x1))) ?_)) (ix3 0 q k)
    exact fill20 c i arg1 harg1 arg2 harg2 arg3 harg3 arg4 harg4 arg5 harg5 arg6 harg6 arg7 harg7 arg9 harg9 arg10 harg10 arg11 harg11 arg18 arg20 x0 x1 x2 x3 x4 x5 x6 x8 x9 x10 20 (by decide) (by decide) _
  refine (put_slot _ _ 19 _ _ _ m q k).trans ?_
  refine ite_close (fun h => ?_) (fun h19 => ?_)
  · obtain rfl : m = ⟨19, by decide⟩ := Fin.ext h
    rw [GP_lt _ _ _ _ _ _ (by decide)]
    unfold kernelRun0_A.sl.r_96
    unfold kernelRun0_A.sl.r_94
    unfold kernelRun0_A.sl.r_95
    rw [w48, w403]
    unfold kernelRun0_A.sl.v1838
    refine congrFun ((tap19 _ _ _).trans (congrArg (gp 19 (TDY1 x2 x5 x6 x8 x9 x10) (stack (k0_pay9 (F := Ideal) i x3 x4) (k0_pay10 (F := Ideal) x0 x1))) ?_)) (ix3 0 q k)
    exact fill19 c i arg1 harg1 arg2 harg2 arg3 harg3 arg4 harg4 arg5 harg5 arg6 harg6 arg7 harg7 arg9 harg9 arg10 harg10 arg11 harg11 arg18 arg20 x0 x1 x2 x3 x4 x5 x6 x8 x9 x10 19 (by decide) (by decide) _
  refine (put_slot _ _ 18 _ _ _ m q k).trans ?_
  refine ite_close (fun h => ?_) (fun h18 => ?_)
  · obtain rfl : m = ⟨18, by decide⟩ := Fin.ext h
    rw [GP_lt _ _ _ _ _ _ (by decide)]
    unfold kernelRun0_A.sl.r_92
    unfold kernelRun0_A.sl.r_93
    rw [w48, w403]
    unfold kernelRun0_A.sl.v1766
    refine congrFun ((tap18 _ _ _).trans (congrArg (gp 18 (TDY1 x2 x5 x6 x8 x9 x10) (stack (k0_pay9 (F := Ideal) i x3 x4) (k0_pay10 (F := Ideal) x0 x1))) ?_)) (ix3 0 q k)
    exact fill18 c i arg1 harg1 arg2 harg2 arg3 harg3 arg4 harg4 arg5 harg5 arg6 harg6 arg7 harg7 arg9 harg9 arg10 harg10 arg11 harg11 arg18 arg20 x0 x1 x2 x3 x4 x5 x6 x8 x9 x10 18 (by decide) (by decide) _
  refine (put_slot _ _ 17 _ _ _ m q k).trans ?_
  refine ite_close (fun h => ?_) (fun h17 => ?_)
  · obtain rfl : m = ⟨17, by decide⟩ := Fin.ext h
    rw [GP_lt _ _ _ _ _ _ (by decide)]
    unfold kernelRun0_A.sl.r_90
    unfold kernelRun0_A.sl.r_91
    rw [w48, w403]
    unfold kernelRun0_A.sl.v1694
    refine congrFun ((tap17 _ _ _).trans (congrArg (gp 17 (TDY1 x2 x5 x6 x8 x9 x10) (stack (k0_pay9 (F := Ideal) i x3 x4) (k0_pay10 (F := Ideal) x0 x1))) ?_)) (ix3 0 q k)
    exact fill17 c i arg1 harg1 arg2 harg2 arg3 harg3 arg4 harg4 arg5 harg5 arg6 harg6 arg7 harg7 arg9 harg9 arg10 harg10 arg11 harg11 arg18 arg20 x0 x1 x2 x3 x4 x5 x6 x8 x9 x10 17 (by decide) (by decide) _
  refine (put_slot _ _ 16 _ _ _ m q k).trans ?_
  refine ite_close (fun h => ?_) (fun h16 => ?_)
  · obtain rfl : m = ⟨16, by decide⟩ := Fin.ext h
    rw [GP_lt _ _ _ _ _ _ (by decide)]
    unfold kernelRun0_A.sl.r_89
    unfold kernelRun0_A.sl.r_87
    unfold kernelRun0_A.sl.r_88
    rw [w48, w403]
    unfold kernelRun0_A.sl.v1622
    refine congrFun ((tap16 _ _ _).trans (congrArg (gp 16 (TDY1 x2 x5 x6 x8 x9 x10) (stack (k0_pay9 (F := Ideal) i x3 x4) (k0_pay10 (F := Ideal) x0 x1))) ?_)) (ix3 0 q k)
    exact fill16 c i arg1 harg1 arg2 harg2 arg3 harg3 arg4 harg4 arg5 harg5 arg6 harg6 arg7 harg7 arg9 harg9 arg10 harg10 arg11 harg11 arg18 arg20 x0 x1 x2 x3 x4 x5 x6 x8 x9 x10 16 (by decide) (by decide) _
  refine (put_slot _ _ 15 _ _ _ m q k).trans ?_
  refine ite_close (fun h => ?_) (fun h15 => ?_)
  · obtain rfl : m = ⟨15, by decide⟩ := Fin.ext h
    rw [GP_lt _ _ _ _ _ _ (by decide)]
    unfold kernelRun0_A.sl.r_85
    unfold kernelRun0_A.sl.r_86
    rw [w48, w403]
    unfold kernelRun0_A.sl.v1550
    refine congrFun ((tap15 _ _ _).trans (congrArg (gp 15 (TDY1 x2 x5 x6 x8 x9 x10) (stack (k0_pay9 (F := Ideal) i x3 x4) (k0_pay10 (F := Ideal) x0 x1))) ?_)) (ix3 0 q k)
    exact fill15 c i arg1 harg1 arg2 harg2 arg3 harg3 arg4 harg4 arg5 harg5 arg6 harg6 arg7 harg7 arg9 harg9 arg10 harg10 arg11 harg11 arg18 arg20 x0 x1 x2 x3 x4 x5 x6 x8 x9 x10 15 (by decide) (by decide) _
  refine (put_slot _ _ 14 _ _ _ m q k).trans ?_
  refine ite_close (fun h => ?_) (fun h14 => ?_)
  · obtain rfl : m = ⟨14, by decide⟩ := Fin.ext h
    rw [GP_lt _ _ _ _ _ _ (by decide)]
    unfold kernelRun0_A.sl.r_83
    unfold kernelRun0_A.sl.r_84
    rw [w48, w403]
    unfold kernelRun0_A.sl.v1478
    refine congrFun ((tap14 _ _ _).trans (congrArg (gp 14 (TDY1 x2 x5 x6 x8 x9 x10) (stack (k0_pay9 (F := Ideal) i x3 x4) (k0_pay10 (F := Ideal) x0 x1))) ?_)) (ix3 0 q k)
    exact fill14 c i arg1 harg1 arg2 harg2 arg3 harg3 arg4 harg4 arg5 harg5 arg6 harg6 arg7 harg7 arg9 harg9 arg10 harg10 arg11 harg11 arg18 arg20 x0 x1 x2 x3 x4 x5 x6 x8 x9 x10 14 (by decide) (by decide) _
  refine (put_slot _ _ 13 _ _ _ m q k).trans ?_
  refine ite_close (fun h => ?_) (fun h13 => ?_)
  · obtain rfl : m = ⟨13, by decide⟩ := Fin.ext h
    rw [GP_lt _ _ _ _ _ _ (by decide)]
    unfold kernelRun0_A.sl.r_82
    unfold kernelRun0_A.sl.r_80
    unfold kernelRun0_A.sl.r_81
    rw [w48, w403]
    unfold kernelRun0_A.sl.v1406
    refine congrFun ((tap13 _ _ _).trans (congrArg (gp 13 (TDY1 x2 x5 x6 x8 x9 x10) (stack (k0_pay9 (F := Ideal) i x3 x4) (k0_pay10 (F := Ideal) x0 x1))) ?_)) (ix3 0 q k)
    exact fill13 c i arg1 harg1 arg2 harg2 arg3 harg3 arg4 harg4 arg5 harg5 arg6 harg6 arg7 harg7 arg9 harg9 arg10 harg10 arg11 harg11 arg18 arg20 x0 x1 x2 x3 x4 x5 x6 x8 x9 x10 13 (by decide) (by decide) _
  refine (put_slot _ _ 12 _ _ _ m q k).trans ?_
  refine ite_close (fun h => ?_) (fun h12 => ?_)
  · obtain rfl : m = ⟨12, by decide⟩ := Fin.ext h
    rw [GP_lt _ _ _ _ _ _ (by decide)]
    unfold kernelRun0_A.sl.r_78
    unfold kernelRun0_A.sl.r_79
    rw [w48, w403]
    unfold kernelRun0_A.sl.v1334
    refine congrFun ((tap12 _ _ _).trans (congrArg (gp 12 (TDY1 x2 x5 x6 x8 x9 x10) (stack (k0_pay9 (F := Ideal) i x3 x4) (k0_pay10 (F := Ideal) x0 x1))) ?_)) (ix3 0 q k)
    exact fill12 c i arg1 harg1 arg2 harg2 arg3 harg3 arg4 harg4 arg5 harg5 arg6 harg6 arg7 harg7 arg9 harg9 arg10 harg10 arg11 harg11 arg18 arg20 x0 x1 x2 x3 x4 x5 x6 x8 x9 x10 12 (by decide) (by decide) _
  refine (put_slot _ _ 11 _ _ _ m q k).trans ?_
  refine ite_close (fun h => ?_) (fun h11 => ?_)
  · obtain rfl : m = ⟨11, by decide⟩ := Fin.ext h
    rw [GP_lt _ _ _ _ _ _ (by decide)]
    unfold kernelRun0_A.sl.r_76
    unfold kernelRun0_A.sl.r_77
    rw [w48, w403]
    unfold kernelRun0_A.sl.v1262
    refine congrFun ((tap11 _ _ _).trans (congrArg (gp 11 (TDY1 x2 x5 x6 x8 x9 x10) (stack (k0_pay9 (F := Ideal) i x3 x4) (k0_pay10 (F := Ideal) x0 x1))) ?_)) (ix3 0 q k)
    exact fill11 c i arg1 harg1 arg2 harg2 arg3 harg3 arg4 harg4 arg5 harg5 arg6 harg6 arg7 harg7 arg9 harg9 arg10 harg10 arg11 harg11 arg18 arg20 x0 x1 x2 x3 x4 x5 x6 x8 x9 x10 11 (by decide) (by decide) _
  refine (put_slot _ _ 10 _ _ _ m q k).trans ?_
  refine ite_close (fun h => ?_) (fun h10 => ?_)
  · obtain rfl : m = ⟨10, by decide⟩ := Fin.ext h
    rw [GP_lt _ _ _ _ _ _ (by decide)]
    unfold kernelRun0_A.sl.r_75
    unfold kernelRun0_A.sl.r_73
    unfold kernelRun0_A.sl.r_74
    rw [w48, w403]
    unfold kernelRun0_A.sl.v1190
    refine congrFun ((tap10 _ _ _).trans (congrArg (gp 10 (TDY1 x2 x5 x6 x8 x9 x10) (stack (k0_pay9 (F := Ideal) i x3 x4) (k0_pay10 (F := Ideal) x0 x1))) ?_)) (ix3 0 q k)
    exact fill10 c i arg1 harg1 arg2 harg2 arg3 harg3 arg4 harg4 arg5 harg5 arg6 harg6 arg7 harg7 arg9 harg9 arg10 harg10 arg11 harg11 arg18 arg20 x0 x1 x2 x3 x4 x5 x6 x8 x9 x10 10 (by decide) (by decide) _
  refine (put_slot _ _ 9 _ _ _ m q k).trans ?_
  refine ite_close (fun h => ?_) (fun h9 => ?_)
  · obtain rfl : m = ⟨9, by decide⟩ := Fin.ext h
    rw [GP_lt _ _ _ _ _ _ (by decide)]
    unfold kernelRun0_A.sl.r_71
    unfold kernelRun0_A.sl.r_72
    rw [w48, w403]
    unfold kernelRun0_A.sl.v1118
    refine congrFun ((tap9 _ _ _).trans (congrArg (gp 9 (TDY1 x2 x5 x6 x8 x9 x10) (stack (k0_pay9 (F := Ideal) i x3 x4) (k0_pay10 (F := Ideal) x0 x1))) ?_)) (ix3 0 q k)
    exact fill9 c i arg1 harg1 arg2 harg2 arg3 harg3 arg4 harg4 arg5 harg5 arg6 harg6 arg7 harg7 arg9 harg9 arg10 harg10 arg11 harg11 arg18 arg20 x0 x1 x2 x3 x4 x5 x6 x8 x9 x10 9 (by decide) (by decide) _
  refine (put_slot _ _ 8 _ _ _ m q k).trans ?_
  refine ite_close (fun h => ?_) (fun h8 => ?_)
  · obtain rfl : m = ⟨8, by decide⟩ := Fin.ext h
    rw [GP_lt _ _ _ _ _ _ (by decide)]
    unfold kernelRun0_A.sl.r_69
    unfold kernelRun0_A.sl.r_70
    rw [w48, w403]
    unfold kernelRun0_A.sl.v1046
    refine congrFun ((tap8 _ _ _).trans (congrArg (gp 8 (TDY1 x2 x5 x6 x8 x9 x10) (stack (k0_pay9 (F := Ideal) i x3 x4) (k0_pay10 (F := Ideal) x0 x1))) ?_)) (ix3 0 q k)
    exact fill8 c i arg1 harg1 arg2 harg2 arg3 harg3 arg4 harg4 arg5 harg5 arg6 harg6 arg7 harg7 arg9 harg9 arg10 harg10 arg11 harg11 arg18 arg20 x0 x1 x2 x3 x4 x5 x6 x8 x9 x10 8 (by decide) (by decide) _
  refine (put_slot _ _ 7 _ _ _ m q k).trans ?_
  refine ite_close (fun h => ?_) (fun h7 => ?_)
  · obtain rfl : m = ⟨7, by decide⟩ := Fin.ext h
    rw [GP_lt _ _ _ _ _ _ (by decide)]
    unfold kernelRun0_A.sl.r_68
    unfold kernelRun0_A.sl.r_66
    unfold kernelRun0_A.sl.r_67
    rw [w48, w403]
    unfold kernelRun0_A.sl.v974
    refine congrFun ((tap7 _ _ _).trans (congrArg (gp 7 (TDY1 x2 x5 x6 x8 x9 x10) (stack (k0_pay9 (F := Ideal) i x3 x4) (k0_pay10 (F := Ideal) x0 x1))) ?_)) (ix3 0 q k)
    exact fill7 c i arg1 harg1 arg2 harg2 arg3 harg3 arg4 harg4 arg5 harg5 arg6 harg6 arg7 harg7 arg9 harg9 arg10 harg10 arg11 harg11 arg18 arg20 x0 x1 x2 x3 x4 x5 x6 x8 x9 x10 7 (by decide) (by decide) _
  refine (put_slot _ _ 6 _ _ _ m q k).trans ?_
  refine ite_close (fun h => ?_) (fun h6 => ?_)
  · obtain rfl : m = ⟨6, by decide⟩ := Fin.ext h
    rw [GP_lt _ _ _ _ _ _ (by decide)]
    unfold kernelRun0_A.sl.r_64
    unfold kernelRun0_A.sl.r_65
    rw [w48, w403]
    unfold kernelRun0_A.sl.v902
    refine congrFun ((tap6 _ _ _).trans (congrArg (gp 6 (TDY1 x2 x5 x6 x8 x9 x10) (stack (k0_pay9 (F := Ideal) i x3 x4) (k0_pay10 (F := Ideal) x0 x1))) ?_)) (ix3 0 q k)
    exact fill6 c i arg1 harg1 arg2 harg2 arg3 harg3 arg4 harg4 arg5 harg5 arg6 harg6 arg7 harg7 arg9 harg9 arg10 harg10 arg11 harg11 arg18 arg20 x0 x1 x2 x3 x4 x5 x6 x8 x9 x10 6 (by decide) (by decide) _
  refine (put_slot _ _ 5 _ _ _ m q k).trans ?_
  refine ite_close (fun h => ?_) (fun h5 => ?_)
  · obtain rfl : m = ⟨5, by decide⟩ := Fin.ext h
    rw [GP_lt _ _ _ _ _ _ (by decide)]
    unfold kernelRun0_A.sl.r_62
    unfold kernelRun0_A.sl.r_63
    rw [w48, w403]
    unfold kernelRun0_A.sl.v830
    refine congrFun ((tap5 _ _ _).trans (congrArg (gp 5 (TDY1 x2 x5 x6 x8 x9 x10) (stack (k0_pay9 (F := Ideal) i x3 x4) (k0_pay10 (F := Ideal) x0 x1))) ?_)) (ix3 0 q k)
    exact fill5 c i arg1 harg1 arg2 harg2 arg3 harg3 arg4 harg4 arg5 harg5 arg6 harg6 arg7 harg7 arg9 harg9 arg10 harg10 arg11 harg11 arg18 arg20 x0 x1 x2 x3 x4 x5 x6 x8 x9 x10 5 (by decide) (by decide) _
  refine (put_slot _ _ 4 _ _ _ m q k).trans ?_
  refine ite_close (fun h => ?_) (fun h4 => ?_)
  · obtain rfl : m = ⟨4, by decide⟩ := Fin.ext h
    rw [GP_lt _ _ _ _ _ _ (by decide)]
    unfold kernelRun0_A.sl.r_61
    unfold kernelRun0_A.sl.r_59
    unfold kernelRun0_A.sl.r_60
    rw [w48, w403]
    unfold kernelRun0_A.sl.v758
    refine congrFun ((tap4 _ _ _).trans (congrArg (gp 4 (TDY1 x2 x5 x6 x8 x9 x10) (stack (k0_pay9 (F := Ideal) i x3 x4) (k0_pay10 (F := Ideal) x0 x1))) ?_)) (ix3 0 q k)
    exact fill4 c i arg1 harg1 arg2 harg2 arg3 harg3 arg4 harg4 arg5 harg5 arg6 harg6 arg7 harg7 arg9 harg9 arg10 harg10 arg11 harg11 arg18 arg20 x0 x1 x2 x3 x4 x5 x6 x8 x9 x10 4 (by decide) (by decide) _
  refine (put_slot _ _ 3 _ _ _ m q k).trans ?_
  refine ite_close (fun h => ?_) (fun h3 => ?_)
  · obtain rfl : m = ⟨3, by decide⟩ := Fin.ext h
    rw [GP_lt _ _ _ _ _ _ (by decide)]
    unfold kernelRun0_A.sl.r_57
    unfold kernelRun0_A.sl.r_58
    rw [w48, w403]
    unfold kernelRun0_A.sl.v686
    refine congrFun ((tap3 _ _ _).trans (congrArg (gp 3 (TDY1 x2 x5 x6 x8 x9 x10) (stack (k0_pay9 (F := Ideal) i x3 x4) (k0_pay10 (F := Ideal) x0 x1))) ?_)) (ix3 0 q k)
    exact fill3 c i arg1 harg1 arg2 harg2 arg3 harg3 arg4 harg4 arg5 harg5 arg6 harg6 arg7 harg7 arg9 harg9 arg10 harg10 arg11 harg11 arg18 arg20 x0 x1 x2 x3 x4 x5 x6 x8 x9 x10 3 (by decide) (by decide) _
  refine (put_slot _ _ 2 _ _ _ m q k).trans ?_
  refine ite_close (fun h => ?_) (fun h2 => ?_)
  · obtain rfl : m = ⟨2, by decide⟩ := Fin.ext h
    rw [GP_lt _ _ _ _ _ _ (by decide)]
    unfold kernelRun0_A.sl.r_55
    unfold kernelRun0_A.sl.r_56
    rw [w48, w403]
    unfold kernelRun0_A.sl.v614
    refine congrFun ((tap2 _ _ _).trans (congrArg (gp 2 (TDY1 x2 x5 x6 x8 x9 x10) (stack (k0_pay9 (F := Ideal) i x3 x4) (k0_pay10 (F := Ideal) x0 x1))) ?_)) (ix3 0 q k)
    exact fill2 c i arg1 harg1 arg2 harg2 arg3 harg3 arg4 harg4 arg5 harg5 arg6 harg6 arg7 harg7 arg9 harg9 arg10 harg10 arg11 harg11 arg18 arg20 x0 x1 x2 x3 x4 x5 x6 x8 x9 x10 2 (by decide) (by decide) _
  refine (put_slot _ _ 1 _ _ _ m q k).trans ?_
  refine ite_close (fun h => ?_) (fun h1 => ?_)
  · obtain rfl : m = ⟨1, by decide⟩ := Fin.ext h
    rw [GP_lt _ _ _ _ _ _ (by decide)]
    unfold kernelRun0_A.sl.r_54
    unfold kernelRun0_A.sl.r_52
    unfold kernelRun0_A.sl.r_53
    rw [w48, w403]
    unfold kernelRun0_A.sl.v542
    refine congrFun ((tap1 _ _ _).trans (congrArg (gp 1 (TDY1 x2 x5 x6 x8 x9 x10) (stack (k0_pay9 (F := Ideal) i x3 x4) (k0_pay10 (F := Ideal) x0 x1))) ?_)) (ix3 0 q k)
    exact fill1 c i arg1 harg1 arg2 harg2 arg3 harg3 arg4 harg4 arg5 harg5 arg6 harg6 arg7 harg7 arg9 harg9 arg10 harg10 arg11 harg11 arg18 arg20 x0 x1 x2 x3 x4 x5 x6 x8 x9 x10 1 (by decide) (by decide) _
  refine (put_slot _ _ 0 _ _ _ m q k).trans ?_
  refine ite_close (fun h => ?_) (fun h0 => ?_)
  · obtain rfl : m = ⟨0, by decide⟩ := Fin.ext h
    rw [GP_lt _ _ _ _ _ _ (by decide)]
    unfold kernelRun0_A.sl.r_50
    unfold kernelRun0_A.sl.r_51
    rw [w48, w403]
    unfold kernelRun0_A.sl.v470
    refine congrFun ((tap0 _ _ _).trans (congrArg (gp 0 (TDY1 x2 x5 x6 x8 x9 x10) (stack (k0_pay9 (F := Ideal) i x3 x4) (k0_pay10 (F := Ideal) x0 x1))) ?_)) (ix3 0 q k)
    exact fill0 arg20 0 (by decide) (by decide) _
  rw [GP_ge _ _ _ _ _ _ (by omega)]
  exact put_slots _ _ _ _ _ m q k

end CaseA

end Cert.ConvPiecesA

end
-- ==== Proof.ConvPiecesB.lean ====
/-
  What one grid point of the convolution's backward pass leaves: a point in the middle.
-/
module

public import proofs.«01_k».proof.Proof.ConvOuts
public import proofs.«01_k».proof.Proof.ConvStores

@[expose] public section

set_option maxRecDepth 16384
set_option maxHeartbeats 4000000

noncomputable section

namespace Cert.ConvPiecesB

open Cert.KernelIdeal Cert.KernelIdeal.Gen Cert.ConvFrame Cert.ConvTile Cert.ConvTaps Cert.ConvStores Cert.RowStore
open Idealize.ShloMosaic Idealize.ShloMosaic.ValueIdx Idealize.ShloMosaic.TcCoe Idealize.ShloMosaic.Tactic

theorem hz2 : (![0, 0] : Fin 2 → Nat) = fun _ => 0 := by funext a; fin_cases a <;> rfl

section CaseB

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S32x1024 .f32) (harg4 : arg4.IsWhole)
  (arg5 : Memref sig .tc .vmem S32x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S32x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S3x256x1024 .bf16) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S8x1024 .f32) (harg16 : arg16.IsWhole)
  (arg17 : Memref sig .tc .vmem S32x1024 .f32) (harg17 : arg17.IsWhole)
  (arg18 : Memref sig .tc .vmem S288x1024 .f32) (harg18 : arg18.IsWhole)
  (arg19 : Memref sig .tc .vmem S288x1024 .f32) (harg19 : arg19.IsWhole)
  (arg20 : Memref sig .tc .vmem S32x8x1024 .f32) (harg20 : arg20.IsWhole)
  (hc0 : ¬cond0_0 i) (hc1 : ¬cond0_1 i)
  (x0 : Vec Ideal S256x1024 .f32) (x1 : Vec Ideal S256x1024 .f32) (x2 : Vec Ideal S256x1024 .f32) (x3 : Vec Ideal S32x1024 .f32) (x4 : Vec Ideal S32x1024 .f32) (x5 : Vec Ideal S256x1024 .f32)
  (x6 : Vec Ideal S256x1024 .f32) (x7 : Vec Ideal S32x1024 .f32) (x8 : Vec Ideal S1x1024 .f32) (x9 : Vec Ideal S1x1024 .f32) (x10 : Vec Ideal S1024x1024 .bf16) (x11 : Vec Ideal S1x1024 .f32)
  (xo15 : Vec Ideal S8x1024 .f32) (xs1 : Vec Ideal S288x1024 .f32) (xs2 : Vec Ideal S32x8x1024 .f32)

theorem w48 : kernelRun0_B.sl.r_48 (F := Ideal) c arg3 harg3 arg6 harg6 arg7 harg7 arg9 harg9 arg10 harg10 arg11 harg11 x2 x5 x6 x8 x9 x10 = (TDY1 x2 x5 x6 x8 x9 x10) := by
  unfold kernelRun0_B.sl.r_48
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w30 : kernelRun0_B.sl.r_30 (F := Ideal) c arg3 harg3 arg7 harg7 x2 x6 = TDY2 x2 x6 := by
  unfold kernelRun0_B.sl.r_30
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w32 : kernelRun0_B.sl.r_32 (F := Ideal) c arg3 harg3 arg6 harg6 arg7 harg7 arg9 harg9 arg10 harg10 arg11 harg11 x2 x5 x6 x8 x9 x10 = TDAP x2 x5 x6 x8 x9 x10 := by
  unfold kernelRun0_B.sl.r_32
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w24 : kernelRun0_B.sl.r_24 (F := Ideal) c arg6 harg6 x5 = TYN x5 := by
  unfold kernelRun0_B.sl.r_24
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w403 : kernelRun0_B.sl.v403 (F := Ideal) c i arg1 harg1 arg2 harg2 arg4 harg4 arg5 harg5 arg18 x0 x1 x3 x4 = (stack (k0_pay9 (F := Ideal) i x3 x4) (k0_pay10 (F := Ideal) x0 x1)) := by
  unfold kernelRun0_B.sl.v403 kernelRun0_B.sl.HS0_2
  refine (cov_whole _ _ _).trans ((read_stack _ _ _ _ _ _ _).trans ?_)
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]

theorem w396 : View.readAt (Elt Ideal) arg19.view (Rect.unit (s := S288x1024) ![0, 0] S32x1024.size inb_S288x1024_S32x1024_0_0).toLoadRect (harg19.unread xs1) = (topOf xs1) := by
  rw [View.readAt_eq_ld, harg19.read_unread]
  exact ld_top xs1 _

theorem w2638 : kernelRun0_B.sl.v2638 (F := Ideal) c arg3 harg3 arg6 harg6 arg7 harg7 arg9 harg9 arg10 harg10 arg11 harg11 arg19 harg19 x2 x5 x6 x8 x9 x10 xs1 = (stack2 (TDY1 x2 x5 x6 x8 x9 x10) (topOf xs1)) := by
  unfold kernelRun0_B.sl.v2638 kernelRun0_B.sl.HS1_2
  refine (cov_whole _ _ _).trans ((read_stack2 _ _ _ _ _ _ _).trans ?_)
  rw [w48]
  refine congrArg₂ stack2 (shapeCast_self _ _) ((shapeCast_self _ _).trans ?_)
  exact w396 _ harg19 _

theorem out13 : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 = TA x5 x8 x9 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2)]
  unfold kernelRun0_B
  dsimp only
  try sl_unfold_words
  rw [View.canon_unit_zero hz2]
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem out14 : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 = k0_pay54 (F := Ideal) x2 x6 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2)]
  unfold kernelRun0_B
  dsimp only
  try sl_unfold_words
  rw [View.canon_unit_zero hz2]
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]

theorem sout1 : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 = (stack2 (TDY1 x2 x5 x6 x8 x9 x10) (topOf xs1)) := by
  unfold sout0_B_1
  unfold kernelRun0_B
  dsimp only
  try unfold kernelRun0_B.sl.HS1_2
  refine (read_stack2 _ _ _ _ _ _ _).trans ?_
  rw [w48]
  refine congrArg₂ stack2 (shapeCast_self _ _) ((shapeCast_self _ _).trans ?_)
  exact w396 _ harg19 _

theorem w49 : kernelRun0_B.sl.r_49 (F := Ideal) c arg3 harg3 arg6 harg6 arg7 harg7 arg9 harg9 arg10 harg10 arg11 harg11 arg16 harg16 x2 x5 x6 x8 x9 x10 xo15 = ACC (kernelRun0_B.sl.r_48 (F := Ideal) c arg3 harg3 arg6 harg6 arg7 harg7 arg9 harg9 arg10 harg10 arg11 harg11 x2 x5 x6 x8 x9 x10) (View.readAt (Elt Ideal) arg16.view (Rect.unit (s := S8x1024) ![0, 0] S1x1024.size inb_S8x1024_S1x1024_0_0).toLoadRect (harg16.unread xo15)) := rfl

theorem out15 (r : Fin 8) (k : Fin 1024) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 (ix2 r k)
    = VV (TDY1 x2 x5 x6 x8 x9 x10) (TYN x5) (TDAP x2 x5 x6 x8 x9 x10) (TDY2 x2 x6) xo15 r k := by
  unfold out0_B_15 VV
  unfold kernelRun0_B
  dsimp only
  refine (put_row _ _ 3 _ _ _ r k).trans ?_
  refine if_congr Iff.rfl ?_ ?_
  · rw [w30]
    refine congrFun (congrArg (ACC (TDY2 x2 x6)) ?_) (ix2 0 k)
    try unfold kernelRun0_B.sl.v376
    rw [View.readAt_eq_ld, harg16.read_unread]
    exact ld_row (Val := Elt Ideal) (e := .f32) xo15 3 (by decide) _
  refine (put_row _ _ 2 _ _ _ r k).trans ?_
  refine if_congr Iff.rfl ?_ ?_
  · rw [w32]
    refine congrFun (congrArg (ACC (TDAP x2 x5 x6 x8 x9 x10)) ?_) (ix2 0 k)
    try unfold kernelRun0_B.sl.v370
    rw [View.readAt_eq_ld, harg16.read_unread]
    exact ld_row (Val := Elt Ideal) (e := .f32) xo15 2 (by decide) _
  refine (put_row _ _ 1 _ _ _ r k).trans ?_
  refine if_congr Iff.rfl ?_ ?_
  · rw [w32, w24]
    refine congrFun (congrArg (ACC (mulf (TDAP x2 x5 x6 x8 x9 x10) (TYN x5))) ?_) (ix2 0 k)
    try unfold kernelRun0_B.sl.v363
    rw [View.readAt_eq_ld, harg16.read_unread]
    exact ld_row (Val := Elt Ideal) (e := .f32) xo15 1 (by decide) _
  refine (put_row _ _ 0 _ _ _ r k).trans ?_
  refine if_congr Iff.rfl ?_ ?_
  · rw [w49, w48]
    refine congrFun (congrArg (ACC (TDY1 x2 x5 x6 x8 x9 x10)) ?_) (ix2 0 k)
    rw [View.readAt_eq_ld, harg16.read_unread]
    exact ld_row (Val := Elt Ideal) (e := .f32) xo15 0 (by decide) _
  rw [View.writes_nil, harg16.read_unread]

theorem out12 (z : Fin 3) (r : Fin 256) (k : Fin 1024) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 (ix3 z r k)
    = if z.val = 1 then TZ1 x0 x1 x7 (stack2 (TDY1 x2 x5 x6 x8 x9 x10) (topOf xs1)) (ix3 0 r k) else if z.val = 0 then TZ0 x1 x7 (stack2 (TDY1 x2 x5 x6 x8 x9 x10) (topOf xs1)) (ix3 0 r k) else TDZ2 x2 x5 x6 x8 x9 x11 x10 (ix3 0 r k) := by
  unfold out0_B_12
  unfold kernelRun0_B
  dsimp only
  refine (put_slice _ _ 1 _ _ _ z r k).trans ?_
  by_cases h1 : z.val = 1
  · rw [if_pos h1, if_pos h1]
    refine congrFun (?_ : _ = TZ1 x0 x1 x7 (stack2 (TDY1 x2 x5 x6 x8 x9 x10) (topOf xs1))) (ix3 0 r k)
    try unfold kernelRun0_B.sl.r_131
    try unfold kernelRun0_B.sl.r_132
    try unfold kernelRun0_B.sl.r_128
    try unfold kernelRun0_B.sl.r_129
    try unfold kernelRun0_B.sl.r_130
    try unfold kernelRun0_B.sl.r_127
    try unfold kernelRun0_B.sl.r_126
    try unfold kernelRun0_B.sl.r_125
    try unfold kernelRun0_B.sl.r_124
    try unfold kernelRun0_B.sl.r_123
    try unfold kernelRun0_B.sl.r_122
    try unfold kernelRun0_B.sl.r_2
    try unfold kernelRun0_B.sl.r_1
    try unfold kernelRun0_B.sl.r
    rw [w2638]
    simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
    rfl
  rw [if_neg h1, if_neg h1]
  refine (put_slice _ _ 0 _ _ _ z r k).trans ?_
  by_cases h0 : z.val = 0
  · rw [if_pos h0, if_pos h0]
    refine congrFun (?_ : _ = TZ0 x1 x7 (stack2 (TDY1 x2 x5 x6 x8 x9 x10) (topOf xs1))) (ix3 0 r k)
    try unfold kernelRun0_B.sl.r_131
    try unfold kernelRun0_B.sl.r_132
    try unfold kernelRun0_B.sl.r_128
    try unfold kernelRun0_B.sl.r_129
    try unfold kernelRun0_B.sl.r_130
    try unfold kernelRun0_B.sl.r_127
    try unfold kernelRun0_B.sl.r_126
    try unfold kernelRun0_B.sl.r_125
    try unfold kernelRun0_B.sl.r_124
    try unfold kernelRun0_B.sl.r_123
    try unfold kernelRun0_B.sl.r_122
    try unfold kernelRun0_B.sl.r_2
    try unfold kernelRun0_B.sl.r_1
    try unfold kernelRun0_B.sl.r
    rw [w2638]
    simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
    rfl
  rw [if_neg h0, if_neg h0]
  refine (put_slice _ _ 2 _ _ _ z r k).trans ?_
  refine ite_close (fun _ => ?_) (fun h2 => absurd z.isLt (by omega))
  refine congrFun (?_ : _ = TDZ2 x2 x5 x6 x8 x9 x11 x10) (ix3 0 r k)
  sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem sout2 (m : Fin 32) (q : Fin 8) (k : Fin 1024) : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 (ix3 m q k) = GP (TDY1 x2 x5 x6 x8 x9 x10) (stack (k0_pay9 (F := Ideal) i x3 x4) (k0_pay10 (F := Ideal) x0 x1)) xs2 (ix3 m q k) := by
  unfold sout0_B_2
  unfold kernelRun0_B
  dsimp only
  refine (put_slot _ _ 30 _ _ _ m q k).trans ?_
  refine ite_close (fun h => ?_) (fun h30 => ?_)
  · obtain rfl : m = ⟨30, by decide⟩ := Fin.ext h
    rw [GP_lt _ _ _ _ _ _ (by decide)]
    unfold kernelRun0_B.sl.r_120
    unfold kernelRun0_B.sl.r_121
    rw [w48, w403]
    unfold kernelRun0_B.sl.v2630
    rw [View.readAt_eq_ld, harg20.read_unread]
    refine congrFun ((tap30 _ _ _).trans (congrArg (gp 30 (TDY1 x2 x5 x6 x8 x9 x10) (stack (k0_pay9 (F := Ideal) i x3 x4) (k0_pay10 (F := Ideal) x0 x1))) ?_)) (ix3 0 q k)
    exact ld_slot (Val := Elt Ideal) (e := .f32) xs2 30 (by decide) _
  refine (put_slot _ _ 29 _ _ _ m q k).trans ?_
  refine ite_close (fun h => ?_) (fun h29 => ?_)
  · obtain rfl : m = ⟨29, by decide⟩ := Fin.ext h
    rw [GP_lt _ _ _ _ _ _ (by decide)]
    unfold kernelRun0_B.sl.r_118
    unfold kernelRun0_B.sl.r_119
    rw [w48, w403]
    unfold kernelRun0_B.sl.v2558
    rw [View.readAt_eq_ld, harg20.read_unread]
    refine congrFun ((tap29 _ _ _).trans (congrArg (gp 29 (TDY1 x2 x5 x6 x8 x9 x10) (stack (k0_pay9 (F := Ideal) i x3 x4) (k0_pay10 (F := Ideal) x0 x1))) ?_)) (ix3 0 q k)
    exact ld_slot (Val := Elt Ideal) (e := .f32) xs2 29 (by decide) _
  refine (put_slot _ _ 28 _ _ _ m q k).trans ?_
  refine ite_close (fun h => ?_) (fun h28 => ?_)
  · obtain rfl : m = ⟨28, by decide⟩ := Fin.ext h
    rw [GP_lt _ _ _ _ _ _ (by decide)]
    unfold kernelRun0_B.sl.r_117
    unfold kernelRun0_B.sl.r_115
    unfold kernelRun0_B.sl.r_116
    rw [w48, w403]
    unfold kernelRun0_B.sl.v2486
    rw [View.readAt_eq_ld, harg20.read_unread]
    refine congrFun ((tap28 _ _ _).trans (congrArg (gp 28 (TDY1 x2 x5 x6 x8 x9 x10) (stack (k0_pay9 (F := Ideal) i x3 x4) (k0_pay10 (F := Ideal) x0 x1))) ?_)) (ix3 0 q k)
    exact ld_slot (Val := Elt Ideal) (e := .f32) xs2 28 (by decide) _
  refine (put_slot _ _ 27 _ _ _ m q k).trans ?_
  refine ite_close (fun h => ?_) (fun h27 => ?_)
  · obtain rfl : m = ⟨27, by decide⟩ := Fin.ext h
    rw [GP_lt _ _ _ _ _ _ (by decide)]
    unfold kernelRun0_B.sl.r_113
    unfold kernelRun0_B.sl.r_114
    rw [w48, w403]
    unfold kernelRun0_B.sl.v2414
    rw [View.readAt_eq_ld, harg20.read_unread]
    refine congrFun ((tap27 _ _ _).trans (congrArg (gp 27 (TDY1 x2 x5 x6 x8 x9 x10) (stack (k0_pay9 (F := Ideal) i x3 x4) (k0_pay10 (F := Ideal) x0 x1))) ?_)) (ix3 0 q k)
    exact ld_slot (Val := Elt Ideal) (e := .f32) xs2 27 (by decide) _
  refine (put_slot _ _ 26 _ _ _ m q k).trans ?_
  refine ite_close (fun h => ?_) (fun h26 => ?_)
  · obtain rfl : m = ⟨26, by decide⟩ := Fin.ext h
    rw [GP_lt _ _ _ _ _ _ (by decide)]
    unfold kernelRun0_B.sl.r_111
    unfold kernelRun0_B.sl.r_112
    rw [w48, w403]
    unfold kernelRun0_B.sl.v2342
    rw [View.readAt_eq_ld, harg20.read_unread]
    refine congrFun ((tap26 _ _ _).trans (congrArg (gp 26 (TDY1 x2 x5 x6 x8 x9 x10) (stack (k0_pay9 (F := Ideal) i x3 x4) (k0_pay10 (F := Ideal) x0 x1))) ?_)) (ix3 0 q k)
    exact ld_slot (Val := Elt Ideal) (e := .f32) xs2 26 (by decide) _
  refine (put_slot _ _ 25 _ _ _ m q k).trans ?_
  refine ite_close (fun h => ?_) (fun h25 => ?_)
  · obtain rfl : m = ⟨25, by decide⟩ := Fin.ext h
    rw [GP_lt _ _ _ _ _ _ (by decide)]
    unfold kernelRun0_B.sl.r_110
    unfold kernelRun0_B.sl.r_108
    unfold kernelRun0_B.sl.r_109
    rw [w48, w403]
    unfold kernelRun0_B.sl.v2270
    rw [View.readAt_eq_ld, harg20.read_unread]
    refine congrFun ((tap25 _ _ _).trans (congrArg (gp 25 (TDY1 x2 x5 x6 x8 x9 x10) (stack (k0_pay9 (F := Ideal) i x3 x4) (k0_pay10 (F := Ideal) x0 x1))) ?_)) (ix3 0 q k)
    exact ld_slot (Val := Elt Ideal) (e := .f32) xs2 25 (by decide) _
  refine (put_slot _ _ 24 _ _ _ m q k).trans ?_
  refine ite_close (fun h => ?_) (fun h24 => ?_)
  · obtain rfl : m = ⟨24, by decide⟩ := Fin.ext h
    rw [GP_lt _ _ _ _ _ _ (by decide)]
    unfold kernelRun0_B.sl.r_106
    unfold kernelRun0_B.sl.r_107
    rw [w48, w403]
    unfold kernelRun0_B.sl.v2198
    rw [View.readAt_eq_ld, harg20.read_unread]
    refine congrFun ((tap24 _ _ _).trans (congrArg (gp 24 (TDY1 x2 x5 x6 x8 x9 x10) (stack (k0_pay9 (F := Ideal) i x3 x4) (k0_pay10 (F := Ideal) x0 x1))) ?_)) (ix3 0 q k)
    exact ld_slot (Val := Elt Ideal) (e := .f32) xs2 24 (by decide) _
  refine (put_slot _ _ 23 _ _ _ m q k).trans ?_
  refine ite_close (fun h => ?_) (fun h23 => ?_)
  · obtain rfl : m = ⟨23, by decide⟩ := Fin.ext h
    rw [GP_lt _ _ _ _ _ _ (by decide)]
    unfold kernelRun0_B.sl.r_104
    unfold kernelRun0_B.sl.r_105
    rw [w48, w403]
    unfold kernelRun0_B.sl.v2126
    rw [View.readAt_eq_ld, harg20.read_unread]
    refine congrFun ((tap23 _ _ _).trans (congrArg (gp 23 (TDY1 x2 x5 x6 x8 x9 x10) (stack (k0_pay9 (F := Ideal) i x3 x4) (k0_pay10 (F := Ideal) x0 x1))) ?_)) (ix3 0 q k)
    exact ld_slot (Val := Elt Ideal) (e := .f32) xs2 23 (by decide) _
  refine (put_slot _ _ 22 _ _ _ m q k).trans ?_
  refine ite_close (fun h => ?_) (fun h22 => ?_)
  · obtain rfl : m = ⟨22, by decide⟩ := Fin.ext h
    rw [GP_lt _ _ _ _ _ _ (by decide)]
    unfold kernelRun0_B.sl.r_103
    unfold kernelRun0_B.sl.r_101
    unfold kernelRun0_B.sl.r_102
    rw [w48, w403]
    unfold kernelRun0_B.sl.v2054
    rw [View.readAt_eq_ld, harg20.read_unread]
    refine congrFun ((tap22 _ _ _).trans (congrArg (gp 22 (TDY1 x2 x5 x6 x8 x9 x10) (stack (k0_pay9 (F := Ideal) i x3 x4) (k0_pay10 (F := Ideal) x0 x1))) ?_)) (ix3 0 q k)
    exact ld_slot (Val := Elt Ideal) (e := .f32) xs2 22 (by decide) _
  refine (put_slot _ _ 21 _ _ _ m q k).trans ?_
  refine ite_close (fun h => ?_) (fun h21 => ?_)
  · obtain rfl : m = ⟨21, by decide⟩ := Fin.ext h
    rw [GP_lt _ _ _ _ _ _ (by decide)]
    unfold kernelRun0_B.sl.r_99
    unfold kernelRun0_B.sl.r_100
    rw [w48, w403]
    unfold kernelRun0_B.sl.v1982
    rw [View.readAt_eq_ld, harg20.read_unread]
    refine congrFun ((tap21 _ _ _).trans (congrArg (gp 21 (TDY1 x2 x5 x6 x8 x9 x10) (stack (k0_pay9 (F := Ideal) i x3 x4) (k0_pay10 (F := Ideal) x0 x1))) ?_)) (ix3 0 q k)
    exact ld_slot (Val := Elt Ideal) (e := .f32) xs2 21 (by decide) _
  refine (put_slot _ _ 20 _ _ _ m q k).trans ?_
  refine ite_close (fun h => ?_) (fun h20 => ?_)
  · obtain rfl : m = ⟨20, by decide⟩ := Fin.ext h
    rw [GP_lt _ _ _ _ _ _ (by decide)]
    unfold kernelRun0_B.sl.r_97
    unfold kernelRun0_B.sl.r_98
    rw [w48, w403]
    unfold kernelRun0_B.sl.v1910
    rw [View.readAt_eq_ld, harg20.read_unread]
    refine congrFun ((tap20 _ _ _).trans (congrArg (gp 20 (TDY1 x2 x5 x6 x8 x9 x10) (stack (k0_pay9 (F := Ideal) i x3 x4) (k0_pay10 (F := Ideal) x0 x1))) ?_)) (ix3 0 q k)
    exact ld_slot (Val := Elt Ideal) (e := .f32) xs2 20 (by decide) _
  refine (put_slot _ _ 19 _ _ _ m q k).trans ?_
  refine ite_close (fun h => ?_) (fun h19 => ?_)
  · obtain rfl : m = ⟨19, by decide⟩ := Fin.ext h
    rw [GP_lt _ _ _ _ _ _ (by decide)]
    unfold kernelRun0_B.sl.r_96
    unfold kernelRun0_B.sl.r_94
    unfold kernelRun0_B.sl.r_95
    rw [w48, w403]
    unfold kernelRun0_B.sl.v1838
    rw [View.readAt_eq_ld, harg20.read_unread]
    refine congrFun ((tap19 _ _ _).trans (congrArg (gp 19 (TDY1 x2 x5 x6 x8 x9 x10) (stack (k0_pay9 (F := Ideal) i x3 x4) (k0_pay10 (F := Ideal) x0 x1))) ?_)) (ix3 0 q k)
    exact ld_slot (Val := Elt Ideal) (e := .f32) xs2 19 (by decide) _
  refine (put_slot _ _ 18 _ _ _ m q k).trans ?_
  refine ite_close (fun h => ?_) (fun h18 => ?_)
  · obtain rfl : m = ⟨18, by decide⟩ := Fin.ext h
    rw [GP_lt _ _ _ _ _ _ (by decide)]
    unfold kernelRun0_B.sl.r_92
    unfold kernelRun0_B.sl.r_93
    rw [w48, w403]
    unfold kernelRun0_B.sl.v1766
    rw [View.readAt_eq_ld, harg20.read_unread]
    refine congrFun ((tap18 _ _ _).trans (congrArg (gp 18 (TDY1 x2 x5 x6 x8 x9 x10) (stack (k0_pay9 (F := Ideal) i x3 x4) (k0_pay10 (F := Ideal) x0 x1))) ?_)) (ix3 0 q k)
    exact ld_slot (Val := Elt Ideal) (e := .f32) xs2 18 (by decide) _
  refine (put_slot _ _ 17 _ _ _ m q k).trans ?_
  refine ite_close (fun h => ?_) (fun h17 => ?_)
  · obtain rfl : m = ⟨17, by decide⟩ := Fin.ext h
    rw [GP_lt _ _ _ _ _ _ (by decide)]
    unfold kernelRun0_B.sl.r_90
    unfold kernelRun0_B.sl.r_91
    rw [w48, w403]
    unfold kernelRun0_B.sl.v1694
    rw [View.readAt_eq_ld, harg20.read_unread]
    refine congrFun ((tap17 _ _ _).trans (congrArg (gp 17 (TDY1 x2 x5 x6 x8 x9 x10) (stack (k0_pay9 (F := Ideal) i x3 x4) (k0_pay10 (F := Ideal) x0 x1))) ?_)) (ix3 0 q k)
    exact ld_slot (Val := Elt Ideal) (e := .f32) xs2 17 (by decide) _
  refine (put_slot _ _ 16 _ _ _ m q k).trans ?_
  refine ite_close (fun h => ?_) (fun h16 => ?_)
  · obtain rfl : m = ⟨16, by decide⟩ := Fin.ext h
    rw [GP_lt _ _ _ _ _ _ (by decide)]
    unfold kernelRun0_B.sl.r_89
    unfold kernelRun0_B.sl.r_87
    unfold kernelRun0_B.sl.r_88
    rw [w48, w403]
    unfold kernelRun0_B.sl.v1622
    rw [View.readAt_eq_ld, harg20.read_unread]
    refine congrFun ((tap16 _ _ _).trans (congrArg (gp 16 (TDY1 x2 x5 x6 x8 x9 x10) (stack (k0_pay9 (F := Ideal) i x3 x4) (k0_pay10 (F := Ideal) x0 x1))) ?_)) (ix3 0 q k)
    exact ld_slot (Val := Elt Ideal) (e := .f32) xs2 16 (by decide) _
  refine (put_slot _ _ 15 _ _ _ m q k).trans ?_
  refine ite_close (fun h => ?_) (fun h15 => ?_)
  · obtain rfl : m = ⟨15, by decide⟩ := Fin.ext h
    rw [GP_lt _ _ _ _ _ _ (by decide)]
    unfold kernelRun0_B.sl.r_85
    unfold kernelRun0_B.sl.r_86
    rw [w48, w403]
    unfold kernelRun0_B.sl.v1550
    rw [View.readAt_eq_ld, harg20.read_unread]
    refine congrFun ((tap15 _ _ _).trans (congrArg (gp 15 (TDY1 x2 x5 x6 x8 x9 x10) (stack (k0_pay9 (F := Ideal) i x3 x4) (k0_pay10 (F := Ideal) x0 x1))) ?_)) (ix3 0 q k)
    exact ld_slot (Val := Elt Ideal) (e := .f32) xs2 15 (by decide) _
  refine (put_slot _ _ 14 _ _ _ m q k).trans ?_
  refine ite_close (fun h => ?_) (fun h14 => ?_)
  · obtain rfl : m = ⟨14, by decide⟩ := Fin.ext h
    rw [GP_lt _ _ _ _ _ _ (by decide)]
    unfold kernelRun0_B.sl.r_83
    unfold kernelRun0_B.sl.r_84
    rw [w48, w403]
    unfold kernelRun0_B.sl.v1478
    rw [View.readAt_eq_ld, harg20.read_unread]
    refine congrFun ((tap14 _ _ _).trans (congrArg (gp 14 (TDY1 x2 x5 x6 x8 x9 x10) (stack (k0_pay9 (F := Ideal) i x3 x4) (k0_pay10 (F := Ideal) x0 x1))) ?_)) (ix3 0 q k)
    exact ld_slot (Val := Elt Ideal) (e := .f32) xs2 14 (by decide) _
  refine (put_slot _ _ 13 _ _ _ m q k).trans ?_
  refine ite_close (fun h => ?_) (fun h13 => ?_)
  · obtain rfl : m = ⟨13, by decide⟩ := Fin.ext h
    rw [GP_lt _ _ _ _ _ _ (by decide)]
    unfold kernelRun0_B.sl.r_82
    unfold kernelRun0_B.sl.r_80
    unfold kernelRun0_B.sl.r_81
    rw [w48, w403]
    unfold kernelRun0_B.sl.v1406
    rw [View.readAt_eq_ld, harg20.read_unread]
    refine congrFun ((tap13 _ _ _).trans (congrArg (gp 13 (TDY1 x2 x5 x6 x8 x9 x10) (stack (k0_pay9 (F := Ideal) i x3 x4) (k0_pay10 (F := Ideal) x0 x1))) ?_)) (ix3 0 q k)
    exact ld_slot (Val := Elt Ideal) (e := .f32) xs2 13 (by decide) _
  refine (put_slot _ _ 12 _ _ _ m q k).trans ?_
  refine ite_close (fun h => ?_) (fun h12 => ?_)
  · obtain rfl : m = ⟨12, by decide⟩ := Fin.ext h
    rw [GP_lt _ _ _ _ _ _ (by decide)]
    unfold kernelRun0_B.sl.r_78
    unfold kernelRun0_B.sl.r_79
    rw [w48, w403]
    unfold kernelRun0_B.sl.v1334
    rw [View.readAt_eq_ld, harg20.read_unread]
    refine congrFun ((tap12 _ _ _).trans (congrArg (gp 12 (TDY1 x2 x5 x6 x8 x9 x10) (stack (k0_pay9 (F := Ideal) i x3 x4) (k0_pay10 (F := Ideal) x0 x1))) ?_)) (ix3 0 q k)
    exact ld_slot (Val := Elt Ideal) (e := .f32) xs2 12 (by decide) _
  refine (put_slot _ _ 11 _ _ _ m q k).trans ?_
  refine ite_close (fun h => ?_) (fun h11 => ?_)
  · obtain rfl : m = ⟨11, by decide⟩ := Fin.ext h
    rw [GP_lt _ _ _ _ _ _ (by decide)]
    unfold kernelRun0_B.sl.r_76
    unfold kernelRun0_B.sl.r_77
    rw [w48, w403]
    unfold kernelRun0_B.sl.v1262
    rw [View.readAt_eq_ld, harg20.read_unread]
    refine congrFun ((tap11 _ _ _).trans (congrArg (gp 11 (TDY1 x2 x5 x6 x8 x9 x10) (stack (k0_pay9 (F := Ideal) i x3 x4) (k0_pay10 (F := Ideal) x0 x1))) ?_)) (ix3 0 q k)
    exact ld_slot (Val := Elt Ideal) (e := .f32) xs2 11 (by decide) _
  refine (put_slot _ _ 10 _ _ _ m q k).trans ?_
  refine ite_close (fun h => ?_) (fun h10 => ?_)
  · obtain rfl : m = ⟨10, by decide⟩ := Fin.ext h
    rw [GP_lt _ _ _ _ _ _ (by decide)]
    unfold kernelRun0_B.sl.r_75
    unfold kernelRun0_B.sl.r_73
    unfold kernelRun0_B.sl.r_74
    rw [w48, w403]
    unfold kernelRun0_B.sl.v1190
    rw [View.readAt_eq_ld, harg20.read_unread]
    refine congrFun ((tap10 _ _ _).trans (congrArg (gp 10 (TDY1 x2 x5 x6 x8 x9 x10) (stack (k0_pay9 (F := Ideal) i x3 x4) (k0_pay10 (F := Ideal) x0 x1))) ?_)) (ix3 0 q k)
    exact ld_slot (Val := Elt Ideal) (e := .f32) xs2 10 (by decide) _
  refine (put_slot _ _ 9 _ _ _ m q k).trans ?_
  refine ite_close (fun h => ?_) (fun h9 => ?_)
  · obtain rfl : m = ⟨9, by decide⟩ := Fin.ext h
    rw [GP_lt _ _ _ _ _ _ (by decide)]
    unfold kernelRun0_B.sl.r_71
    unfold kernelRun0_B.sl.r_72
    rw [w48, w403]
    unfold kernelRun0_B.sl.v1118
    rw [View.readAt_eq_ld, harg20.read_unread]
    refine congrFun ((tap9 _ _ _).trans (congrArg (gp 9 (TDY1 x2 x5 x6 x8 x9 x10) (stack (k0_pay9 (F := Ideal) i x3 x4) (k0_pay10 (F := Ideal) x0 x1))) ?_)) (ix3 0 q k)
    exact ld_slot (Val := Elt Ideal) (e := .f32) xs2 9 (by decide) _
  refine (put_slot _ _ 8 _ _ _ m q k).trans ?_
  refine ite_close (fun h => ?_) (fun h8 => ?_)
  · obtain rfl : m = ⟨8, by decide⟩ := Fin.ext h
    rw [GP_lt _ _ _ _ _ _ (by decide)]
    unfold kernelRun0_B.sl.r_69
    unfold kernelRun0_B.sl.r_70
    rw [w48, w403]
    unfold kernelRun0_B.sl.v1046
    rw [View.readAt_eq_ld, harg20.read_unread]
    refine congrFun ((tap8 _ _ _).trans (congrArg (gp 8 (TDY1 x2 x5 x6 x8 x9 x10) (stack (k0_pay9 (F := Ideal) i x3 x4) (k0_pay10 (F := Ideal) x0 x1))) ?_)) (ix3 0 q k)
    exact ld_slot (Val := Elt Ideal) (e := .f32) xs2 8 (by decide) _
  refine (put_slot _ _ 7 _ _ _ m q k).trans ?_
  refine ite_close (fun h => ?_) (fun h7 => ?_)
  · obtain rfl : m = ⟨7, by decide⟩ := Fin.ext h
    rw [GP_lt _ _ _ _ _ _ (by decide)]
    unfold kernelRun0_B.sl.r_68
    unfold kernelRun0_B.sl.r_66
    unfold kernelRun0_B.sl.r_67
    rw [w48, w403]
    unfold kernelRun0_B.sl.v974
    rw [View.readAt_eq_ld, harg20.read_unread]
    refine congrFun ((tap7 _ _ _).trans (congrArg (gp 7 (TDY1 x2 x5 x6 x8 x9 x10) (stack (k0_pay9 (F := Ideal) i x3 x4) (k0_pay10 (F := Ideal) x0 x1))) ?_)) (ix3 0 q k)
    exact ld_slot (Val := Elt Ideal) (e := .f32) xs2 7 (by decide) _
  refine (put_slot _ _ 6 _ _ _ m q k).trans ?_
  refine ite_close (fun h => ?_) (fun h6 => ?_)
  · obtain rfl : m = ⟨6, by decide⟩ := Fin.ext h
    rw [GP_lt _ _ _ _ _ _ (by decide)]
    unfold kernelRun0_B.sl.r_64
    unfold kernelRun0_B.sl.r_65
    rw [w48, w403]
    unfold kernelRun0_B.sl.v902
    rw [View.readAt_eq_ld, harg20.read_unread]
    refine congrFun ((tap6 _ _ _).trans (congrArg (gp 6 (TDY1 x2 x5 x6 x8 x9 x10) (stack (k0_pay9 (F := Ideal) i x3 x4) (k0_pay10 (F := Ideal) x0 x1))) ?_)) (ix3 0 q k)
    exact ld_slot (Val := Elt Ideal) (e := .f32) xs2 6 (by decide) _
  refine (put_slot _ _ 5 _ _ _ m q k).trans ?_
  refine ite_close (fun h => ?_) (fun h5 => ?_)
  · obtain rfl : m = ⟨5, by decide⟩ := Fin.ext h
    rw [GP_lt _ _ _ _ _ _ (by decide)]
    unfold kernelRun0_B.sl.r_62
    unfold kernelRun0_B.sl.r_63
    rw [w48, w403]
    unfold kernelRun0_B.sl.v830
    rw [View.readAt_eq_ld, harg20.read_unread]
    refine congrFun ((tap5 _ _ _).trans (congrArg (gp 5 (TDY1 x2 x5 x6 x8 x9 x10) (stack (k0_pay9 (F := Ideal) i x3 x4) (k0_pay10 (F := Ideal) x0 x1))) ?_)) (ix3 0 q k)
    exact ld_slot (Val := Elt Ideal) (e := .f32) xs2 5 (by decide) _
  refine (put_slot _ _ 4 _ _ _ m q k).trans ?_
  refine ite_close (fun h => ?_) (fun h4 => ?_)
  · obtain rfl : m = ⟨4, by decide⟩ := Fin.ext h
    rw [GP_lt _ _ _ _ _ _ (by decide)]
    unfold kernelRun0_B.sl.r_61
    unfold kernelRun0_B.sl.r_59
    unfold kernelRun0_B.sl.r_60
    rw [w48, w403]
    unfold kernelRun0_B.sl.v758
    rw [View.readAt_eq_ld, harg20.read_unread]
    refine congrFun ((tap4 _ _ _).trans (congrArg (gp 4 (TDY1 x2 x5 x6 x8 x9 x10) (stack (k0_pay9 (F := Ideal) i x3 x4) (k0_pay10 (F := Ideal) x0 x1))) ?_)) (ix3 0 q k)
    exact ld_slot (Val := Elt Ideal) (e := .f32) xs2 4 (by decide) _
  refine (put_slot _ _ 3 _ _ _ m q k).trans ?_
  refine ite_close (fun h => ?_) (fun h3 => ?_)
  · obtain rfl : m = ⟨3, by decide⟩ := Fin.ext h
    rw [GP_lt _ _ _ _ _ _ (by decide)]
    unfold kernelRun0_B.sl.r_57
    unfold kernelRun0_B.sl.r_58
    rw [w48, w403]
    unfold kernelRun0_B.sl.v686
    rw [View.readAt_eq_ld, harg20.read_unread]
    refine congrFun ((tap3 _ _ _).trans (congrArg (gp 3 (TDY1 x2 x5 x6 x8 x9 x10) (stack (k0_pay9 (F := Ideal) i x3 x4) (k0_pay10 (F := Ideal) x0 x1))) ?_)) (ix3 0 q k)
    exact ld_slot (Val := Elt Ideal) (e := .f32) xs2 3 (by decide) _
  refine (put_slot _ _ 2 _ _ _ m q k).trans ?_
  refine ite_close (fun h => ?_) (fun h2 => ?_)
  · obtain rfl : m = ⟨2, by decide⟩ := Fin.ext h
    rw [GP_lt _ _ _ _ _ _ (by decide)]
    unfold kernelRun0_B.sl.r_55
    unfold kernelRun0_B.sl.r_56
    rw [w48, w403]
    unfold kernelRun0_B.sl.v614
    rw [View.readAt_eq_ld, harg20.read_unread]
    refine congrFun ((tap2 _ _ _).trans (congrArg (gp 2 (TDY1 x2 x5 x6 x8 x9 x10) (stack (k0_pay9 (F := Ideal) i x3 x4) (k0_pay10 (F := Ideal) x0 x1))) ?_)) (ix3 0 q k)
    exact ld_slot (Val := Elt Ideal) (e := .f32) xs2 2 (by decide) _
  refine (put_slot _ _ 1 _ _ _ m q k).trans ?_
  refine ite_close (fun h => ?_) (fun h1 => ?_)
  · obtain rfl : m = ⟨1, by decide⟩ := Fin.ext h
    rw [GP_lt _ _ _ _ _ _ (by decide)]
    unfold kernelRun0_B.sl.r_54
    unfold kernelRun0_B.sl.r_52
    unfold kernelRun0_B.sl.r_53
    rw [w48, w403]
    unfold kernelRun0_B.sl.v542
    rw [View.readAt_eq_ld, harg20.read_unread]
    refine congrFun ((tap1 _ _ _).trans (congrArg (gp 1 (TDY1 x2 x5 x6 x8 x9 x10) (stack (k0_pay9 (F := Ideal) i x3 x4) (k0_pay10 (F := Ideal) x0 x1))) ?_)) (ix3 0 q k)
    exact ld_slot (Val := Elt Ideal) (e := .f32) xs2 1 (by decide) _
  refine (put_slot _ _ 0 _ _ _ m q k).trans ?_
  refine ite_close (fun h => ?_) (fun h0 => ?_)
  · obtain rfl : m = ⟨0, by decide⟩ := Fin.ext h
    rw [GP_lt _ _ _ _ _ _ (by decide)]
    unfold kernelRun0_B.sl.r_50
    unfold kernelRun0_B.sl.r_51
    rw [w48, w403]
    rw [View.readAt_eq_ld, harg20.read_unread]
    refine congrFun ((tap0 _ _ _).trans (congrArg (gp 0 (TDY1 x2 x5 x6 x8 x9 x10) (stack (k0_pay9 (F := Ideal) i x3 x4) (k0_pay10 (F := Ideal) x0 x1))) ?_)) (ix3 0 q k)
    exact ld_slot (Val := Elt Ideal) (e := .f32) xs2 0 (by decide) _
  rw [GP_ge _ _ _ _ _ _ (by omega)]
  rw [View.writes_nil, harg20.read_unread]

end CaseB

end Cert.ConvPiecesB

end
-- ==== Proof.ConvPiecesC.lean ====
/-
  What one grid point of the convolution's backward pass leaves: the last point.
-/
module

public import proofs.«01_k».proof.Proof.ConvOuts
public import proofs.«01_k».proof.Proof.ConvStores

@[expose] public section

set_option maxRecDepth 16384
set_option maxHeartbeats 4000000

noncomputable section

namespace Cert.ConvPiecesC

open Cert.KernelIdeal Cert.KernelIdeal.Gen Cert.ConvFrame Cert.ConvTile Cert.ConvTaps Cert.ConvStores Cert.RowStore
open Idealize.ShloMosaic Idealize.ShloMosaic.ValueIdx Idealize.ShloMosaic.TcCoe Idealize.ShloMosaic.Tactic

theorem hz2 : (![0, 0] : Fin 2 → Nat) = fun _ => 0 := by funext a; fin_cases a <;> rfl

section CaseC

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S32x1024 .f32) (harg4 : arg4.IsWhole)
  (arg5 : Memref sig .tc .vmem S32x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S32x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S3x256x1024 .bf16) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S8x1024 .f32) (harg16 : arg16.IsWhole)
  (arg17 : Memref sig .tc .vmem S32x1024 .f32) (harg17 : arg17.IsWhole)
  (arg18 : Memref sig .tc .vmem S288x1024 .f32) (harg18 : arg18.IsWhole)
  (arg19 : Memref sig .tc .vmem S288x1024 .f32) (harg19 : arg19.IsWhole)
  (arg20 : Memref sig .tc .vmem S32x8x1024 .f32) (harg20 : arg20.IsWhole)
  (hc0 : ¬cond0_0 i) (hc1 : cond0_1 i)
  (x0 : Vec Ideal S256x1024 .f32) (x1 : Vec Ideal S256x1024 .f32) (x2 : Vec Ideal S256x1024 .f32) (x3 : Vec Ideal S32x1024 .f32) (x4 : Vec Ideal S32x1024 .f32) (x5 : Vec Ideal S256x1024 .f32)
  (x6 : Vec Ideal S256x1024 .f32) (x7 : Vec Ideal S32x1024 .f32) (x8 : Vec Ideal S1x1024 .f32) (x9 : Vec Ideal S1x1024 .f32) (x10 : Vec Ideal S1024x1024 .bf16) (x11 : Vec Ideal S1x1024 .f32)
  (xo15 : Vec Ideal S8x1024 .f32) (xs1 : Vec Ideal S288x1024 .f32) (xs2 : Vec Ideal S32x8x1024 .f32)

theorem w48 : kernelRun0_C.sl.r_48 (F := Ideal) c arg3 harg3 arg6 harg6 arg7 harg7 arg9 harg9 arg10 harg10 arg11 harg11 x2 x5 x6 x8 x9 x10 = (TDY1 x2 x5 x6 x8 x9 x10) := by
  unfold kernelRun0_C.sl.r_48
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w30 : kernelRun0_C.sl.r_30 (F := Ideal) c arg3 harg3 arg7 harg7 x2 x6 = TDY2 x2 x6 := by
  unfold kernelRun0_C.sl.r_30
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w32 : kernelRun0_C.sl.r_32 (F := Ideal) c arg3 harg3 arg6 harg6 arg7 harg7 arg9 harg9 arg10 harg10 arg11 harg11 x2 x5 x6 x8 x9 x10 = TDAP x2 x5 x6 x8 x9 x10 := by
  unfold kernelRun0_C.sl.r_32
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w24 : kernelRun0_C.sl.r_24 (F := Ideal) c arg6 harg6 x5 = TYN x5 := by
  unfold kernelRun0_C.sl.r_24
  try sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem w403 : kernelRun0_C.sl.v403 (F := Ideal) c i arg1 harg1 arg2 harg2 arg4 harg4 arg5 harg5 arg18 x0 x1 x3 x4 = (stack (k0_pay9 (F := Ideal) i x3 x4) (k0_pay10 (F := Ideal) x0 x1)) := by
  unfold kernelRun0_C.sl.v403 kernelRun0_C.sl.HS0_2
  refine (cov_whole _ _ _).trans ((read_stack _ _ _ _ _ _ _).trans ?_)
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]

theorem w396 : View.readAt (Elt Ideal) arg19.view (Rect.unit (s := S288x1024) ![0, 0] S32x1024.size inb_S288x1024_S32x1024_0_0).toLoadRect (harg19.unread xs1) = (topOf xs1) := by
  rw [View.readAt_eq_ld, harg19.read_unread]
  exact ld_top xs1 _

theorem w2638 : kernelRun0_C.sl.v2638 (F := Ideal) c arg3 harg3 arg6 harg6 arg7 harg7 arg9 harg9 arg10 harg10 arg11 harg11 arg19 harg19 x2 x5 x6 x8 x9 x10 xs1 = (stack2 (TDY1 x2 x5 x6 x8 x9 x10) (topOf xs1)) := by
  unfold kernelRun0_C.sl.v2638 kernelRun0_C.sl.HS1_2
  refine (cov_whole _ _ _).trans ((read_stack2 _ _ _ _ _ _ _).trans ?_)
  rw [w48]
  refine congrArg₂ stack2 (shapeCast_self _ _) ((shapeCast_self _ _).trans ?_)
  exact w396 _ harg19 _

theorem out13 : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 = TA x5 x8 x9 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2)]
  unfold kernelRun0_C
  dsimp only
  try sl_unfold_words
  rw [View.canon_unit_zero hz2]
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem out14 : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 = k0_pay54 (F := Ideal) x2 x6 := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2)]
  unfold kernelRun0_C
  dsimp only
  try sl_unfold_words
  rw [View.canon_unit_zero hz2]
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]

theorem sout1 : sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 = (stack2 (TDY1 x2 x5 x6 x8 x9 x10) (topOf xs1)) := by
  unfold sout0_C_1
  unfold kernelRun0_C
  dsimp only
  try unfold kernelRun0_C.sl.HS1_2
  refine (read_stack2 _ _ _ _ _ _ _).trans ?_
  rw [w48]
  refine congrArg₂ stack2 (shapeCast_self _ _) ((shapeCast_self _ _).trans ?_)
  exact w396 _ harg19 _

theorem w49 : kernelRun0_C.sl.r_49 (F := Ideal) c arg3 harg3 arg6 harg6 arg7 harg7 arg9 harg9 arg10 harg10 arg11 harg11 arg16 harg16 x2 x5 x6 x8 x9 x10 xo15 = ACC (kernelRun0_C.sl.r_48 (F := Ideal) c arg3 harg3 arg6 harg6 arg7 harg7 arg9 harg9 arg10 harg10 arg11 harg11 x2 x5 x6 x8 x9 x10) (View.readAt (Elt Ideal) arg16.view (Rect.unit (s := S8x1024) ![0, 0] S1x1024.size inb_S8x1024_S1x1024_0_0).toLoadRect (harg16.unread xo15)) := rfl

theorem out15 (r : Fin 8) (k : Fin 1024) : out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 (ix2 r k)
    = VV (TDY1 x2 x5 x6 x8 x9 x10) (TYN x5) (TDAP x2 x5 x6 x8 x9 x10) (TDY2 x2 x6) xo15 r k := by
  unfold out0_C_15 VV
  unfold kernelRun0_C
  dsimp only
  refine (put_row _ _ 3 _ _ _ r k).trans ?_
  refine if_congr Iff.rfl ?_ ?_
  · rw [w30]
    refine congrFun (congrArg (ACC (TDY2 x2 x6)) ?_) (ix2 0 k)
    try unfold kernelRun0_C.sl.v376
    rw [View.readAt_eq_ld, harg16.read_unread]
    exact ld_row (Val := Elt Ideal) (e := .f32) xo15 3 (by decide) _
  refine (put_row _ _ 2 _ _ _ r k).trans ?_
  refine if_congr Iff.rfl ?_ ?_
  · rw [w32]
    refine congrFun (congrArg (ACC (TDAP x2 x5 x6 x8 x9 x10)) ?_) (ix2 0 k)
    try unfold kernelRun0_C.sl.v370
    rw [View.readAt_eq_ld, harg16.read_unread]
    exact ld_row (Val := Elt Ideal) (e := .f32) xo15 2 (by decide) _
  refine (put_row _ _ 1 _ _ _ r k).trans ?_
  refine if_congr Iff.rfl ?_ ?_
  · rw [w32, w24]
    refine congrFun (congrArg (ACC (mulf (TDAP x2 x5 x6 x8 x9 x10) (TYN x5))) ?_) (ix2 0 k)
    try unfold kernelRun0_C.sl.v363
    rw [View.readAt_eq_ld, harg16.read_unread]
    exact ld_row (Val := Elt Ideal) (e := .f32) xo15 1 (by decide) _
  refine (put_row _ _ 0 _ _ _ r k).trans ?_
  refine if_congr Iff.rfl ?_ ?_
  · rw [w49, w48]
    refine congrFun (congrArg (ACC (TDY1 x2 x5 x6 x8 x9 x10)) ?_) (ix2 0 k)
    rw [View.readAt_eq_ld, harg16.read_unread]
    exact ld_row (Val := Elt Ideal) (e := .f32) xo15 0 (by decide) _
  rw [View.writes_nil, harg16.read_unread]

theorem out12 (z : Fin 3) (r : Fin 256) (k : Fin 1024) : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 (ix3 z r k)
    = if z.val = 1 then TZ1 x0 x1 x7 (stack2 (TDY1 x2 x5 x6 x8 x9 x10) (topOf xs1)) (ix3 0 r k) else if z.val = 0 then TZ0 x1 x7 (stack2 (TDY1 x2 x5 x6 x8 x9 x10) (topOf xs1)) (ix3 0 r k) else TDZ2 x2 x5 x6 x8 x9 x11 x10 (ix3 0 r k) := by
  unfold out0_C_12
  unfold kernelRun0_C
  dsimp only
  refine (put_slice _ _ 1 _ _ _ z r k).trans ?_
  by_cases h1 : z.val = 1
  · rw [if_pos h1, if_pos h1]
    refine congrFun (?_ : _ = TZ1 x0 x1 x7 (stack2 (TDY1 x2 x5 x6 x8 x9 x10) (topOf xs1))) (ix3 0 r k)
    try unfold kernelRun0_C.sl.r_131
    try unfold kernelRun0_C.sl.r_132
    try unfold kernelRun0_C.sl.r_128
    try unfold kernelRun0_C.sl.r_129
    try unfold kernelRun0_C.sl.r_130
    try unfold kernelRun0_C.sl.r_127
    try unfold kernelRun0_C.sl.r_126
    try unfold kernelRun0_C.sl.r_125
    try unfold kernelRun0_C.sl.r_124
    try unfold kernelRun0_C.sl.r_123
    try unfold kernelRun0_C.sl.r_122
    try unfold kernelRun0_C.sl.r_2
    try unfold kernelRun0_C.sl.r_1
    try unfold kernelRun0_C.sl.r
    rw [w2638]
    simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
    rfl
  rw [if_neg h1, if_neg h1]
  refine (put_slice _ _ 0 _ _ _ z r k).trans ?_
  by_cases h0 : z.val = 0
  · rw [if_pos h0, if_pos h0]
    refine congrFun (?_ : _ = TZ0 x1 x7 (stack2 (TDY1 x2 x5 x6 x8 x9 x10) (topOf xs1))) (ix3 0 r k)
    try unfold kernelRun0_C.sl.r_131
    try unfold kernelRun0_C.sl.r_132
    try unfold kernelRun0_C.sl.r_128
    try unfold kernelRun0_C.sl.r_129
    try unfold kernelRun0_C.sl.r_130
    try unfold kernelRun0_C.sl.r_127
    try unfold kernelRun0_C.sl.r_126
    try unfold kernelRun0_C.sl.r_125
    try unfold kernelRun0_C.sl.r_124
    try unfold kernelRun0_C.sl.r_123
    try unfold kernelRun0_C.sl.r_122
    try unfold kernelRun0_C.sl.r_2
    try unfold kernelRun0_C.sl.r_1
    try unfold kernelRun0_C.sl.r
    rw [w2638]
    simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
    rfl
  rw [if_neg h0, if_neg h0]
  refine (put_slice _ _ 2 _ _ _ z r k).trans ?_
  refine ite_close (fun _ => ?_) (fun h2 => absurd z.isLt (by omega))
  refine congrFun (?_ : _ = TDZ2 x2 x5 x6 x8 x9 x11 x10) (ix3 0 r k)
  sl_unfold_words
  simp only [View.readAt_eq_ld, Memref.IsWhole.read_unread, View.ld_unit_zero (S := S256x1024) hz2, View.ld_unit_zero (S := S32x1024) hz2, View.ld_unit_zero (S := S1x1024) hz2, View.ld_unit_zero (S := S1024x1024) hz2]
  rfl

theorem sout2 (m : Fin 32) (q : Fin 8) (k : Fin 1024) : sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 (ix3 m q k) = GP (TDY1 x2 x5 x6 x8 x9 x10) (stack (k0_pay9 (F := Ideal) i x3 x4) (k0_pay10 (F := Ideal) x0 x1)) xs2 (ix3 m q k) := by
  unfold sout0_C_2
  unfold kernelRun0_C
  dsimp only
  try unfold kernelRun0_C.sl.HS2_31
  refine (put_slot _ _ 30 _ _ _ m q k).trans ?_
  refine ite_close (fun h => ?_) (fun h30 => ?_)
  · obtain rfl : m = ⟨30, by decide⟩ := Fin.ext h
    rw [GP_lt _ _ _ _ _ _ (by decide)]
    unfold kernelRun0_C.sl.r_120
    unfold kernelRun0_C.sl.r_121
    rw [w48, w403]
    unfold kernelRun0_C.sl.v2630
    rw [View.readAt_eq_ld, harg20.read_unread]
    refine congrFun ((tap30 _ _ _).trans (congrArg (gp 30 (TDY1 x2 x5 x6 x8 x9 x10) (stack (k0_pay9 (F := Ideal) i x3 x4) (k0_pay10 (F := Ideal) x0 x1))) ?_)) (ix3 0 q k)
    exact ld_slot (Val := Elt Ideal) (e := .f32) xs2 30 (by decide) _
  refine (put_slot _ _ 29 _ _ _ m q k).trans ?_
  refine ite_close (fun h => ?_) (fun h29 => ?_)
  · obtain rfl : m = ⟨29, by decide⟩ := Fin.ext h
    rw [GP_lt _ _ _ _ _ _ (by decide)]
    unfold kernelRun0_C.sl.r_118
    unfold kernelRun0_C.sl.r_119
    rw [w48, w403]
    unfold kernelRun0_C.sl.v2558
    rw [View.readAt_eq_ld, harg20.read_unread]
    refine congrFun ((tap29 _ _ _).trans (congrArg (gp 29 (TDY1 x2 x5 x6 x8 x9 x10) (stack (k0_pay9 (F := Ideal) i x3 x4) (k0_pay10 (F := Ideal) x0 x1))) ?_)) (ix3 0 q k)
    exact ld_slot (Val := Elt Ideal) (e := .f32) xs2 29 (by decide) _
  refine (put_slot _ _ 28 _ _ _ m q k).trans ?_
  refine ite_close (fun h => ?_) (fun h28 => ?_)
  · obtain rfl : m = ⟨28, by decide⟩ := Fin.ext h
    rw [GP_lt _ _ _ _ _ _ (by decide)]
    unfold kernelRun0_C.sl.r_117
    unfold kernelRun0_C.sl.r_115
    unfold kernelRun0_C.sl.r_116
    rw [w48, w403]
    unfold kernelRun0_C.sl.v2486
    rw [View.readAt_eq_ld, harg20.read_unread]
    refine congrFun ((tap28 _ _ _).trans (congrArg (gp 28 (TDY1 x2 x5 x6 x8 x9 x10) (stack (k0_pay9 (F := Ideal) i x3 x4) (k0_pay10 (F := Ideal) x0 x1))) ?_)) (ix3 0 q k)
    exact ld_slot (Val := Elt Ideal) (e := .f32) xs2 28 (by decide) _
  refine (put_slot _ _ 27 _ _ _ m q k).trans ?_
  refine ite_close (fun h => ?_) (fun h27 => ?_)
  · obtain rfl : m = ⟨27, by decide⟩ := Fin.ext h
    rw [GP_lt _ _ _ _ _ _ (by decide)]
    unfold kernelRun0_C.sl.r_113
    unfold kernelRun0_C.sl.r_114
    rw [w48, w403]
    unfold kernelRun0_C.sl.v2414
    rw [View.readAt_eq_ld, harg20.read_unread]
    refine congrFun ((tap27 _ _ _).trans (congrArg (gp 27 (TDY1 x2 x5 x6 x8 x9 x10) (stack (k0_pay9 (F := Ideal) i x3 x4) (k0_pay10 (F := Ideal) x0 x1))) ?_)) (ix3 0 q k)
    exact ld_slot (Val := Elt Ideal) (e := .f32) xs2 27 (by decide) _
  refine (put_slot _ _ 26 _ _ _ m q k).trans ?_
  refine ite_close (fun h => ?_) (fun h26 => ?_)
  · obtain rfl : m = ⟨26, by decide⟩ := Fin.ext h
    rw [GP_lt _ _ _ _ _ _ (by decide)]
    unfold kernelRun0_C.sl.r_111
    unfold kernelRun0_C.sl.r_112
    rw [w48, w403]
    unfold kernelRun0_C.sl.v2342
    rw [View.readAt_eq_ld, harg20.read_unread]
    refine congrFun ((tap26 _ _ _).trans (congrArg (gp 26 (TDY1 x2 x5 x6 x8 x9 x10) (stack (k0_pay9 (F := Ideal) i x3 x4) (k0_pay10 (F := Ideal) x0 x1))) ?_)) (ix3 0 q k)
    exact ld_slot (Val := Elt Ideal) (e := .f32) xs2 26 (by decide) _
  refine (put_slot _ _ 25 _ _ _ m q k).trans ?_
  refine ite_close (fun h => ?_) (fun h25 => ?_)
  · obtain rfl : m = ⟨25, by decide⟩ := Fin.ext h
    rw [GP_lt _ _ _ _ _ _ (by decide)]
    unfold kernelRun0_C.sl.r_110
    unfold kernelRun0_C.sl.r_108
    unfold kernelRun0_C.sl.r_109
    rw [w48, w403]
    unfold kernelRun0_C.sl.v2270
    rw [View.readAt_eq_ld, harg20.read_unread]
    refine congrFun ((tap25 _ _ _).trans (congrArg (gp 25 (TDY1 x2 x5 x6 x8 x9 x10) (stack (k0_pay9 (F := Ideal) i x3 x4) (k0_pay10 (F := Ideal) x0 x1))) ?_)) (ix3 0 q k)
    exact ld_slot (Val := Elt Ideal) (e := .f32) xs2 25 (by decide) _
  refine (put_slot _ _ 24 _ _ _ m q k).trans ?_
  refine ite_close (fun h => ?_) (fun h24 => ?_)
  · obtain rfl : m = ⟨24, by decide⟩ := Fin.ext h
    rw [GP_lt _ _ _ _ _ _ (by decide)]
    unfold kernelRun0_C.sl.r_106
    unfold kernelRun0_C.sl.r_107
    rw [w48, w403]
    unfold kernelRun0_C.sl.v2198
    rw [View.readAt_eq_ld, harg20.read_unread]
    refine congrFun ((tap24 _ _ _).trans (congrArg (gp 24 (TDY1 x2 x5 x6 x8 x9 x10) (stack (k0_pay9 (F := Ideal) i x3 x4) (k0_pay10 (F := Ideal) x0 x1))) ?_)) (ix3 0 q k)
    exact ld_slot (Val := Elt Ideal) (e := .f32) xs2 24 (by decide) _
  refine (put_slot _ _ 23 _ _ _ m q k).trans ?_
  refine ite_close (fun h => ?_) (fun h23 => ?_)
  · obtain rfl : m = ⟨23, by decide⟩ := Fin.ext h
    rw [GP_lt _ _ _ _ _ _ (by decide)]
    unfold kernelRun0_C.sl.r_104
    unfold kernelRun0_C.sl.r_105
    rw [w48, w403]
    unfold kernelRun0_C.sl.v2126
    rw [View.readAt_eq_ld, harg20.read_unread]
    refine congrFun ((tap23 _ _ _).trans (congrArg (gp 23 (TDY1 x2 x5 x6 x8 x9 x10) (stack (k0_pay9 (F := Ideal) i x3 x4) (k0_pay10 (F := Ideal) x0 x1))) ?_)) (ix3 0 q k)
    exact ld_slot (Val := Elt Ideal) (e := .f32) xs2 23 (by decide) _
  refine (put_slot _ _ 22 _ _ _ m q k).trans ?_
  refine ite_close (fun h => ?_) (fun h22 => ?_)
  · obtain rfl : m = ⟨22, by decide⟩ := Fin.ext h
    rw [GP_lt _ _ _ _ _ _ (by decide)]
    unfold kernelRun0_C.sl.r_103
    unfold kernelRun0_C.sl.r_101
    unfold kernelRun0_C.sl.r_102
    rw [w48, w403]
    unfold kernelRun0_C.sl.v2054
    rw [View.readAt_eq_ld, harg20.read_unread]
    refine congrFun ((tap22 _ _ _).trans (congrArg (gp 22 (TDY1 x2 x5 x6 x8 x9 x10) (stack (k0_pay9 (F := Ideal) i x3 x4) (k0_pay10 (F := Ideal) x0 x1))) ?_)) (ix3 0 q k)
    exact ld_slot (Val := Elt Ideal) (e := .f32) xs2 22 (by decide) _
  refine (put_slot _ _ 21 _ _ _ m q k).trans ?_
  refine ite_close (fun h => ?_) (fun h21 => ?_)
  · obtain rfl : m = ⟨21, by decide⟩ := Fin.ext h
    rw [GP_lt _ _ _ _ _ _ (by decide)]
    unfold kernelRun0_C.sl.r_99
    unfold kernelRun0_C.sl.r_100
    rw [w48, w403]
    unfold kernelRun0_C.sl.v1982
    rw [View.readAt_eq_ld, harg20.read_unread]
    refine congrFun ((tap21 _ _ _).trans (congrArg (gp 21 (TDY1 x2 x5 x6 x8 x9 x10) (stack (k0_pay9 (F := Ideal) i x3 x4) (k0_pay10 (F := Ideal) x0 x1))) ?_)) (ix3 0 q k)
    exact ld_slot (Val := Elt Ideal) (e := .f32) xs2 21 (by decide) _
  refine (put_slot _ _ 20 _ _ _ m q k).trans ?_
  refine ite_close (fun h => ?_) (fun h20 => ?_)
  · obtain rfl : m = ⟨20, by decide⟩ := Fin.ext h
    rw [GP_lt _ _ _ _ _ _ (by decide)]
    unfold kernelRun0_C.sl.r_97
    unfold kernelRun0_C.sl.r_98
    rw [w48, w403]
    unfold kernelRun0_C.sl.v1910
    rw [View.readAt_eq_ld, harg20.read_unread]
    refine congrFun ((tap20 _ _ _).trans (congrArg (gp 20 (TDY1 x2 x5 x6 x8 x9 x10) (stack (k0_pay9 (F := Ideal) i x3 x4) (k0_pay10 (F := Ideal) x0 x1))) ?_)) (ix3 0 q k)
    exact ld_slot (Val := Elt Ideal) (e := .f32) xs2 20 (by decide) _
  refine (put_slot _ _ 19 _ _ _ m q k).trans ?_
  refine ite_close (fun h => ?_) (fun h19 => ?_)
  · obtain rfl : m = ⟨19, by decide⟩ := Fin.ext h
    rw [GP_lt _ _ _ _ _ _ (by decide)]
    unfold kernelRun0_C.sl.r_96
    unfold kernelRun0_C.sl.r_94
    unfold kernelRun0_C.sl.r_95
    rw [w48, w403]
    unfold kernelRun0_C.sl.v1838
    rw [View.readAt_eq_ld, harg20.read_unread]
    refine congrFun ((tap19 _ _ _).trans (congrArg (gp 19 (TDY1 x2 x5 x6 x8 x9 x10) (stack (k0_pay9 (F := Ideal) i x3 x4) (k0_pay10 (F := Ideal) x0 x1))) ?_)) (ix3 0 q k)
    exact ld_slot (Val := Elt Ideal) (e := .f32) xs2 19 (by decide) _
  refine (put_slot _ _ 18 _ _ _ m q k).trans ?_
  refine ite_close (fun h => ?_) (fun h18 => ?_)
  · obtain rfl : m = ⟨18, by decide⟩ := Fin.ext h
    rw [GP_lt _ _ _ _ _ _ (by decide)]
    unfold kernelRun0_C.sl.r_92
    unfold kernelRun0_C.sl.r_93
    rw [w48, w403]
    unfold kernelRun0_C.sl.v1766
    rw [View.readAt_eq_ld, harg20.read_unread]
    refine congrFun ((tap18 _ _ _).trans (congrArg (gp 18 (TDY1 x2 x5 x6 x8 x9 x10) (stack (k0_pay9 (F := Ideal) i x3 x4) (k0_pay10 (F := Ideal) x0 x1))) ?_)) (ix3 0 q k)
    exact ld_slot (Val := Elt Ideal) (e := .f32) xs2 18 (by decide) _
  refine (put_slot _ _ 17 _ _ _ m q k).trans ?_
  refine ite_close (fun h => ?_) (fun h17 => ?_)
  · obtain rfl : m = ⟨17, by decide⟩ := Fin.ext h
    rw [GP_lt _ _ _ _ _ _ (by decide)]
    unfold kernelRun0_C.sl.r_90
    unfold kernelRun0_C.sl.r_91
    rw [w48, w403]
    unfold kernelRun0_C.sl.v1694
    rw [View.readAt_eq_ld, harg20.read_unread]
    refine congrFun ((tap17 _ _ _).trans (congrArg (gp 17 (TDY1 x2 x5 x6 x8 x9 x10) (stack (k0_pay9 (F := Ideal) i x3 x4) (k0_pay10 (F := Ideal) x0 x1))) ?_)) (ix3 0 q k)
    exact ld_slot (Val := Elt Ideal) (e := .f32) xs2 17 (by decide) _
  refine (put_slot _ _ 16 _ _ _ m q k).trans ?_
  refine ite_close (fun h => ?_) (fun h16 => ?_)
  · obtain rfl : m = ⟨16, by decide⟩ := Fin.ext h
    rw [GP_lt _ _ _ _ _ _ (by decide)]
    unfold kernelRun0_C.sl.r_89
    unfold kernelRun0_C.sl.r_87
    unfold kernelRun0_C.sl.r_88
    rw [w48, w403]
    unfold kernelRun0_C.sl.v1622
    rw [View.readAt_eq_ld, harg20.read_unread]
    refine congrFun ((tap16 _ _ _).trans (congrArg (gp 16 (TDY1 x2 x5 x6 x8 x9 x10) (stack (k0_pay9 (F := Ideal) i x3 x4) (k0_pay10 (F := Ideal) x0 x1))) ?_)) (ix3 0 q k)
    exact ld_slot (Val := Elt Ideal) (e := .f32) xs2 16 (by decide) _
  refine (put_slot _ _ 15 _ _ _ m q k).trans ?_
  refine ite_close (fun h => ?_) (fun h15 => ?_)
  · obtain rfl : m = ⟨15, by decide⟩ := Fin.ext h
    rw [GP_lt _ _ _ _ _ _ (by decide)]
    unfold kernelRun0_C.sl.r_85
    unfold kernelRun0_C.sl.r_86
    rw [w48, w403]
    unfold kernelRun0_C.sl.v1550
    rw [View.readAt_eq_ld, harg20.read_unread]
    refine congrFun ((tap15 _ _ _).trans (congrArg (gp 15 (TDY1 x2 x5 x6 x8 x9 x10) (stack (k0_pay9 (F := Ideal) i x3 x4) (k0_pay10 (F := Ideal) x0 x1))) ?_)) (ix3 0 q k)
    exact ld_slot (Val := Elt Ideal) (e := .f32) xs2 15 (by decide) _
  refine (put_slot _ _ 14 _ _ _ m q k).trans ?_
  refine ite_close (fun h => ?_) (fun h14 => ?_)
  · obtain rfl : m = ⟨14, by decide⟩ := Fin.ext h
    rw [GP_lt _ _ _ _ _ _ (by decide)]
    unfold kernelRun0_C.sl.r_83
    unfold kernelRun0_C.sl.r_84
    rw [w48, w403]
    unfold kernelRun0_C.sl.v1478
    rw [View.readAt_eq_ld, harg20.read_unread]
    refine congrFun ((tap14 _ _ _).trans (congrArg (gp 14 (TDY1 x2 x5 x6 x8 x9 x10) (stack (k0_pay9 (F := Ideal) i x3 x4) (k0_pay10 (F := Ideal) x0 x1))) ?_)) (ix3 0 q k)
    exact ld_slot (Val := Elt Ideal) (e := .f32) xs2 14 (by decide) _
  refine (put_slot _ _ 13 _ _ _ m q k).trans ?_
  refine ite_close (fun h => ?_) (fun h13 => ?_)
  · obtain rfl : m = ⟨13, by decide⟩ := Fin.ext h
    rw [GP_lt _ _ _ _ _ _ (by decide)]
    unfold kernelRun0_C.sl.r_82
    unfold kernelRun0_C.sl.r_80
    unfold kernelRun0_C.sl.r_81
    rw [w48, w403]
    unfold kernelRun0_C.sl.v1406
    rw [View.readAt_eq_ld, harg20.read_unread]
    refine congrFun ((tap13 _ _ _).trans (congrArg (gp 13 (TDY1 x2 x5 x6 x8 x9 x10) (stack (k0_pay9 (F := Ideal) i x3 x4) (k0_pay10 (F := Ideal) x0 x1))) ?_)) (ix3 0 q k)
    exact ld_slot (Val := Elt Ideal) (e := .f32) xs2 13 (by decide) _
  refine (put_slot _ _ 12 _ _ _ m q k).trans ?_
  refine ite_close (fun h => ?_) (fun h12 => ?_)
  · obtain rfl : m = ⟨12, by decide⟩ := Fin.ext h
    rw [GP_lt _ _ _ _ _ _ (by decide)]
    unfold kernelRun0_C.sl.r_78
    unfold kernelRun0_C.sl.r_79
    rw [w48, w403]
    unfold kernelRun0_C.sl.v1334
    rw [View.readAt_eq_ld, harg20.read_unread]
    refine congrFun ((tap12 _ _ _).trans (congrArg (gp 12 (TDY1 x2 x5 x6 x8 x9 x10) (stack (k0_pay9 (F := Ideal) i x3 x4) (k0_pay10 (F := Ideal) x0 x1))) ?_)) (ix3 0 q k)
    exact ld_slot (Val := Elt Ideal) (e := .f32) xs2 12 (by decide) _
  refine (put_slot _ _ 11 _ _ _ m q k).trans ?_
  refine ite_close (fun h => ?_) (fun h11 => ?_)
  · obtain rfl : m = ⟨11, by decide⟩ := Fin.ext h
    rw [GP_lt _ _ _ _ _ _ (by decide)]
    unfold kernelRun0_C.sl.r_76
    unfold kernelRun0_C.sl.r_77
    rw [w48, w403]
    unfold kernelRun0_C.sl.v1262
    rw [View.readAt_eq_ld, harg20.read_unread]
    refine congrFun ((tap11 _ _ _).trans (congrArg (gp 11 (TDY1 x2 x5 x6 x8 x9 x10) (stack (k0_pay9 (F := Ideal) i x3 x4) (k0_pay10 (F := Ideal) x0 x1))) ?_)) (ix3 0 q k)
    exact ld_slot (Val := Elt Ideal) (e := .f32) xs2 11 (by decide) _
  refine (put_slot _ _ 10 _ _ _ m q k).trans ?_
  refine ite_close (fun h => ?_) (fun h10 => ?_)
  · obtain rfl : m = ⟨10, by decide⟩ := Fin.ext h
    rw [GP_lt _ _ _ _ _ _ (by decide)]
    unfold kernelRun0_C.sl.r_75
    unfold kernelRun0_C.sl.r_73
    unfold kernelRun0_C.sl.r_74
    rw [w48, w403]
    unfold kernelRun0_C.sl.v1190
    rw [View.readAt_eq_ld, harg20.read_unread]
    refine congrFun ((tap10 _ _ _).trans (congrArg (gp 10 (TDY1 x2 x5 x6 x8 x9 x10) (stack (k0_pay9 (F := Ideal) i x3 x4) (k0_pay10 (F := Ideal) x0 x1))) ?_)) (ix3 0 q k)
    exact ld_slot (Val := Elt Ideal) (e := .f32) xs2 10 (by decide) _
  refine (put_slot _ _ 9 _ _ _ m q k).trans ?_
  refine ite_close (fun h => ?_) (fun h9 => ?_)
  · obtain rfl : m = ⟨9, by decide⟩ := Fin.ext h
    rw [GP_lt _ _ _ _ _ _ (by decide)]
    unfold kernelRun0_C.sl.r_71
    unfold kernelRun0_C.sl.r_72
    rw [w48, w403]
    unfold kernelRun0_C.sl.v1118
    rw [View.readAt_eq_ld, harg20.read_unread]
    refine congrFun ((tap9 _ _ _).trans (congrArg (gp 9 (TDY1 x2 x5 x6 x8 x9 x10) (stack (k0_pay9 (F := Ideal) i x3 x4) (k0_pay10 (F := Ideal) x0 x1))) ?_)) (ix3 0 q k)
    exact ld_slot (Val := Elt Ideal) (e := .f32) xs2 9 (by decide) _
  refine (put_slot _ _ 8 _ _ _ m q k).trans ?_
  refine ite_close (fun h => ?_) (fun h8 => ?_)
  · obtain rfl : m = ⟨8, by decide⟩ := Fin.ext h
    rw [GP_lt _ _ _ _ _ _ (by decide)]
    unfold kernelRun0_C.sl.r_69
    unfold kernelRun0_C.sl.r_70
    rw [w48, w403]
    unfold kernelRun0_C.sl.v1046
    rw [View.readAt_eq_ld, harg20.read_unread]
    refine congrFun ((tap8 _ _ _).trans (congrArg (gp 8 (TDY1 x2 x5 x6 x8 x9 x10) (stack (k0_pay9 (F := Ideal) i x3 x4) (k0_pay10 (F := Ideal) x0 x1))) ?_)) (ix3 0 q k)
    exact ld_slot (Val := Elt Ideal) (e := .f32) xs2 8 (by decide) _
  refine (put_slot _ _ 7 _ _ _ m q k).trans ?_
  refine ite_close (fun h => ?_) (fun h7 => ?_)
  · obtain rfl : m = ⟨7, by decide⟩ := Fin.ext h
    rw [GP_lt _ _ _ _ _ _ (by decide)]
    unfold kernelRun0_C.sl.r_68
    unfold kernelRun0_C.sl.r_66
    unfold kernelRun0_C.sl.r_67
    rw [w48, w403]
    unfold kernelRun0_C.sl.v974
    rw [View.readAt_eq_ld, harg20.read_unread]
    refine congrFun ((tap7 _ _ _).trans (congrArg (gp 7 (TDY1 x2 x5 x6 x8 x9 x10) (stack (k0_pay9 (F := Ideal) i x3 x4) (k0_pay10 (F := Ideal) x0 x1))) ?_)) (ix3 0 q k)
    exact ld_slot (Val := Elt Ideal) (e := .f32) xs2 7 (by decide) _
  refine (put_slot _ _ 6 _ _ _ m q k).trans ?_
  refine ite_close (fun h => ?_) (fun h6 => ?_)
  · obtain rfl : m = ⟨6, by decide⟩ := Fin.ext h
    rw [GP_lt _ _ _ _ _ _ (by decide)]
    unfold kernelRun0_C.sl.r_64
    unfold kernelRun0_C.sl.r_65
    rw [w48, w403]
    unfold kernelRun0_C.sl.v902
    rw [View.readAt_eq_ld, harg20.read_unread]
    refine congrFun ((tap6 _ _ _).trans (congrArg (gp 6 (TDY1 x2 x5 x6 x8 x9 x10) (stack (k0_pay9 (F := Ideal) i x3 x4) (k0_pay10 (F := Ideal) x0 x1))) ?_)) (ix3 0 q k)
    exact ld_slot (Val := Elt Ideal) (e := .f32) xs2 6 (by decide) _
  refine (put_slot _ _ 5 _ _ _ m q k).trans ?_
  refine ite_close (fun h => ?_) (fun h5 => ?_)
  · obtain rfl : m = ⟨5, by decide⟩ := Fin.ext h
    rw [GP_lt _ _ _ _ _ _ (by decide)]
    unfold kernelRun0_C.sl.r_62
    unfold kernelRun0_C.sl.r_63
    rw [w48, w403]
    unfold kernelRun0_C.sl.v830
    rw [View.readAt_eq_ld, harg20.read_unread]
    refine congrFun ((tap5 _ _ _).trans (congrArg (gp 5 (TDY1 x2 x5 x6 x8 x9 x10) (stack (k0_pay9 (F := Ideal) i x3 x4) (k0_pay10 (F := Ideal) x0 x1))) ?_)) (ix3 0 q k)
    exact ld_slot (Val := Elt Ideal) (e := .f32) xs2 5 (by decide) _
  refine (put_slot _ _ 4 _ _ _ m q k).trans ?_
  refine ite_close (fun h => ?_) (fun h4 => ?_)
  · obtain rfl : m = ⟨4, by decide⟩ := Fin.ext h
    rw [GP_lt _ _ _ _ _ _ (by decide)]
    unfold kernelRun0_C.sl.r_61
    unfold kernelRun0_C.sl.r_59
    unfold kernelRun0_C.sl.r_60
    rw [w48, w403]
    unfold kernelRun0_C.sl.v758
    rw [View.readAt_eq_ld, harg20.read_unread]
    refine congrFun ((tap4 _ _ _).trans (congrArg (gp 4 (TDY1 x2 x5 x6 x8 x9 x10) (stack (k0_pay9 (F := Ideal) i x3 x4) (k0_pay10 (F := Ideal) x0 x1))) ?_)) (ix3 0 q k)
    exact ld_slot (Val := Elt Ideal) (e := .f32) xs2 4 (by decide) _
  refine (put_slot _ _ 3 _ _ _ m q k).trans ?_
  refine ite_close (fun h => ?_) (fun h3 => ?_)
  · obtain rfl : m = ⟨3, by decide⟩ := Fin.ext h
    rw [GP_lt _ _ _ _ _ _ (by decide)]
    unfold kernelRun0_C.sl.r_57
    unfold kernelRun0_C.sl.r_58
    rw [w48, w403]
    unfold kernelRun0_C.sl.v686
    rw [View.readAt_eq_ld, harg20.read_unread]
    refine congrFun ((tap3 _ _ _).trans (congrArg (gp 3 (TDY1 x2 x5 x6 x8 x9 x10) (stack (k0_pay9 (F := Ideal) i x3 x4) (k0_pay10 (F := Ideal) x0 x1))) ?_)) (ix3 0 q k)
    exact ld_slot (Val := Elt Ideal) (e := .f32) xs2 3 (by decide) _
  refine (put_slot _ _ 2 _ _ _ m q k).trans ?_
  refine ite_close (fun h => ?_) (fun h2 => ?_)
  · obtain rfl : m = ⟨2, by decide⟩ := Fin.ext h
    rw [GP_lt _ _ _ _ _ _ (by decide)]
    unfold kernelRun0_C.sl.r_55
    unfold kernelRun0_C.sl.r_56
    rw [w48, w403]
    unfold kernelRun0_C.sl.v614
    rw [View.readAt_eq_ld, harg20.read_unread]
    refine congrFun ((tap2 _ _ _).trans (congrArg (gp 2 (TDY1 x2 x5 x6 x8 x9 x10) (stack (k0_pay9 (F := Ideal) i x3 x4) (k0_pay10 (F := Ideal) x0 x1))) ?_)) (ix3 0 q k)
    exact ld_slot (Val := Elt Ideal) (e := .f32) xs2 2 (by decide) _
  refine (put_slot _ _ 1 _ _ _ m q k).trans ?_
  refine ite_close (fun h => ?_) (fun h1 => ?_)
  · obtain rfl : m = ⟨1, by decide⟩ := Fin.ext h
    rw [GP_lt _ _ _ _ _ _ (by decide)]
    unfold kernelRun0_C.sl.r_54
    unfold kernelRun0_C.sl.r_52
    unfold kernelRun0_C.sl.r_53
    rw [w48, w403]
    unfold kernelRun0_C.sl.v542
    rw [View.readAt_eq_ld, harg20.read_unread]
    refine congrFun ((tap1 _ _ _).trans (congrArg (gp 1 (TDY1 x2 x5 x6 x8 x9 x10) (stack (k0_pay9 (F := Ideal) i x3 x4) (k0_pay10 (F := Ideal) x0 x1))) ?_)) (ix3 0 q k)
    exact ld_slot (Val := Elt Ideal) (e := .f32) xs2 1 (by decide) _
  refine (put_slot _ _ 0 _ _ _ m q k).trans ?_
  refine ite_close (fun h => ?_) (fun h0 => ?_)
  · obtain rfl : m = ⟨0, by decide⟩ := Fin.ext h
    rw [GP_lt _ _ _ _ _ _ (by decide)]
    unfold kernelRun0_C.sl.r_50
    unfold kernelRun0_C.sl.r_51
    rw [w48, w403]
    rw [View.readAt_eq_ld, harg20.read_unread]
    refine congrFun ((tap0 _ _ _).trans (congrArg (gp 0 (TDY1 x2 x5 x6 x8 x9 x10) (stack (k0_pay9 (F := Ideal) i x3 x4) (k0_pay10 (F := Ideal) x0 x1))) ?_)) (ix3 0 q k)
    exact ld_slot (Val := Elt Ideal) (e := .f32) xs2 0 (by decide) _
  rw [GP_ge _ _ _ _ _ _ (by omega)]
  rw [View.writes_nil, harg20.read_unread]

theorem out16 : out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 = k0_pay4 (F := Ideal) (GP (TDY1 x2 x5 x6 x8 x9 x10) (stack (k0_pay9 (F := Ideal) i x3 x4) (k0_pay10 (F := Ideal) x0 x1)) xs2) := by
  have hs : sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 = GP (TDY1 x2 x5 x6 x8 x9 x10) (stack (k0_pay9 (F := Ideal) i x3 x4) (k0_pay10 (F := Ideal) x0 x1)) xs2 := by
    funext j
    obtain ⟨m, q, k, hj⟩ : ∃ (m : Fin 32) (q : Fin 8) (k : Fin 1024), j = ix3 m q k := ⟨j 0, j 1, j 2, eq_ix3 j⟩
    subst hj
    exact sout2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2 m q k
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo15 xs1 xs2)]
  unfold kernelRun0_C
  dsimp only
  rw [View.canon_unit_zero hz2]
  rw [← hs]
  unfold sout0_C_2 kernelRun0_C
  dsimp only
  unfold kernelRun0_C.sl.v2840
  refine congrArg (k0_pay4 (F := Ideal)) ?_
  exact View.ld_unit_zero (S := S32x8x1024) (by funext a; fin_cases a <;> rfl) _ _

end CaseC

end Cert.ConvPiecesC

end
-- ==== Proof.ConvRun.lean ====
/-
  The convolution block's backward pass: what its arrays hold after the last grid point.
-/
module

public import proofs.«01_k».proof.Proof.ConvGrid
public import proofs.«01_k».proof.Proof.ConvPiecesA
public import proofs.«01_k».proof.Proof.ConvPiecesB
public import proofs.«01_k».proof.Proof.ConvPiecesC
public import proofs.«01_k».proof.Proof.ConvFrame

@[expose] public section

set_option maxRecDepth 16384

noncomputable section

namespace Cert.ConvRun

open Cert.KernelIdeal Cert.KernelIdeal.Gen Idealize.ShloMosaic Idealize.ShloMosaic.TcCoe Idealize.SL.Sem
open Idealize.ShloMosaic.ValueIdx Cert.Common Cert.Rows Cert.Finite Cert.RowStore Cert.ConvTile Cert.ConvStores Cert.ConvSpec Cert.ConvHost Cert.ConvGrid Cert.ConvFrame
open Cert.ConvRef (Reals)
open Idealize.ShloMosaic.Pipeline (Dat)

variable (m : (ℓ : Loc nD τ sig) → Buf (Elt Ideal) ℓ)

/-! ## The sums over the grid points -/

section Sums
variable (P : Par)

theorem vt_sum (o : ℕ) (k : Fin 1024) : ∑ p ∈ Finset.range 32, VT P o k p = GV P o k := by
  refine (Finset.sum_range_reflect (fun p => ∑ r : Fin 256, VRN P o (p * 256 + r.val) k) 32).trans ?_
  rw [Finset.sum_range]
  unfold GV
  rw [sum_tiles 32 256 8192 rfl]
  refine Finset.sum_congr rfl fun a _ => Finset.sum_congr rfl fun b _ => ?_
  exact dif_pos _

theorem gt_sum (j : ℕ) (hj : j < 31) (k : Fin 1024) : ∑ q : Fin 8, ∑ p ∈ Finset.range 32, GT P j q.val k p = GW P j k := by
  have h1 : ∀ p, ∑ q : Fin 8, GT P j q.val k p = ∑ r : Fin 256, D1 P ((31 - p) * 256 + r.val) k * VP P ((31 - p) * 256 + r.val + j) k := by
    intro p
    rw [sum_tiles 32 8 256 rfl (fun r : Fin 256 => D1 P ((31 - p) * 256 + r.val) k * VP P ((31 - p) * 256 + r.val + j) k)]
    unfold GT
    rw [Finset.sum_comm, Finset.sum_range]
    refine Finset.sum_congr rfl fun b _ => Finset.sum_congr rfl fun q _ => ?_
    show _ = D1 P ((31 - p) * 256 + (b.val * 8 + q.val)) k * VP P ((31 - p) * 256 + (b.val * 8 + q.val) + j) k
    rw [Nat.mul_comm b.val 8]
  rw [Finset.sum_comm, Finset.sum_congr rfl (fun p _ => h1 p)]
  refine (Finset.sum_range_reflect (fun p => ∑ r : Fin 256, D1 P (p * 256 + r.val) k * VP P (p * 256 + r.val + j) k) 32).trans ?_
  rw [Finset.sum_range]
  unfold GW
  rw [if_pos hj, sum_tiles 32 256 8192 rfl]
  refine Finset.sum_congr rfl fun a _ => Finset.sum_congr rfl fun b _ => ?_
  refine Eq.trans ?_ (mul_comm _ _)
  refine congrArg (· * _) ?_
  exact dif_pos _

end Sums

/-! ## What every grid point leaves -/

variable (P : Par) (c : Dev nD) (R : Reals (X0 m c) (X1 m c) (X2 m c) (X3 m c) (X4 m c) (X5 m c) (X6 m c) (X7 m c) P)

/-- What the buffers hold after a grid point. -/
structure Inv (t : Fin cfg0.N) (L : Left Ideal) : Prop where
  o12 : ∀ (z : Fin 3) (r : Fin 256) (k : Fin 1024), ((L.1 : S3x256x1024.Idx → EReal) (ix3 z r k) : EReal) = ((DZ P z.val (row t r) k : ℝ) : EReal)
  o13 : ∀ (r : Fin 256) (k : Fin 1024), ((L.2.1 : S256x1024.Idx → EReal) (ix2 r k) : EReal) = ((ConvMath.AA P.w (A P (row t r)) k : ℝ) : EReal)
  o14 : ∀ (r : Fin 256) (k : Fin 1024), ((L.2.2.1 : S256x1024.Idx → EReal) (ix2 r k) : EReal) = ((ConvMath.DY2 (A P (row t r)) k : ℝ) : EReal)
  o15 : ∀ (o : Fin 8) (k : Fin 1024), ((L.2.2.2.1 : S8x1024.Idx → EReal) (ix2 o k) : EReal) = (((if o.val < 4 then ∑ p ∈ Finset.range (t.val + 1), VT P o.val k p else 0 : ℝ) : ℝ) : EReal)
  s1 : ∀ (e : Fin 288) (k : Fin 1024), ((L.2.2.2.2.2.1 : S288x1024.Idx → EReal) (ix2 e k) : EReal) = ((D1 P ((31 - t.val) * 256 + e.val) k : ℝ) : EReal)
  s2 : ∀ (j : Fin 32) (q : Fin 8) (k : Fin 1024), ((L.2.2.2.2.2.2 : S32x8x1024.Idx → EReal) (ix3 j q k) : EReal)
    = (((if j.val < 31 then ∑ p ∈ Finset.range (t.val + 1), GT P j.val q.val k p else 0 : ℝ) : ℝ) : EReal)
  o16 : t.val % 32 = 31 → ∀ (j : Fin 32) (k : Fin 1024), ((L.2.2.2.2.1 : S32x1024.Idx → EReal) (ix2 j k) : EReal) = ((GW P j.val k : ℝ) : EReal)

include R in
theorem e2of (t : Fin cfg0.N) (T : FVec Ideal S32x1024 .f32) (hT : ∀ (e : Fin 32) k, (T (ix2 e k) : EReal) = ((D1 P ((31 - t.val) * 256 + 256 + e.val) k : ℝ) : EReal)) :
    ∀ (e : Fin 288) k, (stack2 (TD1 m c t) T (ix2 e k) : EReal) = ((D1 P ((31 - t.val) * 256 + e.val) k : ℝ) : EReal) :=
  stack2_real P (TD1 m c t) T _ (td1_real m P c R t) hT

include R in
theorem tile13 (t : Fin cfg0.N) (r : Fin 256) (k : Fin 1024) : (TA (iblk m c 5 t) (iblk m c 8 t) (iblk m c 9 t) (ix2 r k) : EReal) = ((ConvMath.AA P.w (A P (row t r)) k : ℝ) : EReal) :=
  TA_real P.w (AT P t) _ _ _ (e5 m P c R t) (e8 m P c R t) (e9 m P c R t) r k

include R in
theorem tile14 (t : Fin cfg0.N) (r : Fin 256) (k : Fin 1024) : (k0_pay54 (F := Ideal) (iblk m c 2 t) (iblk m c 6 t) (ix2 r k) : EReal) = ((ConvMath.DY2 (A P (row t r)) k : ℝ) : EReal) :=
  TDY2b_real (AT P t) _ _ (e2 m P c R t) (e6 m P c R t) r k

theorem top0 (e : Fin 32) (k : Fin 1024) : (topOf (k0_pay5 (F := Ideal)) (ix2 e k) : EReal) = 0 := by
  unfold topOf k0_pay5
  dsimp only
  rw [shapeCast_self]
  exact ofBits_zero

theorem zero6 (j : Fin 32) (q : Fin 8) (k : Fin 1024) : (k0_pay6 (F := Ideal) (ix3 j q k) : EReal) = 0 := by
  unfold k0_pay6
  rw [shapeCast_self]
  exact ofBits_zero

theorem zero7 (o : Fin 8) (k : Fin 1024) : (k0_pay7 (F := Ideal) (ix2 o k) : EReal) = 0 := ofBits_zero

/-- The kernel gradient's sum over the slots. -/
theorem taps_sum (v : FVec Ideal S32x8x1024 .f32) (g : ℕ → ℕ → Fin 1024 → ℝ) (hv : ∀ (j : Fin 32) (q : Fin 8) k, (v (ix3 j q k) : EReal) = ((g j.val q.val k : ℝ) : EReal)) (j : Fin 32) (k : Fin 1024) :
    (k0_pay4 (F := Ideal) v (ix2 j k) : EReal) = ((∑ q : Fin 8, g j.val q.val k : ℝ) : EReal) := by
  refine (Ideal.multiReduction_add_single v _ reduces_S32x8x1024_S32x1024 (.inl rfl) rfl (ix2 j k)).trans ?_
  rw [← coe_sum]
  refine Finset.sum_congr rfl fun q _ => ?_
  exact (congrArg v ((eq_ix3 _).trans rfl)).trans (hv j q k)

include R in
theorem inv_A (t : Fin cfg0.N) (h0 : t.val % 32 = 0) (h1 : ¬t.val % 32 = 31) :
    Inv P t (stepA m c t h0 h1) := by
  have ht : t.val = 0 := by have := lt32 t; omega
  have b1 : ∀ (e : Fin 32) k, (topOf (k0_pay5 (F := Ideal)) (ix2 e k) : EReal) = ((D1 P ((31 - t.val) * 256 + 256 + e.val) k : ℝ) : EReal) := fun e k => by
    rw [top0, D1_ge P _ (by omega) k]
    exact EReal.coe_zero.symm
  have b2 : ∀ (j : Fin 32) (q : Fin 8) k, (k0_pay6 (F := Ideal) (ix3 j q k) : EReal) = (((if j.val < 31 then ∑ p ∈ Finset.range t.val, GT P j.val q.val k p else 0 : ℝ) : ℝ) : EReal) := fun j q k => by
    rw [zero6, ht, Finset.sum_range_zero, ite_self]
    exact EReal.coe_zero.symm
  have b15 : ∀ (o : Fin 8) k, (k0_pay7 (F := Ideal) (ix2 o k) : EReal) = (((if o.val < 4 then ∑ p ∈ Finset.range t.val, VT P o.val k p else 0 : ℝ) : ℝ) : EReal) := fun o k => by
    rw [zero7, ht, Finset.sum_range_zero, ite_self]
    exact EReal.coe_zero.symm
  constructor
  · intro z r k
    unfold stepA
    dsimp only
    rw [ConvPiecesA.out12]
    exact dz_step m P c R t _ (e2of m P c R t _ b1) z r k
  · intro r k
    unfold stepA
    dsimp only
    rw [ConvPiecesA.out13]
    exact tile13 m P c R t r k
  · intro r k
    unfold stepA
    dsimp only
    rw [ConvPiecesA.out14]
    exact tile14 m P c R t r k
  · intro o k
    unfold stepA
    dsimp only
    rw [ConvPiecesA.out15]
    exact vv_step m P c R t _ b15 o k
  · intro e k
    unfold stepA
    dsimp only
    rw [ConvPiecesA.sout1]
    exact e2of m P c R t _ b1 e k
  · intro j q k
    unfold stepA
    dsimp only
    rw [ConvPiecesA.sout2]
    exact gp_step m P c R t _ b2 j q k
  · intro h
    exact absurd h h1

include R in
theorem inv_B (t : Fin cfg0.N) (h0 : ¬t.val % 32 = 0) (h1 : ¬t.val % 32 = 31) (p : Left Ideal)
    (b1 : ∀ (e : Fin 32) k, (topOf p.2.2.2.2.2.1 (ix2 e k) : EReal) = ((D1 P ((31 - t.val) * 256 + 256 + e.val) k : ℝ) : EReal))
    (b2 : ∀ (j : Fin 32) (q : Fin 8) k, ((p.2.2.2.2.2.2 : FVec Ideal S32x8x1024 .f32) (ix3 j q k) : EReal) = (((if j.val < 31 then ∑ p ∈ Finset.range t.val, GT P j.val q.val k p else 0 : ℝ) : ℝ) : EReal))
    (b15 : ∀ (o : Fin 8) k, ((p.2.2.2.1 : FVec Ideal S8x1024 .f32) (ix2 o k) : EReal) = (((if o.val < 4 then ∑ p ∈ Finset.range t.val, VT P o.val k p else 0 : ℝ) : ℝ) : EReal)) :
    Inv P t (stepB m c t h0 h1 p) := by
  constructor
  · intro z r k
    unfold stepB
    dsimp only
    rw [ConvPiecesB.out12]
    exact dz_step m P c R t _ (e2of m P c R t _ b1) z r k
  · intro r k
    unfold stepB
    dsimp only
    rw [ConvPiecesB.out13]
    exact tile13 m P c R t r k
  · intro r k
    unfold stepB
    dsimp only
    rw [ConvPiecesB.out14]
    exact tile14 m P c R t r k
  · intro o k
    unfold stepB
    dsimp only
    rw [ConvPiecesB.out15]
    exact vv_step m P c R t _ b15 o k
  · intro e k
    unfold stepB
    dsimp only
    rw [ConvPiecesB.sout1]
    exact e2of m P c R t _ b1 e k
  · intro j q k
    unfold stepB
    dsimp only
    rw [ConvPiecesB.sout2]
    exact gp_step m P c R t _ b2 j q k
  · intro h
    exact absurd h h1

include R in
theorem inv_C (t : Fin cfg0.N) (h0 : ¬t.val % 32 = 0) (h1 : t.val % 32 = 31) (p : Left Ideal)
    (b1 : ∀ (e : Fin 32) k, (topOf p.2.2.2.2.2.1 (ix2 e k) : EReal) = ((D1 P ((31 - t.val) * 256 + 256 + e.val) k : ℝ) : EReal))
    (b2 : ∀ (j : Fin 32) (q : Fin 8) k, ((p.2.2.2.2.2.2 : FVec Ideal S32x8x1024 .f32) (ix3 j q k) : EReal) = (((if j.val < 31 then ∑ p ∈ Finset.range t.val, GT P j.val q.val k p else 0 : ℝ) : ℝ) : EReal))
    (b15 : ∀ (o : Fin 8) k, ((p.2.2.2.1 : FVec Ideal S8x1024 .f32) (ix2 o k) : EReal) = (((if o.val < 4 then ∑ p ∈ Finset.range t.val, VT P o.val k p else 0 : ℝ) : ℝ) : EReal)) :
    Inv P t (stepC m c t h0 h1 p) := by
  constructor
  · intro z r k
    unfold stepC
    dsimp only
    rw [ConvPiecesC.out12]
    exact dz_step m P c R t _ (e2of m P c R t _ b1) z r k
  · intro r k
    unfold stepC
    dsimp only
    rw [ConvPiecesC.out13]
    exact tile13 m P c R t r k
  · intro r k
    unfold stepC
    dsimp only
    rw [ConvPiecesC.out14]
    exact tile14 m P c R t r k
  · intro o k
    unfold stepC
    dsimp only
    rw [ConvPiecesC.out15]
    exact vv_step m P c R t _ b15 o k
  · intro e k
    unfold stepC
    dsimp only
    rw [ConvPiecesC.sout1]
    exact e2of m P c R t _ b1 e k
  · intro j q k
    unfold stepC
    dsimp only
    rw [ConvPiecesC.sout2]
    exact gp_step m P c R t _ b2 j q k
  · intro _ j k
    have ht : t.val + 1 = 32 := by have := lt32 t; omega
    unfold stepC
    dsimp only
    rw [ConvPiecesC.out16]
    refine (taps_sum _ (fun j q k => if j < 31 then ∑ p ∈ Finset.range (t.val + 1), GT P j q k p else 0) (gp_step m P c R t _ b2) j k).trans ?_
    by_cases h : j.val < 31
    · simp only [if_pos h]
      rw [ht, gt_sum P j.val h k]
    · simp only [if_neg h]
      rw [Finset.sum_const_zero, show GW P j.val k = 0 from if_neg h]

include R in
theorem inv (n : ℕ) : ∀ hn : n < cfg0.N, Inv P ⟨n, hn⟩ (outsAt0 m c n hn) := by
  induction n with
  | zero =>
    intro hn
    have e := outsAt0_A m c ⟨0, hn⟩ (Nat.zero_mod _) (by dsimp only; omega)
    rw [show outsAt0 m c 0 hn = _ from e]
    exact inv_A m P c R ⟨0, hn⟩ _ _
  | succ n ih =>
    intro hn
    have hN : n + 1 < 32 := lt32 ⟨n + 1, hn⟩
    have hn' : n < cfg0.N := Nat.lt_of_succ_lt hn
    have I := ih hn'
    have b1 : ∀ (e : Fin 32) k, (topOf (outsAt0 m c n hn').2.2.2.2.2.1 (ix2 e k) : EReal) = ((D1 P ((31 - (n + 1)) * 256 + 256 + e.val) k : ℝ) : EReal) := fun e k => by
      refine (I.s1 ⟨e.val, by have := e.isLt; omega⟩ k).trans ?_
      rw [show (31 - (n + 1)) * 256 + 256 + e.val = (31 - n) * 256 + e.val by omega]
    have h0 : ¬(n + 1) % 32 = 0 := by omega
    by_cases h1 : (n + 1) % 32 = 31
    · have e := outsAt0_C m c ⟨n + 1, hn⟩ h0 h1
      rw [show outsAt0 m c (n + 1) hn = _ from e]
      exact inv_C m P c R ⟨n + 1, hn⟩ h0 h1 _ b1 I.s2 I.o15
    · have e := outsAt0_B m c ⟨n + 1, hn⟩ h0 h1
      rw [show outsAt0 m c (n + 1) hn = _ from e]
      exact inv_B m P c R ⟨n + 1, hn⟩ h0 h1 _ b1 I.s2 I.o15

/-! ## The final arrays -/

/-- The results. -/
def T12 : S3x8192x1024.Idx → EReal := fun i => ((DZ P (i 0).val (i 1) (i 2) : ℝ) : EReal)
def T13 : S8192x1024.Idx → EReal := fun i => ((ConvMath.AA P.w (A P (i 0)) (i 1) : ℝ) : EReal)
def T14 : S8192x1024.Idx → EReal := fun i => ((ConvMath.DY2 (A P (i 0)) (i 1) : ℝ) : EReal)
def T15 : S8x1024.Idx → EReal := fun i => (((if (i 0).val < 4 then GV P (i 0).val (i 1) else 0 : ℝ) : ℝ) : EReal)
def T16 : S32x1024.Idx → EReal := fun i => ((GW P (i 0).val (i 1) : ℝ) : EReal)

include R in
theorem flushed12_eq (t : Fin cfg0.N) : (dats m 0 c).flushed 12 t = ((cfg0.win 12).blk t).view.read (Elt Ideal) (T12 P) := by
  show (cfg0.win 12).cut (grid0.coords t) ((dats m 0 c).after 12 t) = _
  rw [after0_12]
  funext y
  have hy0 : (y 0).val < 3 := (y 0).isLt
  have hy1 : (y 1).val < 256 := (y 1).isLt
  have hy2 : (y 2).val < 1024 := (y 2).isLt
  have e := idx12 t
  have hl : (cfg0.win 12).xinj (grid0.coords t) y = ix3 ⟨(y 0).val, hy0⟩ ⟨(y 1).val, hy1⟩ ⟨(y 2).val, hy2⟩ := by
    funext a; apply Fin.ext
    match a with
    | ⟨0, _⟩ => rfl
    | ⟨1, _⟩ => rfl
    | ⟨2, _⟩ => rfl
  have hb : ((cfg0.win 12).blk t).view.emb y = ix3 ⟨(y 0).val, hy0⟩ (row t ⟨(y 1).val, hy1⟩) ⟨(y 2).val, hy2⟩ := by
    funext a; apply Fin.ext
    match a with
    | ⟨0, _⟩ => show win0_12.index t 0 * 3 + 1 * (y 0).val = (y 0).val; rw [e]; simp
    | ⟨1, _⟩ => show win0_12.index t 1 * 256 + 1 * (y 1).val = (31 - t.val) * 256 + (y 1).val; rw [e]; simp
    | ⟨2, _⟩ => show win0_12.index t 2 * 1024 + 1 * (y 2).val = (y 2).val; rw [e]; simp
  have hcut : ∀ v : Vec Ideal S3x256x1024 .bf16, (cfg0.win 12).cut (grid0.coords t) v y = v ((cfg0.win 12).xinj (grid0.coords t) y) := fun _ => rfl
  have hread : ∀ g : S3x8192x1024.Idx → EReal, ((cfg0.win 12).blk t).view.read (Elt Ideal) g y = g (((cfg0.win 12).blk t).view.emb y) := fun _ => rfl
  refine (hcut _).trans (Eq.trans ?_ (hread _).symm)
  rw [hl, hb]
  exact (inv m P c R t.val t.isLt).o12 _ _ _

theorem mem_blk12 (t : Fin cfg0.N) (i : S3x8192x1024.Idx) :
    i ∈ ((cfg0.win 12).blk t).view.set ↔ ∀ a : Fin 3, win0_12.index t a * S3x256x1024.size a ≤ (i a).val ∧ (i a).val < win0_12.index t a * S3x256x1024.size a + S3x256x1024.size a := by
  show i ∈ ((View.whole main_v169_0).slice (win0_12.rect t)).set ↔ _
  rw [View.set_slice_whole, Rect.mem_set_unit]
  exact Iff.rfl

include R in
theorem final12 : (dats m 0 c).arrAt 12 cfg0.N = T12 P := by
  refine (dats m 0 c).arrAt_eq_of_cover 12 _ (fun t hf => flushed12_eq m P c R t) (fun i => ?_)
  have hi : (i 1).val < 8192 := (i 1).isLt
  have hi0 : (i 0).val < 3 := (i 0).isLt
  have hi2 : (i 2).val < 1024 := (i 2).isLt
  refine ⟨⟨31 - (i 1).val / 256, by rw [show cfg0.N = 32 from N_0]; omega⟩, flush0_12 _, ?_⟩
  rw [mem_blk12, idx12]
  intro a
  match a with
  | ⟨0, _⟩ => show 0 * 3 ≤ (i 0).val ∧ (i 0).val < 0 * 3 + 3; omega
  | ⟨1, _⟩ => show (31 - (31 - (i 1).val / 256)) * 256 ≤ (i 1).val ∧ (i 1).val < (31 - (31 - (i 1).val / 256)) * 256 + 256; omega
  | ⟨2, _⟩ => show 0 * 1024 ≤ (i 2).val ∧ (i 2).val < 0 * 1024 + 1024; omega

include R in
theorem flushed13_eq (t : Fin cfg0.N) : (dats m 0 c).flushed 13 t = ((cfg0.win 13).blk t).view.read (Elt Ideal) (T13 P) := by
  show (cfg0.win 13).cut (grid0.coords t) ((dats m 0 c).after 13 t) = _
  rw [after0_13]
  funext y
  have hy0 : (y 0).val < 256 := (y 0).isLt
  have hy1 : (y 1).val < 1024 := (y 1).isLt
  have e := idx13 t
  have hl : (cfg0.win 13).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 13).blk t).view.emb y = ix2 (row t ⟨(y 0).val, hy0⟩) ⟨(y 1).val, hy1⟩ := by
    funext a; apply Fin.ext
    match a with
    | ⟨0, _⟩ => show win0_13.index t 0 * 256 + 1 * (y 0).val = (31 - t.val) * 256 + (y 0).val; rw [e]; simp
    | ⟨1, _⟩ => show win0_13.index t 1 * 1024 + 1 * (y 1).val = (y 1).val; rw [e]; simp
  have hcut : ∀ v : Vec Ideal S256x1024 .bf16, (cfg0.win 13).cut (grid0.coords t) v y = v ((cfg0.win 13).xinj (grid0.coords t) y) := fun _ => rfl
  have hread : ∀ g : S8192x1024.Idx → EReal, ((cfg0.win 13).blk t).view.read (Elt Ideal) g y = g (((cfg0.win 13).blk t).view.emb y) := fun _ => rfl
  refine (hcut _).trans (Eq.trans ?_ (hread _).symm)
  rw [hl, hb]
  exact (inv m P c R t.val t.isLt).o13 _ _

theorem mem_blk13 (t : Fin cfg0.N) (i : S8192x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v169_1).slice (win0_13.rect t)).set ↔ _
  rw [View.set_slice_whole, Rect.mem_set_unit]
  exact Iff.rfl

include R in
theorem final13 : (dats m 0 c).arrAt 13 cfg0.N = T13 P := by
  refine (dats m 0 c).arrAt_eq_of_cover 13 _ (fun t hf => flushed13_eq m P c R t) (fun i => ?_)
  have hi : (i 0).val < 8192 := (i 0).isLt
  have hi1 : (i 1).val < 1024 := (i 1).isLt
  refine ⟨⟨31 - (i 0).val / 256, by rw [show cfg0.N = 32 from N_0]; omega⟩, flush0_13 _, ?_⟩
  rw [mem_blk13, idx13]
  intro a
  match a with
  | ⟨0, _⟩ => show (31 - (31 - (i 0).val / 256)) * 256 ≤ (i 0).val ∧ (i 0).val < (31 - (31 - (i 0).val / 256)) * 256 + 256; omega
  | ⟨1, _⟩ => show 0 * 1024 ≤ (i 1).val ∧ (i 1).val < 0 * 1024 + 1024; omega

include R in
theorem flushed14_eq (t : Fin cfg0.N) : (dats m 0 c).flushed 14 t = ((cfg0.win 14).blk t).view.read (Elt Ideal) (T14 P) := by
  show (cfg0.win 14).cut (grid0.coords t) ((dats m 0 c).after 14 t) = _
  rw [after0_14]
  funext y
  have hy0 : (y 0).val < 256 := (y 0).isLt
  have hy1 : (y 1).val < 1024 := (y 1).isLt
  have e := idx14 t
  have hl : (cfg0.win 14).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 14).blk t).view.emb y = ix2 (row t ⟨(y 0).val, hy0⟩) ⟨(y 1).val, hy1⟩ := by
    funext a; apply Fin.ext
    match a with
    | ⟨0, _⟩ => show win0_14.index t 0 * 256 + 1 * (y 0).val = (31 - t.val) * 256 + (y 0).val; rw [e]; simp
    | ⟨1, _⟩ => show win0_14.index t 1 * 1024 + 1 * (y 1).val = (y 1).val; rw [e]; simp
  have hcut : ∀ v : Vec Ideal S256x1024 .bf16, (cfg0.win 14).cut (grid0.coords t) v y = v ((cfg0.win 14).xinj (grid0.coords t) y) := fun _ => rfl
  have hread : ∀ g : S8192x1024.Idx → EReal, ((cfg0.win 14).blk t).view.read (Elt Ideal) g y = g (((cfg0.win 14).blk t).view.emb y) := fun _ => rfl
  refine (hcut _).trans (Eq.trans ?_ (hread _).symm)
  rw [hl, hb]
  exact (inv m P c R t.val t.isLt).o14 _ _

theorem mem_blk14 (t : Fin cfg0.N) (i : S8192x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v169_2).slice (win0_14.rect t)).set ↔ _
  rw [View.set_slice_whole, Rect.mem_set_unit]
  exact Iff.rfl

include R in
theorem final14 : (dats m 0 c).arrAt 14 cfg0.N = T14 P := by
  refine (dats m 0 c).arrAt_eq_of_cover 14 _ (fun t hf => flushed14_eq m P c R t) (fun i => ?_)
  have hi : (i 0).val < 8192 := (i 0).isLt
  have hi1 : (i 1).val < 1024 := (i 1).isLt
  refine ⟨⟨31 - (i 0).val / 256, by rw [show cfg0.N = 32 from N_0]; omega⟩, flush0_14 _, ?_⟩
  rw [mem_blk14, idx14]
  intro a
  match a with
  | ⟨0, _⟩ => show (31 - (31 - (i 0).val / 256)) * 256 ≤ (i 0).val ∧ (i 0).val < (31 - (31 - (i 0).val / 256)) * 256 + 256; omega
  | ⟨1, _⟩ => show 0 * 1024 ≤ (i 1).val ∧ (i 1).val < 0 * 1024 + 1024; omega

include R in
theorem flushed15_eq (t : Fin cfg0.N) (hf : t.val % 32 = 31) : (dats m 0 c).flushed 15 t = ((cfg0.win 15).blk t).view.read (Elt Ideal) (T15 P) := by
  show (cfg0.win 15).cut (grid0.coords t) ((dats m 0 c).after 15 t) = _
  rw [after0_15]
  funext y
  have hy0 : (y 0).val < 8 := (y 0).isLt
  have hy1 : (y 1).val < 1024 := (y 1).isLt
  have e := idx15 t
  have hl : (cfg0.win 15).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 15).blk t).view.emb y = ix2 ⟨(y 0).val, hy0⟩ ⟨(y 1).val, hy1⟩ := by
    funext a; apply Fin.ext
    match a with
    | ⟨0, _⟩ => show win0_15.index t 0 * 8 + 1 * (y 0).val = (y 0).val; rw [e]; simp
    | ⟨1, _⟩ => show win0_15.index t 1 * 1024 + 1 * (y 1).val = (y 1).val; rw [e]; simp
  have hcut : ∀ v : Vec Ideal S8x1024 .f32, (cfg0.win 15).cut (grid0.coords t) v y = v ((cfg0.win 15).xinj (grid0.coords t) y) := fun _ => rfl
  have hread : ∀ g : S8x1024.Idx → EReal, ((cfg0.win 15).blk t).view.read (Elt Ideal) g y = g (((cfg0.win 15).blk t).view.emb y) := fun _ => rfl
  refine (hcut _).trans (Eq.trans ?_ (hread _).symm)
  rw [hl, hb]
  refine ((inv m P c R t.val t.isLt).o15 _ _).trans ?_
  rw [show (⟨t.val, t.isLt⟩ : Fin cfg0.N).val + 1 = 32 by show t.val + 1 = 32; have := lt32 t; omega, vt_sum]
  rfl

theorem mem_blk15 (t : Fin cfg0.N) (i : S8x1024.Idx) :
    i ∈ ((cfg0.win 15).blk t).view.set ↔ ∀ a : Fin 2, win0_15.index t a * S8x1024.size a ≤ (i a).val ∧ (i a).val < win0_15.index t a * S8x1024.size a + S8x1024.size a := by
  show i ∈ ((View.whole main_v169_3).slice (win0_15.rect t)).set ↔ _
  rw [View.set_slice_whole, Rect.mem_set_unit]
  exact Iff.rfl

include R in
theorem final15 : (dats m 0 c).arrAt 15 cfg0.N = T15 P := by
  refine (dats m 0 c).arrAt_eq_of_cover 15 _ (fun t hf => flushed15_eq m P c R t ((flush0_15 t).mp hf)) (fun i => ?_)
  have hi0 : (i 0).val < 8 := (i 0).isLt
  have hi1 : (i 1).val < 1024 := (i 1).isLt
  refine ⟨⟨31, by rw [show cfg0.N = 32 from N_0]; omega⟩, (flush0_15 _).mpr rfl, ?_⟩
  rw [mem_blk15, idx15]
  intro a
  match a with
  | ⟨0, _⟩ => show 0 * 8 ≤ (i 0).val ∧ (i 0).val < 0 * 8 + 8; omega
  | ⟨1, _⟩ => show 0 * 1024 ≤ (i 1).val ∧ (i 1).val < 0 * 1024 + 1024; omega

include R in
theorem flushed16_eq (t : Fin cfg0.N) (hf : t.val % 32 = 31) : (dats m 0 c).flushed 16 t = ((cfg0.win 16).blk t).view.read (Elt Ideal) (T16 P) := by
  show (cfg0.win 16).cut (grid0.coords t) ((dats m 0 c).after 16 t) = _
  rw [after0_16]
  funext y
  have hy0 : (y 0).val < 32 := (y 0).isLt
  have hy1 : (y 1).val < 1024 := (y 1).isLt
  have e := idx16 t
  have hl : (cfg0.win 16).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 16).blk t).view.emb y = ix2 ⟨(y 0).val, hy0⟩ ⟨(y 1).val, hy1⟩ := by
    funext a; apply Fin.ext
    match a with
    | ⟨0, _⟩ => show win0_16.index t 0 * 32 + 1 * (y 0).val = (y 0).val; rw [e]; simp
    | ⟨1, _⟩ => show win0_16.index t 1 * 1024 + 1 * (y 1).val = (y 1).val; rw [e]; simp
  have hcut : ∀ v : Vec Ideal S32x1024 .f32, (cfg0.win 16).cut (grid0.coords t) v y = v ((cfg0.win 16).xinj (grid0.coords t) y) := fun _ => rfl
  have hread : ∀ g : S32x1024.Idx → EReal, ((cfg0.win 16).blk t).view.read (Elt Ideal) g y = g (((cfg0.win 16).blk t).view.emb y) := fun _ => rfl
  refine (hcut _).trans (Eq.trans ?_ (hread _).symm)
  rw [hl, hb]
  exact (inv m P c R t.val t.isLt).o16 hf _ _

theorem mem_blk16 (t : Fin cfg0.N) (i : S32x1024.Idx) :
    i ∈ ((cfg0.win 16).blk t).view.set ↔ ∀ a : Fin 2, win0_16.index t a * S32x1024.size a ≤ (i a).val ∧ (i a).val < win0_16.index t a * S32x1024.size a + S32x1024.size a := by
  show i ∈ ((View.whole main_v169_4).slice (win0_16.rect t)).set ↔ _
  rw [View.set_slice_whole, Rect.mem_set_unit]
  exact Iff.rfl

include R in
theorem final16 : (dats m 0 c).arrAt 16 cfg0.N = T16 P := by
  refine (dats m 0 c).arrAt_eq_of_cover 16 _ (fun t hf => flushed16_eq m P c R t ((flush0_16 t).mp hf)) (fun i => ?_)
  have hi0 : (i 0).val < 32 := (i 0).isLt
  have hi1 : (i 1).val < 1024 := (i 1).isLt
  refine ⟨⟨31, by rw [show cfg0.N = 32 from N_0]; omega⟩, (flush0_16 _).mpr rfl, ?_⟩
  rw [mem_blk16, idx16]
  intro a
  match a with
  | ⟨0, _⟩ => show 0 * 32 ≤ (i 0).val ∧ (i 0).val < 0 * 32 + 32; omega
  | ⟨1, _⟩ => show 0 * 1024 ≤ (i 1).val ∧ (i 1).val < 0 * 1024 + 1024; omega

/-! ## The run -/

theorem run_blocks (g : Dev nD → PrngReg) : θ_run (defs (F := Ideal)) (onTc (τ := τ) (main (F := Ideal))) ⟨m, fun _ => 0, g⟩ (fun r => (∀ c : Dev nD,
      r.2.mem ((c.tc : Thread nD τ).loc main_v169_0) = (dats m 0 c).arrAt 12 cfg0.N
      ∧ r.2.mem ((c.tc : Thread nD τ).loc main_v169_1) = (dats m 0 c).arrAt 13 cfg0.N
      ∧ r.2.mem ((c.tc : Thread nD τ).loc main_v169_2) = (dats m 0 c).arrAt 14 cfg0.N
      ∧ r.2.mem ((c.tc : Thread nD τ).loc main_v169_3) = (dats m 0 c).arrAt 15 cfg0.N
      ∧ r.2.mem ((c.tc : Thread nD τ).loc main_v169_4) = (dats m 0 c).arrAt 16 cfg0.N)
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and ((θ_run defs _ _).mono (fun r h c => ⟨(h c).1 12, (h c).1 13, (h c).1 14, (h c).1 15, (h c).1 16⟩) (run_main m g)) (unchanged m g)

end Cert.ConvRun

end
-- ==== Proof.Grad1.lean ====
module

public import proofs.«01_k».proof.Defs
public import proofs.«01_k».proof.Proof.Gen.ReferenceIdeal.Run
public import proofs.«01_k».proof.Proof.Gen.Pre_finite
public import proofs.«01_k».proof.Proof.ConvClaims
public import proofs.«01_k».proof.Proof.ConvRef
public import proofs.«01_k».proof.Proof.ConvRun

@[expose] public section

/-!
The backward pass of the convolution block: its claims. The frames of its kernel without a precondition are in
`ConvClaims`.
-/

noncomputable section

namespace Cert.Grad1

open Idealize.ShloMosaic Idealize.SL.Sem Idealize.ShloMosaic.ValueIdx
open Cert.Common Cert.Rows Cert.Finite Cert.ConvMath Cert.ConvSpec Cert.ConvRef Cert.ConvRun

/-- Arguments that are equal are of equal reals. -/
theorem reals_of_eq {x0 y0 : Cert.ReferenceIdeal.S8192x7168.Idx → EReal} {x1 y1 : Cert.ReferenceIdeal.S8192x1024.Idx → EReal} {x2 y2 : Cert.ReferenceIdeal.S31x1024.Idx → EReal}
    {x3 x4 x5 y3 y4 y5 : Cert.ReferenceIdeal.S1x1024.Idx → EReal} {x6 y6 : Cert.ReferenceIdeal.S1024x1024.Idx → EReal} {x7 y7 : Cert.ReferenceIdeal.S1x1024.Idx → EReal} {P : Par}
    (e0 : y0 = x0) (e1 : y1 = x1) (e2 : y2 = x2) (e3 : y3 = x3) (e4 : y4 = x4) (e5 : y5 = x5) (e6 : y6 = x6) (e7 : y7 = x7)
    (R : Reals x0 x1 x2 x3 x4 x5 x6 x7 P) : Reals y0 y1 y2 y3 y4 y5 y6 y7 P := by
  subst e0 e1 e2 e3 e4 e5 e6 e7
  exact R

/-- The reals of the arguments. -/
def par (x0 : Cert.ReferenceIdeal.S8192x7168.Idx → EReal) (x1 : Cert.ReferenceIdeal.S8192x1024.Idx → EReal) (x2 : Cert.ReferenceIdeal.S31x1024.Idx → EReal)
    (x3 x4 x5 : Cert.ReferenceIdeal.S1x1024.Idx → EReal) (x6 : Cert.ReferenceIdeal.S1024x1024.Idx → EReal) (x7 : Cert.ReferenceIdeal.S1x1024.Idx → EReal) : Par where
  z t k := re x0 (ix2 t k)
  dc t k := re x1 (ix2 t k)
  cw j k := if h : j < 31 then re x2 (ix2 ⟨j, h⟩ k) else 0
  cb k := re x3 (ix2 0 k)
  w := ⟨fun k => re x4 (ix2 0 k), fun k => re x5 (ix2 0 k), fun j k => re x6 (ix2 j k), fun k => re x7 (ix2 0 k)⟩

/-- The precondition says that every entry is a real. -/
theorem finite (x0 : Cert.ReferenceIdeal.S8192x7168.Idx → EReal) (x1 : Cert.ReferenceIdeal.S8192x1024.Idx → EReal) (x2 : Cert.ReferenceIdeal.S31x1024.Idx → EReal)
    (x3 x4 x5 : Cert.ReferenceIdeal.S1x1024.Idx → EReal) (x6 : Cert.ReferenceIdeal.S1024x1024.Idx → EReal) (x7 : Cert.ReferenceIdeal.S1x1024.Idx → EReal)
    (h : Cert.Pre_finite.fn (F := Ideal) x0 x1 x2 x3 x4 x5 x6 x7 = fun _ => 1#1) : Reals x0 x1 x2 x3 x4 x5 x6 x7 (par x0 x1 x2 x3 x4 x5 x6 x7) := by
  have h' := congrFun h ix0
  unfold Cert.Pre_finite.fn Cert.Pre_finite.fn_part1 Cert.Pre_finite.fn_part2 at h'
  obtain ⟨h', e7⟩ := IntOp.andi_eq_one.mp h'
  obtain ⟨h', e6⟩ := IntOp.andi_eq_one.mp h'
  obtain ⟨h', e5⟩ := IntOp.andi_eq_one.mp h'
  obtain ⟨h', e4⟩ := IntOp.andi_eq_one.mp h'
  obtain ⟨h', e3⟩ := IntOp.andi_eq_one.mp h'
  obtain ⟨h', e2⟩ := IntOp.andi_eq_one.mp h'
  obtain ⟨h', e1⟩ := IntOp.andi_eq_one.mp h'
  obtain ⟨_, e0⟩ := IntOp.andi_eq_one.mp h'
  exact ⟨fun t k => eq_re x0 (real_of_all x0 _ _ _ _ e0) _, fun t k => eq_re x1 (real_of_all x1 _ _ _ _ e1) _,
    fun j k => (eq_re x2 (real_of_all x2 _ _ _ _ e2) _).trans (congrArg (fun a : ℝ => (a : EReal)) (by unfold par; dsimp only; rw [dif_pos j.isLt])),
    fun k => eq_re x3 (real_of_all x3 _ _ _ _ e3) _, fun k => eq_re x4 (real_of_all x4 _ _ _ _ e4) _, fun k => eq_re x5 (real_of_all x5 _ _ _ _ e5) _,
    fun j k => eq_re x6 (real_of_all x6 _ _ _ _ e6) _, fun k => eq_re x7 (real_of_all x7 _ _ _ _ e7) _⟩

theorem cast_eq {x : EReal} {a b : ℝ} (h : x = ((a : ℝ) : EReal)) (e : a = b) : x = ((b : ℝ) : EReal) := e ▸ h

/-- The gradient of the gate's operand, as the reference writes it. -/
theorem dz2_eq (P : Par) (t : Fin 8192) (k : Fin 1024) :
    Y2 P.w (A P t) k * P.dc t k * ST (A P t) k + (A P t).ct k * (Y2 P.w (A P t) k * P.dc t k) * (ST (A P t) k * (1 - ST (A P t) k)) = DZ2 P.w (A P t) k := by
  unfold DZ2
  rw [show (A P t).dc = P.dc t from rfl]
  ring

/-- The kernel computes the gradients of the convolution block. -/
theorem algebraic : Cert.algebraic_KernelIdeal_ReferenceIdeal_pre_finite := by
  intro m g m' g' hp hagree
  have H := fun c => finite _ _ _ _ _ _ _ _ (hp c)
  refine ⟨fun c => T12 (par _ _ _ _ _ _ _ _), fun c => T13 (par _ _ _ _ _ _ _ _), fun c => T14 (par _ _ _ _ _ _ _ _), fun c => T15 (par _ _ _ _ _ _ _ _), fun c => T16 (par _ _ _ _ _ _ _ _),
    (θ_run Cert.KernelIdeal.defs _ _).mono (fun r h c => ⟨(h.1 c).1.trans (final12 m _ c (H c)), (h.1 c).2.1.trans (final13 m _ c (H c)), (h.1 c).2.2.1.trans (final14 m _ c (H c)),
      (h.1 c).2.2.2.1.trans (final15 m _ c (H c)), (h.1 c).2.2.2.2.trans (final16 m _ c (H c)), h.2 c⟩) (run_blocks m g), ?_⟩
  refine (θ_run Cert.ReferenceIdeal.defs _ _).mono (fun r h c => ?_) (Cert.ReferenceIdeal.Value.run (F := Ideal) m' g')
  obtain ⟨a0, a1, a2, a3, a4, a5, a6, a7⟩ := hagree c
  have R := reals_of_eq a0 a1 a2 a3 a4 a5 a6 a7 (H c)
  refine ⟨(h c).1.trans ?_, (h c).2.1.trans ?_, (h c).2.2.1.trans ?_, (h c).2.2.2.1.trans ?_, (h c).2.2.2.2.1.trans ?_, (h c).2.2.2.2.2⟩
  · funext i
    refine z_real i _ _ _ (fun o => DZ _ o (i 1) (i 2)) ?_ ?_ ?_
    · refine cast_eq (mul_real (r553 _ _ R _ _) (r7 _ _ R _ _)) ?_
      unfold DZ
      rw [if_neg (by decide), if_pos rfl]
    · refine cast_eq (mul_real (mul_real (r0 _ _ R _ _) (r553 _ _ R _ _)) (mul_real (r7 _ _ R _ _) (sub_real (cst_real _ _ 1 ofBits_one _) (r7 _ _ R _ _)))) ?_
      unfold DZ
      rw [if_pos rfl]
    · refine cast_eq (add_real (mul_real (r227 _ _ R _ _) (r221 _ _ R _ _)) (mul_real (mul_real (r215 _ _ R _ _) (r227 _ _ R _ _))
        (mul_real (r221 _ _ R _ _) (sub_real (cst_real _ _ 1 ofBits_one _) (r221 _ _ R _ _))))) ?_
      unfold DZ
      rw [if_neg (by decide), if_neg (by decide)]
      exact dz2_eq _ _ _
  · funext i
    obtain ⟨t, k, rfl⟩ : ∃ t k, i = ix2 t k := ⟨i 0, i 1, eq_ix2 i⟩
    exact r211 _ _ R t k
  · funext i
    obtain ⟨t, k, rfl⟩ : ∃ t k, i = ix2 t k := ⟨i 0, i 1, eq_ix2 i⟩
    exact r228 _ _ R t k
  · funext i
    refine v_real i _ _ _ _ _ (fun o => GV _ o (i 1)) ?_ ?_ ?_ ?_ ?_
    · exact red_rows _ (fun t => VR _ (A _ t) 0 (i 1)) _ (fun t => r272 _ _ R t _) 0
    · refine red_rows _ (fun t => VR _ (A _ t) 1 (i 1)) _ (fun t => cast_eq (mul_real (r197 _ _ R t _) (r239 _ _ R t _)) ?_) 0
      unfold VR
      rw [if_neg (by decide), if_pos rfl, mul_comm]
    · exact red_rows _ (fun t => VR _ (A _ t) 2 (i 1)) _ (fun t => r239 _ _ R t _) 0
    · exact red_rows _ (fun t => VR _ (A _ t) 3 (i 1)) _ (fun t => r228 _ _ R t _) 0
    · intro q
      exact (cst_real _ _ 0 (ofBits_zero.trans EReal.coe_zero.symm) _).trans EReal.coe_zero
  · funext i
    exact g_real _ _ R i

theorem frame_pre : Cert.quiescent_KernelIdeal_pre_finite := fun m ρ _ => Cert.ConvFrame.frame_all (F := Ideal) m ρ

theorem frame_ref : Cert.quiescent_ReferenceIdeal := by
  intro m ρ _
  exact (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem frame_ref_pre : Cert.quiescent_ReferenceIdeal_pre_finite := fun m ρ _ => frame_ref m ρ trivial

end Cert.Grad1

end
-- ==== Proof.TailPieces.lean ====
/-
  The tail of the step, one tile of 512 tokens: the contents the kernel leaves in each output at a grid point, as terms of the
  tile's arguments.
-/
module

public import proofs.«01_k».proof.Proof.TailTile
public import proofs.«01_k».proof.Proof.Gen.Kernel2Ideal.Frame

@[expose] public section

noncomputable section

namespace Cert.Tail

open Cert.Kernel2Ideal Cert.Kernel2Ideal.Gen Idealize.ShloMosaic Idealize.ShloMosaic.TcCoe Idealize.SL.Sem
open Idealize.ShloMosaic.ValueIdx Cert.RowStore

/-- The blocks of the ten arguments at a grid point. -/
structure Args where
  x0 : Vec Ideal S512x1024 .f32
  x1 : Vec Ideal S512x1024 .bf16
  x2 : Vec Ideal S512x1024 .bf16
  x3 : Vec Ideal S512x256 .f32
  x4 : Vec Ideal S512x1024 .f32
  x5 : Vec Ideal S2048x1024 .bf16
  x6 : Vec Ideal S1024x1024 .bf16
  x7 : Vec Ideal S256x1024 .bf16
  x8 : Vec Ideal S1x1024 .f32
  x9 : Vec Ideal S1x1024 .f32

section Terms
variable (X : Args)

/-- The two halves of the out-projection, as the kernel loads them. -/
def k3 : Vec Ideal S1024x1024 .bf16 := View.ld X.x5 (Rect.unit (s := S2048x1024) ![0, 0] S1024x1024.size inb_S2048x1024_S1024x1024_0_0)
def k5 : Vec Ideal S1024x1024 .bf16 := View.ld X.x5 (Rect.unit (s := S2048x1024) ![1024, 0] S1024x1024.size inb_S2048x1024_S1024x1024_1024_0)
def k15 : FVec Ideal S512x1024 .f32 := k0_pay8 (k3 X) (k5 X) X.x0 X.x1 X.x2
def k20 : FVec Ideal S512x1024 .f32 := k0_pay10 X.x3 X.x7
def k28 : FVec Ideal S512x1 .f32 := k0_pay11 (k3 X) (k5 X) X.x0 X.x1 X.x2
def k30 : FVec Ideal S512x1024 .f32 := k0_pay12 (k3 X) (k5 X) X.x0 X.x1 X.x2
def k33 : FVec Ideal S512x1024 .f32 := k0_pay13 (k3 X) (k5 X) X.x0 X.x1 X.x2 X.x8
def k38 : FVec Ideal S512x1024 .f32 := k0_pay15 (k33 X) X.x6
def k48 : FVec Ideal S512x1 .f32 := k0_pay17 (k15 X) (k20 X) (k33 X) X.x6
def k50 : FVec Ideal S512x1024 .f32 := k0_pay18 (k15 X) (k20 X) (k33 X) X.x6
def k72 : FVec Ideal S512x1024 .f32 := k0_pay21 (k15 X) (k20 X) (k33 X) X.x6 X.x9 X.x4
def k92 : FVec Ideal S512x1024 .f32 := k0_pay23 (k48 X) (k50 X) (k72 X) X.x9
def k111 : FVec Ideal S512x1024 .f32 := k0_pay27 (k20 X) (k38 X) (k48 X) (k50 X) (k72 X) X.x9 X.x6 X.x8

/-- What goes to the eight outputs. -/
def o10 : Vec Ideal S512x1024 .f32 := k0_pay2 (k0_pay6 (k3 X)) (k28 X) (k30 X) (k92 X) (k111 X)
def o11 : Vec Ideal S512x1024 .f32 := k0_pay3 (k0_pay7 (k5 X)) (k28 X) (k30 X) (k92 X) (k111 X)
def o12 : Vec Ideal S512x1024 .bf16 := k0_pay14 (k33 X)
def o13 : Vec Ideal S512x1024 .bf16 := k0_pay24 (k20 X) (k38 X) (k48 X) (k50 X) (k72 X) X.x9
def o14 : Vec Ideal S512x1024 .bf16 := k0_pay4 (k38 X) (k92 X)
def o15 : Vec Ideal S512x1024 .bf16 := k0_pay1 (k28 X) (k30 X) (k92 X) (k111 X)
def o16 : Vec Ideal S512x256 .bf16 := k0_pay9 X.x3
def row0 (v : Vec Ideal S1x1024 .f32) : Vec Ideal S1x1024 .f32 := k0_pay22 (k50 X) (k72 X) v
def row1 (v : Vec Ideal S1x1024 .f32) : Vec Ideal S1x1024 .f32 := k0_pay26 (k20 X) (k30 X) (k38 X) (k48 X) (k50 X) (k72 X) X.x9 X.x6 v
def row2 (v : Vec Ideal S1x1024 .f32) : Vec Ideal S1x1024 .f32 := k0_pay20 (k15 X) (k20 X) (k33 X) X.x6 X.x9 X.x4 v

/-- The eight rows, over what they were. -/
def rows (V : Vec Ideal S8x1024 .f32) (r : Fin 8) (k : Fin 1024) : EReal :=
  if r.val = 1 then row1 X (rowOf V 1) (ix2 0 k) else if r.val = 0 then row0 X (rowOf V 0) (ix2 0 k)
    else if r.val = 2 then row2 X (rowOf V 2) (ix2 0 k) else V (ix2 r k)

end Terms

theorem hz2 : (![0, 0] : Fin 2 → Nat) = fun _ => 0 := funext fun a => by fin_cases a <;> rfl

section Pieces
variable (c : Dev nD) (i : grid0.Coords)
  (a1 : Memref sig .tc .vmem S512x1024 .f32) (h1 : a1.IsWhole)
  (a2 : Memref sig .tc .vmem S512x1024 .bf16) (h2 : a2.IsWhole)
  (a3 : Memref sig .tc .vmem S512x1024 .bf16) (h3 : a3.IsWhole)
  (a4 : Memref sig .tc .vmem S512x256 .f32) (h4 : a4.IsWhole)
  (a5 : Memref sig .tc .vmem S512x1024 .f32) (h5 : a5.IsWhole)
  (a6 : Memref sig .tc .vmem S2048x1024 .bf16) (h6 : a6.IsWhole)
  (a7 : Memref sig .tc .vmem S1024x1024 .bf16) (h7 : a7.IsWhole)
  (a8 : Memref sig .tc .vmem S256x1024 .bf16) (h8 : a8.IsWhole)
  (a9 : Memref sig .tc .vmem S1x1024 .f32) (h9 : a9.IsWhole)
  (a10 : Memref sig .tc .vmem S1x1024 .f32) (h10 : a10.IsWhole)
  (a11 : Memref sig .tc .vmem S512x1024 .f32) (h11 : a11.IsWhole)
  (a12 : Memref sig .tc .vmem S512x1024 .f32) (h12 : a12.IsWhole)
  (a13 : Memref sig .tc .vmem S512x1024 .bf16) (h13 : a13.IsWhole)
  (a14 : Memref sig .tc .vmem S512x1024 .bf16) (h14 : a14.IsWhole)
  (a15 : Memref sig .tc .vmem S512x1024 .bf16) (h15 : a15.IsWhole)
  (a16 : Memref sig .tc .vmem S512x1024 .bf16) (h16 : a16.IsWhole)
  (a17 : Memref sig .tc .vmem S512x256 .bf16) (h17 : a17.IsWhole)
  (a18 : Memref sig .tc .vmem S8x1024 .f32) (h18 : a18.IsWhole)
  (x0 : Vec Ideal S512x1024 .f32) (x1 : Vec Ideal S512x1024 .bf16) (x2 : Vec Ideal S512x1024 .bf16) (x3 : Vec Ideal S512x256 .f32) (x4 : Vec Ideal S512x1024 .f32) (x5 : Vec Ideal S2048x1024 .bf16) (x6 : Vec Ideal S1024x1024 .bf16) (x7 : Vec Ideal S256x1024 .bf16) (x8 : Vec Ideal S1x1024 .f32) (x9 : Vec Ideal S1x1024 .f32) (xo : Vec Ideal S8x1024 .f32)

theorem outA10 (hc0 : cond0_0 i) : out0_A_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 = o10 ⟨x0, x1, x2, x3, x4, x5, x6, x7, x8, x9⟩ := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9)]
  unfold kernelRun0_A
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outA11 (hc0 : cond0_0 i) : out0_A_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 = o11 ⟨x0, x1, x2, x3, x4, x5, x6, x7, x8, x9⟩ := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9)]
  unfold kernelRun0_A
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outA12 (hc0 : cond0_0 i) : out0_A_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 = o12 ⟨x0, x1, x2, x3, x4, x5, x6, x7, x8, x9⟩ := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9)]
  unfold kernelRun0_A
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outA13 (hc0 : cond0_0 i) : out0_A_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 = o13 ⟨x0, x1, x2, x3, x4, x5, x6, x7, x8, x9⟩ := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9)]
  unfold kernelRun0_A
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outA14 (hc0 : cond0_0 i) : out0_A_14 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 = o14 ⟨x0, x1, x2, x3, x4, x5, x6, x7, x8, x9⟩ := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9)]
  unfold kernelRun0_A
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outA15 (hc0 : cond0_0 i) : out0_A_15 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 = o15 ⟨x0, x1, x2, x3, x4, x5, x6, x7, x8, x9⟩ := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9)]
  unfold kernelRun0_A
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outA16 (hc0 : cond0_0 i) : out0_A_16 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 = o16 ⟨x0, x1, x2, x3, x4, x5, x6, x7, x8, x9⟩ := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9)]
  unfold kernelRun0_A
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outA17 (hc0 : cond0_0 i) (r : Fin 8) (k : Fin 1024) :
    (out0_A_17 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 : S8x1024.Idx → EReal) (ix2 r k) = rows ⟨x0, x1, x2, x3, x4, x5, x6, x7, x8, x9⟩ (k0_pay5 (F := Ideal)) r k := by
  unfold out0_A_17
  unfold kernelRun0_A
  dsimp only
  try sl_unfold_words
  refine (put_row _ _ 1 _ _ _ r k).trans (if_congr Iff.rfl ?_ ((put_row _ _ 0 _ _ _ r k).trans (if_congr Iff.rfl ?_ ((put_row _ _ 2 _ _ _ r k).trans (if_congr Iff.rfl ?_ (put_all _ _ _ _ _ r k))))))
  · simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
    exact congrArg (fun v => row1 ⟨x0, x1, x2, x3, x4, x5, x6, x7, x8, x9⟩ v (ix2 0 k)) ((cov_skip (Val := Elt Ideal) (e := .f32) a18.view 1 0 (by omega) inb_S8x1024_S1x1024_1_0 inb_S8x1024_S1x1024_0_0 _ _).trans
      ((cov_skip (Val := Elt Ideal) (e := .f32) a18.view 1 2 (by omega) inb_S8x1024_S1x1024_1_0 inb_S8x1024_S1x1024_2_0 _ _).trans
        (cov_all (Val := Elt Ideal) (e := .f32) a18.view 1 (by decide) inb_S8x1024_S1x1024_1_0 inb_S8x1024_S8x1024_0_0 (k0_pay5 (F := Ideal)))))
  · simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
    exact congrArg (fun v => row0 ⟨x0, x1, x2, x3, x4, x5, x6, x7, x8, x9⟩ v (ix2 0 k)) ((cov_skip (Val := Elt Ideal) (e := .f32) a18.view 0 2 (by omega) inb_S8x1024_S1x1024_0_0 inb_S8x1024_S1x1024_2_0 _ _).trans
        (cov_all (Val := Elt Ideal) (e := .f32) a18.view 0 (by decide) inb_S8x1024_S1x1024_0_0 inb_S8x1024_S8x1024_0_0 (k0_pay5 (F := Ideal))))
  · simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
    exact congrArg (fun v => row2 ⟨x0, x1, x2, x3, x4, x5, x6, x7, x8, x9⟩ v (ix2 0 k)) (cov_all (Val := Elt Ideal) (e := .f32) a18.view 2 (by decide) inb_S8x1024_S1x1024_2_0 inb_S8x1024_S8x1024_0_0 (k0_pay5 (F := Ideal)))

theorem outB10 (hc0 : ¬cond0_0 i) : out0_B_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo = o10 ⟨x0, x1, x2, x3, x4, x5, x6, x7, x8, x9⟩ := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo)]
  unfold kernelRun0_B
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outB11 (hc0 : ¬cond0_0 i) : out0_B_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo = o11 ⟨x0, x1, x2, x3, x4, x5, x6, x7, x8, x9⟩ := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo)]
  unfold kernelRun0_B
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outB12 (hc0 : ¬cond0_0 i) : out0_B_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo = o12 ⟨x0, x1, x2, x3, x4, x5, x6, x7, x8, x9⟩ := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo)]
  unfold kernelRun0_B
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outB13 (hc0 : ¬cond0_0 i) : out0_B_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo = o13 ⟨x0, x1, x2, x3, x4, x5, x6, x7, x8, x9⟩ := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo)]
  unfold kernelRun0_B
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outB14 (hc0 : ¬cond0_0 i) : out0_B_14 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo = o14 ⟨x0, x1, x2, x3, x4, x5, x6, x7, x8, x9⟩ := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo)]
  unfold kernelRun0_B
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outB15 (hc0 : ¬cond0_0 i) : out0_B_15 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo = o15 ⟨x0, x1, x2, x3, x4, x5, x6, x7, x8, x9⟩ := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo)]
  unfold kernelRun0_B
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outB16 (hc0 : ¬cond0_0 i) : out0_B_16 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo = o16 ⟨x0, x1, x2, x3, x4, x5, x6, x7, x8, x9⟩ := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo)]
  unfold kernelRun0_B
  dsimp only
  try sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x1024) hz2, View.ld_unit_zero (S := S1x1024) hz2, View.ld_unit_zero (S := S512x256) hz2, View.ld_unit_zero (S := S1024x1024) hz2, View.ld_unit_zero (S := S256x1024) hz2]
  rfl

theorem outB17 (hc0 : ¬cond0_0 i) (r : Fin 8) (k : Fin 1024) :
    (out0_B_17 c i a1 h1 a2 h2 a3 h3 a4 h4 a5 h5 a6 h6 a7 h7 a8 h8 a9 h9 a10 h10 a11 h11 a12 h12 a13 h13 a14 h14 a15 h15 a16 h16 a17 h17 a18 h18 hc0 x0 x1 x2 x3 x4 x5 x6 x7 x8 x9 xo : S8x1024.Idx → EReal) (ix2 r k) = rows ⟨x0, x1, x2, x3, x4, x5, x6, x7, x8, x9⟩ xo r k := by
  unfold out0_B_17
  unfold kernelRun0_B
  dsimp only
  try sl_unfold_words
  refine (put_row _ _ 1 _ _ _ r k).trans (if_congr Iff.rfl ?_ ((put_row _ _ 0 _ _ _ r k).trans (if_congr Iff.rfl ?_ ((put_row _ _ 2 _ _ _ r k).trans (if_congr Iff.rfl ?_ ?_)))))
  · simp only [View.readAt_eq_ld, h1.read_unread, h2.read_unread, h3.read_unread, h4.read_unread, h5.read_unread, h6.read_unread, h7.read_unread, h8.read_unread, h9.read_unread, h10.read_unread, h18.read_unread, View.ld_unit_zero (S := S512x1024) hz2, View.ld_unit_zero (S := S1x1024) hz2, View.ld_unit_zero (S := S512x256) hz2, View.ld_unit_zero (S := S1024x1024) hz2, View.ld_unit_zero (S := S256x1024) hz2]
    exact congrArg (fun v => row1 ⟨x0, x1, x2, x3, x4, x5, x6, x7, x8, x9⟩ v (ix2 0 k)) (ld_row (Val := Elt Ideal) (e := .f32) xo 1 (by decide) inb_S8x1024_S1x1024_1_0)
  · simp only [View.readAt_eq_ld, h1.read_unread, h2.read_unread, h3.read_unread, h4.read_unread, h5.read_unread, h6.read_unread, h7.read_unread, h8.read_unread, h9.read_unread, h10.read_unread, h18.read_unread, View.ld_unit_zero (S := S512x1024) hz2, View.ld_unit_zero (S := S1x1024) hz2, View.ld_unit_zero (S := S512x256) hz2, View.ld_unit_zero (S := S1024x1024) hz2, View.ld_unit_zero (S := S256x1024) hz2]
    exact congrArg (fun v => row0 ⟨x0, x1, x2, x3, x4, x5, x6, x7, x8, x9⟩ v (ix2 0 k)) (ld_row (Val := Elt Ideal) (e := .f32) xo 0 (by decide) inb_S8x1024_S1x1024_0_0)
  · simp only [View.readAt_eq_ld, h1.read_unread, h2.read_unread, h3.read_unread, h4.read_unread, h5.read_unread, h6.read_unread, h7.read_unread, h8.read_unread, h9.read_unread, h10.read_unread, h18.read_unread, View.ld_unit_zero (S := S512x1024) hz2, View.ld_unit_zero (S := S1x1024) hz2, View.ld_unit_zero (S := S512x256) hz2, View.ld_unit_zero (S := S1024x1024) hz2, View.ld_unit_zero (S := S256x1024) hz2]
    exact congrArg (fun v => row2 ⟨x0, x1, x2, x3, x4, x5, x6, x7, x8, x9⟩ v (ix2 0 k)) (ld_row (Val := Elt Ideal) (e := .f32) xo 2 (by decide) inb_S8x1024_S1x1024_2_0)
  · rw [View.writes_nil, h18.read_unread]

end Pieces

end Cert.Tail

end
-- ==== Proof.TailRef.lean ====
/-
  The tail of the step, the reference: the lines of the forward pass and their vector-Jacobian product, of finite arguments.
-/
module

public import proofs.«01_k».proof.Proof.TailMath
public import proofs.«01_k».proof.Proof.Finite
public import proofs.«01_k».proof.Proof.Gen.Reference2Ideal.Read

@[expose] public section

noncomputable section

namespace Cert.Tail

open Cert.Reference2Ideal Cert.Reference2Ideal.Read Idealize.ShloMosaic Idealize.ShloMosaic.TcCoe
open Idealize.ShloMosaic.ValueIdx Cert.Common Cert.Rows Cert.Finite

/-- Arrays whose every entry is a real. -/
structure Real10 (x0 x1 x2 : S8192x1024.Idx → EReal) (x3 : S8192x256.Idx → EReal) (x4 : S8192x1024.Idx → EReal) (x5 : S2048x1024.Idx → EReal)
    (x6 : S1024x1024.Idx → EReal) (x7 : S256x1024.Idx → EReal) (x8 x9 : S1x1024.Idx → EReal) (w : Wt) (A : Fin 8192 → Tok) : Prop where
  h0 : ∀ r k, x0 (ix2 r k) = ((A r).x k : ℝ)
  h1 : ∀ r k, x1 (ix2 r k) = ((A r).yc k : ℝ)
  h2 : ∀ r k, x2 (ix2 r k) = ((A r).yh k : ℝ)
  h3 : ∀ r k, x3 (ix2 r k) = ((A r).p k : ℝ)
  h4 : ∀ r k, x4 (ix2 r k) = ((A r).t k : ℝ)
  h5 : ∀ j k, x5 (ix2 j k) = (w.wo j k : ℝ)
  h6 : ∀ j k, x6 (ix2 j k) = (w.wg j k : ℝ)
  h7 : ∀ j k, x7 (ix2 j k) = (w.wp j k : ℝ)
  h8 : ∀ k, x8 (ix2 0 k) = (w.pg k : ℝ)
  h9 : ∀ k, x9 (ix2 0 k) = (w.fg k : ℝ)

section Ref
variable {x0 x1 x2 : S8192x1024.Idx → EReal} {x3 : S8192x256.Idx → EReal} {x4 : S8192x1024.Idx → EReal} {x5 : S2048x1024.Idx → EReal}
    {x6 : S1024x1024.Idx → EReal} {x7 : S256x1024.Idx → EReal} {x8 x9 : S1x1024.Idx → EReal} {w : Wt} {A : Fin 8192 → Tok}
    (R : Real10 x0 x1 x2 x3 x4 x5 x6 x7 x8 x9 w A)

include R

/-! ## The forward pass -/

theorem r2 (r : Fin 8192) (k : Fin 1024) : (val_main_v2 (F := Ideal) x0 x1 x2 x5 (ix2 r k) : EReal) = (H w (A r) k : ℝ) := by
  rw [val_main_v2_apply, val_main_v1_apply, sum_halves, R.h0]
  have hl : ∀ j : Fin 1024, (val_main_v0 (F := Ideal) x1 x2 (lidx_main_v1 (ix2 r k) (lo j)) : EReal) * x5 (ridx_main_v1 (ix2 r k) (lo j)) = ((A r).yc j * w.wo (lo j) k : ℝ) := fun j => by
    rw [show ridx_main_v1 (ix2 r k) (lo j) = ix2 (lo j) k from (eq_ix2 _).trans rfl, R.h5, EReal.coe_mul, ← R.h1]
    refine congrArg (· * _) ?_
    unfold val_main_v0
    refine concatenate_apply_piece (t := S8192x2048) 1 _ _ _ 0 (by simp) _ x1 rfl rfl 0 rfl (ix2 r j) ?_ (by show 0 + j.val = j.val; omega)
    intro b hb
    match b with
    | ⟨0, _⟩ => rfl
    | ⟨1, _⟩ => exact absurd rfl hb
  have hh : ∀ j : Fin 1024, (val_main_v0 (F := Ideal) x1 x2 (lidx_main_v1 (ix2 r k) (hi j)) : EReal) * x5 (ridx_main_v1 (ix2 r k) (hi j)) = ((A r).yh j * w.wo (hi j) k : ℝ) := fun j => by
    rw [show ridx_main_v1 (ix2 r k) (hi j) = ix2 (hi j) k from (eq_ix2 _).trans rfl, R.h5, EReal.coe_mul, ← R.h2]
    refine congrArg (· * _) ?_
    unfold val_main_v0
    refine concatenate_apply_piece (t := S8192x2048) 1 _ _ _ 1 (by simp) _ x2 rfl rfl 1024 rfl (ix2 r j) ?_ (by show 1024 + j.val = 1024 + j.val; omega)
    intro b hb
    match b with
    | ⟨0, _⟩ => rfl
    | ⟨1, _⟩ => exact absurd rfl hb
  rw [sumR _ _ hl, sumR _ _ hh, ← EReal.coe_add, addR]
  unfold H
  rw [add_assoc]

theorem r9 (r : Fin 8192) (z : Fin 1) : (val_main_v9 (F := Ideal) x0 x1 x2 x5 (ix2 r z) : EReal) = (msq (H w (A r)) : ℝ) := by
  rw [val_main_v9_apply, val_main_v7_apply, val_main_v5_apply, val_main_v4_apply, val_main_v6_apply, val_main_v8_apply, val_main_cst_apply, val_main_cst_0_apply, val_main_cst_1_apply]
  rw [sumR (g := fun k => H w (A r) k * H w (A r) k)]
  · show Ideal.div (Ideal.ofBits .f32 0x00000000#32 + _) (Ideal.ofBits .f32 0x44800000#32) + Ideal.ofBits .f32 0x358637BD#32 = _
    rw [ofBits_zero, zero_add, ofBits_1024, ofBits_eps, div_real _ _ (by norm_num), ← EReal.coe_add]
    rfl
  · intro k
    rw [val_main_v3_apply, show idx_main_v4 (idx_main_v5 (ix2 r z)) k = ix2 r k from (eq_ix2 _).trans rfl, r2 R, mulR]

theorem r10 (r : Fin 8192) (z : Fin 1) : (val_main_v10 (F := Ideal) x0 x1 x2 x5 (ix2 r z) : EReal) = (rstd (H w (A r)) : ℝ) := by
  rw [val_main_v10_apply, r9 R, rsqrtR _ (msq_pos _)]
  rfl

theorem r13 (r : Fin 8192) (z : Fin 1) : (val_main_v13 (F := Ideal) x0 x1 x2 x5 (ix2 r z) : EReal) = (-(1 / 2) * (rstd (H w (A r)) / msq (H w (A r))) : ℝ) := by
  rw [val_main_v13_apply, val_main_v12_apply, val_main_cst_2_apply, val_main_v11_apply, r10 R, r9 R, divR _ _ (msq_pos _).ne']
  exact (congrArg (· * _) ofBits_neg_half).trans (mulR (φ := .f32) _ _)

theorem r15 (r : Fin 8192) (k : Fin 1024) : (val_main_v15 (F := Ideal) x0 x1 x2 x5 (ix2 r k) : EReal) = (HN w (A r) k : ℝ) := by
  rw [val_main_v15_apply, val_main_v14_apply, show idx_main_v14 (ix2 r k) = ix2 r 0 from (eq_ix2 _).trans rfl, r10 R, r2 R, mulR]
  rfl

theorem r17 (r : Fin 8192) (k : Fin 1024) : (val_main_v17 (F := Ideal) x0 x1 x2 x5 x8 (ix2 r k) : EReal) = (N2 w (A r) k : ℝ) := by
  rw [val_main_v17_apply, val_main_v16_apply, show idx_main_v16 (ix2 r k) = ix2 0 k from (eq_ix2 _).trans rfl, R.h8, r15 R, mulR]
  rfl

theorem r18 (r : Fin 8192) (k : Fin 1024) : (val_main_v18 (F := Ideal) x0 x1 x2 x5 x6 x8 (ix2 r k) : EReal) = (∑ j, N2 w (A r) j * w.wg j k : ℝ) := by
  rw [val_main_v18_apply]
  refine sumR _ _ fun j => ?_
  rw [show lidx_main_v18 (ix2 r k) j = ix2 r j from (eq_ix2 _).trans rfl, show ridx_main_v18 (ix2 r k) j = ix2 j k from (eq_ix2 _).trans rfl, r17 R, R.h6, EReal.coe_mul]

theorem r19 (r : Fin 8192) (k : Fin 1024) : (val_main_v19 (F := Ideal) x3 x7 (ix2 r k) : EReal) = (PE w (A r) k : ℝ) := by
  rw [val_main_v19_apply]
  refine sumR _ _ fun j => ?_
  rw [show lidx_main_v19 (ix2 r k) j = ix2 r j from (eq_ix2 _).trans rfl, show ridx_main_v19 (ix2 r k) j = ix2 j k from (eq_ix2 _).trans rfl, R.h3, R.h7, EReal.coe_mul]

theorem r25 (r : Fin 8192) (k : Fin 1024) : (val_main_v25 (F := Ideal) x0 x1 x2 x5 x6 x8 (ix2 r k) : EReal) = (GT w (A r) k : ℝ) := by
  rw [val_main_v25_apply, val_main_v24_apply, val_main_v23_apply, val_main_v22_apply, val_main_v21_apply, val_main_v20_apply, val_main_cst_3_apply, val_main_cst_4_apply, r18 R]
  show Ideal.div (Ideal.ofBits .f32 0x3F800000#32) (Ideal.ofBits .f32 0x3F800000#32 + Ideal.exp (-((_ : ℝ) : EReal))) = _
  rw [ofBits_one, ← EReal.coe_neg, Ideal.exp_coe, ← EReal.coe_add, div_real _ _ (by positivity)]
  rfl

theorem r28 (r : Fin 8192) (k : Fin 1024) : (val_main_v28 (F := Ideal) x0 x1 x2 x5 x6 x8 (ix2 r k) : EReal) = (GT w (A r) k * (1 - GT w (A r) k) : ℝ) := by
  rw [val_main_v28_apply, val_main_v27_apply, val_main_v26_apply, val_main_cst_5_apply, r25 R]
  refine (congrArg (fun z : EReal => ((GT w (A r) k : ℝ) : EReal) * (z - ((GT w (A r) k : ℝ) : EReal))) ofBits_one).trans ?_
  rw [← EReal.coe_sub, ← EReal.coe_mul]

theorem r30 (r : Fin 8192) (k : Fin 1024) : (val_main_v30 (F := Ideal) x0 x1 x2 x3 x5 x6 x7 x8 (ix2 r k) : EReal) = (H2 w (A r) k : ℝ) := by
  rw [val_main_v30_apply, val_main_v29_apply, r25 R, r19 R, r2 R, mulR, addR]
  rfl

theorem r37 (r : Fin 8192) (z : Fin 1) : (val_main_v37 (F := Ideal) x0 x1 x2 x3 x5 x6 x7 x8 (ix2 r z) : EReal) = (msq (H2 w (A r)) : ℝ) := by
  rw [val_main_v37_apply, val_main_v35_apply, val_main_v33_apply, val_main_v32_apply, val_main_v34_apply, val_main_v36_apply, val_main_cst_6_apply, val_main_cst_7_apply, val_main_cst_8_apply]
  rw [sumR (g := fun k => H2 w (A r) k * H2 w (A r) k)]
  · show Ideal.div (Ideal.ofBits .f32 0x00000000#32 + _) (Ideal.ofBits .f32 0x44800000#32) + Ideal.ofBits .f32 0x358637BD#32 = _
    rw [ofBits_zero, zero_add, ofBits_1024, ofBits_eps, div_real _ _ (by norm_num), ← EReal.coe_add]
    rfl
  · intro k
    rw [val_main_v31_apply, show idx_main_v32 (idx_main_v33 (ix2 r z)) k = ix2 r k from (eq_ix2 _).trans rfl, r30 R, mulR]

theorem r38 (r : Fin 8192) (z : Fin 1) : (val_main_v38 (F := Ideal) x0 x1 x2 x3 x5 x6 x7 x8 (ix2 r z) : EReal) = (rstd (H2 w (A r)) : ℝ) := by
  rw [val_main_v38_apply, r37 R, rsqrtR _ (msq_pos _)]
  rfl

theorem r41 (r : Fin 8192) (z : Fin 1) : (val_main_v41 (F := Ideal) x0 x1 x2 x3 x5 x6 x7 x8 (ix2 r z) : EReal) = (-(1 / 2) * (rstd (H2 w (A r)) / msq (H2 w (A r))) : ℝ) := by
  rw [val_main_v41_apply, val_main_v40_apply, val_main_cst_9_apply, val_main_v39_apply, r38 R, r37 R, divR _ _ (msq_pos _).ne']
  exact (congrArg (· * _) ofBits_neg_half).trans (mulR (φ := .f32) _ _)

theorem r43 (r : Fin 8192) (k : Fin 1024) : (val_main_v43 (F := Ideal) x0 x1 x2 x3 x5 x6 x7 x8 (ix2 r k) : EReal) = (H2N w (A r) k : ℝ) := by
  rw [val_main_v43_apply, val_main_v42_apply, show idx_main_v42 (ix2 r k) = ix2 r 0 from (eq_ix2 _).trans rfl, r38 R, r30 R, mulR]
  rfl

theorem r46 (r : Fin 8192) (k : Fin 1024) : (val_main_v46 (F := Ideal) x0 x1 x2 x3 x4 x5 x6 x7 x8 x9 (ix2 r k) : EReal) = (ER w (A r) k : ℝ) := by
  rw [val_main_v46_apply, val_main_v45_apply, val_main_v44_apply, show idx_main_v44 (ix2 r k) = ix2 0 k from (eq_ix2 _).trans rfl, R.h9, R.h4, r43 R, mulR, subR]
  rfl

theorem r52 (j : S8192.Idx) : (val_main_v52 (F := Ideal) x0 x1 x2 x3 x4 x5 x6 x7 x8 x9 j : EReal) = ((∑ k, ER w (A (j 0)) k * ER w (A (j 0)) k) / 1024 : ℝ) := by
  rw [val_main_v52_apply, val_main_v50_apply, val_main_v51_apply, val_main_cst_11_apply, val_main_cst_12_apply]
  rw [sumR (g := fun k => ER w (A (j 0)) k * ER w (A (j 0)) k)]
  · show Ideal.div (Ideal.ofBits .f32 0x00000000#32 + _) (Ideal.ofBits .f32 0x44800000#32) = _
    rw [ofBits_zero, zero_add, ofBits_1024, div_real _ _ (by norm_num)]
  · intro k
    rw [val_main_v47_apply, show idx_main_v50 j k = ix2 (j 0) k from (eq_ix2 _).trans rfl]
    erw [r46 R]
    rw [mulR]

theorem r54 (i : S_.Idx) : (val_main_v54 (F := Ideal) x0 x1 x2 x3 x4 x5 x6 x7 x8 x9 i : EReal) = ∑ r : Fin 8192, ((LS w (A r) : ℝ) : EReal) := by
  rw [val_main_v54_apply, val_main_v53_apply, val_main_cst_13_apply, val_main_cst_14_apply]
  have hs : ∀ f : S8192.Idx → EReal, ∑ j, f j = ∑ r : Fin 8192, f (ix1 r) := fun f =>
    (Equiv.sum_comp (⟨fun r => ix1 r, fun j => j 0, fun _ => rfl, fun j => by
      funext a; apply Fin.ext
      match a with
      | ⟨0, _⟩ => rfl⟩ : Fin 8192 ≃ S8192.Idx) f).symm
  rw [hs, sumR _ (fun r => (∑ k, ER w (A r) k * ER w (A r) k) / 1024) (fun r => r52 R (ix1 r))]
  show Ideal.ofBits .f32 0x3F000000#32 * (Ideal.ofBits .f32 0x00000000#32 + _) = _
  rw [ofBits_zero, zero_add, ofBits_half, ← EReal.coe_mul, Finset.mul_sum, coe_sum]
  rfl

/-! ## The backward pass -/

theorem r60 (r : Fin 8192) (k : Fin 1024) : (val_main_v60 (F := Ideal) x0 x1 x2 x3 x4 x5 x6 x7 x8 x9 (ix2 r k) : EReal) = (DO w (A r) k : ℝ) := by
  rw [val_main_v60_apply, val_main_v59_apply, val_main_v58_apply, val_main_v57_apply, val_main_v56_apply, val_main_v55_apply, val_main_v49_apply, val_main_v48_apply,
    val_main_cst_10_apply, val_main_cst_15_apply, val_main_cst_16_apply, val_main_cst_17_apply, r46 R]
  show Ideal.div (Ideal.ofBits .f32 0x3F000000#32 * Ideal.ofBits .f32 0x3F800000#32) (Ideal.ofBits .f32 0x44800000#32) * (Ideal.ofBits .f32 0x40000000#32 * ((ER w (A r) k : ℝ) : EReal)) = _
  rw [ofBits_half, ofBits_one, ofBits_two, ofBits_1024, ← EReal.coe_mul, div_real _ _ (by norm_num), ← EReal.coe_mul, ← EReal.coe_mul]
  unfold DO
  congr 1
  ring

theorem r63 (z : Fin 1) (k : Fin 1024) : (val_main_v63 (F := Ideal) x0 x1 x2 x3 x4 x5 x6 x7 x8 x9 (ix2 z k) : EReal) = ∑ r : Fin 8192, ((DO w (A r) k * H2N w (A r) k : ℝ) : EReal) := by
  rw [val_main_v63_apply, val_main_v62_apply, val_main_cst_18_apply]
  refine (congrArg (· + _) ofBits_zero).trans ((zero_add _).trans ?_)
  refine Finset.sum_congr rfl fun r _ => ?_
  rw [show idx_main_v62 (idx_main_v63 (ix2 z k)) r = ix2 r k from
      ix2_ext _ _ _ rfl (by show z.val * 1024 + k.val = k.val; have := z.isLt; omega),
    val_main_v61_apply, r43 R, r60 R, mulR, mul_comm]

theorem r65 (r : Fin 8192) (k : Fin 1024) : (val_main_v65 (F := Ideal) x0 x1 x2 x3 x4 x5 x6 x7 x8 x9 (ix2 r k) : EReal) = (D3 w (A r) k : ℝ) := by
  rw [val_main_v65_apply, val_main_v64_apply, show idx_main_v64 (ix2 r k) = ix2 0 k from (eq_ix2 _).trans rfl, R.h9, r60 R, mulR]
  rfl

theorem r68 (r : Fin 8192) (z : Fin 1) : (val_main_v68 (F := Ideal) x0 x1 x2 x3 x4 x5 x6 x7 x8 x9 (ix2 r z) : EReal) = (∑ j, H2 w (A r) j * D3 w (A r) j : ℝ) := by
  rw [val_main_v68_apply, val_main_v67_apply, val_main_cst_19_apply, sumR (g := fun j => H2 w (A r) j * D3 w (A r) j)]
  · exact (congrArg (· + _) ofBits_zero).trans (zero_add _)
  · intro k
    rw [show idx_main_v67 (idx_main_v68 (ix2 r z)) k = ix2 r k from ix2_ext _ _ _ (by show r.val * 1 + z.val = r.val; have := z.isLt; omega) rfl, val_main_v66_apply, r65 R, r30 R, mulR]

theorem r75 (r : Fin 8192) (k : Fin 1024) : (val_main_v75 (F := Ideal) x0 x1 x2 x3 x4 x5 x6 x7 x8 x9 (ix2 r k) : EReal)
    = ((∑ j, H2 w (A r) j * D3 w (A r) j) * (-(1 / 2) * (rstd (H2 w (A r)) / msq (H2 w (A r)))) / 1024 : ℝ) := by
  rw [val_main_v75_apply, val_main_v74_apply, val_main_cst_21_apply, Fin.sum_univ_one]
  refine (congrArg (· + _) ofBits_zero).trans ((zero_add _).trans ?_)
  rw [show idx_main_v74 (idx_main_v75 (ix2 r k)) 0 = ix2 r 0 from (eq_ix2 _).trans rfl, val_main_v73_apply, val_main_v71_apply, r68 R, r41 R, val_main_v72_apply, val_main_cst_20_apply, mulR]
  exact (congrArg (Ideal.div _) ofBits_1024).trans (div_real _ _ (by norm_num))

theorem r79 (r : Fin 8192) (k : Fin 1024) : (val_main_v79 (F := Ideal) x0 x1 x2 x3 x4 x5 x6 x7 x8 x9 (ix2 r k) : EReal) = (DH2 w (A r) k : ℝ) := by
  rw [val_main_v79_apply, val_main_v77_apply, val_main_v78_apply, val_main_v76_apply, val_main_v70_apply, val_main_v69_apply,
    show idx_main_v69 (ix2 r k) = ix2 r 0 from (eq_ix2 _).trans rfl, r38 R, r75 R, r65 R, r30 R, mulR, mulR, mulR, addR, addR]
  exact congrArg _ (rms_grad (H2 w (A r)) (D3 w (A r)) k).symm

theorem r80 (r : Fin 8192) (k : Fin 1024) : (val_main_v80 (F := Ideal) x0 x1 x2 x3 x4 x5 x6 x7 x8 x9 (ix2 r k) : EReal) = (DP w (A r) k : ℝ) := by
  rw [val_main_v80_apply, r25 R, r79 R, mulR, mul_comm]
  rfl

theorem r82 (r : Fin 8192) (k : Fin 1024) : (val_main_v82 (F := Ideal) x0 x1 x2 x3 x4 x5 x6 x7 x8 x9 (ix2 r k) : EReal) = (DS w (A r) k : ℝ) := by
  rw [val_main_v82_apply, val_main_v81_apply, r79 R, r19 R, r28 R, mulR, mulR, ← mul_assoc]
  rfl

theorem r83 (r : Fin 8192) (k : Fin 1024) : (val_main_v83 (F := Ideal) x0 x1 x2 x3 x4 x5 x6 x7 x8 x9 (ix2 r k) : EReal) = (DN2 w (A r) k : ℝ) := by
  rw [val_main_v83_apply]
  refine sumR _ _ fun j => ?_
  rw [show lidx_main_v83 (ix2 r k) j = ix2 r j from (eq_ix2 _).trans rfl, show ridx_main_v83 (ix2 r k) j = ix2 k j from (eq_ix2 _).trans rfl, r82 R, R.h6, EReal.coe_mul]

theorem r86 (z : Fin 1) (k : Fin 1024) : (val_main_v86 (F := Ideal) x0 x1 x2 x3 x4 x5 x6 x7 x8 x9 (ix2 z k) : EReal) = ∑ r : Fin 8192, ((DN2 w (A r) k * HN w (A r) k : ℝ) : EReal) := by
  rw [val_main_v86_apply, val_main_v85_apply, val_main_cst_22_apply]
  refine (congrArg (· + _) ofBits_zero).trans ((zero_add _).trans ?_)
  refine Finset.sum_congr rfl fun r _ => ?_
  rw [show idx_main_v85 (idx_main_v86 (ix2 z k)) r = ix2 r k from
      ix2_ext _ _ _ rfl (by show z.val * 1024 + k.val = k.val; have := z.isLt; omega),
    val_main_v84_apply, r15 R, r83 R, mulR, mul_comm]

theorem r88 (r : Fin 8192) (k : Fin 1024) : (val_main_v88 (F := Ideal) x0 x1 x2 x3 x4 x5 x6 x7 x8 x9 (ix2 r k) : EReal) = (DNN w (A r) k : ℝ) := by
  rw [val_main_v88_apply, val_main_v87_apply, show idx_main_v87 (ix2 r k) = ix2 0 k from (eq_ix2 _).trans rfl, R.h8, r83 R, mulR]
  rfl

theorem r91 (r : Fin 8192) (z : Fin 1) : (val_main_v91 (F := Ideal) x0 x1 x2 x3 x4 x5 x6 x7 x8 x9 (ix2 r z) : EReal) = (∑ j, H w (A r) j * DNN w (A r) j : ℝ) := by
  rw [val_main_v91_apply, val_main_v90_apply, val_main_cst_23_apply, sumR (g := fun j => H w (A r) j * DNN w (A r) j)]
  · exact (congrArg (· + _) ofBits_zero).trans (zero_add _)
  · intro k
    rw [show idx_main_v90 (idx_main_v91 (ix2 r z)) k = ix2 r k from ix2_ext _ _ _ (by show r.val * 1 + z.val = r.val; have := z.isLt; omega) rfl, val_main_v89_apply, r88 R, r2 R, mulR]

theorem r98 (r : Fin 8192) (k : Fin 1024) : (val_main_v98 (F := Ideal) x0 x1 x2 x3 x4 x5 x6 x7 x8 x9 (ix2 r k) : EReal)
    = ((∑ j, H w (A r) j * DNN w (A r) j) * (-(1 / 2) * (rstd (H w (A r)) / msq (H w (A r)))) / 1024 : ℝ) := by
  rw [val_main_v98_apply, val_main_v97_apply, val_main_cst_25_apply, Fin.sum_univ_one]
  refine (congrArg (· + _) ofBits_zero).trans ((zero_add _).trans ?_)
  rw [show idx_main_v97 (idx_main_v98 (ix2 r k)) 0 = ix2 r 0 from (eq_ix2 _).trans rfl, val_main_v96_apply, val_main_v94_apply, r91 R, r13 R, val_main_v95_apply, val_main_cst_24_apply, mulR]
  exact (congrArg (Ideal.div _) ofBits_1024).trans (div_real _ _ (by norm_num))

theorem r103 (r : Fin 8192) (k : Fin 1024) : (val_main_v103 (F := Ideal) x0 x1 x2 x3 x4 x5 x6 x7 x8 x9 (ix2 r k) : EReal) = (DH w (A r) k : ℝ) := by
  rw [val_main_v103_apply, val_main_v102_apply, val_main_v100_apply, val_main_v101_apply, val_main_v99_apply, val_main_v93_apply, val_main_v92_apply,
    show idx_main_v92 (ix2 r k) = ix2 r 0 from (eq_ix2 _).trans rfl, r10 R, r98 R, r88 R, r2 R, r79 R, mulR, mulR, mulR, addR, addR, addR]
  unfold DH
  exact congrArg (fun z : ℝ => ((DH2 w (A r) k + z : ℝ) : EReal)) (rms_grad (H w (A r)) (DNN w (A r)) k).symm

/-! ## The results -/

theorem r104 (r : Fin 8192) (k : Fin 2048) : (val_main_v104 (F := Ideal) x0 x1 x2 x3 x4 x5 x6 x7 x8 x9 (ix2 r k) : EReal) = (∑ j, DH w (A r) j * w.wo k j : ℝ) := by
  rw [val_main_v104_apply]
  refine sumR _ _ fun j => ?_
  rw [show lidx_main_v104 (ix2 r k) j = ix2 r j from (eq_ix2 _).trans rfl, show ridx_main_v104 (ix2 r k) j = ix2 k j from (eq_ix2 _).trans rfl, r103 R, R.h5, EReal.coe_mul]

theorem r105 (r : Fin 8192) (k : Fin 1024) : (val_main_v105 (F := Ideal) x0 x1 x2 x3 x4 x5 x6 x7 x8 x9 (ix2 r k) : EReal) = (DYC w (A r) k : ℝ) := by
  rw [val_main_v105_apply, show idx_main_v105 (ix2 r k) = ix2 r (lo k) from ix2_ext _ _ _ rfl rfl, r104 R]
  rfl

theorem r106 (r : Fin 8192) (k : Fin 1024) : (val_main_v106 (F := Ideal) x0 x1 x2 x3 x4 x5 x6 x7 x8 x9 (ix2 r k) : EReal) = (DYH w (A r) k : ℝ) := by
  rw [val_main_v106_apply, show idx_main_v106 (ix2 r k) = ix2 r (hi k) from ix2_ext _ _ _ rfl rfl, r104 R]
  rfl

theorem r107 (r : Fin 8192) (k : Fin 1024) : (val_main_v107 (F := Ideal) x0 x1 x2 x5 x8 (ix2 r k) : EReal) = (N2 w (A r) k : ℝ) := r17 R r k
theorem r108 (r : Fin 8192) (k : Fin 1024) : (val_main_v108 (F := Ideal) x0 x1 x2 x3 x4 x5 x6 x7 x8 x9 (ix2 r k) : EReal) = (DS w (A r) k : ℝ) := r82 R r k
theorem r109 (r : Fin 8192) (k : Fin 1024) : (val_main_v109 (F := Ideal) x0 x1 x2 x3 x4 x5 x6 x7 x8 x9 (ix2 r k) : EReal) = (DP w (A r) k : ℝ) := r80 R r k
theorem r110 (r : Fin 8192) (k : Fin 1024) : (val_main_v110 (F := Ideal) x0 x1 x2 x3 x4 x5 x6 x7 x8 x9 (ix2 r k) : EReal) = (DH w (A r) k : ℝ) := r103 R r k
theorem r111 (r : Fin 8192) (k : Fin 256) : (val_main_v111 (F := Ideal) x3 (ix2 r k) : EReal) = ((A r).p k : ℝ) := R.h3 r k

theorem r114 (o : Fin 8) (k : Fin 1024) : (val_main_v114 (F := Ideal) x0 x1 x2 x3 x4 x5 x6 x7 x8 x9 (ix2 o k) : EReal) = ∑ r : Fin 8192, ((RW w (A r) o.val k : ℝ) : EReal) := by
  have h8 := o.isLt
  unfold val_main_v114 RW
  by_cases h0 : o.val = 0
  · refine Eq.trans (concatenate_apply_piece (t := S8x1024) 0 _ _ _ 0 (by simp) _ (val_main_v63 (F := Ideal) x0 x1 x2 x3 x4 x5 x6 x7 x8 x9) rfl rfl 0 rfl (ix2 0 k) ?_ (by show 0 + 0 = o.val; omega)) ?_
    · intro b hb
      match b with
      | ⟨0, _⟩ => exact absurd rfl hb
      | ⟨1, _⟩ => rfl
    · rw [r63 R]
      refine Finset.sum_congr rfl fun r _ => ?_
      rw [if_neg (by omega), if_pos h0]
  · by_cases h1 : o.val = 1
    · refine Eq.trans (concatenate_apply_piece (t := S8x1024) 0 _ _ _ 1 (by simp) _ (val_main_v86 (F := Ideal) x0 x1 x2 x3 x4 x5 x6 x7 x8 x9) rfl rfl 1 rfl (ix2 0 k) ?_ (by show 1 + 0 = o.val; omega)) ?_
      · intro b hb
        match b with
        | ⟨0, _⟩ => exact absurd rfl hb
        | ⟨1, _⟩ => rfl
      · rw [r86 R]
        refine Finset.sum_congr rfl fun r _ => ?_
        rw [if_pos h1]
    · by_cases h2 : o.val = 2
      · refine Eq.trans (concatenate_apply_piece (t := S8x1024) 0 _ _ _ 2 (by simp) _ (val_main_v112 (F := Ideal) x0 x1 x2 x3 x4 x5 x6 x7 x8 x9) rfl rfl 2 rfl (ix2 0 k) ?_ (by show 2 + 0 = o.val; omega)) ?_
        · intro b hb
          match b with
          | ⟨0, _⟩ => exact absurd rfl hb
          | ⟨1, _⟩ => rfl
        · rw [val_main_v112_apply, r54 R]
          refine Finset.sum_congr rfl fun r _ => ?_
          rw [if_neg h1, if_neg h0, if_pos h2]
      · refine Eq.trans (concatenate_apply_piece (t := S8x1024) 0 _ _ _ 3 (by simp) _ (val_main_v113 (F := Ideal)) rfl rfl 3 rfl (ix2 (⟨o.val - 3, by omega⟩ : Fin 5) k) ?_ (by show 3 + (o.val - 3) = o.val; omega)) ?_
        · intro b hb
          match b with
          | ⟨0, _⟩ => exact absurd rfl hb
          | ⟨1, _⟩ => rfl
        · rw [val_main_v113_apply, val_main_cst_26_apply]
          refine ofBits_zero.trans ?_
          rw [Finset.sum_congr rfl fun r _ => by rw [if_neg h1, if_neg h0, if_neg h2, EReal.coe_zero]]
          exact Finset.sum_const_zero.symm

end Ref

end Cert.Tail

end
-- ==== Proof.Grad2.lean ====
/-
  The tail of the step, forward and backward: the kernel works tile by tile of 512 tokens and adds the gradients of the two
  scales and the loss over the tiles; the reference is the forward lines with the vector-Jacobian product of each.
-/
module

public import proofs.«01_k».proof.Proof.TailPieces
public import proofs.«01_k».proof.Proof.TailRef
public import proofs.«01_k».proof.Defs
public import proofs.«01_k».proof.Proof.Gen.Kernel2Ideal.Value
public import proofs.«01_k».proof.Proof.Gen.Pre_finite2
public import Idealize.ShloMosaic.Lib.Claim

@[expose] public section

noncomputable section

namespace Cert.Grad2

open Cert.Kernel2Ideal Cert.Kernel2Ideal.Gen Idealize.ShloMosaic Idealize.ShloMosaic.TcCoe Idealize.SL.Sem
open Idealize.ShloMosaic.ValueIdx Cert.Common Cert.Rows Cert.Finite Cert.RowStore Cert.Tail
open Idealize.ShloMosaic.Pipeline (Dat)

/-! ## The outputs of a tile -/

/-- Blocks whose every entry is a real. -/
structure RealArgs (X : Args) (w : Wt) (A : Fin 512 → Tok) : Prop where
  h0 : ∀ r k, (X.x0 (ix2 r k) : EReal) = ((A r).x k : ℝ)
  h1 : ∀ r k, (X.x1 (ix2 r k) : EReal) = ((A r).yc k : ℝ)
  h2 : ∀ r k, (X.x2 (ix2 r k) : EReal) = ((A r).yh k : ℝ)
  h3 : ∀ r k, (X.x3 (ix2 r k) : EReal) = ((A r).p k : ℝ)
  h4 : ∀ r k, (X.x4 (ix2 r k) : EReal) = ((A r).t k : ℝ)
  h5 : ∀ j k, (X.x5 (ix2 j k) : EReal) = (w.wo j k : ℝ)
  h6 : ∀ j k, (X.x6 (ix2 j k) : EReal) = (w.wg j k : ℝ)
  h7 : ∀ j k, (X.x7 (ix2 j k) : EReal) = (w.wp j k : ℝ)
  h8 : ∀ k, (X.x8 (ix2 0 k) : EReal) = (w.pg k : ℝ)
  h9 : ∀ k, (X.x9 (ix2 0 k) : EReal) = (w.fg k : ℝ)

section Outs
variable {X : Args} {w : Wt} {A : Fin 512 → Tok} (Q : RealArgs X w A)
include Q

theorem k3_real (j k : Fin 1024) : (k3 X (ix2 j k) : EReal) = (w.wo (lo j) k : ℝ) := by
  rw [← Q.h5]
  unfold k3
  refine congrArg X.x5 (ix2_ext _ _ _ ?_ ?_)
  · show 0 + 1 * j.val = j.val; omega
  · show 0 + 1 * k.val = k.val; omega

theorem k5_real (j k : Fin 1024) : (k5 X (ix2 j k) : EReal) = (w.wo (hi j) k : ℝ) := by
  rw [← Q.h5]
  unfold k5
  refine congrArg X.x5 (ix2_ext _ _ _ ?_ ?_)
  · show 1024 + 1 * j.val = 1024 + j.val; omega
  · show 0 + 1 * k.val = k.val; omega

theorem k15_real (r : Fin 512) (k : Fin 1024) : (k15 X (ix2 r k) : EReal) = (H w (A r) k : ℝ) := pay8_real (w := w) (A := A) (e3 := k3_real Q) (e5 := k5_real Q) (e7 := Q.h0) (e8 := Q.h1) (e12 := Q.h2) (r := r) (k := k)
theorem k20_real (r : Fin 512) (k : Fin 1024) : (k20 X (ix2 r k) : EReal) = (PE w (A r) k : ℝ) := pay10_real (w := w) (A := A) (e16 := Q.h3) (e18 := Q.h7) (r := r) (k := k)
theorem k28_real (r : Fin 512) (z : Fin 1) : (k28 X (ix2 r z) : EReal) = (rstd (H w (A r)) : ℝ) := pay11_real (w := w) (A := A) (e3 := k3_real Q) (e5 := k5_real Q) (e7 := Q.h0) (e8 := Q.h1) (e12 := Q.h2) (r := r) (z := z)
theorem k30_real (r : Fin 512) (k : Fin 1024) : (k30 X (ix2 r k) : EReal) = (HN w (A r) k : ℝ) := pay12_real (w := w) (A := A) (e3 := k3_real Q) (e5 := k5_real Q) (e7 := Q.h0) (e8 := Q.h1) (e12 := Q.h2) (r := r) (k := k)
theorem k33_real (r : Fin 512) (k : Fin 1024) : (k33 X (ix2 r k) : EReal) = (N2 w (A r) k : ℝ) := pay13_real (w := w) (A := A) (e3 := k3_real Q) (e5 := k5_real Q) (e7 := Q.h0) (e8 := Q.h1) (e12 := Q.h2) (e31 := Q.h8) (r := r) (k := k)
theorem k38_real (r : Fin 512) (k : Fin 1024) : (k38 X (ix2 r k) : EReal) = (GT w (A r) k : ℝ) := pay15_real (w := w) (A := A) (e33 := k33_real Q) (e35 := Q.h6) (r := r) (k := k)
theorem k48_real (r : Fin 512) (z : Fin 1) : (k48 X (ix2 r z) : EReal) = (rstd (H2 w (A r)) : ℝ) := pay17_real (w := w) (A := A) (e15 := k15_real Q) (e20 := k20_real Q) (e33 := k33_real Q) (e35 := Q.h6) (r := r) (z := z)
theorem k50_real (r : Fin 512) (k : Fin 1024) : (k50 X (ix2 r k) : EReal) = (H2N w (A r) k : ℝ) := pay18_real (w := w) (A := A) (e15 := k15_real Q) (e20 := k20_real Q) (e33 := k33_real Q) (e35 := Q.h6) (r := r) (k := k)
theorem k72_real (r : Fin 512) (k : Fin 1024) : (k72 X (ix2 r k) : EReal) = (DO w (A r) k : ℝ) := pay21_real (w := w) (A := A) (e15 := k15_real Q) (e20 := k20_real Q) (e33 := k33_real Q) (e35 := Q.h6) (e51 := Q.h9) (e54 := Q.h4) (r := r) (k := k)
theorem k92_real (r : Fin 512) (k : Fin 1024) : (k92 X (ix2 r k) : EReal) = (DH2 w (A r) k : ℝ) := pay23_real (w := w) (A := A) (e50 := k50_real Q) (e72 := k72_real Q) (e48 := k48_real Q) (e80 := Q.h9) (r := r) (k := k)
theorem k111_real (r : Fin 512) (k : Fin 1024) : (k111 X (ix2 r k) : EReal) = (DNN w (A r) k : ℝ) := pay27_real (w := w) (A := A) (e20 := k20_real Q) (e38 := k38_real Q) (e50 := k50_real Q) (e72 := k72_real Q) (e48 := k48_real Q) (e80 := Q.h9) (e109 := Q.h8) (e99 := Q.h6) (r := r) (k := k)
theorem o10_real (r : Fin 512) (k : Fin 1024) : (o10 X (ix2 r k) : EReal) = (DYC w (A r) k : ℝ) := pay2_real (w := w) (A := A) (v4 := k0_pay6 (k3 X)) (e4 := fun j k => (by unfold k0_pay6; rw [shapeCast_self]; exact k3_real Q j k)) (e28 := k28_real Q) (e30 := k30_real Q) (e92 := k92_real Q) (e111 := k111_real Q) (r := r) (k := k)
theorem o11_real (r : Fin 512) (k : Fin 1024) : (o11 X (ix2 r k) : EReal) = (DYH w (A r) k : ℝ) := pay3_real (w := w) (A := A) (v6 := k0_pay7 (k5 X)) (e6 := fun j k => (by unfold k0_pay7; rw [shapeCast_self]; exact k5_real Q j k)) (e28 := k28_real Q) (e30 := k30_real Q) (e92 := k92_real Q) (e111 := k111_real Q) (r := r) (k := k)
theorem o12_real (r : Fin 512) (k : Fin 1024) : (o12 X (ix2 r k) : EReal) = (N2 w (A r) k : ℝ) := k33_real Q r k
theorem o13_real (r : Fin 512) (k : Fin 1024) : (o13 X (ix2 r k) : EReal) = (DS w (A r) k : ℝ) := pay24_real (w := w) (A := A) (e20 := k20_real Q) (e38 := k38_real Q) (e50 := k50_real Q) (e72 := k72_real Q) (e48 := k48_real Q) (e80 := Q.h9) (r := r) (k := k)
theorem o14_real (r : Fin 512) (k : Fin 1024) : (o14 X (ix2 r k) : EReal) = (DP w (A r) k : ℝ) := pay4_real (w := w) (A := A) (e38 := k38_real Q) (e92 := k92_real Q) (r := r) (k := k)
theorem o15_real (r : Fin 512) (k : Fin 1024) : (o15 X (ix2 r k) : EReal) = (DH w (A r) k : ℝ) := pay1_real (w := w) (A := A) (e28 := k28_real Q) (e30 := k30_real Q) (e92 := k92_real Q) (e111 := k111_real Q) (r := r) (k := k)
theorem o16_real (r : Fin 512) (k : Fin 256) : (o16 X (ix2 r k) : EReal) = ((A r).p k : ℝ) := Q.h3 r k

/-- The eight rows: what they were, and what the tokens of the tile add. -/
theorem rows_real (V : Vec Ideal S8x1024 .f32) (o : Fin 8) (k : Fin 1024) :
    rows X V o k = V (ix2 o k) + ∑ r : Fin 512, ((RW w (A r) o.val k : ℝ) : EReal) := by
  unfold rows RW
  by_cases h1 : o.val = 1
  · rw [if_pos h1]
    have ho : o = 1 := Fin.ext h1
    subst ho
    refine (pay26_real (w := w) (A := A) (e20 := k20_real Q) (e30 := k30_real Q) (e38 := k38_real Q) (e50 := k50_real Q) (e72 := k72_real Q) (e48 := k48_real Q) (e80 := Q.h9) (e99 := Q.h6) (k := k) ..).trans ?_
    refine congrArg (fun z : EReal => V (ix2 1 k) + z) (Finset.sum_congr rfl fun r _ => ?_)
    rw [if_pos h1]
  · by_cases h0 : o.val = 0
    · rw [if_neg h1, if_pos h0]
      have ho : o = 0 := Fin.ext h0
      subst ho
      refine (pay22_real (w := w) (A := A) (e50 := k50_real Q) (e72 := k72_real Q) (k := k) ..).trans ?_
      refine congrArg (fun z : EReal => V (ix2 0 k) + z) (Finset.sum_congr rfl fun r _ => ?_)
      rw [if_neg h1, if_pos h0]
    · by_cases h2 : o.val = 2
      · rw [if_neg h1, if_neg h0, if_pos h2]
        have ho : o = 2 := Fin.ext h2
        subst ho
        refine (pay20_real (w := w) (A := A) (e15 := k15_real Q) (e20 := k20_real Q) (e33 := k33_real Q) (e35 := Q.h6) (e51 := Q.h9) (e54 := Q.h4) (k := k) ..).trans ?_
        refine congrArg (fun z : EReal => V (ix2 2 k) + z) (Finset.sum_congr rfl fun r _ => ?_)
        rw [if_neg h1, if_neg h0, if_pos h2]
      · rw [if_neg h1, if_neg h0, if_neg h2, Finset.sum_congr rfl fun r _ => by rw [if_neg h1, if_neg h0, if_neg h2, EReal.coe_zero], Finset.sum_const_zero, add_zero]

end Outs

/-! ## The tiles of the arguments -/

variable (m : (ℓ : Loc nD τ sig) → Buf (Elt Ideal) ℓ)

abbrev X0 (c : Dev nD) : S8192x1024.Idx → EReal := m ((c : Thread nD τ).loc main_arg0)
abbrev X1 (c : Dev nD) : S8192x1024.Idx → EReal := m ((c : Thread nD τ).loc main_arg1)
abbrev X2 (c : Dev nD) : S8192x1024.Idx → EReal := m ((c : Thread nD τ).loc main_arg2)
abbrev X3 (c : Dev nD) : S8192x256.Idx → EReal := m ((c : Thread nD τ).loc main_arg3)
abbrev X4 (c : Dev nD) : S8192x1024.Idx → EReal := m ((c : Thread nD τ).loc main_arg4)
abbrev X5 (c : Dev nD) : S2048x1024.Idx → EReal := m ((c : Thread nD τ).loc main_arg5)
abbrev X6 (c : Dev nD) : S1024x1024.Idx → EReal := m ((c : Thread nD τ).loc main_arg6)
abbrev X7 (c : Dev nD) : S256x1024.Idx → EReal := m ((c : Thread nD τ).loc main_arg7)
abbrev X8 (c : Dev nD) : S1x1024.Idx → EReal := m ((c : Thread nD τ).loc main_arg8)
abbrev X9 (c : Dev nD) : S1x1024.Idx → EReal := m ((c : Thread nD τ).loc main_arg9)
theorem V_v0 (c : Dev nD) : (V m c main_v0 : S8192x1024.Idx → EReal) = X1 m c := by
  entry_read
  rfl
theorem V_v1 (c : Dev nD) : (V m c main_v1 : S8192x1024.Idx → EReal) = X2 m c := by
  entry_read
  rfl
theorem V_v2 (c : Dev nD) : (V m c main_v2 : S2048x1024.Idx → EReal) = X5 m c := by
  entry_read
  rfl
theorem V_v3 (c : Dev nD) : (V m c main_v3 : S1024x1024.Idx → EReal) = X6 m c := by
  entry_read
  rfl
theorem V_v4 (c : Dev nD) : (V m c main_v4 : S256x1024.Idx → EReal) = X7 m c := by
  entry_read
  rfl
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![t.val, 0] := (by decide +kernel : ∀ t : Fin grid0.N, win0_15.index t = ![t.val, 0])
theorem idx16 : ∀ t : Fin cfg0.N, win0_16.index t = ![t.val, 0] := (by decide +kernel : ∀ t : Fin grid0.N, win0_16.index t = ![t.val, 0])
theorem idx17 : ∀ t : Fin cfg0.N, win0_17.index t = ![0, 0] := (by decide +kernel : ∀ t : Fin grid0.N, win0_17.index t = ![0, 0])

/-- The row of the whole array that row `r` of the tile at point `t` is. -/
def row (t : Fin cfg0.N) (r : Fin 512) : Fin 8192 := ⟨t.val * 512 + r.val, by
  have h : t.val < 16 := lt_of_lt_of_eq t.isLt N_0
  have := r.isLt
  omega⟩

theorem iblk0 (c : Dev nD) (t : Fin cfg0.N) (r : Fin 512) (k : Fin 1024) : (iblk m c 0 t : S512x1024.Idx → EReal) (ix2 r k) = X0 m c (ix2 (row t r) k) := by
  refine Eq.trans ?_ (congrFun (V_main_arg0 m c) _)
  show (V m c main_arg0 : S8192x1024.Idx → EReal) _ = _
  congr 1
  funext a; apply Fin.ext
  have e := idx0 t
  match a with
  | ⟨0, _⟩ => show win0_0.index t 0 * 512 + 1 * r.val = t.val * 512 + r.val; rw [e]; simp
  | ⟨1, _⟩ => show win0_0.index t 1 * 1024 + 1 * k.val = k.val; rw [e]; simp

theorem iblk1 (c : Dev nD) (t : Fin cfg0.N) (r : Fin 512) (k : Fin 1024) : (iblk m c 1 t : S512x1024.Idx → EReal) (ix2 r k) = X1 m c (ix2 (row t r) k) := by
  rw [← V_v0 m c]
  show (V m c main_v0 : S8192x1024.Idx → EReal) _ = _
  congr 1
  funext a; apply Fin.ext
  have e := idx1 t
  match a with
  | ⟨0, _⟩ => show win0_1.index t 0 * 512 + 1 * r.val = t.val * 512 + r.val; rw [e]; simp
  | ⟨1, _⟩ => show win0_1.index t 1 * 1024 + 1 * k.val = k.val; rw [e]; simp

theorem iblk2 (c : Dev nD) (t : Fin cfg0.N) (r : Fin 512) (k : Fin 1024) : (iblk m c 2 t : S512x1024.Idx → EReal) (ix2 r k) = X2 m c (ix2 (row t r) k) := by
  rw [← V_v1 m c]
  show (V m c main_v1 : S8192x1024.Idx → EReal) _ = _
  congr 1
  funext a; apply Fin.ext
  have e := idx2 t
  match a with
  | ⟨0, _⟩ => show win0_2.index t 0 * 512 + 1 * r.val = t.val * 512 + r.val; rw [e]; simp
  | ⟨1, _⟩ => show win0_2.index t 1 * 1024 + 1 * k.val = k.val; rw [e]; simp

theorem iblk3 (c : Dev nD) (t : Fin cfg0.N) (r : Fin 512) (k : Fin 256) : (iblk m c 3 t : S512x256.Idx → EReal) (ix2 r k) = X3 m c (ix2 (row t r) k) := by
  refine Eq.trans ?_ (congrFun (V_main_arg3 m c) _)
  show (V m c main_arg3 : S8192x256.Idx → EReal) _ = _
  congr 1
  funext a; apply Fin.ext
  have e := idx3 t
  match a with
  | ⟨0, _⟩ => show win0_3.index t 0 * 512 + 1 * r.val = t.val * 512 + r.val; rw [e]; simp
  | ⟨1, _⟩ => show win0_3.index t 1 * 256 + 1 * k.val = k.val; rw [e]; simp

theorem iblk4 (c : Dev nD) (t : Fin cfg0.N) (r : Fin 512) (k : Fin 1024) : (iblk m c 4 t : S512x1024.Idx → EReal) (ix2 r k) = X4 m c (ix2 (row t r) k) := by
  refine Eq.trans ?_ (congrFun (V_main_arg4 m c) _)
  show (V m c main_arg4 : S8192x1024.Idx → EReal) _ = _
  congr 1
  funext a; apply Fin.ext
  have e := idx4 t
  match a with
  | ⟨0, _⟩ => show win0_4.index t 0 * 512 + 1 * r.val = t.val * 512 + r.val; rw [e]; simp
  | ⟨1, _⟩ => show win0_4.index t 1 * 1024 + 1 * k.val = k.val; rw [e]; simp

theorem iblk5 (c : Dev nD) (t : Fin cfg0.N) (r : Fin 2048) (k : Fin 1024) : (iblk m c 5 t : S2048x1024.Idx → EReal) (ix2 r k) = X5 m c (ix2 r k) := by
  rw [← V_v2 m c]
  show (V m c main_v2 : S2048x1024.Idx → EReal) _ = _
  congr 1
  funext a; apply Fin.ext
  have e := idx5 t
  match a with
  | ⟨0, _⟩ => show win0_5.index t 0 * 2048 + 1 * r.val = r.val; rw [e]; simp
  | ⟨1, _⟩ => show win0_5.index t 1 * 1024 + 1 * k.val = k.val; rw [e]; simp

theorem iblk6 (c : Dev nD) (t : Fin cfg0.N) (r : Fin 1024) (k : Fin 1024) : (iblk m c 6 t : S1024x1024.Idx → EReal) (ix2 r k) = X6 m c (ix2 r k) := by
  rw [← V_v3 m c]
  show (V m c main_v3 : S1024x1024.Idx → EReal) _ = _
  congr 1
  funext a; apply Fin.ext
  have e := idx6 t
  match a with
  | ⟨0, _⟩ => show win0_6.index t 0 * 1024 + 1 * r.val = r.val; rw [e]; simp
  | ⟨1, _⟩ => show win0_6.index t 1 * 1024 + 1 * k.val = k.val; rw [e]; simp

theorem iblk7 (c : Dev nD) (t : Fin cfg0.N) (r : Fin 256) (k : Fin 1024) : (iblk m c 7 t : S256x1024.Idx → EReal) (ix2 r k) = X7 m c (ix2 r k) := by
  rw [← V_v4 m c]
  show (V m c main_v4 : S256x1024.Idx → EReal) _ = _
  congr 1
  funext a; apply Fin.ext
  have e := idx7 t
  match a with
  | ⟨0, _⟩ => show win0_7.index t 0 * 256 + 1 * r.val = r.val; rw [e]; simp
  | ⟨1, _⟩ => show win0_7.index t 1 * 1024 + 1 * k.val = k.val; rw [e]; simp

theorem iblk8 (c : Dev nD) (t : Fin cfg0.N) (k : Fin 1024) : (iblk m c 8 t : S1x1024.Idx → EReal) (ix2 0 k) = X8 m c (ix2 0 k) := by
  refine Eq.trans ?_ (congrFun (V_main_arg8 m c) _)
  show (V m c main_arg8 : S1x1024.Idx → EReal) _ = _
  congr 1
  funext a; apply Fin.ext
  have e := idx8 t
  match a with
  | ⟨0, _⟩ => show win0_8.index t 0 * 1 + 1 * 0 = 0; rw [e]; simp
  | ⟨1, _⟩ => show win0_8.index t 1 * 1024 + 1 * k.val = k.val; rw [e]; simp

theorem iblk9 (c : Dev nD) (t : Fin cfg0.N) (k : Fin 1024) : (iblk m c 9 t : S1x1024.Idx → EReal) (ix2 0 k) = X9 m c (ix2 0 k) := by
  refine Eq.trans ?_ (congrFun (V_main_arg9 m c) _)
  show (V m c main_arg9 : S1x1024.Idx → EReal) _ = _
  congr 1
  funext a; apply Fin.ext
  have e := idx9 t
  match a with
  | ⟨0, _⟩ => show win0_9.index t 0 * 1 + 1 * 0 = 0; rw [e]; simp
  | ⟨1, _⟩ => show win0_9.index t 1 * 1024 + 1 * k.val = k.val; rw [e]; simp

/-! ## What both programs compute -/

/-- A function of the token, over all tokens and columns. -/
def GF (f : Wt → Tok → Fin 1024 → ℝ) (w : Wt) (A : Fin 8192 → Tok) : S8192x1024.Idx → EReal := fun i => ((f w (A (i 0)) (i 1) : ℝ) : EReal)
/-- The rounded embedding input. -/
def GP (A : Fin 8192 → Tok) : S8192x256.Idx → EReal := fun i => (((A (i 0)).p (i 1) : ℝ) : EReal)
/-- The eight rows, over all tokens. -/
def GV (w : Wt) (A : Fin 8192 → Tok) : S8x1024.Idx → EReal := fun i => ∑ r : Fin 8192, ((RW w (A r) (i 0).val (i 1) : ℝ) : EReal)

/-- The blocks at point `t`. -/
abbrev XA (c : Dev nD) (t : Fin cfg0.N) : Args := ⟨iblk m c 0 t, iblk m c 1 t, iblk m c 2 t, iblk m c 3 t, iblk m c 4 t, iblk m c 5 t, iblk m c 6 t, iblk m c 7 t, iblk m c 8 t, iblk m c 9 t⟩

section Run
variable (c : Dev nD)

theorem outs10 (t : Fin cfg0.N) : (outsAt0 m c t.val t.isLt).1 = o10 (XA m c t) := by
  by_cases h : t.val % 16 = 0
  · rw [outsAt0_A m c t h]
    dsimp only
    rw [outA10]
  · rw [outsAt0_B m c t h]
    dsimp only
    rw [outB10]

theorem outs11 (t : Fin cfg0.N) : (outsAt0 m c t.val t.isLt).2.1 = o11 (XA m c t) := by
  by_cases h : t.val % 16 = 0
  · rw [outsAt0_A m c t h]
    dsimp only
    rw [outA11]
  · rw [outsAt0_B m c t h]
    dsimp only
    rw [outB11]

theorem outs12 (t : Fin cfg0.N) : (outsAt0 m c t.val t.isLt).2.2.1 = o12 (XA m c t) := by
  by_cases h : t.val % 16 = 0
  · rw [outsAt0_A m c t h]
    dsimp only
    rw [outA12]
  · rw [outsAt0_B m c t h]
    dsimp only
    rw [outB12]

theorem outs13 (t : Fin cfg0.N) : (outsAt0 m c t.val t.isLt).2.2.2.1 = o13 (XA m c t) := by
  by_cases h : t.val % 16 = 0
  · rw [outsAt0_A m c t h]
    dsimp only
    rw [outA13]
  · rw [outsAt0_B m c t h]
    dsimp only
    rw [outB13]

theorem outs14 (t : Fin cfg0.N) : (outsAt0 m c t.val t.isLt).2.2.2.2.1 = o14 (XA m c t) := by
  by_cases h : t.val % 16 = 0
  · rw [outsAt0_A m c t h]
    dsimp only
    rw [outA14]
  · rw [outsAt0_B m c t h]
    dsimp only
    rw [outB14]

theorem outs15 (t : Fin cfg0.N) : (outsAt0 m c t.val t.isLt).2.2.2.2.2.1 = o15 (XA m c t) := by
  by_cases h : t.val % 16 = 0
  · rw [outsAt0_A m c t h]
    dsimp only
    rw [outA15]
  · rw [outsAt0_B m c t h]
    dsimp only
    rw [outB15]

theorem outs16 (t : Fin cfg0.N) : (outsAt0 m c t.val t.isLt).2.2.2.2.2.2.1 = o16 (XA m c t) := by
  by_cases h : t.val % 16 = 0
  · rw [outsAt0_A m c t h]
    dsimp only
    rw [outA16]
  · rw [outsAt0_B m c t h]
    dsimp only
    rw [outB16]

variable {w : Wt} {A : Fin 8192 → Tok} (R : Real10 (X0 m c) (X1 m c) (X2 m c) (X3 m c) (X4 m c) (X5 m c) (X6 m c) (X7 m c) (X8 m c) (X9 m c) w A)

include R in
theorem tile_real (t : Fin cfg0.N) : RealArgs (XA m c t) w (fun r => A (row t r)) where
  h0 := fun r k => (iblk0 m c t r k).trans (R.h0 _ _)
  h1 := fun r k => (iblk1 m c t r k).trans (R.h1 _ _)
  h2 := fun r k => (iblk2 m c t r k).trans (R.h2 _ _)
  h3 := fun r k => (iblk3 m c t r k).trans (R.h3 _ _)
  h4 := fun r k => (iblk4 m c t r k).trans (R.h4 _ _)
  h5 := fun r k => (iblk5 m c t r k).trans (R.h5 _ _)
  h6 := fun r k => (iblk6 m c t r k).trans (R.h6 _ _)
  h7 := fun r k => (iblk7 m c t r k).trans (R.h7 _ _)
  h8 := fun k => (iblk8 m c t k).trans (R.h8 _)
  h9 := fun k => (iblk9 m c t k).trans (R.h9 _)

include R in
theorem flushed10_eq (t : Fin cfg0.N) : (dats m 0 c).flushed 10 t = ((cfg0.win 10).blk t).view.read (Elt Ideal) (GF DYC w A) := by
  rw [Value.flushed10, outs10]
  funext y
  have hy0 : (y 0).val < 512 := (y 0).isLt
  have hy1 : (y 1).val < 1024 := (y 1).isLt
  have e := idx10 t
  have hl : (cfg0.win 10).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 10).blk t).view.emb y = ix2 (row t ⟨(y 0).val, hy0⟩) ⟨(y 1).val, hy1⟩ := by
    funext a; apply Fin.ext
    match a with
    | ⟨0, _⟩ => show win0_10.index t 0 * 512 + 1 * (y 0).val = t.val * 512 + (y 0).val; rw [e]; simp
    | ⟨1, _⟩ => show win0_10.index t 1 * 1024 + 1 * (y 1).val = (y 1).val; rw [e]; simp
  have hcut : ∀ v : Vec Ideal S512x1024 .f32, (cfg0.win 10).cut (grid0.coords t) v y = v ((cfg0.win 10).xinj (grid0.coords t) y) := fun _ => rfl
  have hread : ∀ g : S8192x1024.Idx → EReal, ((cfg0.win 10).blk t).view.read (Elt Ideal) g y = g (((cfg0.win 10).blk t).view.emb y) := fun _ => rfl
  refine (hcut _).trans (Eq.trans ?_ (hread _).symm)
  rw [hl, hb]
  exact o10_real (tile_real m c R t) _ _

theorem mem_blk10 (t : Fin cfg0.N) (i : S8192x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v5_0).slice (win0_10.rect t)).set ↔ _
  rw [View.set_slice_whole, Rect.mem_set_unit]
  exact Iff.rfl

include R in
theorem final10 : (dats m 0 c).arrAt 10 cfg0.N = GF DYC w A := by
  refine (dats m 0 c).arrAt_eq_of_cover 10 _ (fun t _ => flushed10_eq m c R t) (fun i => ?_)
  have h0 : (i 0).val < 8192 := (i 0).isLt
  have h1 : (i 1).val < 1024 := (i 1).isLt
  refine ⟨⟨(i 0).val / 512, by rw [show cfg0.N = 16 from N_0]; omega⟩, flush0_10 _, ?_⟩
  rw [mem_blk10, idx10]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

include R in
theorem flushed11_eq (t : Fin cfg0.N) : (dats m 0 c).flushed 11 t = ((cfg0.win 11).blk t).view.read (Elt Ideal) (GF DYH w A) := by
  rw [Value.flushed11, outs11]
  funext y
  have hy0 : (y 0).val < 512 := (y 0).isLt
  have hy1 : (y 1).val < 1024 := (y 1).isLt
  have e := idx11 t
  have hl : (cfg0.win 11).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 11).blk t).view.emb y = ix2 (row t ⟨(y 0).val, hy0⟩) ⟨(y 1).val, hy1⟩ := by
    funext a; apply Fin.ext
    match a with
    | ⟨0, _⟩ => show win0_11.index t 0 * 512 + 1 * (y 0).val = t.val * 512 + (y 0).val; rw [e]; simp
    | ⟨1, _⟩ => show win0_11.index t 1 * 1024 + 1 * (y 1).val = (y 1).val; rw [e]; simp
  have hcut : ∀ v : Vec Ideal S512x1024 .f32, (cfg0.win 11).cut (grid0.coords t) v y = v ((cfg0.win 11).xinj (grid0.coords t) y) := fun _ => rfl
  have hread : ∀ g : S8192x1024.Idx → EReal, ((cfg0.win 11).blk t).view.read (Elt Ideal) g y = g (((cfg0.win 11).blk t).view.emb y) := fun _ => rfl
  refine (hcut _).trans (Eq.trans ?_ (hread _).symm)
  rw [hl, hb]
  exact o11_real (tile_real m c R t) _ _

theorem mem_blk11 (t : Fin cfg0.N) (i : S8192x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v5_1).slice (win0_11.rect t)).set ↔ _
  rw [View.set_slice_whole, Rect.mem_set_unit]
  exact Iff.rfl

include R in
theorem final11 : (dats m 0 c).arrAt 11 cfg0.N = GF DYH w A := by
  refine (dats m 0 c).arrAt_eq_of_cover 11 _ (fun t _ => flushed11_eq m c R t) (fun i => ?_)
  have h0 : (i 0).val < 8192 := (i 0).isLt
  have h1 : (i 1).val < 1024 := (i 1).isLt
  refine ⟨⟨(i 0).val / 512, by rw [show cfg0.N = 16 from N_0]; omega⟩, flush0_11 _, ?_⟩
  rw [mem_blk11, idx11]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

include R in
theorem flushed12_eq (t : Fin cfg0.N) : (dats m 0 c).flushed 12 t = ((cfg0.win 12).blk t).view.read (Elt Ideal) (GF N2 w A) := by
  rw [Value.flushed12, outs12]
  funext y
  have hy0 : (y 0).val < 512 := (y 0).isLt
  have hy1 : (y 1).val < 1024 := (y 1).isLt
  have e := idx12 t
  have hl : (cfg0.win 12).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 12).blk t).view.emb y = ix2 (row t ⟨(y 0).val, hy0⟩) ⟨(y 1).val, hy1⟩ := by
    funext a; apply Fin.ext
    match a with
    | ⟨0, _⟩ => show win0_12.index t 0 * 512 + 1 * (y 0).val = t.val * 512 + (y 0).val; rw [e]; simp
    | ⟨1, _⟩ => show win0_12.index t 1 * 1024 + 1 * (y 1).val = (y 1).val; rw [e]; simp
  have hcut : ∀ v : Vec Ideal S512x1024 .bf16, (cfg0.win 12).cut (grid0.coords t) v y = v ((cfg0.win 12).xinj (grid0.coords t) y) := fun _ => rfl
  have hread : ∀ g : S8192x1024.Idx → EReal, ((cfg0.win 12).blk t).view.read (Elt Ideal) g y = g (((cfg0.win 12).blk t).view.emb y) := fun _ => rfl
  refine (hcut _).trans (Eq.trans ?_ (hread _).symm)
  rw [hl, hb]
  exact o12_real (tile_real m c R t) _ _

theorem mem_blk12 (t : Fin cfg0.N) (i : S8192x1024.Idx) :
    i ∈ ((cfg0.win 12).blk t).view.set ↔ ∀ a : Fin 2, win0_12.index t a * S512x1024.size a ≤ (i a).val ∧ (i a).val < win0_12.index t a * S512x1024.size a + S512x1024.size a := by
  show i ∈ ((View.whole main_v5_2).slice (win0_12.rect t)).set ↔ _
  rw [View.set_slice_whole, Rect.mem_set_unit]
  exact Iff.rfl

include R in
theorem final12 : (dats m 0 c).arrAt 12 cfg0.N = GF N2 w A := by
  refine (dats m 0 c).arrAt_eq_of_cover 12 _ (fun t _ => flushed12_eq m c R t) (fun i => ?_)
  have h0 : (i 0).val < 8192 := (i 0).isLt
  have h1 : (i 1).val < 1024 := (i 1).isLt
  refine ⟨⟨(i 0).val / 512, by rw [show cfg0.N = 16 from N_0]; omega⟩, flush0_12 _, ?_⟩
  rw [mem_blk12, idx12]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

include R in
theorem flushed13_eq (t : Fin cfg0.N) : (dats m 0 c).flushed 13 t = ((cfg0.win 13).blk t).view.read (Elt Ideal) (GF DS w A) := by
  rw [Value.flushed13, outs13]
  funext y
  have hy0 : (y 0).val < 512 := (y 0).isLt
  have hy1 : (y 1).val < 1024 := (y 1).isLt
  have e := idx13 t
  have hl : (cfg0.win 13).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 13).blk t).view.emb y = ix2 (row t ⟨(y 0).val, hy0⟩) ⟨(y 1).val, hy1⟩ := by
    funext a; apply Fin.ext
    match a with
    | ⟨0, _⟩ => show win0_13.index t 0 * 512 + 1 * (y 0).val = t.val * 512 + (y 0).val; rw [e]; simp
    | ⟨1, _⟩ => show win0_13.index t 1 * 1024 + 1 * (y 1).val = (y 1).val; rw [e]; simp
  have hcut : ∀ v : Vec Ideal S512x1024 .bf16, (cfg0.win 13).cut (grid0.coords t) v y = v ((cfg0.win 13).xinj (grid0.coords t) y) := fun _ => rfl
  have hread : ∀ g : S8192x1024.Idx → EReal, ((cfg0.win 13).blk t).view.read (Elt Ideal) g y = g (((cfg0.win 13).blk t).view.emb y) := fun _ => rfl
  refine (hcut _).trans (Eq.trans ?_ (hread _).symm)
  rw [hl, hb]
  exact o13_real (tile_real m c R t) _ _

theorem mem_blk13 (t : Fin cfg0.N) (i : S8192x1024.Idx) :
    i ∈ ((cfg0.win 13).blk t).view.set ↔ ∀ a : Fin 2, win0_13.index t a * S512x1024.size a ≤ (i a).val ∧ (i a).val < win0_13.index t a * S512x1024.size a + S512x1024.size a := by
  show i ∈ ((View.whole main_v5_3).slice (win0_13.rect t)).set ↔ _
  rw [View.set_slice_whole, Rect.mem_set_unit]
  exact Iff.rfl

include R in
theorem final13 : (dats m 0 c).arrAt 13 cfg0.N = GF DS w A := by
  refine (dats m 0 c).arrAt_eq_of_cover 13 _ (fun t _ => flushed13_eq m c R t) (fun i => ?_)
  have h0 : (i 0).val < 8192 := (i 0).isLt
  have h1 : (i 1).val < 1024 := (i 1).isLt
  refine ⟨⟨(i 0).val / 512, by rw [show cfg0.N = 16 from N_0]; omega⟩, flush0_13 _, ?_⟩
  rw [mem_blk13, idx13]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

include R in
theorem flushed14_eq (t : Fin cfg0.N) : (dats m 0 c).flushed 14 t = ((cfg0.win 14).blk t).view.read (Elt Ideal) (GF DP w A) := by
  rw [Value.flushed14, outs14]
  funext y
  have hy0 : (y 0).val < 512 := (y 0).isLt
  have hy1 : (y 1).val < 1024 := (y 1).isLt
  have e := idx14 t
  have hl : (cfg0.win 14).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 14).blk t).view.emb y = ix2 (row t ⟨(y 0).val, hy0⟩) ⟨(y 1).val, hy1⟩ := by
    funext a; apply Fin.ext
    match a with
    | ⟨0, _⟩ => show win0_14.index t 0 * 512 + 1 * (y 0).val = t.val * 512 + (y 0).val; rw [e]; simp
    | ⟨1, _⟩ => show win0_14.index t 1 * 1024 + 1 * (y 1).val = (y 1).val; rw [e]; simp
  have hcut : ∀ v : Vec Ideal S512x1024 .bf16, (cfg0.win 14).cut (grid0.coords t) v y = v ((cfg0.win 14).xinj (grid0.coords t) y) := fun _ => rfl
  have hread : ∀ g : S8192x1024.Idx → EReal, ((cfg0.win 14).blk t).view.read (Elt Ideal) g y = g (((cfg0.win 14).blk t).view.emb y) := fun _ => rfl
  refine (hcut _).trans (Eq.trans ?_ (hread _).symm)
  rw [hl, hb]
  exact o14_real (tile_real m c R t) _ _

theorem mem_blk14 (t : Fin cfg0.N) (i : S8192x1024.Idx) :
    i ∈ ((cfg0.win 14).blk t).view.set ↔ ∀ a : Fin 2, win0_14.index t a * S512x1024.size a ≤ (i a).val ∧ (i a).val < win0_14.index t a * S512x1024.size a + S512x1024.size a := by
  show i ∈ ((View.whole main_v5_4).slice (win0_14.rect t)).set ↔ _
  rw [View.set_slice_whole, Rect.mem_set_unit]
  exact Iff.rfl

include R in
theorem final14 : (dats m 0 c).arrAt 14 cfg0.N = GF DP w A := by
  refine (dats m 0 c).arrAt_eq_of_cover 14 _ (fun t _ => flushed14_eq m c R t) (fun i => ?_)
  have h0 : (i 0).val < 8192 := (i 0).isLt
  have h1 : (i 1).val < 1024 := (i 1).isLt
  refine ⟨⟨(i 0).val / 512, by rw [show cfg0.N = 16 from N_0]; omega⟩, flush0_14 _, ?_⟩
  rw [mem_blk14, idx14]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

include R in
theorem flushed15_eq (t : Fin cfg0.N) : (dats m 0 c).flushed 15 t = ((cfg0.win 15).blk t).view.read (Elt Ideal) (GF DH w A) := by
  rw [Value.flushed15, outs15]
  funext y
  have hy0 : (y 0).val < 512 := (y 0).isLt
  have hy1 : (y 1).val < 1024 := (y 1).isLt
  have e := idx15 t
  have hl : (cfg0.win 15).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 15).blk t).view.emb y = ix2 (row t ⟨(y 0).val, hy0⟩) ⟨(y 1).val, hy1⟩ := by
    funext a; apply Fin.ext
    match a with
    | ⟨0, _⟩ => show win0_15.index t 0 * 512 + 1 * (y 0).val = t.val * 512 + (y 0).val; rw [e]; simp
    | ⟨1, _⟩ => show win0_15.index t 1 * 1024 + 1 * (y 1).val = (y 1).val; rw [e]; simp
  have hcut : ∀ v : Vec Ideal S512x1024 .bf16, (cfg0.win 15).cut (grid0.coords t) v y = v ((cfg0.win 15).xinj (grid0.coords t) y) := fun _ => rfl
  have hread : ∀ g : S8192x1024.Idx → EReal, ((cfg0.win 15).blk t).view.read (Elt Ideal) g y = g (((cfg0.win 15).blk t).view.emb y) := fun _ => rfl
  refine (hcut _).trans (Eq.trans ?_ (hread _).symm)
  rw [hl, hb]
  exact o15_real (tile_real m c R t) _ _

theorem mem_blk15 (t : Fin cfg0.N) (i : S8192x1024.Idx) :
    i ∈ ((cfg0.win 15).blk t).view.set ↔ ∀ a : Fin 2, win0_15.index t a * S512x1024.size a ≤ (i a).val ∧ (i a).val < win0_15.index t a * S512x1024.size a + S512x1024.size a := by
  show i ∈ ((View.whole main_v5_5).slice (win0_15.rect t)).set ↔ _
  rw [View.set_slice_whole, Rect.mem_set_unit]
  exact Iff.rfl

include R in
theorem final15 : (dats m 0 c).arrAt 15 cfg0.N = GF DH w A := by
  refine (dats m 0 c).arrAt_eq_of_cover 15 _ (fun t _ => flushed15_eq m c R t) (fun i => ?_)
  have h0 : (i 0).val < 8192 := (i 0).isLt
  have h1 : (i 1).val < 1024 := (i 1).isLt
  refine ⟨⟨(i 0).val / 512, by rw [show cfg0.N = 16 from N_0]; omega⟩, flush0_15 _, ?_⟩
  rw [mem_blk15, idx15]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

include R in
theorem flushed16_eq (t : Fin cfg0.N) : (dats m 0 c).flushed 16 t = ((cfg0.win 16).blk t).view.read (Elt Ideal) (GP A) := by
  rw [Value.flushed16, outs16]
  funext y
  have hy0 : (y 0).val < 512 := (y 0).isLt
  have hy1 : (y 1).val < 256 := (y 1).isLt
  have e := idx16 t
  have hl : (cfg0.win 16).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 16).blk t).view.emb y = ix2 (row t ⟨(y 0).val, hy0⟩) ⟨(y 1).val, hy1⟩ := by
    funext a; apply Fin.ext
    match a with
    | ⟨0, _⟩ => show win0_16.index t 0 * 512 + 1 * (y 0).val = t.val * 512 + (y 0).val; rw [e]; simp
    | ⟨1, _⟩ => show win0_16.index t 1 * 256 + 1 * (y 1).val = (y 1).val; rw [e]; simp
  have hcut : ∀ v : Vec Ideal S512x256 .bf16, (cfg0.win 16).cut (grid0.coords t) v y = v ((cfg0.win 16).xinj (grid0.coords t) y) := fun _ => rfl
  have hread : ∀ g : S8192x256.Idx → EReal, ((cfg0.win 16).blk t).view.read (Elt Ideal) g y = g (((cfg0.win 16).blk t).view.emb y) := fun _ => rfl
  refine (hcut _).trans (Eq.trans ?_ (hread _).symm)
  rw [hl, hb]
  exact o16_real (tile_real m c R t) _ _

theorem mem_blk16 (t : Fin cfg0.N) (i : S8192x256.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v5_6).slice (win0_16.rect t)).set ↔ _
  rw [View.set_slice_whole, Rect.mem_set_unit]
  exact Iff.rfl

include R in
theorem final16 : (dats m 0 c).arrAt 16 cfg0.N = GP A := by
  refine (dats m 0 c).arrAt_eq_of_cover 16 _ (fun t _ => flushed16_eq m c R t) (fun i => ?_)
  have h0 : (i 0).val < 8192 := (i 0).isLt
  have h1 : (i 1).val < 256 := (i 1).isLt
  refine ⟨⟨(i 0).val / 512, by rw [show cfg0.N = 16 from N_0]; omega⟩, flush0_16 _, ?_⟩
  rw [mem_blk16, idx16]
  intro a
  match a with
  | ⟨0, _⟩ => show (i 0).val / 512 * 512 ≤ (i 0).val ∧ (i 0).val < (i 0).val / 512 * 512 + 512; omega
  | ⟨1, _⟩ => show 0 * 256 ≤ (i 1).val ∧ (i 1).val < 0 * 256 + 256; omega

/-- What point `p` adds to the eight rows. -/
def part (w : Wt) (A : Fin 8192 → Tok) (o : ℕ) (k : Fin 1024) (p : ℕ) : EReal :=
  if h : p < cfg0.N then ∑ r : Fin 512, ((RW w (A (row ⟨p, h⟩ r)) o k : ℝ) : EReal) else 0

include R in
theorem rows_at (t : Fin cfg0.N) (V : Vec Ideal S8x1024 .f32) (o : Fin 8) (k : Fin 1024) :
    rows (XA m c t) V o k = V (ix2 o k) + part w A o.val k t.val := by
  rw [part, dif_pos t.isLt]
  exact rows_real (tile_real m c R t) V o k

include R in
theorem outs17 (n : ℕ) (hn : n < cfg0.N) (o : Fin 8) (k : Fin 1024) :
    ((outsAt0 m c n hn).2.2.2.2.2.2.2 : S8x1024.Idx → EReal) (ix2 o k) = ∑ p ∈ Finset.range (n + 1), part w A o.val k p := by
  have hN : cfg0.N = 16 := N_0
  induction n with
  | zero =>
    rw [outsAt0_A m c ⟨0, hn⟩ rfl]
    dsimp only
    rw [outA17]
    rw [rows_at m c R ⟨0, hn⟩, Finset.sum_range_one]
    exact (congrArg (· + part w A o.val k 0) ofBits_zero).trans (zero_add _)
  | succ n ih =>
    rw [outsAt0_B m c ⟨n + 1, hn⟩ (by show ¬(n + 1) % 16 = 0; omega)]
    dsimp only
    rw [outB17]
    rw [rows_at m c R ⟨n + 1, hn⟩, Finset.sum_range_succ]
    exact congrArg (· + part w A o.val k (n + 1)) (ih (by omega))

theorem parts (o : ℕ) (k : Fin 1024) : ∑ p ∈ Finset.range 16, part w A o k p = ∑ r : Fin 8192, ((RW w (A r) o k : ℝ) : EReal) := by
  have hN : cfg0.N = 16 := N_0
  rw [sum_tiles 16 512 8192 rfl, Finset.sum_range]
  refine Finset.sum_congr rfl fun p _ => ?_
  rw [part, dif_pos (by rw [hN]; exact p.isLt)]
  rfl

include R in
theorem flushed17_eq (t : Fin cfg0.N) (hf : (cfg0.win 17).flush t = true) :
    (dats m 0 c).flushed 17 t = ((cfg0.win 17).blk t).view.read (Elt Ideal) (GV w A) := by
  have hm : t.val % 16 = 15 := (flush0_17 t).mp hf
  have hN : t.val < 16 := lt_of_lt_of_eq t.isLt (show cfg0.N = 16 from N_0)
  have ht : t.val = 15 := by omega
  rw [Value.flushed17]
  funext y
  have hy0 : (y 0).val < 8 := (y 0).isLt
  have hy1 : (y 1).val < 1024 := (y 1).isLt
  have e := idx17 t
  have hl : (cfg0.win 17).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 17).blk t).view.emb y = ix2 ⟨(y 0).val, hy0⟩ ⟨(y 1).val, hy1⟩ := by
    funext a; apply Fin.ext
    match a with
    | ⟨0, _⟩ => show win0_17.index t 0 * 8 + 1 * (y 0).val = (y 0).val; rw [e]; simp
    | ⟨1, _⟩ => show win0_17.index t 1 * 1024 + 1 * (y 1).val = (y 1).val; rw [e]; simp
  have hcut : ∀ v : Vec Ideal S8x1024 .f32, (cfg0.win 17).cut (grid0.coords t) v y = v ((cfg0.win 17).xinj (grid0.coords t) y) := fun _ => rfl
  have hread : ∀ g : S8x1024.Idx → EReal, ((cfg0.win 17).blk t).view.read (Elt Ideal) g y = g (((cfg0.win 17).blk t).view.emb y) := fun _ => rfl
  refine (hcut _).trans (Eq.trans ?_ (hread _).symm)
  rw [hl, hb]
  refine (outs17 m c R t.val t.isLt _ _).trans ?_
  rw [ht, parts]
  rfl

theorem mem_blk17 (t : Fin cfg0.N) (i : S8x1024.Idx) :
    i ∈ ((cfg0.win 17).blk t).view.set ↔ ∀ a : Fin 2, win0_17.index t a * S8x1024.size a ≤ (i a).val ∧ (i a).val < win0_17.index t a * S8x1024.size a + S8x1024.size a := by
  show i ∈ ((View.whole main_v5_7).slice (win0_17.rect t)).set ↔ _
  rw [View.set_slice_whole, Rect.mem_set_unit]
  exact Iff.rfl

include R in
theorem final17 : (dats m 0 c).arrAt 17 cfg0.N = GV w A := by
  refine (dats m 0 c).arrAt_eq_of_cover 17 _ (fun t hf => flushed17_eq m c R t hf) (fun i => ?_)
  have h0 : (i 0).val < 8 := (i 0).isLt
  have h1 : (i 1).val < 1024 := (i 1).isLt
  refine ⟨⟨15, by rw [show cfg0.N = 16 from N_0]; omega⟩, (flush0_17 _).mpr rfl, ?_⟩
  rw [mem_blk17, idx17]
  intro a
  match a with
  | ⟨0, _⟩ => show 0 * 8 ≤ (i 0).val ∧ (i 0).val < 0 * 8 + 8; omega
  | ⟨1, _⟩ => show 0 * 1024 ≤ (i 1).val ∧ (i 1).val < 0 * 1024 + 1024; omega

end Run

/-! ## The claims -/

/-- The weights and the tokens of ten arrays. -/
def wt (x5 : S2048x1024.Idx → EReal) (x6 : S1024x1024.Idx → EReal) (x7 : S256x1024.Idx → EReal) (x8 x9 : S1x1024.Idx → EReal) : Wt :=
  ⟨fun j k => re x5 (ix2 j k), fun j k => re x6 (ix2 j k), fun j k => re x7 (ix2 j k), fun k => re x8 (ix2 0 k), fun k => re x9 (ix2 0 k)⟩
def tok (x0 x1 x2 : S8192x1024.Idx → EReal) (x3 : S8192x256.Idx → EReal) (x4 : S8192x1024.Idx → EReal) (r : Fin 8192) : Tok :=
  ⟨fun k => re x0 (ix2 r k), fun k => re x1 (ix2 r k), fun k => re x2 (ix2 r k), fun k => re x3 (ix2 r k), fun k => re x4 (ix2 r k)⟩

/-- The precondition says that every entry is a real. -/
theorem finite (x0 x1 x2 : S8192x1024.Idx → EReal) (x3 : S8192x256.Idx → EReal) (x4 : S8192x1024.Idx → EReal) (x5 : S2048x1024.Idx → EReal)
    (x6 : S1024x1024.Idx → EReal) (x7 : S256x1024.Idx → EReal) (x8 x9 : S1x1024.Idx → EReal)
    (h : Cert.Pre_finite2.fn (F := Ideal) x0 x1 x2 x3 x4 x5 x6 x7 x8 x9 = fun _ => 1#1) :
    Real10 x0 x1 x2 x3 x4 x5 x6 x7 x8 x9 (wt x5 x6 x7 x8 x9) (tok x0 x1 x2 x3 x4) := by
  have h' := congrFun h ix0
  unfold Cert.Pre_finite2.fn Cert.Pre_finite2.fn_part1 Cert.Pre_finite2.fn_part2 at h'
  obtain ⟨h', e9⟩ := IntOp.andi_eq_one.mp h'
  obtain ⟨h', e8⟩ := IntOp.andi_eq_one.mp h'
  obtain ⟨h', e7⟩ := IntOp.andi_eq_one.mp h'
  obtain ⟨h', e6⟩ := IntOp.andi_eq_one.mp h'
  obtain ⟨h', e5⟩ := IntOp.andi_eq_one.mp h'
  obtain ⟨h', e4⟩ := IntOp.andi_eq_one.mp h'
  obtain ⟨h', e3⟩ := IntOp.andi_eq_one.mp h'
  obtain ⟨h', e2⟩ := IntOp.andi_eq_one.mp h'
  obtain ⟨h', e1⟩ := IntOp.andi_eq_one.mp h'
  obtain ⟨_, e0⟩ := IntOp.andi_eq_one.mp h'
  exact ⟨fun r k => eq_re x0 (real_of_all x0 _ _ _ _ e0) _, fun r k => eq_re x1 (real_of_all x1 _ _ _ _ e1) _, fun r k => eq_re x2 (real_of_all x2 _ _ _ _ e2) _, fun r k => eq_re x3 (real_of_all x3 _ _ _ _ e3) _, fun r k => eq_re x4 (real_of_all x4 _ _ _ _ e4) _, fun r k => eq_re x5 (real_of_all x5 _ _ _ _ e5) _, fun r k => eq_re x6 (real_of_all x6 _ _ _ _ e6) _, fun r k => eq_re x7 (real_of_all x7 _ _ _ _ e7) _, fun k => eq_re x8 (real_of_all x8 _ _ _ _ e8) _, fun k => eq_re x9 (real_of_all x9 _ _ _ _ e9) _⟩

/-- A function of the token is the array whose entries it gives. -/
theorem ext_gf {v : S8192x1024.Idx → EReal} {f : Wt → Tok → Fin 1024 → ℝ} {w : Wt} {A : Fin 8192 → Tok} (h : ∀ r k, v (ix2 r k) = ((f w (A r) k : ℝ) : EReal)) : v = GF f w A := by
  funext i
  obtain ⟨r, k, rfl⟩ : ∃ r k, i = ix2 r k := ⟨i 0, i 1, eq_ix2 i⟩
  exact h r k

/-- The kernel computes the tail forward and backward. -/
theorem algebraic : Cert.algebraic_Kernel2Ideal_Reference2Ideal_pre_finite2 := by
  intro m g m' g' hp hagree
  have R := fun c => finite _ _ _ _ _ _ _ _ _ _ (hp c)
  let W := fun c : Dev nD => wt (X5 m c) (X6 m c) (X7 m c) (X8 m c) (X9 m c)
  let T := fun c : Dev nD => tok (X0 m c) (X1 m c) (X2 m c) (X3 m c) (X4 m c)
  refine ⟨fun c => GF DYC (W c) (T c), fun c => GF DYH (W c) (T c), fun c => GF N2 (W c) (T c), fun c => GF DS (W c) (T c), fun c => GF DP (W c) (T c), fun c => GF DH (W c) (T c), fun c => GP (T c), fun c => GV (W c) (T c),
    (θ_run Cert.Kernel2Ideal.defs _ _).mono (fun r h c => ?_) (Value.run_blocks (F := Ideal) m g), ?_⟩
  · obtain ⟨q0, q1, q2, q3, q4, q5, q6, q7, qs⟩ := h c
    exact ⟨q0.trans (final10 m c (R c)), q1.trans (final11 m c (R c)), q2.trans (final12 m c (R c)), q3.trans (final13 m c (R c)), q4.trans (final14 m c (R c)), q5.trans (final15 m c (R c)), q6.trans (final16 m c (R c)), q7.trans (final17 m c (R c)), qs⟩
  refine (θ_run Cert.Reference2Ideal.defs _ _).mono (fun r h c => ?_) (Cert.Reference2Ideal.Value.run (F := Ideal) m' g')
  obtain ⟨q0, q1, q2, q3, q4, q5, q6, q7, qs⟩ := h c
  obtain ⟨a0, a1, a2, a3, a4, a5, a6, a7, a8, a9⟩ := hagree c
  refine ⟨q0.trans ?_, q1.trans ?_, q2.trans ?_, q3.trans ?_, q4.trans ?_, q5.trans ?_, q6.trans ?_, q7.trans ?_, qs⟩
  · refine (Cert.Reference2Ideal.Read.val_main_v105_eq (F := Ideal) _).trans ?_
    show Cert.Reference2Ideal.Read.val_main_v105 (F := Ideal) (m' ((c : Thread nD τ).loc Cert.Reference2Ideal.main_arg0)) (m' ((c : Thread nD τ).loc Cert.Reference2Ideal.main_arg1)) (m' ((c : Thread nD τ).loc Cert.Reference2Ideal.main_arg2)) (m' ((c : Thread nD τ).loc Cert.Reference2Ideal.main_arg3)) (m' ((c : Thread nD τ).loc Cert.Reference2Ideal.main_arg4)) (m' ((c : Thread nD τ).loc Cert.Reference2Ideal.main_arg5)) (m' ((c : Thread nD τ).loc Cert.Reference2Ideal.main_arg6)) (m' ((c : Thread nD τ).loc Cert.Reference2Ideal.main_arg7)) (m' ((c : Thread nD τ).loc Cert.Reference2Ideal.main_arg8)) (m' ((c : Thread nD τ).loc Cert.Reference2Ideal.main_arg9)) = _
    rw [a0, a1, a2, a3, a4, a5, a6, a7, a8, a9]
    exact ext_gf (r105 (R c))
  · refine (Cert.Reference2Ideal.Read.val_main_v106_eq (F := Ideal) _).trans ?_
    show Cert.Reference2Ideal.Read.val_main_v106 (F := Ideal) (m' ((c : Thread nD τ).loc Cert.Reference2Ideal.main_arg0)) (m' ((c : Thread nD τ).loc Cert.Reference2Ideal.main_arg1)) (m' ((c : Thread nD τ).loc Cert.Reference2Ideal.main_arg2)) (m' ((c : Thread nD τ).loc Cert.Reference2Ideal.main_arg3)) (m' ((c : Thread nD τ).loc Cert.Reference2Ideal.main_arg4)) (m' ((c : Thread nD τ).loc Cert.Reference2Ideal.main_arg5)) (m' ((c : Thread nD τ).loc Cert.Reference2Ideal.main_arg6)) (m' ((c : Thread nD τ).loc Cert.Reference2Ideal.main_arg7)) (m' ((c : Thread nD τ).loc Cert.Reference2Ideal.main_arg8)) (m' ((c : Thread nD τ).loc Cert.Reference2Ideal.main_arg9)) = _
    rw [a0, a1, a2, a3, a4, a5, a6, a7, a8, a9]
    exact ext_gf (r106 (R c))
  · refine (Cert.Reference2Ideal.Read.val_main_v107_eq (F := Ideal) _).trans ?_
    show Cert.Reference2Ideal.Read.val_main_v107 (F := Ideal) (m' ((c : Thread nD τ).loc Cert.Reference2Ideal.main_arg0)) (m' ((c : Thread nD τ).loc Cert.Reference2Ideal.main_arg1)) (m' ((c : Thread nD τ).loc Cert.Reference2Ideal.main_arg2)) (m' ((c : Thread nD τ).loc Cert.Reference2Ideal.main_arg5)) (m' ((c : Thread nD τ).loc Cert.Reference2Ideal.main_arg8)) = _
    rw [a0, a1, a2, a5, a8]
    exact ext_gf (r107 (R c))
  · refine (Cert.Reference2Ideal.Read.val_main_v108_eq (F := Ideal) _).trans ?_
    show Cert.Reference2Ideal.Read.val_main_v108 (F := Ideal) (m' ((c : Thread nD τ).loc Cert.Reference2Ideal.main_arg0)) (m' ((c : Thread nD τ).loc Cert.Reference2Ideal.main_arg1)) (m' ((c : Thread nD τ).loc Cert.Reference2Ideal.main_arg2)) (m' ((c : Thread nD τ).loc Cert.Reference2Ideal.main_arg3)) (m' ((c : Thread nD τ).loc Cert.Reference2Ideal.main_arg4)) (m' ((c : Thread nD τ).loc Cert.Reference2Ideal.main_arg5)) (m' ((c : Thread nD τ).loc Cert.Reference2Ideal.main_arg6)) (m' ((c : Thread nD τ).loc Cert.Reference2Ideal.main_arg7)) (m' ((c : Thread nD τ).loc Cert.Reference2Ideal.main_arg8)) (m' ((c : Thread nD τ).loc Cert.Reference2Ideal.main_arg9)) = _
    rw [a0, a1, a2, a3, a4, a5, a6, a7, a8, a9]
    exact ext_gf (r108 (R c))
  · refine (Cert.Reference2Ideal.Read.val_main_v109_eq (F := Ideal) _).trans ?_
    show Cert.Reference2Ideal.Read.val_main_v109 (F := Ideal) (m' ((c : Thread nD τ).loc Cert.Reference2Ideal.main_arg0)) (m' ((c : Thread nD τ).loc Cert.Reference2Ideal.main_arg1)) (m' ((c : Thread nD τ).loc Cert.Reference2Ideal.main_arg2)) (m' ((c : Thread nD τ).loc Cert.Reference2Ideal.main_arg3)) (m' ((c : Thread nD τ).loc Cert.Reference2Ideal.main_arg4)) (m' ((c : Thread nD τ).loc Cert.Reference2Ideal.main_arg5)) (m' ((c : Thread nD τ).loc Cert.Reference2Ideal.main_arg6)) (m' ((c : Thread nD τ).loc Cert.Reference2Ideal.main_arg7)) (m' ((c : Thread nD τ).loc Cert.Reference2Ideal.main_arg8)) (m' ((c : Thread nD τ).loc Cert.Reference2Ideal.main_arg9)) = _
    rw [a0, a1, a2, a3, a4, a5, a6, a7, a8, a9]
    exact ext_gf (r109 (R c))
  · refine (Cert.Reference2Ideal.Read.val_main_v110_eq (F := Ideal) _).trans ?_
    show Cert.Reference2Ideal.Read.val_main_v110 (F := Ideal) (m' ((c : Thread nD τ).loc Cert.Reference2Ideal.main_arg0)) (m' ((c : Thread nD τ).loc Cert.Reference2Ideal.main_arg1)) (m' ((c : Thread nD τ).loc Cert.Reference2Ideal.main_arg2)) (m' ((c : Thread nD τ).loc Cert.Reference2Ideal.main_arg3)) (m' ((c : Thread nD τ).loc Cert.Reference2Ideal.main_arg4)) (m' ((c : Thread nD τ).loc Cert.Reference2Ideal.main_arg5)) (m' ((c : Thread nD τ).loc Cert.Reference2Ideal.main_arg6)) (m' ((c : Thread nD τ).loc Cert.Reference2Ideal.main_arg7)) (m' ((c : Thread nD τ).loc Cert.Reference2Ideal.main_arg8)) (m' ((c : Thread nD τ).loc Cert.Reference2Ideal.main_arg9)) = _
    rw [a0, a1, a2, a3, a4, a5, a6, a7, a8, a9]
    exact ext_gf (r110 (R c))
  · refine (Cert.Reference2Ideal.Read.val_main_v111_eq (F := Ideal) _).trans ?_
    show Cert.Reference2Ideal.Read.val_main_v111 (F := Ideal) (m' ((c : Thread nD τ).loc Cert.Reference2Ideal.main_arg3)) = _
    rw [a3]
    funext i
    obtain ⟨r, k, rfl⟩ : ∃ r k, i = ix2 r k := ⟨i 0, i 1, eq_ix2 i⟩
    exact r111 (R c) r k
  · refine (Cert.Reference2Ideal.Read.val_main_v114_eq (F := Ideal) _).trans ?_
    show Cert.Reference2Ideal.Read.val_main_v114 (F := Ideal) (m' ((c : Thread nD τ).loc Cert.Reference2Ideal.main_arg0)) (m' ((c : Thread nD τ).loc Cert.Reference2Ideal.main_arg1)) (m' ((c : Thread nD τ).loc Cert.Reference2Ideal.main_arg2)) (m' ((c : Thread nD τ).loc Cert.Reference2Ideal.main_arg3)) (m' ((c : Thread nD τ).loc Cert.Reference2Ideal.main_arg4)) (m' ((c : Thread nD τ).loc Cert.Reference2Ideal.main_arg5)) (m' ((c : Thread nD τ).loc Cert.Reference2Ideal.main_arg6)) (m' ((c : Thread nD τ).loc Cert.Reference2Ideal.main_arg7)) (m' ((c : Thread nD τ).loc Cert.Reference2Ideal.main_arg8)) (m' ((c : Thread nD τ).loc Cert.Reference2Ideal.main_arg9)) = _
    rw [a0, a1, a2, a3, a4, a5, a6, a7, a8, a9]
    funext i
    obtain ⟨r, k, rfl⟩ : ∃ r k, i = ix2 r k := ⟨i 0, i 1, eq_ix2 i⟩
    exact r114 (R c) r k

theorem frame_pre : Cert.quiescent_Kernel2Ideal_pre_finite2 := fun m ρ _ => Cert.Kernel2Ideal.Gen.frame m ρ

theorem frame_ref : Cert.quiescent_Reference2Ideal := by
  intro m ρ _
  exact (θ_run Cert.Reference2Ideal.defs _ _).mono (fun r h => ⟨fun c => (h c).2.2.2.2.2.2.2.2,
      Idealize.ShloMosaic.sem_eq_zero_of_no_sems (by decide) r.2⟩)
    (Cert.Reference2Ideal.Value.run (F := Ideal) m ρ)

theorem frame_ref_pre : Cert.quiescent_Reference2Ideal_pre_finite2 := fun m ρ _ => frame_ref m ρ trivial

end Cert.Grad2

end
-- ==== Proof.Grad3.lean ====
/-
  The gradient of the root-mean-square norm before the in-projection: the kernel works tile by tile of 512 rows and adds the
  gradient of the scale over the tiles; the reference is the vector-Jacobian product of the norm's three lines.
-/
module

public import proofs.«01_k».proof.Proof.RowStore
public import proofs.«01_k».proof.Defs
public import proofs.«01_k».proof.Proof.Gen.Kernel3Ideal.Value
public import proofs.«01_k».proof.Proof.Gen.Reference3Ideal.Read
public import proofs.«01_k».proof.Proof.Gen.Pre_finite3
public import Idealize.ShloMosaic.Lib.Claim

@[expose] public section

noncomputable section

namespace Cert.Grad3

open Cert.Kernel3Ideal Cert.Kernel3Ideal.Gen Idealize.ShloMosaic Idealize.ShloMosaic.TcCoe Idealize.SL.Sem
open Idealize.ShloMosaic.ValueIdx Cert.Common Cert.Rows Cert.Finite Cert.RowStore
open Idealize.ShloMosaic.Pipeline (Dat)

variable (m : (ℓ : Loc nD τ sig) → Buf (Elt Ideal) ℓ)

abbrev X0 (c : Dev nD) : S8192x1024.Idx → EReal := m ((c : Thread nD τ).loc main_arg0)
abbrev X1 (c : Dev nD) : S1x1024.Idx → EReal := m ((c : Thread nD τ).loc main_arg1)
abbrev X2 (c : Dev nD) : S8192x1024.Idx → EReal := m ((c : Thread nD τ).loc main_arg2)
abbrev X3 (c : Dev nD) : S8192x1024.Idx → EReal := m ((c : Thread nD τ).loc main_arg3)

theorem V_v0 (c : Dev nD) : (V m c main_v0 : S8192x1024.Idx → EReal) = X2 m c := by
  entry_read
  rfl
theorem V_v1 (c : Dev nD) : (V m c main_v1 : S8192x1024.Idx → EReal) = X3 m c := by
  entry_read
  rfl

/-! ## The kernel -/

theorem hz2 : (![0, 0] : Fin 2 → Nat) = fun _ => 0 := funext fun a => by fin_cases a <;> rfl

section Pieces
variable (c : Dev nD) (i : grid0.Coords) (a1 : Memref sig .tc .vmem S512x1024 .f32) (h1 : a1.IsWhole) (a2 : Memref sig .tc .vmem S1x1024 .f32) (h2 : a2.IsWhole)
  (a3 : Memref sig .tc .vmem S512x1024 .bf16) (h3 : a3.IsWhole) (a4 : Memref sig .tc .vmem S512x1024 .bf16) (h4 : a4.IsWhole)
  (a5 : Memref sig .tc .vmem S512x1024 .f32) (h5 : a5.IsWhole) (a6 : Memref sig .tc .vmem S8x1024 .f32) (h6 : a6.IsWhole)
  (x0 : Vec Ideal S512x1024 .f32) (x1 : Vec Ideal S1x1024 .f32) (x2 x3 : Vec Ideal S512x1024 .bf16) (xo : Vec Ideal S8x1024 .f32)

/-- The tile of the first output. -/
def tile (x0 : Vec Ideal S512x1024 .f32) (x1 : Vec Ideal S1x1024 .f32) (x2 x3 : Vec Ideal S512x1024 .bf16) : Vec Ideal S512x1024 .f32 :=
  k0_pay1 (k0_pay3 x0) (k0_pay7 x2 x1) (k0_pay8 x3) (k0_pay9 x0 x2 x1)

theorem outA4 (hc0 : cond0_0 i) : out0_A_4 c i a1 h1 a2 h2 a3 h3 a4 h4 a5 h5 a6 h6 hc0 x0 x1 x2 x3 = tile x0 x1 x2 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  try sl_unfold_words
  rw [View.canon_unit_zero hz2]
  simp only [View.readAt_eq_ld, h1.read_unread, h2.read_unread, h3.read_unread, h4.read_unread, View.ld_unit_zero (S := S512x1024) hz2, View.ld_unit_zero (S := S1x1024) hz2, shapeCast_self]
  rfl

theorem outB4 (hc0 : ¬cond0_0 i) : out0_B_4 c i a1 h1 a2 h2 a3 h3 a4 h4 a5 h5 a6 h6 hc0 x0 x1 x2 x3 xo = tile x0 x1 x2 x3 := by
  unfold out0_B_4
  rw [View.read_writes_eq_canon _ _ _ (cover0_B_4 c i a1 h1 a2 h2 a3 h3 a4 h4 a5 h5 a6 h6 hc0 x0 x1 x2 x3 xo)]
  unfold kernelRun0_B
  dsimp only
  try sl_unfold_words
  rw [View.canon_unit_zero hz2]
  simp only [View.readAt_eq_ld, h1.read_unread, h2.read_unread, h3.read_unread, h4.read_unread, View.ld_unit_zero (S := S512x1024) hz2, View.ld_unit_zero (S := S1x1024) hz2, shapeCast_self]
  rfl

theorem outA5 (hc0 : cond0_0 i) (r : Fin 8) (k : Fin 1024) :
    (out0_A_5 c i a1 h1 a2 h2 a3 h3 a4 h4 a5 h5 a6 h6 hc0 x0 x1 x2 x3 : S8x1024.Idx → EReal) (ix2 r k)
      = if r.val = 0 then k0_pay6 (F := Ideal) x0 x2 (rowOf (k0_pay2 (F := Ideal)) 0) (ix2 0 k) else 0 := by
  unfold out0_A_5
  unfold kernelRun0_A
  dsimp only
  try sl_unfold_words
  refine (put_row _ _ 0 _ _ _ r k).trans ?_
  refine if_congr Iff.rfl ?_ ((put_all _ _ _ _ _ r k).trans ofBits_zero)
  have hz : a6.view.readCov [(⟨Rect.unit (s := S8x1024) ![0, 0] S8x1024.size inb_S8x1024_S8x1024_0_0, k0_pay2 (F := Ideal)⟩ : View.Piece (Elt Ideal) S8x1024 .f32)] (Rect.unit (s := S8x1024) ![0, 0] S1x1024.size inb_S8x1024_S1x1024_0_0).toLoadRect
      = rowOf (k0_pay2 (F := Ideal)) 0 :=
    (View.readCov_fill _ _ _ _ _ (fun a => by fin_cases a <;> rfl)).trans (ld_row _ 0 (by decide) _)
  rw [hz]
  simp only [View.readAt_eq_ld, h1.read_unread, h3.read_unread, View.ld_unit_zero (S := S512x1024) hz2]

theorem outB5 (hc0 : ¬cond0_0 i) (r : Fin 8) (k : Fin 1024) :
    (out0_B_5 c i a1 h1 a2 h2 a3 h3 a4 h4 a5 h5 a6 h6 hc0 x0 x1 x2 x3 xo : S8x1024.Idx → EReal) (ix2 r k)
      = if r.val = 0 then k0_pay6 (F := Ideal) x0 x2 (rowOf xo 0) (ix2 0 k) else xo (ix2 r k) := by
  unfold out0_B_5
  unfold kernelRun0_B
  dsimp only
  try sl_unfold_words
  refine (put_row _ _ 0 _ _ _ r k).trans ?_
  rw [View.writes_nil, h6.read_unread]
  refine if_congr Iff.rfl ?_ rfl
  simp only [View.readAt_eq_ld, h1.read_unread, h3.read_unread, h6.read_unread, View.ld_unit_zero (S := S512x1024) hz2]
  have hz := ld_row (Val := Elt Ideal) (e := .f32) xo 0 (by decide) inb_S8x1024_S1x1024_0_0
  exact congrArg (fun w => k0_pay6 (F := Ideal) x0 x2 w (ix2 0 k)) hz

end Pieces

/-! ## The arithmetic of a tile -/

section Tile
variable (x0 : Vec Ideal S512x1024 .f32) (x1 : Vec Ideal S1x1024 .f32) (x2 x3 : Vec Ideal S512x1024 .bf16) (v : Vec Ideal S1x1024 .f32)
  (a0 a2 a3 : Fin 512 → Fin 1024 → ℝ) (a1 : Fin 1024 → ℝ)
  (e0 : ∀ r k, (x0 (ix2 r k) : EReal) = (a0 r k : ℝ)) (e1 : ∀ k, (x1 (ix2 0 k) : EReal) = (a1 k : ℝ))
  (e2 : ∀ r k, (x2 (ix2 r k) : EReal) = (a2 r k : ℝ)) (e3 : ∀ r k, (x3 (ix2 r k) : EReal) = (a3 r k : ℝ))

include e0 in
theorem pay3_apply (r : Fin 512) (z : Fin 1) : (k0_pay3 (F := Ideal) x0 (ix2 r z) : EReal) = (rstd (a0 r) : ℝ) := by
  unfold k0_pay3
  show Ideal.rsqrt (Ideal.div (shapeCast S512x1 _ _ (ix2 r z)) (Ideal.ofBits .f32 0x44800000#32) + Ideal.ofBits .f32 0x358637BD#32) = _
  rw [cast_col]
  erw [rowsum]
  rw [sumR (g := fun k => a0 r k * a0 r k), rsqrt_msq]
  intro k
  rw [mulf_apply, e0, EReal.coe_mul]

include e0 in
theorem pay4_apply (r : Fin 512) (k : Fin 1024) : (k0_pay4 (F := Ideal) x0 (ix2 r k) : EReal) = (a0 r k * rstd (a0 r) : ℝ) := by
  unfold k0_pay4
  rw [mulf_apply, bcast_col, pay3_apply x0 a0 e0, e0, EReal.coe_mul]

include e2 in
theorem pay5_apply (r : Fin 512) (k : Fin 1024) : (k0_pay5 (F := Ideal) x2 (ix2 r k) : EReal) = (a2 r k : ℝ) := by
  unfold k0_pay5
  rw [shapeCast_self]
  exact e2 r k

include e1 e2 in
theorem pay7_apply (r : Fin 512) (k : Fin 1024) : (k0_pay7 (F := Ideal) x2 x1 (ix2 r k) : EReal) = (a2 r k * a1 k : ℝ) := by
  unfold k0_pay7
  rw [mulf_apply, pay5_apply x2 a2 e2, broadcastTo_1b_ab_apply, e1, EReal.coe_mul]

include e0 e2 in
theorem pay6_apply (k : Fin 1024) : (k0_pay6 (F := Ideal) x0 x2 v (ix2 0 k) : EReal) = v (ix2 0 k) + ∑ r : Fin 512, ((a2 r k * (a0 r k * rstd (a0 r)) : ℝ) : EReal) := by
  unfold k0_pay6
  dsimp only
  rw [addf_apply, shapeCast_self, shapeCast_a_1a_apply]
  refine congrArg (fun z : EReal => v (ix2 0 k) + z) ((colsum _ _ _ _ _ k).trans ?_)
  refine Finset.sum_congr rfl fun r _ => ?_
  rw [mulf_apply, pay5_apply x2 a2 e2, pay4_apply x0 a0 e0, ← EReal.coe_mul]

include e0 e1 e2 in
theorem pay9_apply (r : Fin 512) (k : Fin 1024) : (k0_pay9 (F := Ideal) x0 x2 x1 (ix2 r k) : EReal)
    = (a0 r k * rstd (a0 r) * ((∑ j, a2 r j * a1 j * (a0 r j * rstd (a0 r))) / 1024) : ℝ) := by
  unfold k0_pay9
  dsimp only
  rw [mulf_apply, bcast_col, divf_apply, cast_col]
  erw [rowsum]
  rw [sumR (g := fun j => a2 r j * a1 j * (a0 r j * rstd (a0 r))), pay4_apply x0 a0 e0, bcast_apply]
  · show _ * Ideal.div _ (Ideal.ofBits .f32 0x44800000#32) = _
    rw [ofBits_1024, div_real _ _ (by norm_num), ← EReal.coe_mul]
  · intro j
    rw [mulf_apply, pay7_apply x1 x2 a2 a1 e1 e2, pay4_apply x0 a0 e0, ← EReal.coe_mul]

include e0 e1 e2 e3 in
theorem tile_apply (r : Fin 512) (k : Fin 1024) : (tile x0 x1 x2 x3 (ix2 r k) : EReal)
    = (a3 r k + rstd (a0 r) * (a2 r k * a1 k - a0 r k * rstd (a0 r) * ((∑ j, a2 r j * a1 j * (a0 r j * rstd (a0 r))) / 1024)) : ℝ) := by
  have h8 : (k0_pay8 (F := Ideal) x3 (ix2 r k) : EReal) = (a3 r k : ℝ) := pay5_apply x3 a3 e3 r k
  unfold tile k0_pay1
  rw [addf_apply, mulf_apply, subf_apply, bcast_col, pay3_apply x0 a0 e0, pay7_apply x1 x2 a2 a1 e1 e2, pay9_apply x0 x1 x2 a0 a2 a1 e0 e1 e2, h8]
  rw [← EReal.coe_sub, ← EReal.coe_mul, ← EReal.coe_add]

end Tile

/-! ## The tiles of the arguments -/

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])

/-- The row of the whole array that row `r` of the tile at point `t` is. -/
def row (t : Fin cfg0.N) (r : Fin 512) : Fin 8192 := ⟨t.val * 512 + r.val, by
  have h : t.val < 16 := lt_of_lt_of_eq t.isLt N_0
  have := r.isLt
  omega⟩

theorem iblk0 (c : Dev nD) (t : Fin cfg0.N) (r : Fin 512) (k : Fin 1024) : (iblk m c 0 t : S512x1024.Idx → EReal) (ix2 r k) = X0 m c (ix2 (row t r) k) := by
  refine Eq.trans ?_ (congrFun (V_main_arg0 m c) _)
  show (V m c main_arg0 : S8192x1024.Idx → EReal) _ = _
  congr 1
  funext a; apply Fin.ext
  have e := idx0 t
  match a with
  | ⟨0, _⟩ => show win0_0.index t 0 * 512 + 1 * r.val = t.val * 512 + r.val; rw [e]; simp
  | ⟨1, _⟩ => show win0_0.index t 1 * 1024 + 1 * k.val = k.val; rw [e]; simp

theorem iblk1 (c : Dev nD) (t : Fin cfg0.N) (k : Fin 1024) : (iblk m c 1 t : S1x1024.Idx → EReal) (ix2 0 k) = X1 m c (ix2 0 k) := by
  refine Eq.trans ?_ (congrFun (V_main_arg1 m c) _)
  show (V m c main_arg1 : S1x1024.Idx → EReal) _ = _
  congr 1
  funext a; apply Fin.ext
  have e := idx1 t
  match a with
  | ⟨0, _⟩ => show win0_1.index t 0 * 1 + 1 * 0 = 0; rw [e]; simp
  | ⟨1, _⟩ => show win0_1.index t 1 * 1024 + 1 * k.val = k.val; rw [e]; simp

theorem iblk2 (c : Dev nD) (t : Fin cfg0.N) (r : Fin 512) (k : Fin 1024) : (iblk m c 2 t : S512x1024.Idx → EReal) (ix2 r k) = X2 m c (ix2 (row t r) k) := by
  rw [← V_v0 m c]
  show (V m c main_v0 : S8192x1024.Idx → EReal) _ = _
  congr 1
  funext a; apply Fin.ext
  have e := idx2 t
  match a with
  | ⟨0, _⟩ => show win0_2.index t 0 * 512 + 1 * r.val = t.val * 512 + r.val; rw [e]; simp
  | ⟨1, _⟩ => show win0_2.index t 1 * 1024 + 1 * k.val = k.val; rw [e]; simp

theorem iblk3 (c : Dev nD) (t : Fin cfg0.N) (r : Fin 512) (k : Fin 1024) : (iblk m c 3 t : S512x1024.Idx → EReal) (ix2 r k) = X3 m c (ix2 (row t r) k) := by
  rw [← V_v1 m c]
  show (V m c main_v1 : S8192x1024.Idx → EReal) _ = _
  congr 1
  funext a; apply Fin.ext
  have e := idx3 t
  match a with
  | ⟨0, _⟩ => show win0_3.index t 0 * 512 + 1 * r.val = t.val * 512 + r.val; rw [e]; simp
  | ⟨1, _⟩ => show win0_3.index t 1 * 1024 + 1 * k.val = k.val; rw [e]; simp

/-! ## What both programs compute -/

/-- The gradient of the input, of finite arguments. -/
def GX (a0 : Fin 8192 → Fin 1024 → ℝ) (a1 : Fin 1024 → ℝ) (a2 a3 : Fin 8192 → Fin 1024 → ℝ) : S8192x1024.Idx → EReal := fun i =>
  ((a3 (i 0) (i 1) + rstd (a0 (i 0)) * (a2 (i 0) (i 1) * a1 (i 1) - a0 (i 0) (i 1) * rstd (a0 (i 0)) * ((∑ j, a2 (i 0) j * a1 j * (a0 (i 0) j * rstd (a0 (i 0)))) / 1024)) : ℝ) : EReal)

/-- The gradient of the scale in the first of eight rows. -/
def GV (a0 a2 : Fin 8192 → Fin 1024 → ℝ) : S8x1024.Idx → EReal := fun i =>
  if (i 0).val = 0 then ∑ r : Fin 8192, ((a2 r (i 1) * (a0 r (i 1) * rstd (a0 r)) : ℝ) : EReal) else 0

/-- Arrays whose every entry is a real. -/
structure Fin4 (x0 : S8192x1024.Idx → EReal) (x1 : S1x1024.Idx → EReal) (x2 x3 : S8192x1024.Idx → EReal)
    (a0 : Fin 8192 → Fin 1024 → ℝ) (a1 : Fin 1024 → ℝ) (a2 a3 : Fin 8192 → Fin 1024 → ℝ) : Prop where
  h0 : ∀ r k, x0 (ix2 r k) = (a0 r k : ℝ)
  h1 : ∀ k, x1 (ix2 0 k) = (a1 k : ℝ)
  h2 : ∀ r k, x2 (ix2 r k) = (a2 r k : ℝ)
  h3 : ∀ r k, x3 (ix2 r k) = (a3 r k : ℝ)

section Run
variable (c : Dev nD) (a0 : Fin 8192 → Fin 1024 → ℝ) (a1 : Fin 1024 → ℝ) (a2 a3 : Fin 8192 → Fin 1024 → ℝ)
  (H : Fin4 (X0 m c) (X1 m c) (X2 m c) (X3 m c) a0 a1 a2 a3)

theorem outs4 (t : Fin cfg0.N) : (outsAt0 m c t.val t.isLt).1 = tile (iblk m c 0 t) (iblk m c 1 t) (iblk m c 2 t) (iblk m c 3 t) := by
  by_cases h : t.val % 16 = 0
  · rw [outsAt0_A m c t h]
    dsimp only
    rw [outA4]
  · rw [outsAt0_B m c t h]
    dsimp only
    rw [outB4]

include H in
theorem tile_at (t : Fin cfg0.N) (r : Fin 512) (k : Fin 1024) :
    (tile (iblk m c 0 t) (iblk m c 1 t) (iblk m c 2 t) (iblk m c 3 t) (ix2 r k) : EReal) = GX a0 a1 a2 a3 (ix2 (row t r) k) :=
  tile_apply _ _ _ _ (fun r k => a0 (row t r) k) (fun r k => a2 (row t r) k) (fun r k => a3 (row t r) k) a1
    (fun r k => (iblk0 m c t r k).trans (H.h0 _ _)) (fun k => (iblk1 m c t k).trans (H.h1 _))
    (fun r k => (iblk2 m c t r k).trans (H.h2 _ _)) (fun r k => (iblk3 m c t r k).trans (H.h3 _ _)) r k

include H in
theorem flushed4_eq (t : Fin cfg0.N) : (dats m 0 c).flushed 4 t = ((cfg0.win 4).blk t).view.read (Elt Ideal) (GX a0 a1 a2 a3) := by
  rw [Value.flushed4, outs4]
  funext y
  have hy0 : (y 0).val < 512 := (y 0).isLt
  have hy1 : (y 1).val < 1024 := (y 1).isLt
  have e := idx4 t
  have hl : (cfg0.win 4).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 4).blk t).view.emb y = ix2 (row t ⟨(y 0).val, hy0⟩) ⟨(y 1).val, hy1⟩ := by
    funext a; apply Fin.ext
    match a with
    | ⟨0, _⟩ => show win0_4.index t 0 * 512 + 1 * (y 0).val = t.val * 512 + (y 0).val; rw [e]; simp
    | ⟨1, _⟩ => show win0_4.index t 1 * 1024 + 1 * (y 1).val = (y 1).val; rw [e]; simp
  have hcut : ∀ v : Vec Ideal S512x1024 .f32, (cfg0.win 4).cut (grid0.coords t) v y = v ((cfg0.win 4).xinj (grid0.coords t) y) := fun _ => rfl
  have hread : ∀ g : S8192x1024.Idx → EReal, ((cfg0.win 4).blk t).view.read (Elt Ideal) g y = g (((cfg0.win 4).blk t).view.emb y) := fun _ => rfl
  refine (hcut _).trans (Eq.trans ?_ (hread _).symm)
  rw [hl, hb]
  exact tile_at m c a0 a1 a2 a3 H t _ _

theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v2_0).slice (win0_4.rect t)).set ↔ _
  rw [View.set_slice_whole, Rect.mem_set_unit]
  exact Iff.rfl

include H in
theorem final4 : (dats m 0 c).arrAt 4 cfg0.N = GX a0 a1 a2 a3 := by
  refine (dats m 0 c).arrAt_eq_of_cover 4 _ (fun t _ => flushed4_eq m c a0 a1 a2 a3 H t) (fun i => ?_)
  have h0 : (i 0).val < 8192 := (i 0).isLt
  have h1 : (i 1).val < 1024 := (i 1).isLt
  refine ⟨⟨(i 0).val / 512, by rw [show cfg0.N = 16 from N_0]; omega⟩, flush0_4 _, ?_⟩
  rw [mem_blk4, idx4]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- What point `p` adds to the first row. -/
def part (a0 a2 : Fin 8192 → Fin 1024 → ℝ) (k : Fin 1024) (p : ℕ) : EReal :=
  if h : p < cfg0.N then ∑ r : Fin 512, ((a2 (row ⟨p, h⟩ r) k * (a0 (row ⟨p, h⟩ r) k * rstd (a0 (row ⟨p, h⟩ r))) : ℝ) : EReal) else 0

include H in
theorem row_at (t : Fin cfg0.N) (w : Vec Ideal S1x1024 .f32) (k : Fin 1024) :
    (k0_pay6 (F := Ideal) (iblk m c 0 t) (iblk m c 2 t) w (ix2 0 k) : EReal) = w (ix2 0 k) + part a0 a2 k t.val := by
  rw [part, dif_pos t.isLt]
  exact pay6_apply _ _ w (fun r k => a0 (row t r) k) (fun r k => a2 (row t r) k)
    (fun r k => (iblk0 m c t r k).trans (H.h0 _ _)) (fun r k => (iblk2 m c t r k).trans (H.h2 _ _)) k

include H in
theorem outs5 (n : ℕ) (hn : n < cfg0.N) (r : Fin 8) (k : Fin 1024) :
    ((outsAt0 m c n hn).2 : S8x1024.Idx → EReal) (ix2 r k) = if r.val = 0 then ∑ p ∈ Finset.range (n + 1), part a0 a2 k p else 0 := by
  have hN : cfg0.N = 16 := N_0
  induction n with
  | zero =>
    rw [outsAt0_A m c ⟨0, hn⟩ rfl]
    dsimp only
    rw [outA5]
    refine if_congr Iff.rfl ?_ rfl
    rw [row_at m c a0 a1 a2 a3 H ⟨0, hn⟩, Finset.sum_range_one]
    exact (congrArg (· + part a0 a2 k 0) ofBits_zero).trans (zero_add _)
  | succ n ih =>
    rw [outsAt0_B m c ⟨n + 1, hn⟩ (by show ¬(n + 1) % 16 = 0; omega)]
    dsimp only
    rw [outB5]
    have ih' := ih (by omega)
    by_cases hr : r.val = 0
    · rw [if_pos hr, if_pos hr, row_at m c a0 a1 a2 a3 H ⟨n + 1, hn⟩, Finset.sum_range_succ]
      refine congrArg (· + part a0 a2 k (n + 1)) ?_
      rw [if_pos hr] at ih'
      have hr0 : r = 0 := Fin.ext hr
      subst hr0
      exact ih'
    · rw [if_neg hr, if_neg hr]
      rw [if_neg hr] at ih'
      exact ih'

theorem parts (k : Fin 1024) : ∑ p ∈ Finset.range 16, part a0 a2 k p = ∑ r : Fin 8192, ((a2 r k * (a0 r k * rstd (a0 r)) : ℝ) : EReal) := by
  have hN : cfg0.N = 16 := N_0
  rw [sum_tiles 16 512 8192 rfl, Finset.sum_range]
  refine Finset.sum_congr rfl fun p _ => ?_
  rw [part, dif_pos (by rw [hN]; exact p.isLt)]
  rfl

include H in
theorem flushed5_eq (t : Fin cfg0.N) (hf : (cfg0.win 5).flush t = true) :
    (dats m 0 c).flushed 5 t = ((cfg0.win 5).blk t).view.read (Elt Ideal) (GV a0 a2) := by
  have hm : t.val % 16 = 15 := (flush0_5 t).mp hf
  have hN : t.val < 16 := lt_of_lt_of_eq t.isLt (show cfg0.N = 16 from N_0)
  have ht : t.val = 15 := by omega
  rw [Value.flushed5]
  funext y
  have hy0 : (y 0).val < 8 := (y 0).isLt
  have hy1 : (y 1).val < 1024 := (y 1).isLt
  have e := idx5 t
  have hl : (cfg0.win 5).xinj (grid0.coords t) y = ix2 ⟨(y 0).val, hy0⟩ ⟨(y 1).val, hy1⟩ := by
    funext a; apply Fin.ext
    match a with
    | ⟨0, _⟩ => rfl
    | ⟨1, _⟩ => rfl
  have hb : ((cfg0.win 5).blk t).view.emb y = ix2 ⟨(y 0).val, hy0⟩ ⟨(y 1).val, hy1⟩ := by
    funext a; apply Fin.ext
    match a with
    | ⟨0, _⟩ => show win0_5.index t 0 * 8 + 1 * (y 0).val = (y 0).val; rw [e]; simp
    | ⟨1, _⟩ => show win0_5.index t 1 * 1024 + 1 * (y 1).val = (y 1).val; rw [e]; simp
  have hcut : ∀ v : Vec Ideal S8x1024 .f32, (cfg0.win 5).cut (grid0.coords t) v y = v ((cfg0.win 5).xinj (grid0.coords t) y) := fun _ => rfl
  have hread : ∀ g : S8x1024.Idx → EReal, ((cfg0.win 5).blk t).view.read (Elt Ideal) g y = g (((cfg0.win 5).blk t).view.emb y) := fun _ => rfl
  refine (hcut _).trans (Eq.trans ?_ (hread _).symm)
  rw [hl, hb]
  refine (outs5 m c a0 a1 a2 a3 H t.val t.isLt _ _).trans ?_
  refine if_congr Iff.rfl ?_ rfl
  rw [ht, parts]

theorem mem_blk5 (t : Fin cfg0.N) (i : S8x1024.Idx) :
    i ∈ ((cfg0.win 5).blk t).view.set ↔ ∀ a : Fin 2, win0_5.index t a * S8x1024.size a ≤ (i a).val ∧ (i a).val < win0_5.index t a * S8x1024.size a + S8x1024.size a := by
  show i ∈ ((View.whole main_v2_1).slice (win0_5.rect t)).set ↔ _
  rw [View.set_slice_whole, Rect.mem_set_unit]
  exact Iff.rfl

include H in
theorem final5 : (dats m 0 c).arrAt 5 cfg0.N = GV a0 a2 := by
  refine (dats m 0 c).arrAt_eq_of_cover 5 _ (fun t hf => flushed5_eq m c a0 a1 a2 a3 H t hf) (fun i => ?_)
  have h0 : (i 0).val < 8 := (i 0).isLt
  have h1 : (i 1).val < 1024 := (i 1).isLt
  refine ⟨⟨15, by rw [show cfg0.N = 16 from N_0]; omega⟩, (flush0_5 _).mpr rfl, ?_⟩
  rw [mem_blk5, idx5]
  intro a
  match a with
  | ⟨0, _⟩ => show 0 * 8 ≤ (i 0).val ∧ (i 0).val < 0 * 8 + 8; omega
  | ⟨1, _⟩ => show 0 * 1024 ≤ (i 1).val ∧ (i 1).val < 0 * 1024 + 1024; omega

end Run

/-! ## The reference -/

section Ref
open Cert.Reference3Ideal.Read
variable (x0 : S8192x1024.Idx → EReal) (x1 : S1x1024.Idx → EReal) (x2 x3 : S8192x1024.Idx → EReal)
  (a0 : Fin 8192 → Fin 1024 → ℝ) (a1 : Fin 1024 → ℝ) (a2 a3 : Fin 8192 → Fin 1024 → ℝ) (H : Fin4 x0 x1 x2 x3 a0 a1 a2 a3)

include H

theorem r6 (r : Fin 8192) (z : Fin 1) : (val_main_v6 (F := Ideal) x0 (ix2 r z) : EReal) = (msq (a0 r) : ℝ) := by
  rw [val_main_v6_apply, val_main_v4_apply, val_main_v2_apply, val_main_v1_apply, val_main_v3_apply, val_main_v5_apply, val_main_cst_apply, val_main_cst_0_apply, val_main_cst_1_apply]
  rw [sumR (g := fun k => a0 r k * a0 r k)]
  · show Ideal.div (Ideal.ofBits .f32 0x00000000#32 + _) (Ideal.ofBits .f32 0x44800000#32) + Ideal.ofBits .f32 0x358637BD#32 = _
    rw [ofBits_zero, zero_add, ofBits_1024, ofBits_eps, div_real _ _ (by norm_num), ← EReal.coe_add]
    rfl
  · intro k
    rw [val_main_v0_apply, show idx_main_v1 (idx_main_v2 (ix2 r z)) k = ix2 r k from (eq_ix2 _).trans rfl, H.h0, mulR]

theorem r7 (r : Fin 8192) (z : Fin 1) : (val_main_v7 (F := Ideal) x0 (ix2 r z) : EReal) = (rstd (a0 r) : ℝ) := by
  rw [val_main_v7_apply, r6 x0 x1 x2 x3 a0 a1 a2 a3 H, rsqrtR _ (msq_pos _)]
  rfl

theorem r10 (r : Fin 8192) (z : Fin 1) : (val_main_v10 (F := Ideal) x0 (ix2 r z) : EReal) = (-(1 / 2) * (rstd (a0 r) / msq (a0 r)) : ℝ) := by
  rw [val_main_v10_apply, val_main_v9_apply, val_main_cst_2_apply, val_main_v8_apply, r7 x0 x1 x2 x3 a0 a1 a2 a3 H, r6 x0 x1 x2 x3 a0 a1 a2 a3 H, divR _ _ (msq_pos _).ne']
  exact (congrArg (· * _) ofBits_neg_half).trans (mulR (φ := .f32) _ _)

theorem r12 (r : Fin 8192) (k : Fin 1024) : (val_main_v12 (F := Ideal) x0 (ix2 r k) : EReal) = (a0 r k * rstd (a0 r) : ℝ) := by
  rw [val_main_v12_apply, val_main_v11_apply, show idx_main_v11 (ix2 r k) = ix2 r 0 from (eq_ix2 _).trans rfl, r7 x0 x1 x2 x3 a0 a1 a2 a3 H, H.h0, mulR]

theorem r17 (z : Fin 1) (k : Fin 1024) : (val_main_v17 (F := Ideal) x0 x2 (ix2 z k) : EReal) = ∑ r : Fin 8192, ((a2 r k * (a0 r k * rstd (a0 r)) : ℝ) : EReal) := by
  rw [val_main_v17_apply, val_main_v16_apply, val_main_cst_3_apply]
  refine (congrArg (· + _) ofBits_zero).trans ((zero_add _).trans ?_)
  refine Finset.sum_congr rfl fun r _ => ?_
  rw [show idx_main_v16 (idx_main_v17 (ix2 z k)) r = ix2 r k from
      ix2_ext _ _ _ rfl (by show z.val * 1024 + k.val = k.val; have := z.isLt; omega),
    val_main_v15_apply, r12 x0 x1 x2 x3 a0 a1 a2 a3 H, H.h2, mulR, mul_comm]

theorem r19 (r : Fin 8192) (k : Fin 1024) : (val_main_v19 (F := Ideal) x1 x2 (ix2 r k) : EReal) = (a2 r k * a1 k : ℝ) := by
  rw [val_main_v19_apply, val_main_v18_apply, show idx_main_v18 (ix2 r k) = ix2 0 k from (eq_ix2 _).trans rfl, H.h1, H.h2, mulR]

theorem r22 (r : Fin 8192) (z : Fin 1) : (val_main_v22 (F := Ideal) x0 x1 x2 (ix2 r z) : EReal) = (∑ j, a0 r j * (a2 r j * a1 j) : ℝ) := by
  rw [val_main_v22_apply, val_main_v21_apply, val_main_cst_4_apply, sumR (g := fun j => a0 r j * (a2 r j * a1 j))]
  · exact (congrArg (· + _) ofBits_zero).trans (zero_add _)
  · intro k
    rw [show idx_main_v21 (idx_main_v22 (ix2 r z)) k = ix2 r k from ix2_ext _ _ _ (by show r.val * 1 + z.val = r.val; have := z.isLt; omega) rfl, val_main_v20_apply, r19 x0 x1 x2 x3 a0 a1 a2 a3 H, H.h0, mulR]

theorem r27 (r : Fin 8192) (z : Fin 1) : (val_main_v27 (F := Ideal) x0 x1 x2 (ix2 r z) : EReal)
    = ((∑ j, a0 r j * (a2 r j * a1 j)) * (-(1 / 2) * (rstd (a0 r) / msq (a0 r))) / 1024 : ℝ) := by
  rw [val_main_v27_apply, val_main_v25_apply, r22 x0 x1 x2 x3 a0 a1 a2 a3 H, r10 x0 x1 x2 x3 a0 a1 a2 a3 H, val_main_v26_apply, val_main_cst_5_apply, mulR]
  exact (congrArg (Ideal.div _) ofBits_1024).trans (div_real _ _ (by norm_num))

theorem r29 (r : Fin 8192) (k : Fin 1024) : (val_main_v29 (F := Ideal) x0 x1 x2 (ix2 r k) : EReal)
    = ((∑ j, a0 r j * (a2 r j * a1 j)) * (-(1 / 2) * (rstd (a0 r) / msq (a0 r))) / 1024 : ℝ) := by
  rw [val_main_v29_apply, val_main_v28_apply, val_main_cst_6_apply, Fin.sum_univ_one]
  refine (congrArg (· + _) ofBits_zero).trans ((zero_add _).trans ?_)
  rw [show idx_main_v28 (idx_main_v29 (ix2 r k)) 0 = ix2 r 0 from (eq_ix2 _).trans rfl, r27 x0 x1 x2 x3 a0 a1 a2 a3 H]

theorem ref34 : (val_main_v34 (F := Ideal) x0 x1 x2 x3 : S8192x1024.Idx → EReal) = GX a0 a1 a2 a3 := by
  funext i
  obtain ⟨r, k, rfl⟩ : ∃ r k, i = ix2 r k := ⟨i 0, i 1, eq_ix2 i⟩
  rw [val_main_v34_apply, val_main_v33_apply, val_main_v31_apply, val_main_v24_apply, val_main_v30_apply, val_main_v32_apply, val_main_v23_apply,
    show idx_main_v23 (ix2 r k) = ix2 r 0 from (eq_ix2 _).trans rfl, r7 x0 x1 x2 x3 a0 a1 a2 a3 H, r29 x0 x1 x2 x3 a0 a1 a2 a3 H, r19 x0 x1 x2 x3 a0 a1 a2 a3 H, H.h0, H.h3]
  rw [mulR, mulR, mulR, addR, addR, addR]
  show _ = ((a3 r k + rstd (a0 r) * (a2 r k * a1 k - a0 r k * rstd (a0 r) * ((∑ j, a2 r j * a1 j * (a0 r j * rstd (a0 r))) / 1024)) : ℝ) : EReal)
  rw [rms_grad (a0 r) (fun j => a2 r j * a1 j) k]

theorem ref36 : (val_main_v36 (F := Ideal) x0 x2 : S8x1024.Idx → EReal) = GV a0 a2 := by
  funext i
  obtain ⟨r, k, rfl⟩ : ∃ r k, i = ix2 r k := ⟨i 0, i 1, eq_ix2 i⟩
  unfold val_main_v36 GV
  by_cases hr : r.val = 0
  · refine Eq.trans (concatenate_apply_piece (t := S8x1024) 0 _ _ _ 0 (by simp) _ (val_main_v17 (F := Ideal) x0 x2) rfl rfl 0 rfl (ix2 0 k) ?_ (by show 0 + 0 = r.val; omega)) ?_
    · intro b hb
      match b with
      | ⟨0, _⟩ => exact absurd rfl hb
      | ⟨1, _⟩ => rfl
    · rw [r17 x0 x1 x2 x3 a0 a1 a2 a3 H]
      exact (if_pos hr).symm
  · have h8 := r.isLt
    refine Eq.trans (concatenate_apply_piece (t := S8x1024) 0 _ _ _ 1 (by simp) _ (val_main_v35 (F := Ideal)) rfl rfl 1 rfl (ix2 (⟨r.val - 1, by omega⟩ : Fin 7) k) ?_ (by show 1 + (r.val - 1) = r.val; omega)) ?_
    · intro b hb
      match b with
      | ⟨0, _⟩ => exact absurd rfl hb
      | ⟨1, _⟩ => rfl
    · rw [val_main_v35_apply, val_main_cst_7_apply]
      exact ofBits_zero.trans (if_neg hr).symm

end Ref

/-! ## The claims -/

/-- The precondition says that every entry is a real. -/
theorem finite (x0 : S8192x1024.Idx → EReal) (x1 : S1x1024.Idx → EReal) (x2 x3 : S8192x1024.Idx → EReal)
    (h : Cert.Pre_finite3.fn (F := Ideal) x0 x1 x2 x3 = fun _ => 1#1) :
    Fin4 x0 x1 x2 x3 (fun r k => re x0 (ix2 r k)) (fun k => re x1 (ix2 0 k)) (fun r k => re x2 (ix2 r k)) (fun r k => re x3 (ix2 r k)) := by
  have h' := congrFun h ix0
  unfold Cert.Pre_finite3.fn Cert.Pre_finite3.fn_part1 at h'
  obtain ⟨h', e3⟩ := IntOp.andi_eq_one.mp h'
  obtain ⟨h', e2⟩ := IntOp.andi_eq_one.mp h'
  obtain ⟨h', e1⟩ := IntOp.andi_eq_one.mp h'
  obtain ⟨_, e0⟩ := IntOp.andi_eq_one.mp h'
  exact ⟨fun r k => eq_re x0 (real_of_all x0 _ _ _ _ e0) _, fun k => eq_re x1 (real_of_all x1 _ _ _ _ e1) _,
    fun r k => eq_re x2 (real_of_all x2 _ _ _ _ e2) _, fun r k => eq_re x3 (real_of_all x3 _ _ _ _ e3) _⟩

/-- The kernel computes the gradient of the norm of the input. -/
theorem algebraic : Cert.algebraic_Kernel3Ideal_Reference3Ideal_pre_finite3 := by
  intro m g m' g' hp hagree
  have H := fun c => finite _ _ _ _ (hp c)
  refine ⟨fun c => GX _ _ _ _, fun c => GV _ _, (θ_run Cert.Kernel3Ideal.defs _ _).mono (fun r h c => ⟨(h c).1.trans (final4 m c _ _ _ _ (H c)), (h c).2.1.trans (final5 m c _ _ _ _ (H c)), (h c).2.2⟩) (Value.run_blocks (F := Ideal) m g), ?_⟩
  refine (θ_run Cert.Reference3Ideal.defs _ _).mono (fun r h c => ⟨(h c).1.trans ?_, (h c).2.1.trans ?_, (h c).2.2⟩) (Cert.Reference3Ideal.Value.run (F := Ideal) m' g')
  · rw [Cert.Reference3Ideal.Read.val_main_v34_eq, (hagree c).1, (hagree c).2.1, (hagree c).2.2.1, (hagree c).2.2.2]
    exact ref34 _ _ _ _ _ _ _ _ (H c)
  · rw [Cert.Reference3Ideal.Read.val_main_v36_eq, (hagree c).1, (hagree c).2.2.1]
    exact ref36 _ _ _ _ _ _ _ _ (H c)

theorem frame_pre : Cert.quiescent_Kernel3Ideal_pre_finite3 := fun m ρ _ => Cert.Kernel3Ideal.Gen.frame m ρ

theorem frame_ref : Cert.quiescent_Reference3Ideal := by
  intro m ρ _
  exact (θ_run Cert.Reference3Ideal.defs _ _).mono (fun r h => ⟨fun c => (h c).2.2,
      Idealize.ShloMosaic.sem_eq_zero_of_no_sems (by decide) r.2⟩)
    (Cert.Reference3Ideal.Value.run (F := Ideal) m ρ)

theorem frame_ref_pre : Cert.quiescent_Reference3Ideal_pre_finite3 := fun m ρ _ => frame_ref m ρ trivial

end Cert.Grad3

end
-- ==== Proof.Grad4.lean ====
/-
  The gradient of the seven in-projection weights: the kernel adds, for each of the seven, the products of four tiles of
  2048 rows, taking the last tensor's gradient from one of two arrays; the reference is one product with the seven
  gradients side by side.
-/
module

public import proofs.«01_k».proof.Proof.Common
public import proofs.«01_k».proof.Defs
public import proofs.«01_k».proof.Proof.Gen.Kernel4Ideal.Value
public import proofs.«01_k».proof.Proof.Gen.Reference4Ideal.Read
public import Idealize.ShloMosaic.Lib.Claim

@[expose] public section

noncomputable section

namespace Cert.Grad4

open Cert.Kernel4Ideal Cert.Kernel4Ideal.Gen Idealize.ShloMosaic Idealize.ShloMosaic.TcCoe Idealize.SL.Sem
open Idealize.ShloMosaic.ValueIdx Cert.Common
open Idealize.ShloMosaic.Pipeline (Dat)

variable (m : (ℓ : Loc nD τ sig) → Buf (Elt Ideal) ℓ)

/-- The three arguments. -/
abbrev X0 (c : Dev nD) : S8192x1024.Idx → EReal := m ((c : Thread nD τ).loc main_arg0)
abbrev X1 (c : Dev nD) : S3x8192x1024.Idx → EReal := m ((c : Thread nD τ).loc main_arg1)
abbrev X2 (c : Dev nD) : S4x8192x1024.Idx → EReal := m ((c : Thread nD τ).loc main_arg2)

theorem V_v0 (c : Dev nD) : (V m c main_v0 : S8192x1024.Idx → EReal) = X0 m c := by
  entry_read
  rfl
theorem V_v1 (c : Dev nD) : (V m c main_v1 : S3x8192x1024.Idx → EReal) = X1 m c := by
  entry_read
  rfl
theorem V_v2 (c : Dev nD) : (V m c main_v2 : S4x8192x1024.Idx → EReal) = X2 m c := by
  entry_read
  rfl

/-- The gradient of the `q`-th of the seven tensors: the first three in one array, the last four in the other. -/
def dz (x1 : S3x8192x1024.Idx → EReal) (x2 : S4x8192x1024.Idx → EReal) (q : ℕ) (hq : q < 7) (r : Fin 8192) (j : Fin 1024) : EReal :=
  if h : q < 3 then x1 (ix3 ⟨q, h⟩ r j) else x2 (ix3 ⟨q - 3, by omega⟩ r j)

/-- What both programs compute. -/
def G (x0 : S8192x1024.Idx → EReal) (x1 : S3x8192x1024.Idx → EReal) (x2 : S4x8192x1024.Idx → EReal) : S1024x7168.Idx → EReal := fun i =>
  ∑ r : Fin 8192, x0 (ix2 r (i 0)) * dz x1 x2 ((i 1).val / 1024) (by have h : (i 1).val < 7168 := (i 1).isLt; omega) r ⟨(i 1).val % 1024, Nat.mod_lt _ (by decide)⟩

/-! ## The kernel -/

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable (c : Dev nD) (i : grid0.Coords) (a2 : Memref sig .tc .vmem S2048x1024 .bf16) (h2 : a2.IsWhole)
  (a3 : Memref sig .tc .vmem S1x2048x1024 .bf16) (h3 : a3.IsWhole) (a4 : Memref sig .tc .vmem S1x2048x1024 .bf16) (h4 : a4.IsWhole)
  (a5 : Memref sig .tc .vmem S1024x1024 .f32) (h5 : a5.IsWhole)
  (x0 : Vec Ideal S2048x1024 .bf16) (x1 x2 : Vec Ideal S1x2048x1024 .bf16) (xo : Vec Ideal S1024x1024 .f32)

theorem out_A (hc0 : cond0_0 i) (hc1 : cond0_1 i) (hc2 : ¬cond0_2 i) :
    out0_A_3 c i a2 h2 a3 h3 a4 h4 a5 h5 hc0 hc1 hc2 x0 x1 x2 = k0_pay2 (k0_pay1 (F := Ideal)) x0 x1 := by
  unfold out0_A_3
  rw [View.read_writes_eq_canon _ _ _ (cover0_A_3 c i a2 h2 a3 h3 a4 h4 a5 h5 hc0 hc1 hc2 x0 x1 x2)]
  unfold kernelRun0_A
  dsimp only
  try sl_unfold_words
  rw [View.canon_cons_unit_zero (S := S1024x1024) hz2, View.readCov_unit_zero (S := S1024x1024) _ hz2]
  simp only [View.readAt_eq_ld, h2.read_unread, h3.read_unread, h4.read_unread, h5.read_unread, View.ld_unit_zero (S := S1024x1024) hz2, View.ld_unit_zero (S := S2048x1024) hz2, View.ld_unit_zero (S := S1x2048x1024) hz3, shapeCast_self]

theorem out_B (hc0 : ¬cond0_0 i) (hc1 : cond0_1 i) (hc2 : ¬cond0_2 i) :
    out0_B_3 c i a2 h2 a3 h3 a4 h4 a5 h5 hc0 hc1 hc2 x0 x1 x2 xo = k0_pay2 xo x0 x1 := by
  unfold out0_B_3
  rw [View.read_writes_eq_canon _ _ _ (cover0_B_3 c i a2 h2 a3 h3 a4 h4 a5 h5 hc0 hc1 hc2 x0 x1 x2 xo)]
  unfold kernelRun0_B
  dsimp only
  try sl_unfold_words
  rw [View.canon_unit_zero hz2]
  simp only [View.readAt_eq_ld, h2.read_unread, h3.read_unread, h4.read_unread, h5.read_unread, View.ld_unit_zero (S := S1024x1024) hz2, View.ld_unit_zero (S := S2048x1024) hz2, View.ld_unit_zero (S := S1x2048x1024) hz3, shapeCast_self]

theorem out_C (hc0 : cond0_0 i) (hc1 : ¬cond0_1 i) (hc2 : cond0_2 i) :
    out0_C_3 c i a2 h2 a3 h3 a4 h4 a5 h5 hc0 hc1 hc2 x0 x1 x2 = k0_pay2 (k0_pay1 (F := Ideal)) x0 x2 := by
  unfold out0_C_3
  rw [View.read_writes_eq_canon _ _ _ (cover0_C_3 c i a2 h2 a3 h3 a4 h4 a5 h5 hc0 hc1 hc2 x0 x1 x2)]
  unfold kernelRun0_C
  dsimp only
  try sl_unfold_words
  rw [View.canon_cons_unit_zero (S := S1024x1024) hz2, View.readCov_unit_zero (S := S1024x1024) _ hz2]
  simp only [View.readAt_eq_ld, h2.read_unread, h3.read_unread, h4.read_unread, h5.read_unread, View.ld_unit_zero (S := S1024x1024) hz2, View.ld_unit_zero (S := S2048x1024) hz2, View.ld_unit_zero (S := S1x2048x1024) hz3, shapeCast_self]
  rfl

theorem out_D (hc0 : ¬cond0_0 i) (hc1 : ¬cond0_1 i) (hc2 : cond0_2 i) :
    out0_D_3 c i a2 h2 a3 h3 a4 h4 a5 h5 hc0 hc1 hc2 x0 x1 x2 xo = k0_pay2 xo x0 x2 := by
  unfold out0_D_3
  rw [View.read_writes_eq_canon _ _ _ (cover0_D_3 c i a2 h2 a3 h3 a4 h4 a5 h5 hc0 hc1 hc2 x0 x1 x2 xo)]
  unfold kernelRun0_D
  dsimp only
  try sl_unfold_words
  rw [View.canon_unit_zero hz2]
  simp only [View.readAt_eq_ld, h2.read_unread, h3.read_unread, h4.read_unread, h5.read_unread, View.ld_unit_zero (S := S1024x1024) hz2, View.ld_unit_zero (S := S2048x1024) hz2, View.ld_unit_zero (S := S1x2048x1024) hz3, shapeCast_self]
  rfl

end Pieces

/-- The tile of the gradient the body multiplies at point `n`. -/
def dzTile (c : Dev nD) (n : ℕ) (h : n < cfg0.N) : Vec Ideal S1x2048x1024 .bf16 :=
  if n < 12 then iblk m c 1 ⟨n, h⟩ else iblk m c 2 ⟨n, h⟩
def reset (c : Dev nD) (n : ℕ) (h : n < cfg0.N) : Vec Ideal S1024x1024 .f32 :=
  k0_pay2 (k0_pay1 (F := Ideal)) (iblk m c 0 ⟨n, h⟩) (dzTile m c n h)
def step (c : Dev nD) (n : ℕ) (h : n < cfg0.N) (acc : Vec Ideal S1024x1024 .f32) : Vec Ideal S1024x1024 .f32 :=
  k0_pay2 acc (iblk m c 0 ⟨n, h⟩) (dzTile m c n h)

/-- The output's buffer after point `t`: the fold over the run's points so far. -/
theorem outsAt_eq (c : Dev nD) (t : Fin cfg0.N) :
    outsAt0 m c t.val t.isLt = Pipeline.accAt (reset m c) (step m c) (4 * (t.val / 4)) (t.val % 4)
      (by have h1 := t.isLt; have h2 := Nat.div_add_mod t.val 4; omega) := by
  refine Pipeline.eq_accAt_of_mod (fun n h => outsAt0 m c n h) 4 (reset m c) (step m c) (fun n h hn => ?_) (fun n h hn => ?_) (by decide) t.val t.isLt _
  · by_cases hl : n < 12
    · rw [outsAt0_A m c ⟨n, h⟩ hn hl (by show ¬12 ≤ n; omega), out_A, reset, dzTile, if_pos hl]
    · rw [outsAt0_C m c ⟨n, h⟩ hn hl (by show 12 ≤ n; omega), out_C, reset, dzTile, if_neg hl]
  · by_cases hl : n + 1 < 12
    · rw [outsAt0_B m c ⟨n + 1, h⟩ hn hl (by show ¬12 ≤ n + 1; omega), out_B, step, dzTile, if_pos hl]
      rfl
    · rw [outsAt0_D m c ⟨n + 1, h⟩ hn hl (by show 12 ≤ n + 1; omega), out_D, step, dzTile, if_neg hl]
      rfl

theorem idx0 : ∀ t : Fin cfg0.N, win0_0.index t = ![t.val % 4, 0] := (by decide +kernel : ∀ t : Fin grid0.N, win0_0.index t = ![t.val % 4, 0])
theorem idx1 : ∀ t : Fin cfg0.N, t.val < 12 → win0_1.index t = ![t.val / 4, t.val % 4, 0] :=
  (by decide +kernel : ∀ t : Fin grid0.N, t.val < 12 → win0_1.index t = ![t.val / 4, t.val % 4, 0])
theorem idx2 : ∀ t : Fin cfg0.N, ¬t.val < 12 → win0_2.index t = ![t.val / 4 - 3, t.val % 4, 0] :=
  (by decide +kernel : ∀ t : Fin grid0.N, ¬t.val < 12 → win0_2.index t = ![t.val / 4 - 3, t.val % 4, 0])
theorem idx3 : ∀ t : Fin cfg0.N, win0_3.index t = ![0, t.val / 4] := (by decide +kernel : ∀ t : Fin grid0.N, win0_3.index t = ![0, t.val / 4])

theorem iblk0 (c : Dev nD) (t : Fin cfg0.N) (r : Fin 2048) (i : Fin 1024) (h : t.val % 4 * 2048 + r.val < 8192) :
    (iblk m c 0 t : S2048x1024.Idx → EReal) (ix2 r i) = X0 m c (ix2 ⟨t.val % 4 * 2048 + r.val, h⟩ i) := by
  rw [← V_v0]
  show (V m c main_v0 : S8192x1024.Idx → EReal) _ = _
  congr 1
  funext a; apply Fin.ext
  have e := idx0 t
  match a with
  | ⟨0, _⟩ => show win0_0.index t 0 * 2048 + 1 * r.val = _; rw [e]; simp
  | ⟨1, _⟩ => show win0_0.index t 1 * 1024 + 1 * i.val = _; rw [e]; simp

/-- A tile of the gradient is 2048 rows of the tensor the point is at. -/
theorem dzTile_apply (c : Dev nD) (n : ℕ) (hn : n < cfg0.N) (hq : n / 4 < 7) (r : Fin 2048) (j : Fin 1024) (h : n % 4 * 2048 + r.val < 8192) :
    (dzTile m c n hn : S1x2048x1024.Idx → EReal) (ix3 0 r j) = dz (X1 m c) (X2 m c) (n / 4) hq ⟨n % 4 * 2048 + r.val, h⟩ j := by
  unfold dzTile dz
  by_cases hl : n < 12
  · rw [if_pos hl, dif_pos (by omega), ← V_v1]
    show (V m c main_v1 : S3x8192x1024.Idx → EReal) _ = _
    congr 1
    funext a; apply Fin.ext
    have e := idx1 ⟨n, hn⟩ hl
    match a with
    | ⟨0, _⟩ => show win0_1.index ⟨n, hn⟩ 0 * 1 + 1 * 0 = _; rw [e]; simp
    | ⟨1, _⟩ => show win0_1.index ⟨n, hn⟩ 1 * 2048 + 1 * r.val = _; rw [e]; simp
    | ⟨2, _⟩ => show win0_1.index ⟨n, hn⟩ 2 * 1024 + 1 * j.val = _; rw [e]; simp
  · rw [if_neg hl, dif_neg (by omega), ← V_v2]
    show (V m c main_v2 : S4x8192x1024.Idx → EReal) _ = _
    congr 1
    funext a; apply Fin.ext
    have e := idx2 ⟨n, hn⟩ hl
    match a with
    | ⟨0, _⟩ => show win0_2.index ⟨n, hn⟩ 0 * 1 + 1 * 0 = _; rw [e]; simp
    | ⟨1, _⟩ => show win0_2.index ⟨n, hn⟩ 1 * 2048 + 1 * r.val = _; rw [e]; simp
    | ⟨2, _⟩ => show win0_2.index ⟨n, hn⟩ 2 * 1024 + 1 * j.val = _; rw [e]; simp

theorem pay2_apply (acc : Vec Ideal S1024x1024 .f32) (a : Vec Ideal S2048x1024 .bf16) (b : Vec Ideal S1x2048x1024 .bf16) (i j : Fin 1024) :
    k0_pay2 acc a b (ix2 i j) = acc (ix2 i j) + ∑ r : Fin 2048, (a (ix2 r i) : EReal) * b (ix3 0 r j) := by
  unfold k0_pay2
  simp only [shapeCast_self, addf_apply]
  rw [matmul_tn _ rfl rfl rfl rfl rfl rfl, constant_apply, ofBits_zero, zero_add]
  congr 1
  refine Finset.sum_congr rfl fun r _ => ?_
  congr 1
  rw [shapeCast_dropUnit_apply (n := 2) ![2048, 1024]]
  congr 1
  funext a
  match a with
  | ⟨0, _⟩ => rfl
  | ⟨1, _⟩ => rfl
  | ⟨2, _⟩ => rfl

/-- The whole run of four points for part `q`. -/
theorem run_apply (c : Dev nD) (q : ℕ) (hq : q < 7) (hr : 4 * q + 3 < cfg0.N) (i j : Fin 1024) :
    Pipeline.accAt (reset m c) (step m c) (4 * q) 3 hr (ix2 i j) = ∑ r : Fin 8192, X0 m c (ix2 r i) * dz (X1 m c) (X2 m c) q hq r j := by
  have hstep : ∀ (n : ℕ) (h : n < cfg0.N) (acc : Vec Ideal S1024x1024 .f32) (e : n / 4 = q), step m c n h acc (ix2 i j)
      = acc (ix2 i j) + ∑ r : Fin 2048, X0 m c (ix2 ⟨n % 4 * 2048 + r.val, by have := r.isLt; omega⟩ i)
          * dz (X1 m c) (X2 m c) q hq ⟨n % 4 * 2048 + r.val, by have := r.isLt; omega⟩ j := by
    intro n h acc e
    subst e
    unfold step
    rw [pay2_apply]
    congr 1
    refine Finset.sum_congr rfl fun r _ => ?_
    rw [iblk0 m c ⟨n, h⟩ r i (by have := r.isLt; show n % 4 * 2048 + _ < _; omega), dzTile_apply m c n h hq r j (by have := r.isLt; omega)]
  have hz : (k0_pay1 (F := Ideal) : S1024x1024.Idx → EReal) (ix2 i j) = 0 := by
    unfold k0_pay1
    exact ofBits_zero
  have hreset : ∀ (n : ℕ) (h : n < cfg0.N), reset m c n h = step m c n h (k0_pay1 (F := Ideal)) := fun _ _ => rfl
  show Pipeline.accAt (reset m c) (step m c) (4 * q) (2 + 1) _ (ix2 i j) = _
  rw [Pipeline.accAt_succ, hstep _ _ _ (by omega), Pipeline.accAt_succ, hstep _ _ _ (by omega), Pipeline.accAt_succ, hstep _ _ _ (by omega),
    Pipeline.accAt_zero, hreset, hstep _ _ _ (by omega), hz, zero_add, sum_tiles 4 2048 8192 rfl, Fin.sum_univ_four]
  have e0 : 4 * q % 4 = 0 := by omega
  have e1 : (4 * q + (0 + 1)) % 4 = 1 := by omega
  have e2 : (4 * q + (1 + 1)) % 4 = 2 := by omega
  have e3 : (4 * q + (2 + 1)) % 4 = 3 := by omega
  simp only [e0, e1, e2, e3]
  rfl

/-- What a flushing point writes back is its block of `G`. -/
theorem flushed_eq (c : Dev nD) (t : Fin cfg0.N) (hf : (cfg0.win 3).flush t = true) :
    (dats m 0 c).flushed 3 t = ((cfg0.win 3).blk t).view.read (Elt Ideal) (G (X0 m c) (X1 m c) (X2 m c)) := by
  have hm : t.val % 4 = 3 := (flush0_3 t).mp hf
  have hN : t.val < 28 := lt_of_lt_of_eq t.isLt (show cfg0.N = 28 from N_0)
  rw [Value.flushed3, outsAt_eq]
  funext y
  have hy0 : (y 0).val < 1024 := (y 0).isLt
  have hy1 : (y 1).val < 1024 := (y 1).isLt
  have e3 := idx3 t
  have hb0 : ((cfg0.win 3).blk t).view.emb y 0 = ⟨(y 0).val, hy0⟩ := by
    apply Fin.ext; show win0_3.index t 0 * 1024 + 1 * (y 0).val = _; rw [e3]; simp
  have hb1 : (((cfg0.win 3).blk t).view.emb y 1).val = t.val / 4 * 1024 + (y 1).val := by
    show win0_3.index t 1 * 1024 + 1 * (y 1).val = _; rw [e3]; simp
  have hl : (cfg0.win 3).xinj (grid0.coords t) y = ix2 ⟨(y 0).val, hy0⟩ ⟨(y 1).val, hy1⟩ := by
    funext a; apply Fin.ext
    match a with
    | ⟨0, _⟩ => rfl
    | ⟨1, _⟩ => rfl
  have hcut : ∀ v : Vec Ideal S1024x1024 .f32, (cfg0.win 3).cut (grid0.coords t) v y = v ((cfg0.win 3).xinj (grid0.coords t) y) := fun _ => rfl
  have hread : ∀ g : S1024x7168.Idx → EReal, ((cfg0.win 3).blk t).view.read (Elt Ideal) g y = g (((cfg0.win 3).blk t).view.emb y) := fun _ => rfl
  refine (hcut _).trans (Eq.trans ?_ (hread _).symm)
  have e : ∀ (j : ℕ) (h : 4 * (t.val / 4) + j < cfg0.N) (h' : 4 * (t.val / 4) + 3 < cfg0.N), j = 3 →
      Pipeline.accAt (reset m c) (step m c) (4 * (t.val / 4)) j h = Pipeline.accAt (reset m c) (step m c) (4 * (t.val / 4)) 3 h' := by
    intro j h h' hj; subst hj; rfl
  rw [hl, e _ _ (lt_of_lt_of_eq (by omega) (show cfg0.N = 28 from N_0).symm) hm, run_apply m c _ (by omega)]
  unfold G
  have q1 : (((cfg0.win 3).blk t).view.emb y 1).val / 1024 = t.val / 4 := by rw [hb1]; omega
  have q2 : (⟨(((cfg0.win 3).blk t).view.emb y 1).val % 1024, Nat.mod_lt _ (by decide)⟩ : Fin 1024) = ⟨(y 1).val, hy1⟩ := by
    apply Fin.ext; show (((cfg0.win 3).blk t).view.emb y 1).val % 1024 = _; rw [hb1]; show _ = (y 1).val; omega
  refine Finset.sum_congr rfl fun r _ => ?_
  rw [hb0, q2]
  simp only [q1]
  rfl

theorem mem_blk (t : Fin cfg0.N) (i : S1024x7168.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

theorem final (c : Dev nD) : (dats m 0 c).arrAt 3 cfg0.N = G (X0 m c) (X1 m c) (X2 m c) := by
  refine (dats m 0 c).arrAt_eq_of_cover 3 _ (fun t hf => flushed_eq m c t hf) (fun i => ?_)
  have h0 : (i 0).val < 1024 := (i 0).isLt
  have h1 : (i 1).val < 7168 := (i 1).isLt
  refine ⟨⟨4 * ((i 1).val / 1024) + 3, by rw [show cfg0.N = 28 from N_0]; omega⟩, (flush0_3 _).mpr (by show (4 * ((i 1).val / 1024) + 3) % 4 = 3; omega), ?_⟩
  rw [mem_blk, idx3]
  intro a
  match a with
  | ⟨0, _⟩ => show 0 * 1024 ≤ (i 0).val ∧ (i 0).val < 0 * 1024 + 1024; omega
  | ⟨1, _⟩ => show (4 * ((i 1).val / 1024) + 3) / 4 * 1024 ≤ (i 1).val ∧ (i 1).val < (4 * ((i 1).val / 1024) + 3) / 4 * 1024 + 1024; omega

/-! ## The reference -/

section Ref
open Cert.Reference4Ideal.Read
variable (x0 : S8192x1024.Idx → EReal) (x1 : S3x8192x1024.Idx → EReal) (x2 : S4x8192x1024.Idx → EReal)

set_option maxRecDepth 20000 in
theorem cat_apply (r : Fin 8192) (q : ℕ) (hq : q < 7) (j : Fin 1024) :
    (val_main_v14 (F := Ideal) x1 x2 : Cert.Reference4Ideal.S8192x7168.Idx → EReal) (ix2 r ⟨q * 1024 + j.val, by have := j.isLt; omega⟩) = dz x1 x2 q hq r j := by
  unfold val_main_v14
  have hr : r.val < 8192 := r.isLt
  have hj : j.val < 1024 := j.isLt
  have off : ∀ b : Fin 2, b.cast rfl ≠ (1 : Fin 2) → (ix2 r j b).val = ((ix2 r (⟨q * 1024 + j.val, by omega⟩ : Fin 7168) : Cert.Reference4Ideal.S8192x7168.Idx) (b.cast rfl)).val := by
    intro b hb
    match b with
    | ⟨0, _⟩ => rfl
    | ⟨1, _⟩ => exact absurd rfl hb
  have d1 : (r.val * 1024 + j.val) / 1024 % 8192 = r.val := by omega
  have d2 : (r.val * 1024 + j.val) % 1024 = j.val := by omega
  have fin : ∀ {n : ℕ} (i i' : (⟨3, ![n, 8192, 1024]⟩ : Shape).Idx), (i 0).val = (i' 0).val → (i 1).val = (i' 1).val → (i 2).val = (i' 2).val → i = i' := by
    intro n i i' e0 e1 e2
    funext a; apply Fin.ext
    match a with
    | ⟨0, _⟩ => exact e0
    | ⟨1, _⟩ => exact e1
    | ⟨2, _⟩ => exact e2
  unfold dz
  interval_cases q
  · refine Eq.trans (concatenate_apply_piece (t := Cert.Reference4Ideal.S8192x7168) 1 _ _ _ 0 (by simp) _ (val_main_v1 (F := Ideal) x1) rfl rfl 0 rfl (ix2 r j) off (by show 0 + j.val = 0 * 1024 + j.val; omega)) ?_
    rw [val_main_v1_apply, val_main_v0_apply]
    exact congrArg x1 (fin _ _ rfl d1 d2)
  · refine Eq.trans (concatenate_apply_piece (t := Cert.Reference4Ideal.S8192x7168) 1 _ _ _ 1 (by simp) _ (val_main_v3 (F := Ideal) x1) rfl rfl 1024 rfl (ix2 r j) off (by show 1024 + j.val = 1 * 1024 + j.val; omega)) ?_
    rw [val_main_v3_apply, val_main_v2_apply]
    exact congrArg x1 (fin _ _ rfl d1 d2)
  · refine Eq.trans (concatenate_apply_piece (t := Cert.Reference4Ideal.S8192x7168) 1 _ _ _ 2 (by simp) _ (val_main_v5 (F := Ideal) x1) rfl rfl 2048 rfl (ix2 r j) off (by show 2048 + j.val = 2 * 1024 + j.val; omega)) ?_
    rw [val_main_v5_apply, val_main_v4_apply]
    exact congrArg x1 (fin _ _ rfl d1 d2)
  · refine Eq.trans (concatenate_apply_piece (t := Cert.Reference4Ideal.S8192x7168) 1 _ _ _ 3 (by simp) _ (val_main_v7 (F := Ideal) x2) rfl rfl 3072 rfl (ix2 r j) off (by show 3072 + j.val = 3 * 1024 + j.val; omega)) ?_
    rw [val_main_v7_apply, val_main_v6_apply]
    exact congrArg x2 (fin _ _ rfl d1 d2)
  · refine Eq.trans (concatenate_apply_piece (t := Cert.Reference4Ideal.S8192x7168) 1 _ _ _ 4 (by simp) _ (val_main_v9 (F := Ideal) x2) rfl rfl 4096 rfl (ix2 r j) off (by show 4096 + j.val = 4 * 1024 + j.val; omega)) ?_
    rw [val_main_v9_apply, val_main_v8_apply]
    exact congrArg x2 (fin _ _ rfl d1 d2)
  · refine Eq.trans (concatenate_apply_piece (t := Cert.Reference4Ideal.S8192x7168) 1 _ _ _ 5 (by simp) _ (val_main_v11 (F := Ideal) x2) rfl rfl 5120 rfl (ix2 r j) off (by show 5120 + j.val = 5 * 1024 + j.val; omega)) ?_
    rw [val_main_v11_apply, val_main_v10_apply]
    exact congrArg x2 (fin _ _ rfl d1 d2)
  · refine Eq.trans (concatenate_apply_piece (t := Cert.Reference4Ideal.S8192x7168) 1 _ _ _ 6 (by simp) _ (val_main_v13 (F := Ideal) x2) rfl rfl 6144 rfl (ix2 r j) off (by show 6144 + j.val = 6 * 1024 + j.val; omega)) ?_
    rw [val_main_v13_apply, val_main_v12_apply]
    exact congrArg x2 (fin _ _ rfl d1 d2)

theorem ref_eq : (val_main_v18 (F := Ideal) x0 x1 x2 : S1024x7168.Idx → EReal) = G x0 x1 x2 := by
  funext i
  have h1 : (i 1).val < 7168 := (i 1).isLt
  rw [val_main_v18_apply, val_main_v17_apply]
  unfold G
  refine Finset.sum_congr rfl fun r _ => ?_
  rw [mul_comm, ← cat_apply]
  congr 2
  · funext a; match a with | ⟨0, _⟩ => rfl | ⟨1, _⟩ => rfl
  · funext a; apply Fin.ext
    match a with
    | ⟨0, _⟩ => rfl
    | ⟨1, _⟩ => show (i 1).val = (i 1).val / 1024 * 1024 + (i 1).val % 1024; omega

end Ref

/-- The kernel computes the gradient of the product in the seven weights. -/
theorem algebraic : Cert.algebraic_Kernel4Ideal_Reference4Ideal := by
  intro m g m' g' _ hagree
  refine ⟨fun c => G (X0 m c) (X1 m c) (X2 m c), (θ_run Cert.Kernel4Ideal.defs _ _).mono (fun r h c => ⟨(h c).1.trans (final m c), (h c).2⟩) (Value.run_blocks (F := Ideal) m g), ?_⟩
  refine (θ_run Cert.Reference4Ideal.defs _ _).mono (fun r h c => ⟨(h c).1.trans ?_, (h c).2⟩) (Cert.Reference4Ideal.Value.run (F := Ideal) m' g')
  rw [Cert.Reference4Ideal.Read.val_main_v18_eq]
  refine (ref_eq _ _ _).trans ?_
  rw [(hagree c).1, (hagree c).2.1, (hagree c).2.2]

theorem frame_ref : Cert.quiescent_Reference4Ideal := by
  intro m ρ _
  exact (θ_run Cert.Reference4Ideal.defs _ _).mono (fun r h => ⟨fun c => (h c).2,
      Idealize.ShloMosaic.sem_eq_zero_of_no_sems (by decide) r.2⟩)
    (Cert.Reference4Ideal.Value.run (F := Ideal) m ρ)

end Cert.Grad4

end
-- ==== Proof.Grad5.lean ====
/-
  The product of a weight's gradient: the kernel adds, over four tiles of 2048 rows, the products of the tiles, and the
  reference is the one product over the 8192 rows.
-/
module

public import proofs.«01_k».proof.Proof.Common
public import proofs.«01_k».proof.Defs
public import proofs.«01_k».proof.Proof.Gen.Kernel5Ideal.Value
public import proofs.«01_k».proof.Proof.Gen.Reference5Ideal.Read
public import Idealize.ShloMosaic.Lib.Claim

@[expose] public section

noncomputable section

namespace Cert.Grad5

open Cert.Kernel5Ideal Cert.Kernel5Ideal.Gen Idealize.ShloMosaic Idealize.ShloMosaic.TcCoe Idealize.SL.Sem
open Idealize.ShloMosaic.ValueIdx Cert.Common

variable (m : (ℓ : Loc nD τ sig) → Buf (Elt Ideal) ℓ)

/-- The two arguments. -/
abbrev X0 (c : Dev nD) : S8192x1024.Idx → EReal := m ((c : Thread nD τ).loc main_arg0)
abbrev X1 (c : Dev nD) : S8192x1024.Idx → EReal := m ((c : Thread nD τ).loc main_arg1)

theorem V_v0 (c : Dev nD) : (V m c main_v0 : S8192x1024.Idx → EReal) = X0 m c := by
  entry_read
  rfl
theorem V_v1 (c : Dev nD) : (V m c main_v1 : S8192x1024.Idx → EReal) = X1 m c := by
  entry_read
  rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])

/-- The first operand's block at point `t`: rows `2048 t …` of the operand. -/
theorem iblk0 (c : Dev nD) (t : Fin cfg0.N) (r : Fin 2048) (i : Fin 1024) (h : t.val * 2048 + r.val < 8192) :
    (iblk m c 0 t : S2048x1024.Idx → EReal) (ix2 r i) = X0 m c (ix2 ⟨t.val * 2048 + r.val, h⟩ i) := by
  rw [← V_v0]
  show (V m c main_v0 : S8192x1024.Idx → EReal) _ = _
  congr 1
  funext a; apply Fin.ext
  have e : win0_0.index t = ![t.val, 0] := idx0 t
  match a with
  | ⟨0, _⟩ => show win0_0.index t 0 * 2048 + 1 * r.val = _; rw [e]; simp
  | ⟨1, _⟩ => show win0_0.index t 1 * 1024 + 1 * i.val = _; rw [e]; simp

theorem iblk1 (c : Dev nD) (t : Fin cfg0.N) (r : Fin 2048) (i : Fin 1024) (h : t.val * 2048 + r.val < 8192) :
    (iblk m c 1 t : S2048x1024.Idx → EReal) (ix2 r i) = X1 m c (ix2 ⟨t.val * 2048 + r.val, h⟩ i) := by
  rw [← V_v1]
  show (V m c main_v1 : S8192x1024.Idx → EReal) _ = _
  congr 1
  funext a; apply Fin.ext
  have e : win0_1.index t = ![t.val, 0] := idx1 t
  match a with
  | ⟨0, _⟩ => show win0_1.index t 0 * 2048 + 1 * r.val = _; rw [e]; simp
  | ⟨1, _⟩ => show win0_1.index t 1 * 1024 + 1 * i.val = _; rw [e]; simp

/-- One step's payload at an index. -/
theorem pay2_apply (acc : Vec Ideal S1024x1024 .f32) (a b : Vec Ideal S2048x1024 .bf16) (i j : Fin 1024) :
    k0_pay2 acc a b (ix2 i j) = acc (ix2 i j) + ∑ r : Fin 2048, (a (ix2 r i) : EReal) * b (ix2 r j) := by
  unfold k0_pay2
  simp only [shapeCast_self, addf_apply]
  rw [matmul_tn _ rfl rfl rfl rfl rfl rfl, constant_apply, ofBits_zero, zero_add]

/-- The kernel's result: the sum over all rows. -/
theorem G2_apply (c : Dev nD) (i j : Fin 1024) :
    (Value.G2 m c : S1024x1024.Idx → EReal) (ix2 i j)
      = ∑ r : Fin 8192, X0 m c (ix2 r i)
          * X1 m c (ix2 r j) := by
  have hN : cfg0.N = 4 := N_0
  have hrun : Value.run2Of (ix2 i j) = 0 := by
    show 1 * (i.val / 1024 - 0) + 1 * (j.val / 1024 - 0) = 0
    have := i.isLt; have := j.isLt; omega
  have hloc : Value.loc2Of (ix2 i j) = ix2 i j := by
    funext a; apply Fin.ext
    match a with
    | ⟨0, _⟩ => exact Nat.mod_eq_of_lt i.isLt
    | ⟨1, _⟩ => exact Nat.mod_eq_of_lt j.isLt
  unfold Value.G2
  rw [dif_pos (by rw [hrun, hN]; omega), hloc]
  have hstep : ∀ (n : ℕ) (h : n < cfg0.N) (acc : Vec Ideal S1024x1024 .f32), Value.step2 m c n h acc (ix2 i j)
      = acc (ix2 i j) + ∑ r : Fin 2048, X0 m c (ix2 ⟨n * 2048 + r.val, by have := r.isLt; rw [hN] at h; omega⟩ i)
          * X1 m c (ix2 ⟨n * 2048 + r.val, by have := r.isLt; rw [hN] at h; omega⟩ j) := by
    intro n h acc
    unfold Value.step2
    rw [pay2_apply]
    congr 1
    refine Finset.sum_congr rfl fun r _ => ?_
    rw [iblk0 m c ⟨n, h⟩ r i (by have := r.isLt; rw [hN] at h; show n * 2048 + _ < _; omega), iblk1 m c ⟨n, h⟩ r j (by have := r.isLt; rw [hN] at h; show n * 2048 + _ < _; omega)]
  have hreset : ∀ (h : 0 < cfg0.N), Value.reset2 m c 0 h = Value.step2 m c 0 h (k0_pay1 (F := Ideal)) := fun _ => rfl
  have hz : (k0_pay1 (F := Ideal) : S1024x1024.Idx → EReal) (ix2 i j) = 0 := by
    unfold k0_pay1
    simp only [shapeCast_self]
    exact ofBits_zero
  have key : ∀ (b : ℕ) (hb : b = 0) (h : 4 * b + 3 < cfg0.N), Pipeline.accAt (Value.reset2 m c) (Value.step2 m c) (4 * b) 3 h (ix2 i j) = Pipeline.accAt (Value.reset2 m c) (Value.step2 m c) 0 (2 + 1) (by rw [hN]; omega) (ix2 i j) := by
    intro b hb h; subst hb; rfl
  rw [key _ hrun]
  rw [Pipeline.accAt_succ, hstep, Pipeline.accAt_succ, hstep, Pipeline.accAt_succ, hstep, Pipeline.accAt_zero, hreset, hstep, hz,
    zero_add, sum_tiles 4 2048 8192 rfl, Fin.sum_univ_four]
  rfl

/-- The reference's result: the same sum, its factors in the other order. -/
theorem ref_apply (x0 x1 : S8192x1024.Idx → EReal) (i j : Fin 1024) :
    (Cert.Reference5Ideal.Read.val_main_v3 (F := Ideal) x0 x1 : S1024x1024.Idx → EReal) (ix2 i j)
      = ∑ r : Fin 8192, x0 (ix2 r i) * x1 (ix2 r j) := by
  rw [Cert.Reference5Ideal.Read.val_main_v3_apply, Cert.Reference5Ideal.Read.val_main_v2_apply]
  refine Finset.sum_congr rfl fun r _ => ?_
  rw [mul_comm]
  congr 2 <;> (funext a; match a with | ⟨0, _⟩ => rfl | ⟨1, _⟩ => rfl)

/-- The kernel computes the gradient of the product in the weight. -/
theorem algebraic : Cert.algebraic_Kernel5Ideal_Reference5Ideal := by
  intro m g m' g' _ hagree
  refine ⟨fun c => Value.G2 m c, Value.run (F := Ideal) m g, ?_⟩
  refine (θ_run Cert.Reference5Ideal.defs _ _).mono (fun r h c => ⟨(h c).1.trans ?_, (h c).2⟩) (Cert.Reference5Ideal.Value.run (F := Ideal) m' g')
  rw [Cert.Reference5Ideal.Read.val_main_v3_eq]
  funext y
  obtain ⟨i, j, rfl⟩ : ∃ i j, y = ix2 i j := ⟨_, _, eq_ix2 y⟩
  refine (ref_apply _ _ i j).trans ((G2_apply m c i j).trans ?_).symm
  rw [(hagree c).1, (hagree c).2]

theorem frame_ref : Cert.quiescent_Reference5Ideal := by
  intro m ρ _
  exact (θ_run Cert.Reference5Ideal.defs _ _).mono (fun r h => ⟨fun c => (h c).2,
      Idealize.ShloMosaic.sem_eq_zero_of_no_sems (by decide) r.2⟩)
    (Cert.Reference5Ideal.Value.run (F := Ideal) m ρ)

end Cert.Grad5

end
-- ==== Proof.Grad6.lean ====
/-
  The product of a weight's gradient: the kernel adds, over four tiles of 2048 rows, the products of the tiles, and the
  reference is the one product over the 8192 rows.
-/
module

public import proofs.«01_k».proof.Proof.Common
public import proofs.«01_k».proof.Defs
public import proofs.«01_k».proof.Proof.Gen.Kernel6Ideal.Value
public import proofs.«01_k».proof.Proof.Gen.Reference6Ideal.Read
public import Idealize.ShloMosaic.Lib.Claim

@[expose] public section

noncomputable section

namespace Cert.Grad6

open Cert.Kernel6Ideal Cert.Kernel6Ideal.Gen Idealize.ShloMosaic Idealize.ShloMosaic.TcCoe Idealize.SL.Sem
open Idealize.ShloMosaic.ValueIdx Cert.Common

variable (m : (ℓ : Loc nD τ sig) → Buf (Elt Ideal) ℓ)

/-- The two arguments. -/
abbrev X0 (c : Dev nD) : S8192x256.Idx → EReal := m ((c : Thread nD τ).loc main_arg0)
abbrev X1 (c : Dev nD) : S8192x1024.Idx → EReal := m ((c : Thread nD τ).loc main_arg1)

theorem V_v0 (c : Dev nD) : (V m c main_v0 : S8192x256.Idx → EReal) = X0 m c := by
  entry_read
  rfl
theorem V_v1 (c : Dev nD) : (V m c main_v1 : S8192x1024.Idx → EReal) = X1 m c := by
  entry_read
  rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])

/-- The first operand's block at point `t`: rows `2048 t …` of the operand. -/
theorem iblk0 (c : Dev nD) (t : Fin cfg0.N) (r : Fin 2048) (i : Fin 256) (h : t.val * 2048 + r.val < 8192) :
    (iblk m c 0 t : S2048x256.Idx → EReal) (ix2 r i) = X0 m c (ix2 ⟨t.val * 2048 + r.val, h⟩ i) := by
  rw [← V_v0]
  show (V m c main_v0 : S8192x256.Idx → EReal) _ = _
  congr 1
  funext a; apply Fin.ext
  have e : win0_0.index t = ![t.val, 0] := idx0 t
  match a with
  | ⟨0, _⟩ => show win0_0.index t 0 * 2048 + 1 * r.val = _; rw [e]; simp
  | ⟨1, _⟩ => show win0_0.index t 1 * 256 + 1 * i.val = _; rw [e]; simp

theorem iblk1 (c : Dev nD) (t : Fin cfg0.N) (r : Fin 2048) (i : Fin 1024) (h : t.val * 2048 + r.val < 8192) :
    (iblk m c 1 t : S2048x1024.Idx → EReal) (ix2 r i) = X1 m c (ix2 ⟨t.val * 2048 + r.val, h⟩ i) := by
  rw [← V_v1]
  show (V m c main_v1 : S8192x1024.Idx → EReal) _ = _
  congr 1
  funext a; apply Fin.ext
  have e : win0_1.index t = ![t.val, 0] := idx1 t
  match a with
  | ⟨0, _⟩ => show win0_1.index t 0 * 2048 + 1 * r.val = _; rw [e]; simp
  | ⟨1, _⟩ => show win0_1.index t 1 * 1024 + 1 * i.val = _; rw [e]; simp

/-- One step's payload at an index. -/
theorem pay2_apply (acc : Vec Ideal S256x1024 .f32) (a : Vec Ideal S2048x256 .bf16) (b : Vec Ideal S2048x1024 .bf16) (i : Fin 256) (j : Fin 1024) :
    k0_pay2 acc a b (ix2 i j) = acc (ix2 i j) + ∑ r : Fin 2048, (a (ix2 r i) : EReal) * b (ix2 r j) := by
  unfold k0_pay2
  simp only [shapeCast_self, addf_apply]
  rw [matmul_tn _ rfl rfl rfl rfl rfl rfl, constant_apply, ofBits_zero, zero_add]

/-- The kernel's result: the sum over all rows. -/
theorem G2_apply (c : Dev nD) (i : Fin 256) (j : Fin 1024) :
    (Value.G2 m c : S256x1024.Idx → EReal) (ix2 i j)
      = ∑ r : Fin 8192, X0 m c (ix2 r i)
          * X1 m c (ix2 r j) := by
  have hN : cfg0.N = 4 := N_0
  have hrun : Value.run2Of (ix2 i j) = 0 := by
    show 1 * (i.val / 256 - 0) + 1 * (j.val / 1024 - 0) = 0
    have := i.isLt; have := j.isLt; omega
  have hloc : Value.loc2Of (ix2 i j) = ix2 i j := by
    funext a; apply Fin.ext
    match a with
    | ⟨0, _⟩ => exact Nat.mod_eq_of_lt i.isLt
    | ⟨1, _⟩ => exact Nat.mod_eq_of_lt j.isLt
  unfold Value.G2
  rw [dif_pos (by rw [hrun, hN]; omega), hloc]
  have hstep : ∀ (n : ℕ) (h : n < cfg0.N) (acc : Vec Ideal S256x1024 .f32), Value.step2 m c n h acc (ix2 i j)
      = acc (ix2 i j) + ∑ r : Fin 2048, X0 m c (ix2 ⟨n * 2048 + r.val, by have := r.isLt; rw [hN] at h; omega⟩ i)
          * X1 m c (ix2 ⟨n * 2048 + r.val, by have := r.isLt; rw [hN] at h; omega⟩ j) := by
    intro n h acc
    unfold Value.step2
    rw [pay2_apply]
    congr 1
    refine Finset.sum_congr rfl fun r _ => ?_
    rw [iblk0 m c ⟨n, h⟩ r i (by have := r.isLt; rw [hN] at h; show n * 2048 + _ < _; omega), iblk1 m c ⟨n, h⟩ r j (by have := r.isLt; rw [hN] at h; show n * 2048 + _ < _; omega)]
  have hreset : ∀ (h : 0 < cfg0.N), Value.reset2 m c 0 h = Value.step2 m c 0 h (k0_pay1 (F := Ideal)) := fun _ => rfl
  have hz : (k0_pay1 (F := Ideal) : S256x1024.Idx → EReal) (ix2 i j) = 0 := by
    unfold k0_pay1
    simp only [shapeCast_self]
    exact ofBits_zero
  have key : ∀ (b : ℕ) (hb : b = 0) (h : 4 * b + 3 < cfg0.N), Pipeline.accAt (Value.reset2 m c) (Value.step2 m c) (4 * b) 3 h (ix2 i j) = Pipeline.accAt (Value.reset2 m c) (Value.step2 m c) 0 (2 + 1) (by rw [hN]; omega) (ix2 i j) := by
    intro b hb h; subst hb; rfl
  rw [key _ hrun]
  rw [Pipeline.accAt_succ, hstep, Pipeline.accAt_succ, hstep, Pipeline.accAt_succ, hstep, Pipeline.accAt_zero, hreset, hstep, hz,
    zero_add, sum_tiles 4 2048 8192 rfl, Fin.sum_univ_four]
  rfl

/-- The reference's result: the same sum, its factors in the other order. -/
theorem ref_apply (x0 : S8192x256.Idx → EReal) (x1 : S8192x1024.Idx → EReal) (i : Fin 256) (j : Fin 1024) :
    (Cert.Reference6Ideal.Read.val_main_v3 (F := Ideal) x0 x1 : S256x1024.Idx → EReal) (ix2 i j)
      = ∑ r : Fin 8192, x0 (ix2 r i) * x1 (ix2 r j) := by
  rw [Cert.Reference6Ideal.Read.val_main_v3_apply, Cert.Reference6Ideal.Read.val_main_v2_apply]
  refine Finset.sum_congr rfl fun r _ => ?_
  rw [mul_comm]
  congr 2 <;> (funext a; match a with | ⟨0, _⟩ => rfl | ⟨1, _⟩ => rfl)

/-- The kernel computes the gradient of the product in the weight. -/
theorem algebraic : Cert.algebraic_Kernel6Ideal_Reference6Ideal := by
  intro m g m' g' _ hagree
  refine ⟨fun c => Value.G2 m c, Value.run (F := Ideal) m g, ?_⟩
  refine (θ_run Cert.Reference6Ideal.defs _ _).mono (fun r h c => ⟨(h c).1.trans ?_, (h c).2⟩) (Cert.Reference6Ideal.Value.run (F := Ideal) m' g')
  rw [Cert.Reference6Ideal.Read.val_main_v3_eq]
  funext y
  obtain ⟨i, j, rfl⟩ : ∃ i j, y = ix2 i j := ⟨_, _, eq_ix2 y⟩
  refine (ref_apply _ _ i j).trans ((G2_apply m c i j).trans ?_).symm
  rw [(hagree c).1, (hagree c).2]

theorem frame_ref : Cert.quiescent_Reference6Ideal := by
  intro m ρ _
  exact (θ_run Cert.Reference6Ideal.defs _ _).mono (fun r h => ⟨fun c => (h c).2,
      Idealize.ShloMosaic.sem_eq_zero_of_no_sems (by decide) r.2⟩)
    (Cert.Reference6Ideal.Value.run (F := Ideal) m ρ)

end Cert.Grad6

end
-- ==== Proof.lean ====
/-
  The claims of the calls, one after the other.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Grad1
public import proofs.«01_k».proof.Proof.Gen.Kernel2.Frame
public import proofs.«01_k».proof.Proof.Gen.Kernel2Ideal.Frame
public import proofs.«01_k».proof.Proof.Gen.Kernel2
public import proofs.«01_k».proof.Proof.Gen.Kernel2Ideal
public import proofs.«01_k».proof.Proof.Gen.Reference2Ideal
public import proofs.«01_k».proof.Proof.Gen.Pre_finite2
public import proofs.«01_k».proof.Proof.Grad2
public import proofs.«01_k».proof.Proof.Gen.Kernel3.Frame
public import proofs.«01_k».proof.Proof.Gen.Kernel3Ideal.Frame
public import proofs.«01_k».proof.Proof.Gen.Kernel3
public import proofs.«01_k».proof.Proof.Gen.Kernel3Ideal
public import proofs.«01_k».proof.Proof.Gen.Reference3Ideal
public import proofs.«01_k».proof.Proof.Gen.Pre_finite3
public import proofs.«01_k».proof.Proof.Grad3
public import proofs.«01_k».proof.Proof.Gen.Kernel4.Frame
public import proofs.«01_k».proof.Proof.Gen.Kernel4Ideal.Frame
public import proofs.«01_k».proof.Proof.Gen.Kernel4
public import proofs.«01_k».proof.Proof.Gen.Kernel4Ideal
public import proofs.«01_k».proof.Proof.Gen.Reference4Ideal
public import proofs.«01_k».proof.Proof.Grad4
public import proofs.«01_k».proof.Proof.Gen.Kernel5.Frame
public import proofs.«01_k».proof.Proof.Gen.Kernel5Ideal.Frame
public import proofs.«01_k».proof.Proof.Gen.Kernel5
public import proofs.«01_k».proof.Proof.Gen.Kernel5Ideal
public import proofs.«01_k».proof.Proof.Gen.Reference5Ideal
public import proofs.«01_k».proof.Proof.Grad5
public import proofs.«01_k».proof.Proof.Gen.Kernel6.Frame
public import proofs.«01_k».proof.Proof.Gen.Kernel6Ideal.Frame
public import proofs.«01_k».proof.Proof.Gen.Kernel6
public import proofs.«01_k».proof.Proof.Gen.Kernel6Ideal
public import proofs.«01_k».proof.Proof.Gen.Reference6Ideal
public import proofs.«01_k».proof.Proof.Grad6

@[expose] public section

noncomputable section

namespace Cert.Proof

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Pre_finite.Gen.facts,
    Cert.Pre_finite2.Gen.facts,
    Cert.Pre_finite3.Gen.facts,
    Cert.ConvFrame.frame_kernel,
    Cert.ConvFrame.frame_ideal,
    Cert.Grad1.frame_pre,
    Cert.Grad1.frame_ref,
    Cert.Grad1.frame_ref_pre,
    fun m ρ _ => Cert.Kernel2.Gen.frame m ρ,
    fun m ρ _ => Cert.Kernel2Ideal.Gen.frame m ρ,
    Cert.Grad2.frame_pre,
    Cert.Grad2.frame_ref,
    Cert.Grad2.frame_ref_pre,
    fun m ρ _ => Cert.Kernel3.Gen.frame m ρ,
    fun m ρ _ => Cert.Kernel3Ideal.Gen.frame m ρ,
    Cert.Grad3.frame_pre,
    Cert.Grad3.frame_ref,
    Cert.Grad3.frame_ref_pre,
    fun m ρ _ => Cert.Kernel4.Gen.frame m ρ,
    fun m ρ _ => Cert.Kernel4Ideal.Gen.frame m ρ,
    Cert.Grad4.frame_ref,
    fun m ρ _ => Cert.Kernel5.Gen.frame m ρ,
    fun m ρ _ => Cert.Kernel5Ideal.Gen.frame m ρ,
    Cert.Grad5.frame_ref,
    fun m ρ _ => Cert.Kernel6.Gen.frame m ρ,
    fun m ρ _ => Cert.Kernel6Ideal.Gen.frame m ρ,
    Cert.Grad6.frame_ref,
    trivial,
    Cert.Grad1.algebraic,
    trivial,
    Cert.Grad2.algebraic,
    trivial,
    Cert.Grad3.algebraic,
    trivial,
    Cert.Grad4.algebraic,
    trivial,
    Cert.Grad5.algebraic,
    trivial,
    Cert.Grad6.algebraic⟩

end Cert.Proof

end
